-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_v166) = v4 c
          ∧ r.2.mem ((c.tc : Thread Cert.ReferenceIdeal.nD Cert.ReferenceIdeal.τ).loc Cert.ReferenceIdeal.main_v155) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S12x128x1024 : Shape := ⟨3, ![12, 128, 1024]⟩
abbrev S12 : Shape := ⟨1, ![12]⟩
abbrev S1024 : Shape := ⟨1, ![1024]⟩
abbrev S1024x16x64 : Shape := ⟨3, ![1024, 16, 64]⟩
abbrev S16x64 : Shape := ⟨2, ![16, 64]⟩
abbrev S_ : Shape := ⟨0, ![]⟩
abbrev S1 : Shape := ⟨1, ![1]⟩
abbrev S9 : Shape := ⟨1, ![9]⟩

class Facts : Prop where
  bitsLt_bf16_f32 : FTy.bits .bf16 < FTy.bits .f32
  bcast_S_S12x128x1024 : S_.BroadcastsInDim S12x128x1024 (![] : Fin 0 → Fin S12x128x1024.rank)
  reducesTo_S12x128x1024_S_d0_1_2 : S12x128x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x16x64 : S_.BroadcastsInDim S1024x16x64 (![] : Fin 0 → Fin S1024x16x64.rank)
  reducesTo_S1024x16x64_S_d0_1_2 : S1024x16x64.ReducesTo [0, 1, 2] S_
  bcast_S_S16x64 : S_.BroadcastsInDim S16x64 (![] : Fin 0 → Fin S16x64.rank)
  reducesTo_S16x64_S_d0_1 : S16x64.ReducesTo [0, 1] S_
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  reducesTo_S9_S_d0 : S9.ReducesTo [0] S_

variable [Facts]

def fn_part2 {F : FTy → Type} [FloatOps F] (main_arg9 : FVec F S16x64 .f32) (main_v4 : IVec S_ 1) (main_v8 : IVec S_ 1) (main_v12 : IVec S_ 1) (main_v16 : IVec S_ 1) (main_v20 : IVec S_ 1) (main_v24 : IVec S_ 1) (main_v28 : IVec S_ 1) (main_v31 : IVec S1024x16x64 1) (main_c_13 : IVec S_ 1) : IVec S_ 1 :=
  let main_v32 : IVec S_ 1 := (fun x v => Host.reduce IntOp.andi x v reducesTo_S1024x16x64_S_d0_1_2 h_S_) main_v31 main_c_13
  let main_v33 : FVec F S16x64 .f32 := Host.absf main_arg9
  let main_cst_14 : FVec F S_ .f32 := constant S_ .f32 0x7F800000#32
  let main_v34 : FVec F S16x64 .f32 := broadcastInDim S16x64 ![] bcast_S_S16x64 main_cst_14
  let main_v35 : IVec S16x64 1 := cmpf .olt main_v33 main_v34
  let main_c_15 : IVec S_ 1 := constantI S_ 1 1#1
  let main_v36 : IVec S_ 1 := (fun x v => Host.reduce IntOp.andi x v reducesTo_S16x64_S_d0_1 h_S_) main_v35 main_c_15
  let main_v37 : IVec S1 1 := broadcastInDim S1 ![] bcast_S_S1 main_v4
  let main_v38 : IVec S1 1 := broadcastInDim S1 ![] bcast_S_S1 main_v8
  let main_v39 : IVec S1 1 := broadcastInDim S1 ![] bcast_S_S1 main_v12
  let main_v40 : IVec S1 1 := broadcastInDim S1 ![] bcast_S_S1 main_v16
  let main_v41 : IVec S1 1 := broadcastInDim S1 ![] bcast_S_S1 main_v20
  let main_v42 : IVec S1 1 := broadcastInDim S1 ![] bcast_S_S1 main_v24
  let main_v43 : IVec S1 1 := broadcastInDim S1 ![] bcast_S_S1 main_v28
  let main_v44 : IVec S1 1 := broadcastInDim S1 ![] bcast_S_S1 main_v32
  let main_v45 : IVec S1 1 := broadcastInDim S1 ![] bcast_S_S1 main_v36
  let main_v46 : IVec S9 1 := concatenate S9 0 [⟨S1, main_v37⟩, ⟨S1, main_v38⟩, ⟨S1, main_v39⟩, ⟨S1, main_v40⟩, ⟨S1, main_v41⟩, ⟨S1, main_v42⟩, ⟨S1, main_v43⟩, ⟨S1, main_v44⟩, ⟨S1, main_v45⟩] concatenates_S1_S1_S1_S1_S1_S1_S1_S1_S1_S9_d0
  let main_c_16 : IVec S_ 1 := constantI S_ 1 1#1
  let main_v47 : IVec S_ 1 := (fun x v => Host.reduce IntOp.andi x v reducesTo_S9_S_d0 h_S_) main_v46 main_c_16
  main_v47

def fn_part1 {F : FTy → Type} [FloatOps F] (main_arg5 : FVec F S16x64 .f32) (main_arg6 : FVec F S1024x16x64 .f32) (main_arg7 : FVec F S16x64 .f32) (main_arg8 : FVec F S1024x16x64 .f32) (main_arg9 : FVec F S16x64 .f32) (main_v4 : IVec S_ 1) (main_v8 : IVec S_ 1) (main_v12 : IVec S_ 1) (main_v15 : IVec S1024x16x64 1) (main_c_5 : IVec S_ 1) : IVec S_ 1 :=
  let main_v16 : IVec S_ 1 := (fun x v => Host.reduce IntOp.andi x v reducesTo_S1024x16x64_S_d0_1_2 h_S_) main_v15 main_c_5
  let main_v17 : FVec F S16x64 .f32 := Host.absf main_arg5
  let main_cst_6 : FVec F S_ .f32 := constant S_ .f32 0x7F800000#32
  let main_v18 : FVec F S16x64 .f32 := broadcastInDim S16x64 ![] bcast_S_S16x64 main_cst_6
  let main_v19 : IVec S16x64 1 := cmpf .olt main_v17 main_v18
  let main_c_7 : IVec S_ 1 := constantI S_ 1 1#1
  let main_v20 : IVec S_ 1 := (fun x v => Host.reduce IntOp.andi x v reducesTo_S16x64_S_d0_1 h_S_) main_v19 main_c_7
  let main_v21 : FVec F S1024x16x64 .f32 := Host.absf main_arg6
  let main_cst_8 : FVec F S_ .f32 := constant S_ .f32 0x7F800000#32
  let main_v22 : FVec F S1024x16x64 .f32 := broadcastInDim S1024x16x64 ![] bcast_S_S1024x16x64 main_cst_8
  let main_v23 : IVec S1024x16x64 1 := cmpf .olt main_v21 main_v22
  let main_c_9 : IVec S_ 1 := constantI S_ 1 1#1
  let main_v24 : IVec S_ 1 := (fun x v => Host.reduce IntOp.andi x v reducesTo_S1024x16x64_S_d0_1_2 h_S_) main_v23 main_c_9
  let main_v25 : FVec F S16x64 .f32 := Host.absf main_arg7
  let main_cst_10 : FVec F S_ .f32 := constant S_ .f32 0x7F800000#32
  let main_v26 : FVec F S16x64 .f32 := broadcastInDim S16x64 ![] bcast_S_S16x64 main_cst_10
  let main_v27 : IVec S16x64 1 := cmpf .olt main_v25 main_v26
  let main_c_11 : IVec S_ 1 := constantI S_ 1 1#1
  let main_v28 : IVec S_ 1 := (fun x v => Host.reduce IntOp.andi x v reducesTo_S16x64_S_d0_1 h_S_) main_v27 main_c_11
  let main_v29 : FVec F S1024x16x64 .f32 := Host.absf main_arg8
  let main_cst_12 : FVec F S_ .f32 := constant S_ .f32 0x7F800000#32
  let main_v30 : FVec F S1024x16x64 .f32 := broadcastInDim S1024x16x64 ![] bcast_S_S1024x16x64 main_cst_12
  let main_v31 : IVec S1024x16x64 1 := cmpf .olt main_v29 main_v30
  let main_c_13 : IVec S_ 1 := constantI S_ 1 1#1
  fn_part2 (F := F) main_arg9 main_v4 main_v8 main_v12 main_v16 main_v20 main_v24 main_v28 main_v31 main_c_13

def fn {F : FTy → Type} [FloatOps F] (main_arg0 : FVec F S12x128x1024 .bf16) (main_arg1 : IVec S12 32) (main_arg2 : FVec F S1024 .f32) (main_arg3 : FVec F S1024 .f32) (main_arg4 : FVec F S1024x16x64 .f32) (main_arg5 : FVec F S16x64 .f32) (main_arg6 : FVec F S1024x16x64 .f32) (main_arg7 : FVec F S16x64 .f32) (main_arg8 : FVec F S1024x16x64 .f32) (main_arg9 : FVec F S16x64 .f32) : IVec S_ 1 :=
  let main_v0 : FVec F S12x128x1024 .f32 := (extf .f32 · bitsLt_bf16_f32) main_arg0
  let main_v1 : FVec F S12x128x1024 .f32 := Host.absf main_v0
  let main_cst : FVec F S_ .f32 := constant S_ .f32 0x7F800000#32
  let main_v2 : FVec F S12x128x1024 .f32 := broadcastInDim S12x128x1024 ![] bcast_S_S12x128x1024 main_cst
  let main_v3 : IVec S12x128x1024 1 := cmpf .olt main_v1 main_v2
  let main_c : IVec S_ 1 := constantI S_ 1 1#1
  let main_v4 : IVec S_ 1 := (fun x v => Host.reduce IntOp.andi x v reducesTo_S12x128x1024_S_d0_1_2 h_S_) main_v3 main_c
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : FVec F S1024x16x64 .f32 := Host.absf main_arg4
  let main_cst_4 : FVec F S_ .f32 := constant S_ .f32 0x7F800000#32
  let main_v14 : FVec F S1024x16x64 .f32 := broadcastInDim S1024x16x64 ![] bcast_S_S1024x16x64 main_cst_4
  let main_v15 : IVec S1024x16x64 1 := cmpf .olt main_v13 main_v14
  let main_c_5 : IVec S_ 1 := constantI S_ 1 1#1
  fn_part1 (F := F) main_arg5 main_arg6 main_arg7 main_arg8 main_arg9 main_v4 main_v8 main_v12 main_v15 main_c_5
-- ==== Kernel.lean ====
abbrev S12x128x1024 : Shape := ⟨3, ![12, 128, 1024]⟩
abbrev S12 : Shape := ⟨1, ![12]⟩
abbrev S1024 : Shape := ⟨1, ![1024]⟩
abbrev S1024x16x64 : Shape := ⟨3, ![1024, 16, 64]⟩
abbrev S16x64 : Shape := ⟨2, ![16, 64]⟩
abbrev S1536x1024 : Shape := ⟨2, ![1536, 1024]⟩
abbrev S1x1024 : Shape := ⟨2, ![1, 1024]⟩
abbrev S16x64x1024 : Shape := ⟨3, ![16, 64, 1024]⟩
abbrev S1024x1024 : Shape := ⟨2, ![1024, 1024]⟩
abbrev S12x1024x128 : Shape := ⟨3, ![12, 1024, 128]⟩
abbrev S12x16 : Shape := ⟨2, ![12, 16]⟩
abbrev S6x256x1024 : Shape := ⟨3, ![6, 256, 1024]⟩
abbrev S3x4x768x1024 : Shape := ⟨4, ![3, 4, 768, 1024]⟩
abbrev S4x768x128 : Shape := ⟨3, ![4, 768, 128]⟩
abbrev S2x2x8x128 : Shape := ⟨4, ![2, 2, 8, 128]⟩
abbrev S3x12x1024x128 : Shape := ⟨4, ![3, 12, 1024, 128]⟩
abbrev S3x12x16x128 : Shape := ⟨4, ![3, 12, 16, 128]⟩
abbrev S6 : Shape := ⟨1, ![6]⟩
abbrev S3 : Shape := ⟨1, ![3]⟩
abbrev S1 : Shape := ⟨1, ![1]⟩
abbrev S_ : Shape := ⟨0, ![]⟩
abbrev S256x1024 : Shape := ⟨2, ![256, 1024]⟩
abbrev S1x256x1024 : Shape := ⟨3, ![1, 256, 1024]⟩
abbrev S8x128 : Shape := ⟨2, ![8, 128]⟩
abbrev S1x16x1024 : Shape := ⟨3, ![1, 16, 1024]⟩
abbrev S16x1024 : Shape := ⟨2, ![16, 1024]⟩
abbrev S1x1x16x1024 : Shape := ⟨4, ![1, 1, 16, 1024]⟩
abbrev S16 : Shape := ⟨1, ![16]⟩
abbrev S16x1 : Shape := ⟨2, ![16, 1]⟩
abbrev S1x64 : Shape := ⟨2, ![1, 64]⟩
abbrev S16x128 : Shape := ⟨2, ![16, 128]⟩
abbrev S1x16x128 : Shape := ⟨3, ![1, 16, 128]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x1x8x128 : Shape := ⟨4, ![1, 1, 8, 128]⟩
abbrev S1x1x768x1024 : Shape := ⟨4, ![1, 1, 768, 1024]⟩
abbrev S768x1024 : Shape := ⟨2, ![768, 1024]⟩
abbrev S768x256 : Shape := ⟨2, ![768, 256]⟩
abbrev S64x128 : Shape := ⟨2, ![64, 128]⟩
abbrev S8x8x128 : Shape := ⟨3, ![8, 8, 128]⟩
abbrev S1x64x128 : Shape := ⟨3, ![1, 64, 128]⟩
abbrev S1x8x128 : Shape := ⟨3, ![1, 8, 128]⟩
abbrev S8 : Shape := ⟨1, ![8]⟩
abbrev S8x1 : Shape := ⟨2, ![8, 1]⟩
abbrev S1x1 : Shape := ⟨2, ![1, 1]⟩
abbrev S1x1x64x128 : Shape := ⟨4, ![1, 1, 64, 128]⟩
abbrev S1x128 : Shape := ⟨2, ![1, 128]⟩
abbrev S1x1x1x128 : Shape := ⟨4, ![1, 1, 1, 128]⟩
abbrev S2x1024x128 : Shape := ⟨3, ![2, 1024, 128]⟩
abbrev S1x2x1024x128 : Shape := ⟨4, ![1, 2, 1024, 128]⟩
abbrev S1x1x16x128 : Shape := ⟨4, ![1, 1, 16, 128]⟩
abbrev S1x16 : Shape := ⟨2, ![1, 16]⟩
abbrev S1x12x1024x128 : Shape := ⟨4, ![1, 12, 1024, 128]⟩
abbrev S12x16x64x128 : Shape := ⟨4, ![12, 16, 64, 128]⟩
abbrev S12x128x16x64 : Shape := ⟨4, ![12, 128, 16, 64]⟩

abbrev nBuf : Space → Nat
  | .hbm => 31
  | .vmem => 16
  | .smem => 1
  | _ => 0

abbrev bufTy : (tb : Table) → Fin (tcTables nBuf tb) → BufTy
  | .hbm, ⟨0, _⟩ => ⟨S12x128x1024, .bf16⟩
  | .hbm, ⟨1, _⟩ => ⟨S12, .i32⟩
  | .hbm, ⟨2, _⟩ => ⟨S1024, .f32⟩
  | .hbm, ⟨3, _⟩ => ⟨S1024, .f32⟩
  | .hbm, ⟨4, _⟩ => ⟨S1024x16x64, .f32⟩
  | .hbm, ⟨5, _⟩ => ⟨S16x64, .f32⟩
  | .hbm, ⟨6, _⟩ => ⟨S1024x16x64, .f32⟩
  | .hbm, ⟨7, _⟩ => ⟨S16x64, .f32⟩
  | .hbm, ⟨8, _⟩ => ⟨S1024x16x64, .f32⟩
  | .hbm, ⟨9, _⟩ => ⟨S16x64, .f32⟩
  | .hbm, ⟨10, _⟩ => ⟨S1536x1024, .bf16⟩
  | .hbm, ⟨11, _⟩ => ⟨S1x1024, .f32⟩
  | .hbm, ⟨12, _⟩ => ⟨S1x1024, .f32⟩
  | .hbm, ⟨13, _⟩ => ⟨S16x64x1024, .f32⟩
  | .hbm, ⟨14, _⟩ => ⟨S1024x1024, .f32⟩
  | .hbm, ⟨15, _⟩ => ⟨S16x64x1024, .f32⟩
  | .hbm, ⟨16, _⟩ => ⟨S1024x1024, .f32⟩
  | .hbm, ⟨17, _⟩ => ⟨S16x64x1024, .f32⟩
  | .hbm, ⟨18, _⟩ => ⟨S1024x1024, .f32⟩
  | .hbm, ⟨19, _⟩ => ⟨S12x1024x128, .fp8e4m3⟩
  | .hbm, ⟨20, _⟩ => ⟨S12x16, .f32⟩
  | .hbm, ⟨21, _⟩ => ⟨S12x1024x128, .fp8e4m3⟩
  | .hbm, ⟨22, _⟩ => ⟨S12x16, .f32⟩
  | .hbm, ⟨23, _⟩ => ⟨S12x1024x128, .fp8e4m3⟩
  | .hbm, ⟨24, _⟩ => ⟨S12x16, .f32⟩
  | .hbm, ⟨25, _⟩ => ⟨S12x16x64x128, .fp8e4m3⟩
  | .hbm, ⟨26, _⟩ => ⟨S12x128x16x64, .fp8e4m3⟩
  | .hbm, ⟨27, _⟩ => ⟨S12x16x64x128, .fp8e4m3⟩
  | .hbm, ⟨28, _⟩ => ⟨S12x128x16x64, .fp8e4m3⟩
  | .hbm, ⟨29, _⟩ => ⟨S12x16x64x128, .fp8e4m3⟩
  | .hbm, ⟨30, _⟩ => ⟨S12x128x16x64, .fp8e4m3⟩
  | .local _ .vmem, ⟨0, _⟩ => ⟨S1x1024, .f32⟩
  | .local _ .vmem, ⟨1, _⟩ => ⟨S1x1024, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S12x16, .f32⟩
  | .local _ .vmem, ⟨6, _⟩ => ⟨S12x16, .f32⟩
  | .local _ .vmem, ⟨7, _⟩ => ⟨S12x16, .f32⟩
  | .local _ .vmem, ⟨8, _⟩ => ⟨S1536x1024, .bf16⟩
  | .local _ .vmem, ⟨9, _⟩ => ⟨S6x256x1024, .f32⟩
  | .local _ .vmem, ⟨10, _⟩ => ⟨S3x4x768x1024, .bf16⟩
  | .local _ .vmem, ⟨11, _⟩ => ⟨S4x768x128, .f32⟩
  | .local _ .vmem, ⟨12, _⟩ => ⟨S4x768x128, .f32⟩
  | .local _ .vmem, ⟨13, _⟩ => ⟨S2x2x8x128, .f32⟩
  | .local _ .vmem, ⟨14, _⟩ => ⟨S3x12x1024x128, .fp8e4m3⟩
  | .local _ .vmem, ⟨15, _⟩ => ⟨S3x12x16x128, .f32⟩
  | .local _ .smem, ⟨0, _⟩ => ⟨S12, .i32⟩
  | _, _ => ⟨S12x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_61 : BitVec 32 := 0#32
  let c16_i32 : BitVec 32 := 16#32
  let v60 : BitVec 32 := Scalar.addi c0_i32_61 c16_i32
  let c1_i32_62 : BitVec 32 := 1#32
  ⟨c0_i32_61, v60, c1_i32_62⟩
def k0_off1 (k0_t1 : Fin k0_t1_loop.trips) : Fin 3 → Nat :=
  let c0_504 : Index := 0#32
  let c0_i32_61 : BitVec 32 := 0#32
  let c1_i32_62 : BitVec 32 := 1#32
  let arg27 : BitVec 32 := Scf.iv c0_i32_61 c1_i32_62 k0_t1
  let c16_i32_503 : BitVec 32 := 16#32
  let v461 : BitVec 32 := Scalar.muli arg27 c16_i32_503
  let v462 : Index := Scalar.indexCast v461
  let c0_505 : Index := 0#32
  ![0, v462.toNat, 0]
def k0_off2 (k0_t1 : Fin k0_t1_loop.trips) : Fin 4 → Nat :=
  let c0_510 : Index := 0#32
  let c0_511 : Index := 0#32
  let c0_i32_509 : BitVec 32 := 0#32
  let c0_i32_61 : BitVec 32 := 0#32
  let c1_i32_62 : BitVec 32 := 1#32
  let arg27 : BitVec 32 := Scf.iv c0_i32_61 c1_i32_62 k0_t1
  let c16_i32_508 : BitVec 32 := 16#32
  let v476 : BitVec 32 := Scalar.muli arg27 c16_i32_508
  let v477 : BitVec 32 := Scalar.addi c0_i32_509 v476
  let v478 : Index := Scalar.indexCast v477
  let c0_512 : Index := 0#32
  ![0, 0, v478.toNat, 0]
def k0_off3 (k0_t1 : Fin k0_t1_loop.trips) : Fin 4 → Nat :=
  let c1_513 : Index := 1#32
  let c0_514 : Index := 0#32
  let c0_i32_509 : BitVec 32 := 0#32
  let c0_i32_61 : BitVec 32 := 0#32
  let c1_i32_62 : BitVec 32 := 1#32
  let arg27 : BitVec 32 := Scf.iv c0_i32_61 c1_i32_62 k0_t1
  let c16_i32_508 : BitVec 32 := 16#32
  let v476 : BitVec 32 := Scalar.muli arg27 c16_i32_508
  let v477 : BitVec 32 := Scalar.addi c0_i32_509 v476
  let v482 : Index := Scalar.indexCast v477
  let c0_515 : Index := 0#32
  ![1, 0, v482.toNat, 0]
def k0_off4 (k0_t1 : Fin k0_t1_loop.trips) : Fin 4 → Nat :=
  let c2_516 : Index := 2#32
  let c0_517 : Index := 0#32
  let c0_i32_509 : BitVec 32 := 0#32
  let c0_i32_61 : BitVec 32 := 0#32
  let c1_i32_62 : BitVec 32 := 1#32
  let arg27 : BitVec 32 := Scf.iv c0_i32_61 c1_i32_62 k0_t1
  let c16_i32_508 : BitVec 32 := 16#32
  let v476 : BitVec 32 := Scalar.muli arg27 c16_i32_508
  let v477 : BitVec 32 := Scalar.addi c0_i32_509 v476
  let v486 : Index := Scalar.indexCast v477
  let c0_518 : Index := 0#32
  ![2, 0, v486.toNat, 0]
def k0_off5 (k0_t1 : Fin k0_t1_loop.trips) : Fin 2 → Nat :=
  let c0_i32_530 : BitVec 32 := 0#32
  let c0_i32_61 : BitVec 32 := 0#32
  let c1_i32_62 : BitVec 32 := 1#32
  let arg27 : BitVec 32 := Scf.iv c0_i32_61 c1_i32_62 k0_t1
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c0_i32_530 v514
  let v516 : Index := Scalar.indexCast v515
  let c0_531 : Index := 0#32
  ![v516.toNat, 0]
def k0_off6 (k0_t1 : Fin k0_t1_loop.trips) : Fin 3 → Nat :=
  let c0_541 : Index := 0#32
  let c0_i32_509 : BitVec 32 := 0#32
  let c0_i32_61 : BitVec 32 := 0#32
  let c1_i32_62 : BitVec 32 := 1#32
  let arg27 : BitVec 32 := Scf.iv c0_i32_61 c1_i32_62 k0_t1
  let c16_i32_508 : BitVec 32 := 16#32
  let v476 : BitVec 32 := Scalar.muli arg27 c16_i32_508
  let v477 : BitVec 32 := Scalar.addi c0_i32_509 v476
  let v543 : Index := Scalar.indexCast v477
  let c0_542 : Index := 0#32
  ![0, v543.toNat, 0]
@[reducible] def k0_t2_loop : Scf.Loop 32 :=
  let c0_i32_76 : BitVec 32 := 0#32
  let c16_i32_77 : BitVec 32 := 16#32
  let v71 : BitVec 32 := Scalar.addi c0_i32_76 c16_i32_77
  let c1_i32_78 : BitVec 32 := 1#32
  ⟨c0_i32_76, v71, c1_i32_78⟩
def k0_off7 (k0_t2 : Fin k0_t2_loop.trips) : Fin 3 → Nat :=
  let c1_504 : Index := 1#32
  let c0_i32_76 : BitVec 32 := 0#32
  let c1_i32_78 : BitVec 32 := 1#32
  let arg27 : BitVec 32 := Scf.iv c0_i32_76 c1_i32_78 k0_t2
  let c16_i32_503 : BitVec 32 := 16#32
  let v461 : BitVec 32 := Scalar.muli arg27 c16_i32_503
  let v462 : Index := Scalar.indexCast v461
  let c0_505 : Index := 0#32
  ![1, v462.toNat, 0]
def k0_off8 (k0_t2 : Fin k0_t2_loop.trips) : Fin 4 → Nat :=
  let c0_510 : Index := 0#32
  let c0_511 : Index := 0#32
  let c256_i32_509 : BitVec 32 := 256#32
  let c0_i32_76 : BitVec 32 := 0#32
  let c1_i32_78 : BitVec 32 := 1#32
  let arg27 : BitVec 32 := Scf.iv c0_i32_76 c1_i32_78 k0_t2
  let c16_i32_508 : BitVec 32 := 16#32
  let v476 : BitVec 32 := Scalar.muli arg27 c16_i32_508
  let v477 : BitVec 32 := Scalar.addi c256_i32_509 v476
  let v478 : Index := Scalar.indexCast v477
  let c0_512 : Index := 0#32
  ![0, 0, v478.toNat, 0]
def k0_off9 (k0_t2 : Fin k0_t2_loop.trips) : Fin 4 → Nat :=
  let c1_513 : Index := 1#32
  let c0_514 : Index := 0#32
  let c256_i32_509 : BitVec 32 := 256#32
  let c0_i32_76 : BitVec 32 := 0#32
  let c1_i32_78 : BitVec 32 := 1#32
  let arg27 : BitVec 32 := Scf.iv c0_i32_76 c1_i32_78 k0_t2
  let c16_i32_508 : BitVec 32 := 16#32
  let v476 : BitVec 32 := Scalar.muli arg27 c16_i32_508
  let v477 : BitVec 32 := Scalar.addi c256_i32_509 v476
  let v482 : Index := Scalar.indexCast v477
  let c0_515 : Index := 0#32
  ![1, 0, v482.toNat, 0]
def k0_off10 (k0_t2 : Fin k0_t2_loop.trips) : Fin 4 → Nat :=
  let c2_516 : Index := 2#32
  let c0_517 : Index := 0#32
  let c256_i32_509 : BitVec 32 := 256#32
  let c0_i32_76 : BitVec 32 := 0#32
  let c1_i32_78 : BitVec 32 := 1#32
  let arg27 : BitVec 32 := Scf.iv c0_i32_76 c1_i32_78 k0_t2
  let c16_i32_508 : BitVec 32 := 16#32
  let v476 : BitVec 32 := Scalar.muli arg27 c16_i32_508
  let v477 : BitVec 32 := Scalar.addi c256_i32_509 v476
  let v486 : Index := Scalar.indexCast v477
  let c0_518 : Index := 0#32
  ![2, 0, v486.toNat, 0]
def k0_off11 (k0_t2 : Fin k0_t2_loop.trips) : Fin 2 → Nat :=
  let c0_i32_530 : BitVec 32 := 0#32
  let c0_i32_76 : BitVec 32 := 0#32
  let c1_i32_78 : BitVec 32 := 1#32
  let arg27 : BitVec 32 := Scf.iv c0_i32_76 c1_i32_78 k0_t2
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c0_i32_530 v514
  let v516 : Index := Scalar.indexCast v515
  let c0_531 : Index := 0#32
  ![v516.toNat, 0]
def k0_off12 (k0_t2 : Fin k0_t2_loop.trips) : Fin 3 → Nat :=
  let c0_541 : Index := 0#32
  let c256_i32_509 : BitVec 32 := 256#32
  let c0_i32_76 : BitVec 32 := 0#32
  let c1_i32_78 : BitVec 32 := 1#32
  let arg27 : BitVec 32 := Scf.iv c0_i32_76 c1_i32_78 k0_t2
  let c16_i32_508 : BitVec 32 := 16#32
  let v476 : BitVec 32 := Scalar.muli arg27 c16_i32_508
  let v477 : BitVec 32 := Scalar.addi c256_i32_509 v476
  let v543 : Index := Scalar.indexCast v477
  let c0_542 : Index := 0#32
  ![0, v543.toNat, 0]
@[reducible] def k0_t3_loop : Scf.Loop 32 :=
  let c0_i32_92 : BitVec 32 := 0#32
  let c16_i32_93 : BitVec 32 := 16#32
  let v82 : BitVec 32 := Scalar.addi c0_i32_92 c16_i32_93
  let c1_i32_94 : BitVec 32 := 1#32
  ⟨c0_i32_92, v82, c1_i32_94⟩
def k0_off13 (k0_t3 : Fin k0_t3_loop.trips) : Fin 3 → Nat :=
  let c2_504 : Index := 2#32
  let c0_i32_92 : BitVec 32 := 0#32
  let c1_i32_94 : BitVec 32 := 1#32
  let arg27 : BitVec 32 := Scf.iv c0_i32_92 c1_i32_94 k0_t3
  let c16_i32_503 : BitVec 32 := 16#32
  let v461 : BitVec 32 := Scalar.muli arg27 c16_i32_503
  let v462 : Index := Scalar.indexCast v461
  let c0_505 : Index := 0#32
  ![2, v462.toNat, 0]
def k0_off14 (k0_t3 : Fin k0_t3_loop.trips) : Fin 4 → Nat :=
  let c0_510 : Index := 0#32
  let c0_511 : Index := 0#32
  let c512_i32_509 : BitVec 32 := 512#32
  let c0_i32_92 : BitVec 32 := 0#32
  let c1_i32_94 : BitVec 32 := 1#32
  let arg27 : BitVec 32 := Scf.iv c0_i32_92 c1_i32_94 k0_t3
  let c16_i32_508 : BitVec 32 := 16#32
  let v476 : BitVec 32 := Scalar.muli arg27 c16_i32_508
  let v477 : BitVec 32 := Scalar.addi c512_i32_509 v476
  let v478 : Index := Scalar.indexCast v477
  let c0_512 : Index := 0#32
  ![0, 0, v478.toNat, 0]
def k0_off15 (k0_t3 : Fin k0_t3_loop.trips) : Fin 4 → Nat :=
  let c1_513 : Index := 1#32
  let c0_514 : Index := 0#32
  let c512_i32_509 : BitVec 32 := 512#32
  let c0_i32_92 : BitVec 32 := 0#32
  let c1_i32_94 : BitVec 32 := 1#32
  let arg27 : BitVec 32 := Scf.iv c0_i32_92 c1_i32_94 k0_t3
  let c16_i32_508 : BitVec 32 := 16#32
  let v476 : BitVec 32 := Scalar.muli arg27 c16_i32_508
  let v477 : BitVec 32 := Scalar.addi c512_i32_509 v476
  let v482 : Index := Scalar.indexCast v477
  let c0_515 : Index := 0#32
  ![1, 0, v482.toNat, 0]
def k0_off16 (k0_t3 : Fin k0_t3_loop.trips) : Fin 4 → Nat :=
  let c2_516 : Index := 2#32
  let c0_517 : Index := 0#32
  let c512_i32_509 : BitVec 32 := 512#32
  let c0_i32_92 : BitVec 32 := 0#32
  let c1_i32_94 : BitVec 32 := 1#32
  let arg27 : BitVec 32 := Scf.iv c0_i32_92 c1_i32_94 k0_t3
  let c16_i32_508 : BitVec 32 := 16#32
  let v476 : BitVec 32 := Scalar.muli arg27 c16_i32_508
  let v477 : BitVec 32 := Scalar.addi c512_i32_509 v476
  let v486 : Index := Scalar.indexCast v477
  let c0_518 : Index := 0#32
  ![2, 0, v486.toNat, 0]
def k0_off17 (k0_t3 : Fin k0_t3_loop.trips) : Fin 2 → Nat :=
  let c0_i32_530 : BitVec 32 := 0#32
  let c0_i32_92 : BitVec 32 := 0#32
  let c1_i32_94 : BitVec 32 := 1#32
  let arg27 : BitVec 32 := Scf.iv c0_i32_92 c1_i32_94 k0_t3
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c0_i32_530 v514
  let v516 : Index := Scalar.indexCast v515
  let c0_531 : Index := 0#32
  ![v516.toNat, 0]
def k0_off18 (k0_t3 : Fin k0_t3_loop.trips) : Fin 3 → Nat :=
  let c0_541 : Index := 0#32
  let c512_i32_509 : BitVec 32 := 512#32
  let c0_i32_92 : BitVec 32 := 0#32
  let c1_i32_94 : BitVec 32 := 1#32
  let arg27 : BitVec 32 := Scf.iv c0_i32_92 c1_i32_94 k0_t3
  let c16_i32_508 : BitVec 32 := 16#32
  let v476 : BitVec 32 := Scalar.muli arg27 c16_i32_508
  let v477 : BitVec 32 := Scalar.addi c512_i32_509 v476
  let v543 : Index := Scalar.indexCast v477
  let c0_542 : Index := 0#32
  ![0, v543.toNat, 0]
@[reducible] def k0_t4_loop : Scf.Loop 32 :=
  let c0_i32_108 : BitVec 32 := 0#32
  let c16_i32_109 : BitVec 32 := 16#32
  let v93 : BitVec 32 := Scalar.addi c0_i32_108 c16_i32_109
  let c1_i32_110 : BitVec 32 := 1#32
  ⟨c0_i32_108, v93, c1_i32_110⟩
def k0_off19 (k0_t4 : Fin k0_t4_loop.trips) : Fin 3 → Nat :=
  let c3_504 : Index := 3#32
  let c0_i32_108 : BitVec 32 := 0#32
  let c1_i32_110 : BitVec 32 := 1#32
  let arg27 : BitVec 32 := Scf.iv c0_i32_108 c1_i32_110 k0_t4
  let c16_i32_503 : BitVec 32 := 16#32
  let v461 : BitVec 32 := Scalar.muli arg27 c16_i32_503
  let v462 : Index := Scalar.indexCast v461
  let c0_505 : Index := 0#32
  ![3, v462.toNat, 0]
def k0_off20 (k0_t4 : Fin k0_t4_loop.trips) : Fin 4 → Nat :=
  let c0_510 : Index := 0#32
  let c1_511 : Index := 1#32
  let c0_i32_509 : BitVec 32 := 0#32
  let c0_i32_108 : BitVec 32 := 0#32
  let c1_i32_110 : BitVec 32 := 1#32
  let arg27 : BitVec 32 := Scf.iv c0_i32_108 c1_i32_110 k0_t4
  let c16_i32_508 : BitVec 32 := 16#32
  let v476 : BitVec 32 := Scalar.muli arg27 c16_i32_508
  let v477 : BitVec 32 := Scalar.addi c0_i32_509 v476
  let v478 : Index := Scalar.indexCast v477
  let c0_512 : Index := 0#32
  ![0, 1, v478.toNat, 0]
def k0_off21 (k0_t4 : Fin k0_t4_loop.trips) : Fin 4 → Nat :=
  let c1_513 : Index := 1#32
  let c1_514 : Index := 1#32
  let c0_i32_509 : BitVec 32 := 0#32
  let c0_i32_108 : BitVec 32 := 0#32
  let c1_i32_110 : BitVec 32 := 1#32
  let arg27 : BitVec 32 := Scf.iv c0_i32_108 c1_i32_110 k0_t4
  let c16_i32_508 : BitVec 32 := 16#32
  let v476 : BitVec 32 := Scalar.muli arg27 c16_i32_508
  let v477 : BitVec 32 := Scalar.addi c0_i32_509 v476
  let v482 : Index := Scalar.indexCast v477
  let c0_515 : Index := 0#32
  ![1, 1, v482.toNat, 0]
def k0_off22 (k0_t4 : Fin k0_t4_loop.trips) : Fin 4 → Nat :=
  let c2_516 : Index := 2#32
  let c1_517 : Index := 1#32
  let c0_i32_509 : BitVec 32 := 0#32
  let c0_i32_108 : BitVec 32 := 0#32
  let c1_i32_110 : BitVec 32 := 1#32
  let arg27 : BitVec 32 := Scf.iv c0_i32_108 c1_i32_110 k0_t4
  let c16_i32_508 : BitVec 32 := 16#32
  let v476 : BitVec 32 := Scalar.muli arg27 c16_i32_508
  let v477 : BitVec 32 := Scalar.addi c0_i32_509 v476
  let v486 : Index := Scalar.indexCast v477
  let c0_518 : Index := 0#32
  ![2, 1, v486.toNat, 0]
def k0_off23 (k0_t4 : Fin k0_t4_loop.trips) : Fin 2 → Nat :=
  let c4_i32_530 : BitVec 32 := 4#32
  let c0_i32_108 : BitVec 32 := 0#32
  let c1_i32_110 : BitVec 32 := 1#32
  let arg27 : BitVec 32 := Scf.iv c0_i32_108 c1_i32_110 k0_t4
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c4_i32_530 v514
  let v516 : Index := Scalar.indexCast v515
  let c0_531 : Index := 0#32
  ![v516.toNat, 0]
def k0_off24 (k0_t4 : Fin k0_t4_loop.trips) : Fin 3 → Nat :=
  let c1_541 : Index := 1#32
  let c0_i32_509 : BitVec 32 := 0#32
  let c0_i32_108 : BitVec 32 := 0#32
  let c1_i32_110 : BitVec 32 := 1#32
  let arg27 : BitVec 32 := Scf.iv c0_i32_108 c1_i32_110 k0_t4
  let c16_i32_508 : BitVec 32 := 16#32
  let v476 : BitVec 32 := Scalar.muli arg27 c16_i32_508
  let v477 : BitVec 32 := Scalar.addi c0_i32_509 v476
  let v543 : Index := Scalar.indexCast v477
  let c0_542 : Index := 0#32
  ![1, v543.toNat, 0]
@[reducible] def k0_t5_loop : Scf.Loop 32 :=
  let c0_i32_124 : BitVec 32 := 0#32
  let c16_i32_125 : BitVec 32 := 16#32
  let v104 : BitVec 32 := Scalar.addi c0_i32_124 c16_i32_125
  let c1_i32_126 : BitVec 32 := 1#32
  ⟨c0_i32_124, v104, c1_i32_126⟩
def k0_off25 (k0_t5 : Fin k0_t5_loop.trips) : Fin 3 → Nat :=
  let c4_504 : Index := 4#32
  let c0_i32_124 : BitVec 32 := 0#32
  let c1_i32_126 : BitVec 32 := 1#32
  let arg27 : BitVec 32 := Scf.iv c0_i32_124 c1_i32_126 k0_t5
  let c16_i32_503 : BitVec 32 := 16#32
  let v461 : BitVec 32 := Scalar.muli arg27 c16_i32_503
  let v462 : Index := Scalar.indexCast v461
  let c0_505 : Index := 0#32
  ![4, v462.toNat, 0]
def k0_off26 (k0_t5 : Fin k0_t5_loop.trips) : Fin 4 → Nat :=
  let c0_510 : Index := 0#32
  let c1_511 : Index := 1#32
  let c256_i32_509 : BitVec 32 := 256#32
  let c0_i32_124 : BitVec 32 := 0#32
  let c1_i32_126 : BitVec 32 := 1#32
  let arg27 : BitVec 32 := Scf.iv c0_i32_124 c1_i32_126 k0_t5
  let c16_i32_508 : BitVec 32 := 16#32
  let v476 : BitVec 32 := Scalar.muli arg27 c16_i32_508
  let v477 : BitVec 32 := Scalar.addi c256_i32_509 v476
  let v478 : Index := Scalar.indexCast v477
  let c0_512 : Index := 0#32
  ![0, 1, v478.toNat, 0]
def k0_off27 (k0_t5 : Fin k0_t5_loop.trips) : Fin 4 → Nat :=
  let c1_513 : Index := 1#32
  let c1_514 : Index := 1#32
  let c256_i32_509 : BitVec 32 := 256#32
  let c0_i32_124 : BitVec 32 := 0#32
  let c1_i32_126 : BitVec 32 := 1#32
  let arg27 : BitVec 32 := Scf.iv c0_i32_124 c1_i32_126 k0_t5
  let c16_i32_508 : BitVec 32 := 16#32
  let v476 : BitVec 32 := Scalar.muli arg27 c16_i32_508
  let v477 : BitVec 32 := Scalar.addi c256_i32_509 v476
  let v482 : Index := Scalar.indexCast v477
  let c0_515 : Index := 0#32
  ![1, 1, v482.toNat, 0]
def k0_off28 (k0_t5 : Fin k0_t5_loop.trips) : Fin 4 → Nat :=
  let c2_516 : Index := 2#32
  let c1_517 : Index := 1#32
  let c256_i32_509 : BitVec 32 := 256#32
  let c0_i32_124 : BitVec 32 := 0#32
  let c1_i32_126 : BitVec 32 := 1#32
  let arg27 : BitVec 32 := Scf.iv c0_i32_124 c1_i32_126 k0_t5
  let c16_i32_508 : BitVec 32 := 16#32
  let v476 : BitVec 32 := Scalar.muli arg27 c16_i32_508
  let v477 : BitVec 32 := Scalar.addi c256_i32_509 v476
  let v486 : Index := Scalar.indexCast v477
  let c0_518 : Index := 0#32
  ![2, 1, v486.toNat, 0]
def k0_off29 (k0_t5 : Fin k0_t5_loop.trips) : Fin 2 → Nat :=
  let c4_i32_530 : BitVec 32 := 4#32
  let c0_i32_124 : BitVec 32 := 0#32
  let c1_i32_126 : BitVec 32 := 1#32
  let arg27 : BitVec 32 := Scf.iv c0_i32_124 c1_i32_126 k0_t5
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c4_i32_530 v514
  let v516 : Index := Scalar.indexCast v515
  let c0_531 : Index := 0#32
  ![v516.toNat, 0]
def k0_off30 (k0_t5 : Fin k0_t5_loop.trips) : Fin 3 → Nat :=
  let c1_541 : Index := 1#32
  let c256_i32_509 : BitVec 32 := 256#32
  let c0_i32_124 : BitVec 32 := 0#32
  let c1_i32_126 : BitVec 32 := 1#32
  let arg27 : BitVec 32 := Scf.iv c0_i32_124 c1_i32_126 k0_t5
  let c16_i32_508 : BitVec 32 := 16#32
  let v476 : BitVec 32 := Scalar.muli arg27 c16_i32_508
  let v477 : BitVec 32 := Scalar.addi c256_i32_509 v476
  let v543 : Index := Scalar.indexCast v477
  let c0_542 : Index := 0#32
  ![1, v543.toNat, 0]
@[reducible] def k0_t6_loop : Scf.Loop 32 :=
  let c0_i32_140 : BitVec 32 := 0#32
  let c16_i32_141 : BitVec 32 := 16#32
  let v115 : BitVec 32 := Scalar.addi c0_i32_140 c16_i32_141
  let c1_i32_142 : BitVec 32 := 1#32
  ⟨c0_i32_140, v115, c1_i32_142⟩
def k0_off31 (k0_t6 : Fin k0_t6_loop.trips) : Fin 3 → Nat :=
  let c5_504 : Index := 5#32
  let c0_i32_140 : BitVec 32 := 0#32
  let c1_i32_142 : BitVec 32 := 1#32
  let arg27 : BitVec 32 := Scf.iv c0_i32_140 c1_i32_142 k0_t6
  let c16_i32_503 : BitVec 32 := 16#32
  let v461 : BitVec 32 := Scalar.muli arg27 c16_i32_503
  let v462 : Index := Scalar.indexCast v461
  let c0_505 : Index := 0#32
  ![5, v462.toNat, 0]
def k0_off32 (k0_t6 : Fin k0_t6_loop.trips) : Fin 4 → Nat :=
  let c0_510 : Index := 0#32
  let c1_511 : Index := 1#32
  let c512_i32_509 : BitVec 32 := 512#32
  let c0_i32_140 : BitVec 32 := 0#32
  let c1_i32_142 : BitVec 32 := 1#32
  let arg27 : BitVec 32 := Scf.iv c0_i32_140 c1_i32_142 k0_t6
  let c16_i32_508 : BitVec 32 := 16#32
  let v476 : BitVec 32 := Scalar.muli arg27 c16_i32_508
  let v477 : BitVec 32 := Scalar.addi c512_i32_509 v476
  let v478 : Index := Scalar.indexCast v477
  let c0_512 : Index := 0#32
  ![0, 1, v478.toNat, 0]
def k0_off33 (k0_t6 : Fin k0_t6_loop.trips) : Fin 4 → Nat :=
  let c1_513 : Index := 1#32
  let c1_514 : Index := 1#32
  let c512_i32_509 : BitVec 32 := 512#32
  let c0_i32_140 : BitVec 32 := 0#32
  let c1_i32_142 : BitVec 32 := 1#32
  let arg27 : BitVec 32 := Scf.iv c0_i32_140 c1_i32_142 k0_t6
  let c16_i32_508 : BitVec 32 := 16#32
  let v476 : BitVec 32 := Scalar.muli arg27 c16_i32_508
  let v477 : BitVec 32 := Scalar.addi c512_i32_509 v476
  let v482 : Index := Scalar.indexCast v477
  let c0_515 : Index := 0#32
  ![1, 1, v482.toNat, 0]
def k0_off34 (k0_t6 : Fin k0_t6_loop.trips) : Fin 4 → Nat :=
  let c2_516 : Index := 2#32
  let c1_517 : Index := 1#32
  let c512_i32_509 : BitVec 32 := 512#32
  let c0_i32_140 : BitVec 32 := 0#32
  let c1_i32_142 : BitVec 32 := 1#32
  let arg27 : BitVec 32 := Scf.iv c0_i32_140 c1_i32_142 k0_t6
  let c16_i32_508 : BitVec 32 := 16#32
  let v476 : BitVec 32 := Scalar.muli arg27 c16_i32_508
  let v477 : BitVec 32 := Scalar.addi c512_i32_509 v476
  let v486 : Index := Scalar.indexCast v477
  let c0_518 : Index := 0#32
  ![2, 1, v486.toNat, 0]
def k0_off35 (k0_t6 : Fin k0_t6_loop.trips) : Fin 2 → Nat :=
  let c4_i32_530 : BitVec 32 := 4#32
  let c0_i32_140 : BitVec 32 := 0#32
  let c1_i32_142 : BitVec 32 := 1#32
  let arg27 : BitVec 32 := Scf.iv c0_i32_140 c1_i32_142 k0_t6
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c4_i32_530 v514
  let v516 : Index := Scalar.indexCast v515
  let c0_531 : Index := 0#32
  ![v516.toNat, 0]
def k0_off36 (k0_t6 : Fin k0_t6_loop.trips) : Fin 3 → Nat :=
  let c1_541 : Index := 1#32
  let c512_i32_509 : BitVec 32 := 512#32
  let c0_i32_140 : BitVec 32 := 0#32
  let c1_i32_142 : BitVec 32 := 1#32
  let arg27 : BitVec 32 := Scf.iv c0_i32_140 c1_i32_142 k0_t6
  let c16_i32_508 : BitVec 32 := 16#32
  let v476 : BitVec 32 := Scalar.muli arg27 c16_i32_508
  let v477 : BitVec 32 := Scalar.addi c512_i32_509 v476
  let v543 : Index := Scalar.indexCast v477
  let c0_542 : Index := 0#32
  ![1, v543.toNat, 0]
@[reducible] def k0_t7_loop : Scf.Loop 32 :=
  let c0_i32_156 : BitVec 32 := 0#32
  let c16_i32_157 : BitVec 32 := 16#32
  let v126 : BitVec 32 := Scalar.addi c0_i32_156 c16_i32_157
  let c1_i32_158 : BitVec 32 := 1#32
  ⟨c0_i32_156, v126, c1_i32_158⟩
def k0_off37 (k0_t7 : Fin k0_t7_loop.trips) : Fin 3 → Nat :=
  let c0_504 : Index := 0#32
  let c0_i32_156 : BitVec 32 := 0#32
  let c1_i32_158 : BitVec 32 := 1#32
  let arg27 : BitVec 32 := Scf.iv c0_i32_156 c1_i32_158 k0_t7
  let c16_i32_503 : BitVec 32 := 16#32
  let v461 : BitVec 32 := Scalar.muli arg27 c16_i32_503
  let v462 : Index := Scalar.indexCast v461
  let c0_505 : Index := 0#32
  ![0, v462.toNat, 0]
def k0_off38 (k0_t7 : Fin k0_t7_loop.trips) : Fin 4 → Nat :=
  let c0_510 : Index := 0#32
  let c2_511 : Index := 2#32
  let c0_i32_509 : BitVec 32 := 0#32
  let c0_i32_156 : BitVec 32 := 0#32
  let c1_i32_158 : BitVec 32 := 1#32
  let arg27 : BitVec 32 := Scf.iv c0_i32_156 c1_i32_158 k0_t7
  let c16_i32_508 : BitVec 32 := 16#32
  let v476 : BitVec 32 := Scalar.muli arg27 c16_i32_508
  let v477 : BitVec 32 := Scalar.addi c0_i32_509 v476
  let v478 : Index := Scalar.indexCast v477
  let c0_512 : Index := 0#32
  ![0, 2, v478.toNat, 0]
def k0_off39 (k0_t7 : Fin k0_t7_loop.trips) : Fin 4 → Nat :=
  let c1_513 : Index := 1#32
  let c2_514 : Index := 2#32
  let c0_i32_509 : BitVec 32 := 0#32
  let c0_i32_156 : BitVec 32 := 0#32
  let c1_i32_158 : BitVec 32 := 1#32
  let arg27 : BitVec 32 := Scf.iv c0_i32_156 c1_i32_158 k0_t7
  let c16_i32_508 : BitVec 32 := 16#32
  let v476 : BitVec 32 := Scalar.muli arg27 c16_i32_508
  let v477 : BitVec 32 := Scalar.addi c0_i32_509 v476
  let v482 : Index := Scalar.indexCast v477
  let c0_515 : Index := 0#32
  ![1, 2, v482.toNat, 0]
def k0_off40 (k0_t7 : Fin k0_t7_loop.trips) : Fin 4 → Nat :=
  let c2_516 : Index := 2#32
  let c2_517 : Index := 2#32
  let c0_i32_509 : BitVec 32 := 0#32
  let c0_i32_156 : BitVec 32 := 0#32
  let c1_i32_158 : BitVec 32 := 1#32
  let arg27 : BitVec 32 := Scf.iv c0_i32_156 c1_i32_158 k0_t7
  let c16_i32_508 : BitVec 32 := 16#32
  let v476 : BitVec 32 := Scalar.muli arg27 c16_i32_508
  let v477 : BitVec 32 := Scalar.addi c0_i32_509 v476
  let v486 : Index := Scalar.indexCast v477
  let c0_518 : Index := 0#32
  ![2, 2, v486.toNat, 0]
def k0_off41 (k0_t7 : Fin k0_t7_loop.trips) : Fin 2 → Nat :=
  let c8_i32 : BitVec 32 := 8#32
  let c0_i32_156 : BitVec 32 := 0#32
  let c1_i32_158 : BitVec 32 := 1#32
  let arg27 : BitVec 32 := Scf.iv c0_i32_156 c1_i32_158 k0_t7
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c8_i32 v514
  let v516 : Index := Scalar.indexCast v515
  let c0_530 : Index := 0#32
  ![v516.toNat, 0]
def k0_off42 (k0_t7 : Fin k0_t7_loop.trips) : Fin 3 → Nat :=
  let c2_540 : Index := 2#32
  let c0_i32_509 : BitVec 32 := 0#32
  let c0_i32_156 : BitVec 32 := 0#32
  let c1_i32_158 : BitVec 32 := 1#32
  let arg27 : BitVec 32 := Scf.iv c0_i32_156 c1_i32_158 k0_t7
  let c16_i32_508 : BitVec 32 := 16#32
  let v476 : BitVec 32 := Scalar.muli arg27 c16_i32_508
  let v477 : BitVec 32 := Scalar.addi c0_i32_509 v476
  let v543 : Index := Scalar.indexCast v477
  let c0_541 : Index := 0#32
  ![2, v543.toNat, 0]
@[reducible] def k0_t8_loop : Scf.Loop 32 :=
  let c0_i32_166 : BitVec 32 := 0#32
  let c16_i32_167 : BitVec 32 := 16#32
  let v132 : BitVec 32 := Scalar.addi c0_i32_166 c16_i32_167
  let c1_i32_168 : BitVec 32 := 1#32
  ⟨c0_i32_166, v132, c1_i32_168⟩
def k0_off43 (k0_t8 : Fin k0_t8_loop.trips) : Fin 3 → Nat :=
  let c1_504 : Index := 1#32
  let c0_i32_166 : BitVec 32 := 0#32
  let c1_i32_168 : BitVec 32 := 1#32
  let arg27 : BitVec 32 := Scf.iv c0_i32_166 c1_i32_168 k0_t8
  let c16_i32_503 : BitVec 32 := 16#32
  let v461 : BitVec 32 := Scalar.muli arg27 c16_i32_503
  let v462 : Index := Scalar.indexCast v461
  let c0_505 : Index := 0#32
  ![1, v462.toNat, 0]
def k0_off44 (k0_t8 : Fin k0_t8_loop.trips) : Fin 4 → Nat :=
  let c0_510 : Index := 0#32
  let c2_511 : Index := 2#32
  let c256_i32_509 : BitVec 32 := 256#32
  let c0_i32_166 : BitVec 32 := 0#32
  let c1_i32_168 : BitVec 32 := 1#32
  let arg27 : BitVec 32 := Scf.iv c0_i32_166 c1_i32_168 k0_t8
  let c16_i32_508 : BitVec 32 := 16#32
  let v476 : BitVec 32 := Scalar.muli arg27 c16_i32_508
  let v477 : BitVec 32 := Scalar.addi c256_i32_509 v476
  let v478 : Index := Scalar.indexCast v477
  let c0_512 : Index := 0#32
  ![0, 2, v478.toNat, 0]
def k0_off45 (k0_t8 : Fin k0_t8_loop.trips) : Fin 4 → Nat :=
  let c1_513 : Index := 1#32
  let c2_514 : Index := 2#32
  let c256_i32_509 : BitVec 32 := 256#32
  let c0_i32_166 : BitVec 32 := 0#32
  let c1_i32_168 : BitVec 32 := 1#32
  let arg27 : BitVec 32 := Scf.iv c0_i32_166 c1_i32_168 k0_t8
  let c16_i32_508 : BitVec 32 := 16#32
  let v476 : BitVec 32 := Scalar.muli arg27 c16_i32_508
  let v477 : BitVec 32 := Scalar.addi c256_i32_509 v476
  let v482 : Index := Scalar.indexCast v477
  let c0_515 : Index := 0#32
  ![1, 2, v482.toNat, 0]
def k0_off46 (k0_t8 : Fin k0_t8_loop.trips) : Fin 4 → Nat :=
  let c2_516 : Index := 2#32
  let c2_517 : Index := 2#32
  let c256_i32_509 : BitVec 32 := 256#32
  let c0_i32_166 : BitVec 32 := 0#32
  let c1_i32_168 : BitVec 32 := 1#32
  let arg27 : BitVec 32 := Scf.iv c0_i32_166 c1_i32_168 k0_t8
  let c16_i32_508 : BitVec 32 := 16#32
  let v476 : BitVec 32 := Scalar.muli arg27 c16_i32_508
  let v477 : BitVec 32 := Scalar.addi c256_i32_509 v476
  let v486 : Index := Scalar.indexCast v477
  let c0_518 : Index := 0#32
  ![2, 2, v486.toNat, 0]
def k0_off47 (k0_t8 : Fin k0_t8_loop.trips) : Fin 2 → Nat :=
  let c8_i32 : BitVec 32 := 8#32
  let c0_i32_166 : BitVec 32 := 0#32
  let c1_i32_168 : BitVec 32 := 1#32
  let arg27 : BitVec 32 := Scf.iv c0_i32_166 c1_i32_168 k0_t8
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c8_i32 v514
  let v516 : Index := Scalar.indexCast v515
  let c0_530 : Index := 0#32
  ![v516.toNat, 0]
def k0_off48 (k0_t8 : Fin k0_t8_loop.trips) : Fin 3 → Nat :=
  let c2_540 : Index := 2#32
  let c256_i32_509 : BitVec 32 := 256#32
  let c0_i32_166 : BitVec 32 := 0#32
  let c1_i32_168 : BitVec 32 := 1#32
  let arg27 : BitVec 32 := Scf.iv c0_i32_166 c1_i32_168 k0_t8
  let c16_i32_508 : BitVec 32 := 16#32
  let v476 : BitVec 32 := Scalar.muli arg27 c16_i32_508
  let v477 : BitVec 32 := Scalar.addi c256_i32_509 v476
  let v543 : Index := Scalar.indexCast v477
  let c0_541 : Index := 0#32
  ![2, v543.toNat, 0]
@[reducible] def k0_t9_loop : Scf.Loop 32 :=
  let c0_i32_176 : BitVec 32 := 0#32
  let c16_i32_177 : BitVec 32 := 16#32
  let v138 : BitVec 32 := Scalar.addi c0_i32_176 c16_i32_177
  let c1_i32_178 : BitVec 32 := 1#32
  ⟨c0_i32_176, v138, c1_i32_178⟩
def k0_off49 (k0_t9 : Fin k0_t9_loop.trips) : Fin 3 → Nat :=
  let c2_504 : Index := 2#32
  let c0_i32_176 : BitVec 32 := 0#32
  let c1_i32_178 : BitVec 32 := 1#32
  let arg27 : BitVec 32 := Scf.iv c0_i32_176 c1_i32_178 k0_t9
  let c16_i32_503 : BitVec 32 := 16#32
  let v461 : BitVec 32 := Scalar.muli arg27 c16_i32_503
  let v462 : Index := Scalar.indexCast v461
  let c0_505 : Index := 0#32
  ![2, v462.toNat, 0]
def k0_off50 (k0_t9 : Fin k0_t9_loop.trips) : Fin 4 → Nat :=
  let c0_510 : Index := 0#32
  let c2_511 : Index := 2#32
  let c512_i32_509 : BitVec 32 := 512#32
  let c0_i32_176 : BitVec 32 := 0#32
  let c1_i32_178 : BitVec 32 := 1#32
  let arg27 : BitVec 32 := Scf.iv c0_i32_176 c1_i32_178 k0_t9
  let c16_i32_508 : BitVec 32 := 16#32
  let v476 : BitVec 32 := Scalar.muli arg27 c16_i32_508
  let v477 : BitVec 32 := Scalar.addi c512_i32_509 v476
  let v478 : Index := Scalar.indexCast v477
  let c0_512 : Index := 0#32
  ![0, 2, v478.toNat, 0]
def k0_off51 (k0_t9 : Fin k0_t9_loop.trips) : Fin 4 → Nat :=
  let c1_513 : Index := 1#32
  let c2_514 : Index := 2#32
  let c512_i32_509 : BitVec 32 := 512#32
  let c0_i32_176 : BitVec 32 := 0#32
  let c1_i32_178 : BitVec 32 := 1#32
  let arg27 : BitVec 32 := Scf.iv c0_i32_176 c1_i32_178 k0_t9
  let c16_i32_508 : BitVec 32 := 16#32
  let v476 : BitVec 32 := Scalar.muli arg27 c16_i32_508
  let v477 : BitVec 32 := Scalar.addi c512_i32_509 v476
  let v482 : Index := Scalar.indexCast v477
  let c0_515 : Index := 0#32
  ![1, 2, v482.toNat, 0]
def k0_off52 (k0_t9 : Fin k0_t9_loop.trips) : Fin 4 → Nat :=
  let c2_516 : Index := 2#32
  let c2_517 : Index := 2#32
  let c512_i32_509 : BitVec 32 := 512#32
  let c0_i32_176 : BitVec 32 := 0#32
  let c1_i32_178 : BitVec 32 := 1#32
  let arg27 : BitVec 32 := Scf.iv c0_i32_176 c1_i32_178 k0_t9
  let c16_i32_508 : BitVec 32 := 16#32
  let v476 : BitVec 32 := Scalar.muli arg27 c16_i32_508
  let v477 : BitVec 32 := Scalar.addi c512_i32_509 v476
  let v486 : Index := Scalar.indexCast v477
  let c0_518 : Index := 0#32
  ![2, 2, v486.toNat, 0]
def k0_off53 (k0_t9 : Fin k0_t9_loop.trips) : Fin 2 → Nat :=
  let c8_i32 : BitVec 32 := 8#32
  let c0_i32_176 : BitVec 32 := 0#32
  let c1_i32_178 : BitVec 32 := 1#32
  let arg27 : BitVec 32 := Scf.iv c0_i32_176 c1_i32_178 k0_t9
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c8_i32 v514
  let v516 : Index := Scalar.indexCast v515
  let c0_530 : Index := 0#32
  ![v516.toNat, 0]
def k0_off54 (k0_t9 : Fin k0_t9_loop.trips) : Fin 3 → Nat :=
  let c2_540 : Index := 2#32
  let c512_i32_509 : BitVec 32 := 512#32
  let c0_i32_176 : BitVec 32 := 0#32
  let c1_i32_178 : BitVec 32 := 1#32
  let arg27 : BitVec 32 := Scf.iv c0_i32_176 c1_i32_178 k0_t9
  let c16_i32_508 : BitVec 32 := 16#32
  let v476 : BitVec 32 := Scalar.muli arg27 c16_i32_508
  let v477 : BitVec 32 := Scalar.addi c512_i32_509 v476
  let v543 : Index := Scalar.indexCast v477
  let c0_541 : Index := 0#32
  ![2, v543.toNat, 0]
@[reducible] def k0_t10_loop : Scf.Loop 32 :=
  let c0_i32_186 : BitVec 32 := 0#32
  let c16_i32_187 : BitVec 32 := 16#32
  let v144 : BitVec 32 := Scalar.addi c0_i32_186 c16_i32_187
  let c1_i32_188 : BitVec 32 := 1#32
  ⟨c0_i32_186, v144, c1_i32_188⟩
def k0_off55 (k0_t10 : Fin k0_t10_loop.trips) : Fin 3 → Nat :=
  let c3_504 : Index := 3#32
  let c0_i32_186 : BitVec 32 := 0#32
  let c1_i32_188 : BitVec 32 := 1#32
  let arg27 : BitVec 32 := Scf.iv c0_i32_186 c1_i32_188 k0_t10
  let c16_i32_503 : BitVec 32 := 16#32
  let v461 : BitVec 32 := Scalar.muli arg27 c16_i32_503
  let v462 : Index := Scalar.indexCast v461
  let c0_505 : Index := 0#32
  ![3, v462.toNat, 0]
def k0_off56 (k0_t10 : Fin k0_t10_loop.trips) : Fin 4 → Nat :=
  let c0_510 : Index := 0#32
  let c3_511 : Index := 3#32
  let c0_i32_509 : BitVec 32 := 0#32
  let c0_i32_186 : BitVec 32 := 0#32
  let c1_i32_188 : BitVec 32 := 1#32
  let arg27 : BitVec 32 := Scf.iv c0_i32_186 c1_i32_188 k0_t10
  let c16_i32_508 : BitVec 32 := 16#32
  let v476 : BitVec 32 := Scalar.muli arg27 c16_i32_508
  let v477 : BitVec 32 := Scalar.addi c0_i32_509 v476
  let v478 : Index := Scalar.indexCast v477
  let c0_512 : Index := 0#32
  ![0, 3, v478.toNat, 0]
def k0_off57 (k0_t10 : Fin k0_t10_loop.trips) : Fin 4 → Nat :=
  let c1_513 : Index := 1#32
  let c3_514 : Index := 3#32
  let c0_i32_509 : BitVec 32 := 0#32
  let c0_i32_186 : BitVec 32 := 0#32
  let c1_i32_188 : BitVec 32 := 1#32
  let arg27 : BitVec 32 := Scf.iv c0_i32_186 c1_i32_188 k0_t10
  let c16_i32_508 : BitVec 32 := 16#32
  let v476 : BitVec 32 := Scalar.muli arg27 c16_i32_508
  let v477 : BitVec 32 := Scalar.addi c0_i32_509 v476
  let v482 : Index := Scalar.indexCast v477
  let c0_515 : Index := 0#32
  ![1, 3, v482.toNat, 0]
def k0_off58 (k0_t10 : Fin k0_t10_loop.trips) : Fin 4 → Nat :=
  let c2_516 : Index := 2#32
  let c3_517 : Index := 3#32
  let c0_i32_509 : BitVec 32 := 0#32
  let c0_i32_186 : BitVec 32 := 0#32
  let c1_i32_188 : BitVec 32 := 1#32
  let arg27 : BitVec 32 := Scf.iv c0_i32_186 c1_i32_188 k0_t10
  let c16_i32_508 : BitVec 32 := 16#32
  let v476 : BitVec 32 := Scalar.muli arg27 c16_i32_508
  let v477 : BitVec 32 := Scalar.addi c0_i32_509 v476
  let v486 : Index := Scalar.indexCast v477
  let c0_518 : Index := 0#32
  ![2, 3, v486.toNat, 0]
def k0_off59 (k0_t10 : Fin k0_t10_loop.trips) : Fin 2 → Nat :=
  let c12_i32 : BitVec 32 := 12#32
  let c0_i32_186 : BitVec 32 := 0#32
  let c1_i32_188 : BitVec 32 := 1#32
  let arg27 : BitVec 32 := Scf.iv c0_i32_186 c1_i32_188 k0_t10
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c12_i32 v514
  let v516 : Index := Scalar.indexCast v515
  let c0_530 : Index := 0#32
  ![v516.toNat, 0]
def k0_off60 (k0_t10 : Fin k0_t10_loop.trips) : Fin 3 → Nat :=
  let c3_540 : Index := 3#32
  let c0_i32_509 : BitVec 32 := 0#32
  let c0_i32_186 : BitVec 32 := 0#32
  let c1_i32_188 : BitVec 32 := 1#32
  let arg27 : BitVec 32 := Scf.iv c0_i32_186 c1_i32_188 k0_t10
  let c16_i32_508 : BitVec 32 := 16#32
  let v476 : BitVec 32 := Scalar.muli arg27 c16_i32_508
  let v477 : BitVec 32 := Scalar.addi c0_i32_509 v476
  let v543 : Index := Scalar.indexCast v477
  let c0_541 : Index := 0#32
  ![3, v543.toNat, 0]
@[reducible] def k0_t11_loop : Scf.Loop 32 :=
  let c0_i32_196 : BitVec 32 := 0#32
  let c16_i32_197 : BitVec 32 := 16#32
  let v150 : BitVec 32 := Scalar.addi c0_i32_196 c16_i32_197
  let c1_i32_198 : BitVec 32 := 1#32
  ⟨c0_i32_196, v150, c1_i32_198⟩
def k0_off61 (k0_t11 : Fin k0_t11_loop.trips) : Fin 3 → Nat :=
  let c4_504 : Index := 4#32
  let c0_i32_196 : BitVec 32 := 0#32
  let c1_i32_198 : BitVec 32 := 1#32
  let arg27 : BitVec 32 := Scf.iv c0_i32_196 c1_i32_198 k0_t11
  let c16_i32_503 : BitVec 32 := 16#32
  let v461 : BitVec 32 := Scalar.muli arg27 c16_i32_503
  let v462 : Index := Scalar.indexCast v461
  let c0_505 : Index := 0#32
  ![4, v462.toNat, 0]
def k0_off62 (k0_t11 : Fin k0_t11_loop.trips) : Fin 4 → Nat :=
  let c0_510 : Index := 0#32
  let c3_511 : Index := 3#32
  let c256_i32_509 : BitVec 32 := 256#32
  let c0_i32_196 : BitVec 32 := 0#32
  let c1_i32_198 : BitVec 32 := 1#32
  let arg27 : BitVec 32 := Scf.iv c0_i32_196 c1_i32_198 k0_t11
  let c16_i32_508 : BitVec 32 := 16#32
  let v476 : BitVec 32 := Scalar.muli arg27 c16_i32_508
  let v477 : BitVec 32 := Scalar.addi c256_i32_509 v476
  let v478 : Index := Scalar.indexCast v477
  let c0_512 : Index := 0#32
  ![0, 3, v478.toNat, 0]
def k0_off63 (k0_t11 : Fin k0_t11_loop.trips) : Fin 4 → Nat :=
  let c1_513 : Index := 1#32
  let c3_514 : Index := 3#32
  let c256_i32_509 : BitVec 32 := 256#32
  let c0_i32_196 : BitVec 32 := 0#32
  let c1_i32_198 : BitVec 32 := 1#32
  let arg27 : BitVec 32 := Scf.iv c0_i32_196 c1_i32_198 k0_t11
  let c16_i32_508 : BitVec 32 := 16#32
  let v476 : BitVec 32 := Scalar.muli arg27 c16_i32_508
  let v477 : BitVec 32 := Scalar.addi c256_i32_509 v476
  let v482 : Index := Scalar.indexCast v477
  let c0_515 : Index := 0#32
  ![1, 3, v482.toNat, 0]
def k0_off64 (k0_t11 : Fin k0_t11_loop.trips) : Fin 4 → Nat :=
  let c2_516 : Index := 2#32
  let c3_517 : Index := 3#32
  let c256_i32_509 : BitVec 32 := 256#32
  let c0_i32_196 : BitVec 32 := 0#32
  let c1_i32_198 : BitVec 32 := 1#32
  let arg27 : BitVec 32 := Scf.iv c0_i32_196 c1_i32_198 k0_t11
  let c16_i32_508 : BitVec 32 := 16#32
  let v476 : BitVec 32 := Scalar.muli arg27 c16_i32_508
  let v477 : BitVec 32 := Scalar.addi c256_i32_509 v476
  let v486 : Index := Scalar.indexCast v477
  let c0_518 : Index := 0#32
  ![2, 3, v486.toNat, 0]
def k0_off65 (k0_t11 : Fin k0_t11_loop.trips) : Fin 2 → Nat :=
  let c12_i32 : BitVec 32 := 12#32
  let c0_i32_196 : BitVec 32 := 0#32
  let c1_i32_198 : BitVec 32 := 1#32
  let arg27 : BitVec 32 := Scf.iv c0_i32_196 c1_i32_198 k0_t11
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c12_i32 v514
  let v516 : Index := Scalar.indexCast v515
  let c0_530 : Index := 0#32
  ![v516.toNat, 0]
def k0_off66 (k0_t11 : Fin k0_t11_loop.trips) : Fin 3 → Nat :=
  let c3_540 : Index := 3#32
  let c256_i32_509 : BitVec 32 := 256#32
  let c0_i32_196 : BitVec 32 := 0#32
  let c1_i32_198 : BitVec 32 := 1#32
  let arg27 : BitVec 32 := Scf.iv c0_i32_196 c1_i32_198 k0_t11
  let c16_i32_508 : BitVec 32 := 16#32
  let v476 : BitVec 32 := Scalar.muli arg27 c16_i32_508
  let v477 : BitVec 32 := Scalar.addi c256_i32_509 v476
  let v543 : Index := Scalar.indexCast v477
  let c0_541 : Index := 0#32
  ![3, v543.toNat, 0]
@[reducible] def k0_t12_loop : Scf.Loop 32 :=
  let c0_i32_206 : BitVec 32 := 0#32
  let c16_i32_207 : BitVec 32 := 16#32
  let v156 : BitVec 32 := Scalar.addi c0_i32_206 c16_i32_207
  let c1_i32_208 : BitVec 32 := 1#32
  ⟨c0_i32_206, v156, c1_i32_208⟩
def k0_off67 (k0_t12 : Fin k0_t12_loop.trips) : Fin 3 → Nat :=
  let c5_504 : Index := 5#32
  let c0_i32_206 : BitVec 32 := 0#32
  let c1_i32_208 : BitVec 32 := 1#32
  let arg27 : BitVec 32 := Scf.iv c0_i32_206 c1_i32_208 k0_t12
  let c16_i32_503 : BitVec 32 := 16#32
  let v461 : BitVec 32 := Scalar.muli arg27 c16_i32_503
  let v462 : Index := Scalar.indexCast v461
  let c0_505 : Index := 0#32
  ![5, v462.toNat, 0]
def k0_off68 (k0_t12 : Fin k0_t12_loop.trips) : Fin 4 → Nat :=
  let c0_510 : Index := 0#32
  let c3_511 : Index := 3#32
  let c512_i32_509 : BitVec 32 := 512#32
  let c0_i32_206 : BitVec 32 := 0#32
  let c1_i32_208 : BitVec 32 := 1#32
  let arg27 : BitVec 32 := Scf.iv c0_i32_206 c1_i32_208 k0_t12
  let c16_i32_508 : BitVec 32 := 16#32
  let v476 : BitVec 32 := Scalar.muli arg27 c16_i32_508
  let v477 : BitVec 32 := Scalar.addi c512_i32_509 v476
  let v478 : Index := Scalar.indexCast v477
  let c0_512 : Index := 0#32
  ![0, 3, v478.toNat, 0]
def k0_off69 (k0_t12 : Fin k0_t12_loop.trips) : Fin 4 → Nat :=
  let c1_513 : Index := 1#32
  let c3_514 : Index := 3#32
  let c512_i32_509 : BitVec 32 := 512#32
  let c0_i32_206 : BitVec 32 := 0#32
  let c1_i32_208 : BitVec 32 := 1#32
  let arg27 : BitVec 32 := Scf.iv c0_i32_206 c1_i32_208 k0_t12
  let c16_i32_508 : BitVec 32 := 16#32
  let v476 : BitVec 32 := Scalar.muli arg27 c16_i32_508
  let v477 : BitVec 32 := Scalar.addi c512_i32_509 v476
  let v482 : Index := Scalar.indexCast v477
  let c0_515 : Index := 0#32
  ![1, 3, v482.toNat, 0]
def k0_off70 (k0_t12 : Fin k0_t12_loop.trips) : Fin 4 → Nat :=
  let c2_516 : Index := 2#32
  let c3_517 : Index := 3#32
  let c512_i32_509 : BitVec 32 := 512#32
  let c0_i32_206 : BitVec 32 := 0#32
  let c1_i32_208 : BitVec 32 := 1#32
  let arg27 : BitVec 32 := Scf.iv c0_i32_206 c1_i32_208 k0_t12
  let c16_i32_508 : BitVec 32 := 16#32
  let v476 : BitVec 32 := Scalar.muli arg27 c16_i32_508
  let v477 : BitVec 32 := Scalar.addi c512_i32_509 v476
  let v486 : Index := Scalar.indexCast v477
  let c0_518 : Index := 0#32
  ![2, 3, v486.toNat, 0]
def k0_off71 (k0_t12 : Fin k0_t12_loop.trips) : Fin 2 → Nat :=
  let c12_i32 : BitVec 32 := 12#32
  let c0_i32_206 : BitVec 32 := 0#32
  let c1_i32_208 : BitVec 32 := 1#32
  let arg27 : BitVec 32 := Scf.iv c0_i32_206 c1_i32_208 k0_t12
  let c0_i32_524 : BitVec 32 := 0#32
  let v499 : BitVec 1 := Scalar.cmpi .sgt arg27 c0_i32_524
  let v500 : BitVec 32 := Scalar.extui v499
  let c0_i32_525 : BitVec 32 := 0#32
  let v501 : BitVec 1 := Scalar.cmpi .slt arg27 c0_i32_525
  let v502 : BitVec 32 := Scalar.extui v501
  let v503 : BitVec 32 := Scalar.subi v500 v502
  let c4_i32_523 : BitVec 32 := 4#32
  let c0_i32_526 : BitVec 32 := 0#32
  let v504 : BitVec 1 := Scalar.cmpi .sgt c4_i32_523 c0_i32_526
  let v505 : BitVec 32 := Scalar.extui v504
  let c0_i32_527 : BitVec 32 := 0#32
  let v506 : BitVec 1 := Scalar.cmpi .slt c4_i32_523 c0_i32_527
  let v507 : BitVec 32 := Scalar.extui v506
  let v508 : BitVec 32 := Scalar.subi v505 v507
  let v509 : BitVec 1 := Scalar.cmpi .ne v503 v508
  let v510 : BitVec 32 := Scalar.remsi arg27 c4_i32_523
  let c0_i32_528 : BitVec 32 := 0#32
  let v511 : BitVec 1 := Scalar.cmpi .ne v510 c0_i32_528
  let v512 : BitVec 1 := Scalar.andi v509 v511
  let v498 : BitVec 32 := Scalar.divsi arg27 c4_i32_523
  let c1_i32_529 : BitVec 32 := 1#32
  let v513 : BitVec 32 := Scalar.subi v498 c1_i32_529
  let v514 : BitVec 32 := Scalar.select v512 v513 v498
  let v515 : BitVec 32 := Scalar.addi c12_i32 v514
  let v516 : Index := Scalar.indexCast v515
  let c0_530 : Index := 0#32
  ![v516.toNat, 0]
def k0_off72 (k0_t12 : Fin k0_t12_loop.trips) : Fin 3 → Nat :=
  let c3_540 : Index := 3#32
  let c512_i32_509 : BitVec 32 := 512#32
  let c0_i32_206 : BitVec 32 := 0#32
  let c1_i32_208 : BitVec 32 := 1#32
  let arg27 : BitVec 32 := Scf.iv c0_i32_206 c1_i32_208 k0_t12
  let c16_i32_508 : BitVec 32 := 16#32
  let v476 : BitVec 32 := Scalar.muli arg27 c16_i32_508
  let v477 : BitVec 32 := Scalar.addi c512_i32_509 v476
  let v543 : Index := Scalar.indexCast v477
  let c0_541 : Index := 0#32
  ![3, v543.toNat, 0]
@[reducible] def k0_t13_loop : Scf.Loop 32 :=
  let c0_i32_210 : BitVec 32 := 0#32
  let c6_i32 : BitVec 32 := 6#32
  let v157 : BitVec 32 := Scalar.addi c0_i32_210 c6_i32
  let c1_i32_211 : BitVec 32 := 1#32
  ⟨c0_i32_210, v157, c1_i32_211⟩
def k0_off73 (k0_t13 : Fin k0_t13_loop.trips) : Fin 1 → Nat :=
  let c0_i32_210 : BitVec 32 := 0#32
  let c1_i32_211 : BitVec 32 := 1#32
  let arg27 : BitVec 32 := Scf.iv c0_i32_210 c1_i32_211 k0_t13
  ![arg27.toNat]
def k0_off74 (k0_t13 : Fin k0_t13_loop.trips) : Fin 2 → Nat :=
  let c0_i32_210 : BitVec 32 := 0#32
  let c1_i32_211 : BitVec 32 := 1#32
  let arg27 : BitVec 32 := Scf.iv c0_i32_210 c1_i32_211 k0_t13
  let c256_i32_504 : BitVec 32 := 256#32
  let v462 : BitVec 32 := Scalar.muli arg27 c256_i32_504
  let c0_i32_505 : BitVec 32 := 0#32
  ![v462.toNat, 0]
@[reducible] def k0_t14_loop : Scf.Loop 32 :=
  let c0_i32_507 : BitVec 32 := 0#32
  let c2_i32_508 : BitVec 32 := 2#32
  let v467 : BitVec 32 := Scalar.addi c0_i32_507 c2_i32_508
  let c1_i32_509 : BitVec 32 := 1#32
  ⟨c0_i32_507, v467, c1_i32_509⟩
def k0_off75 (k0_t13 : Fin k0_t13_loop.trips) (k0_t14 : Fin k0_t14_loop.trips) : Fin 2 → Nat :=
  let c0_i32_210 : BitVec 32 := 0#32
  let c1_i32_211 : BitVec 32 := 1#32
  let arg27 : BitVec 32 := Scf.iv c0_i32_210 c1_i32_211 k0_t13
  let c256_i32_539 : BitVec 32 := 256#32
  let v490 : BitVec 32 := Scalar.muli arg27 c256_i32_539
  let c0_i32_507 : BitVec 32 := 0#32
  let c1_i32_509 : BitVec 32 := 1#32
  let arg28 : BitVec 32 := Scf.iv c0_i32_507 c1_i32_509 k0_t14
  let c128_i32 : BitVec 32 := 128#32
  let v491 : BitVec 32 := Scalar.muli arg28 c128_i32
  let v492 : BitVec 32 := Scalar.addi v490 v491
  let v493 : Index := Scalar.indexCast v492
  let c0_540 : Index := 0#32
  ![v493.toNat, 0]
def k0_off76 (k0_t14 : Fin k0_t14_loop.trips) : Fin 4 → Nat :=
  let c0_546 : Index := 0#32
  let c0_i32_507 : BitVec 32 := 0#32
  let c1_i32_509 : BitVec 32 := 1#32
  let arg28 : BitVec 32 := Scf.iv c0_i32_507 c1_i32_509 k0_t14
  let v514 : Index := Scalar.indexCast arg28
  let c0_547 : Index := 0#32
  let c0_548 : Index := 0#32
  ![0, v514.toNat, 0, 0]
def k0_off77 (k0_t14 : Fin k0_t14_loop.trips) : Fin 4 → Nat :=
  let c1_549 : Index := 1#32
  let c0_i32_507 : BitVec 32 := 0#32
  let c1_i32_509 : BitVec 32 := 1#32
  let arg28 : BitVec 32 := Scf.iv c0_i32_507 c1_i32_509 k0_t14
  let v523 : Index := Scalar.indexCast arg28
  let c0_550 : Index := 0#32
  let c0_551 : Index := 0#32
  ![1, v523.toNat, 0, 0]
@[reducible] def k0_t15_loop : Scf.Loop 32 :=
  let c0_i32_511 : BitVec 32 := 0#32
  let c4_i32_512 : BitVec 32 := 4#32
  let v468 : BitVec 32 := Scalar.addi c0_i32_511 c4_i32_512
  let c1_i32_513 : BitVec 32 := 1#32
  ⟨c0_i32_511, v468, c1_i32_513⟩
def k0_off78 (k0_t13 : Fin k0_t13_loop.trips) : Fin 2 → Nat :=
  let c0_i32_210 : BitVec 32 := 0#32
  let c1_i32_211 : BitVec 32 := 1#32
  let arg27 : BitVec 32 := Scf.iv c0_i32_210 c1_i32_211 k0_t13
  let c256_i32_539 : BitVec 32 := 256#32
  let v490 : BitVec 32 := Scalar.muli arg27 c256_i32_539
  let v491 : Index := Scalar.indexCast v490
  let c0_540 : Index := 0#32
  ![v491.toNat, 0]
def k0_off79 (k0_t15 : Fin k0_t15_loop.trips) : Fin 4 → Nat :=
  let c0_541 : Index := 0#32
  let c0_i32_511 : BitVec 32 := 0#32
  let c1_i32_513 : BitVec 32 := 1#32
  let arg28 : BitVec 32 := Scf.iv c0_i32_511 c1_i32_513 k0_t15
  let v493 : Index := Scalar.indexCast arg28
  let c0_542 : Index := 0#32
  let c0_543 : Index := 0#32
  ![0, v493.toNat, 0, 0]
def k0_off80 (k0_t15 : Fin k0_t15_loop.trips) : Fin 4 → Nat :=
  let c1_545 : Index := 1#32
  let c0_i32_511 : BitVec 32 := 0#32
  let c1_i32_513 : BitVec 32 := 1#32
  let arg28 : BitVec 32 := Scf.iv c0_i32_511 c1_i32_513 k0_t15
  let v497 : Index := Scalar.indexCast arg28
  let c0_546 : Index := 0#32
  let c0_547 : Index := 0#32
  ![1, v497.toNat, 0, 0]
def k0_off81 (k0_t15 : Fin k0_t15_loop.trips) : Fin 4 → Nat :=
  let c2_549 : Index := 2#32
  let c0_i32_511 : BitVec 32 := 0#32
  let c1_i32_513 : BitVec 32 := 1#32
  let arg28 : BitVec 32 := Scf.iv c0_i32_511 c1_i32_513 k0_t15
  let v502 : Index := Scalar.indexCast arg28
  let c0_550 : Index := 0#32
  let c0_551 : Index := 0#32
  ![2, v502.toNat, 0, 0]
def k0_off82 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v509 : Index := Scalar.indexCast arg28
  let c0_553 : Index := 0#32
  let c0_554 : Index := 0#32
  ![v509.toNat, 0, 0]
def k0_off83 (k0_t13 : Fin k0_t13_loop.trips) (c0_i32_566 : BitVec 32) : Fin 1 → Nat :=
  let c0_i32_210 : BitVec 32 := 0#32
  let c1_i32_211 : BitVec 32 := 1#32
  let arg27 : BitVec 32 := Scf.iv c0_i32_210 c1_i32_211 k0_t13
  let c2_i32_565 : BitVec 32 := 2#32
  let v529 : BitVec 32 := Scalar.muli arg27 c2_i32_565
  let v530 : BitVec 32 := Scalar.addi v529 c0_i32_566
  let v533 : Index := Scalar.indexCast v530
  ![v533.toNat]
def k0_off84 (k0_t13 : Fin k0_t13_loop.trips) (k0_t15 : Fin k0_t15_loop.trips) (c0_i32_566 : BitVec 32) (c0_i32_591 : BitVec 32) : Fin 4 → Nat :=
  let c0_593 : Index := 0#32
  let c0_i32_210 : BitVec 32 := 0#32
  let c1_i32_211 : BitVec 32 := 1#32
  let arg27 : BitVec 32 := Scf.iv c0_i32_210 c1_i32_211 k0_t13
  let c2_i32_565 : BitVec 32 := 2#32
  let v529 : BitVec 32 := Scalar.muli arg27 c2_i32_565
  let v530 : BitVec 32 := Scalar.addi v529 c0_i32_566
  let v629 : Index := Scalar.indexCast v530
  let c0_i32_511 : BitVec 32 := 0#32
  let c1_i32_513 : BitVec 32 := 1#32
  let arg28 : BitVec 32 := Scf.iv c0_i32_511 c1_i32_513 k0_t15
  let c4_i32_590 : BitVec 32 := 4#32
  let v626 : BitVec 32 := Scalar.muli arg28 c4_i32_590
  let v627 : BitVec 32 := Scalar.addi v626 c0_i32_591
  let c64_i32_592 : BitVec 32 := 64#32
  let v628 : BitVec 32 := Scalar.muli v627 c64_i32_592
  let v630 : Index := Scalar.indexCast v628
  let c0_594 : Index := 0#32
  ![0, v629.toNat, v630.toNat, 0]
def k0_off85 (k0_t13 : Fin k0_t13_loop.trips) (k0_t15 : Fin k0_t15_loop.trips) (c0_i32_566 : BitVec 32) (c0_i32_598 : BitVec 32) : Fin 4 → Nat :=
  let c0_599 : Index := 0#32
  let c0_i32_210 : BitVec 32 := 0#32
  let c1_i32_211 : BitVec 32 := 1#32
  let arg27 : BitVec 32 := Scf.iv c0_i32_210 c1_i32_211 k0_t13
  let c2_i32_565 : BitVec 32 := 2#32
  let v529 : BitVec 32 := Scalar.muli arg27 c2_i32_565
  let v530 : BitVec 32 := Scalar.addi v529 c0_i32_566
  let v642 : Index := Scalar.indexCast v530
  let c0_i32_511 : BitVec 32 := 0#32
  let c1_i32_513 : BitVec 32 := 1#32
  let arg28 : BitVec 32 := Scf.iv c0_i32_511 c1_i32_513 k0_t15
  let c4_i32_597 : BitVec 32 := 4#32
  let v640 : BitVec 32 := Scalar.muli arg28 c4_i32_597
  let v641 : BitVec 32 := Scalar.addi v640 c0_i32_598
  let v643 : Index := Scalar.indexCast v641
  let c0_600 : Index := 0#32
  ![0, v642.toNat, v643.toNat, 0]
def k0_off86 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v789 : Index := Scalar.indexCast arg28
  let c64 : Index := 64#32
  let c0_656 : Index := 0#32
  ![v789.toNat, 64, 0]
def k0_off87 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v1069 : Index := Scalar.indexCast arg28
  let c128 : Index := 128#32
  let c0_765 : Index := 0#32
  ![v1069.toNat, 128, 0]
def k0_off88 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v1349 : Index := Scalar.indexCast arg28
  let c192 : Index := 192#32
  let c0_874 : Index := 0#32
  ![v1349.toNat, 192, 0]
def k0_off89 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v1629 : Index := Scalar.indexCast arg28
  let c256 : Index := 256#32
  let c0_983 : Index := 0#32
  ![v1629.toNat, 256, 0]
def k0_off90 (k0_t13 : Fin k0_t13_loop.trips) (k0_t15 : Fin k0_t15_loop.trips) (c0_i32_995 : BitVec 32) (c0_i32_1027 : BitVec 32) : Fin 4 → Nat :=
  let c1_1029 : Index := 1#32
  let c0_i32_210 : BitVec 32 := 0#32
  let c1_i32_211 : BitVec 32 := 1#32
  let arg27 : BitVec 32 := Scf.iv c0_i32_210 c1_i32_211 k0_t13
  let c2_i32_994 : BitVec 32 := 2#32
  let v1649 : BitVec 32 := Scalar.muli arg27 c2_i32_994
  let v1650 : BitVec 32 := Scalar.addi v1649 c0_i32_995
  let v1749 : Index := Scalar.indexCast v1650
  let c0_i32_511 : BitVec 32 := 0#32
  let c1_i32_513 : BitVec 32 := 1#32
  let arg28 : BitVec 32 := Scf.iv c0_i32_511 c1_i32_513 k0_t15
  let c4_i32_1026 : BitVec 32 := 4#32
  let v1746 : BitVec 32 := Scalar.muli arg28 c4_i32_1026
  let v1747 : BitVec 32 := Scalar.addi v1746 c0_i32_1027
  let c64_i32_1028 : BitVec 32 := 64#32
  let v1748 : BitVec 32 := Scalar.muli v1747 c64_i32_1028
  let v1750 : Index := Scalar.indexCast v1748
  let c0_1030 : Index := 0#32
  ![1, v1749.toNat, v1750.toNat, 0]
def k0_off91 (k0_t13 : Fin k0_t13_loop.trips) (k0_t15 : Fin k0_t15_loop.trips) (c0_i32_995 : BitVec 32) (c0_i32_1034 : BitVec 32) : Fin 4 → Nat :=
  let c1_1035 : Index := 1#32
  let c0_i32_210 : BitVec 32 := 0#32
  let c1_i32_211 : BitVec 32 := 1#32
  let arg27 : BitVec 32 := Scf.iv c0_i32_210 c1_i32_211 k0_t13
  let c2_i32_994 : BitVec 32 := 2#32
  let v1649 : BitVec 32 := Scalar.muli arg27 c2_i32_994
  let v1650 : BitVec 32 := Scalar.addi v1649 c0_i32_995
  let v1762 : Index := Scalar.indexCast v1650
  let c0_i32_511 : BitVec 32 := 0#32
  let c1_i32_513 : BitVec 32 := 1#32
  let arg28 : BitVec 32 := Scf.iv c0_i32_511 c1_i32_513 k0_t15
  let c4_i32_1033 : BitVec 32 := 4#32
  let v1760 : BitVec 32 := Scalar.muli arg28 c4_i32_1033
  let v1761 : BitVec 32 := Scalar.addi v1760 c0_i32_1034
  let v1763 : Index := Scalar.indexCast v1761
  let c0_1036 : Index := 0#32
  ![1, v1762.toNat, v1763.toNat, 0]
def k0_off92 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v1909 : Index := Scalar.indexCast arg28
  let c320 : Index := 320#32
  let c0_1092 : Index := 0#32
  ![v1909.toNat, 320, 0]
def k0_off93 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v2189 : Index := Scalar.indexCast arg28
  let c384 : Index := 384#32
  let c0_1201 : Index := 0#32
  ![v2189.toNat, 384, 0]
def k0_off94 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v2469 : Index := Scalar.indexCast arg28
  let c448 : Index := 448#32
  let c0_1310 : Index := 0#32
  ![v2469.toNat, 448, 0]
def k0_off95 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v2749 : Index := Scalar.indexCast arg28
  let c512 : Index := 512#32
  let c0_1419 : Index := 0#32
  ![v2749.toNat, 512, 0]
def k0_off96 (k0_t13 : Fin k0_t13_loop.trips) (k0_t15 : Fin k0_t15_loop.trips) (c0_i32_1431 : BitVec 32) (c0_i32_1463 : BitVec 32) : Fin 4 → Nat :=
  let c2_1465 : Index := 2#32
  let c0_i32_210 : BitVec 32 := 0#32
  let c1_i32_211 : BitVec 32 := 1#32
  let arg27 : BitVec 32 := Scf.iv c0_i32_210 c1_i32_211 k0_t13
  let c2_i32_1430 : BitVec 32 := 2#32
  let v2769 : BitVec 32 := Scalar.muli arg27 c2_i32_1430
  let v2770 : BitVec 32 := Scalar.addi v2769 c0_i32_1431
  let v2869 : Index := Scalar.indexCast v2770
  let c0_i32_511 : BitVec 32 := 0#32
  let c1_i32_513 : BitVec 32 := 1#32
  let arg28 : BitVec 32 := Scf.iv c0_i32_511 c1_i32_513 k0_t15
  let c4_i32_1462 : BitVec 32 := 4#32
  let v2866 : BitVec 32 := Scalar.muli arg28 c4_i32_1462
  let v2867 : BitVec 32 := Scalar.addi v2866 c0_i32_1463
  let c64_i32_1464 : BitVec 32 := 64#32
  let v2868 : BitVec 32 := Scalar.muli v2867 c64_i32_1464
  let v2870 : Index := Scalar.indexCast v2868
  let c0_1466 : Index := 0#32
  ![2, v2869.toNat, v2870.toNat, 0]
def k0_off97 (k0_t13 : Fin k0_t13_loop.trips) (k0_t15 : Fin k0_t15_loop.trips) (c0_i32_1431 : BitVec 32) (c0_i32_1470 : BitVec 32) : Fin 4 → Nat :=
  let c2_1471 : Index := 2#32
  let c0_i32_210 : BitVec 32 := 0#32
  let c1_i32_211 : BitVec 32 := 1#32
  let arg27 : BitVec 32 := Scf.iv c0_i32_210 c1_i32_211 k0_t13
  let c2_i32_1430 : BitVec 32 := 2#32
  let v2769 : BitVec 32 := Scalar.muli arg27 c2_i32_1430
  let v2770 : BitVec 32 := Scalar.addi v2769 c0_i32_1431
  let v2882 : Index := Scalar.indexCast v2770
  let c0_i32_511 : BitVec 32 := 0#32
  let c1_i32_513 : BitVec 32 := 1#32
  let arg28 : BitVec 32 := Scf.iv c0_i32_511 c1_i32_513 k0_t15
  let c4_i32_1469 : BitVec 32 := 4#32
  let v2880 : BitVec 32 := Scalar.muli arg28 c4_i32_1469
  let v2881 : BitVec 32 := Scalar.addi v2880 c0_i32_1470
  let v2883 : Index := Scalar.indexCast v2881
  let c0_1472 : Index := 0#32
  ![2, v2882.toNat, v2883.toNat, 0]
def k0_off98 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v3029 : Index := Scalar.indexCast arg28
  let c576 : Index := 576#32
  let c0_1528 : Index := 0#32
  ![v3029.toNat, 576, 0]
def k0_off99 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v3309 : Index := Scalar.indexCast arg28
  let c640 : Index := 640#32
  let c0_1637 : Index := 0#32
  ![v3309.toNat, 640, 0]
def k0_off100 (k0_t15 : Fin k0_t15_loop.trips) : Fin 3 → Nat :=
  let c0_i32_511 : BitVec 32 := 0#32
  let c1_i32_513 : BitVec 32 := 1#32
  let arg28 : BitVec 32 := Scf.iv c0_i32_511 c1_i32_513 k0_t15
  let v3589 : Index := Scalar.indexCast arg28
  let c704 : Index := 704#32
  let c0_1746 : Index := 0#32
  ![v3589.toNat, 704, 0]
def k0_off101 (k0_t13 : Fin k0_t13_loop.trips) : Fin 3 → Nat :=
  let c0_i32_210 : BitVec 32 := 0#32
  let c1_i32_211 : BitVec 32 := 1#32
  let arg27 : BitVec 32 := Scf.iv c0_i32_210 c1_i32_211 k0_t13
  let c2_i32_516 : BitVec 32 := 2#32
  let v470 : BitVec 32 := Scalar.muli arg27 c2_i32_516
  let c0_i32_519 : BitVec 32 := 0#32
  let c0_i32_520 : BitVec 32 := 0#32
  ![v470.toNat, 0, 0]
def k0_off102 (k0_t13 : Fin k0_t13_loop.trips) : Fin 4 → Nat :=
  let c0_i32_517 : BitVec 32 := 0#32
  let c0_i32_210 : BitVec 32 := 0#32
  let c1_i32_211 : BitVec 32 := 1#32
  let arg27 : BitVec 32 := Scf.iv c0_i32_210 c1_i32_211 k0_t13
  let c2_i32_515 : BitVec 32 := 2#32
  let v469 : BitVec 32 := Scalar.muli arg27 c2_i32_515
  let c0_i32_521 : BitVec 32 := 0#32
  let c0_i32_522 : BitVec 32 := 0#32
  ![0, v469.toNat, 0, 0]
def k0_off103 (k0_t13 : Fin k0_t13_loop.trips) : Fin 4 → Nat :=
  let c1_i32_525 : BitVec 32 := 1#32
  let c0_i32_210 : BitVec 32 := 0#32
  let c1_i32_211 : BitVec 32 := 1#32
  let arg27 : BitVec 32 := Scf.iv c0_i32_210 c1_i32_211 k0_t13
  let c2_i32_523 : BitVec 32 := 2#32
  let v476 : BitVec 32 := Scalar.muli arg27 c2_i32_523
  let c0_i32_529 : BitVec 32 := 0#32
  let c0_i32_530 : BitVec 32 := 0#32
  ![1, v476.toNat, 0, 0]
def k0_off104 (k0_t13 : Fin k0_t13_loop.trips) : Fin 4 → Nat :=
  let c2_i32_533 : BitVec 32 := 2#32
  let c0_i32_210 : BitVec 32 := 0#32
  let c1_i32_211 : BitVec 32 := 1#32
  let arg27 : BitVec 32 := Scf.iv c0_i32_210 c1_i32_211 k0_t13
  let c2_i32_531 : BitVec 32 := 2#32
  let v483 : BitVec 32 := Scalar.muli arg27 c2_i32_531
  let c0_i32_537 : BitVec 32 := 0#32
  let c0_i32_538 : BitVec 32 := 0#32
  ![2, v483.toNat, 0, 0]
abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S12x128x1024 : Shape := ⟨3, ![12, 128, 1024]⟩
abbrev S12 : Shape := ⟨1, ![12]⟩
abbrev S1024 : Shape := ⟨1, ![1024]⟩
abbrev S1024x16x64 : Shape := ⟨3, ![1024, 16, 64]⟩
abbrev S16x64 : Shape := ⟨2, ![16, 64]⟩
abbrev S128 : Shape := ⟨1, ![128]⟩
abbrev S1x128 : Shape := ⟨2, ![1, 128]⟩
abbrev S12x1 : Shape := ⟨2, ![12, 1]⟩
abbrev S12x128 : Shape := ⟨2, ![12, 128]⟩
abbrev S_ : Shape := ⟨0, ![]⟩
abbrev S12x128x1 : Shape := ⟨3, ![12, 128, 1]⟩
abbrev S1x1x1024 : Shape := ⟨3, ![1, 1, 1024]⟩
abbrev S12x128x16x64 : Shape := ⟨4, ![12, 128, 16, 64]⟩
abbrev S1x1x16x64 : Shape := ⟨4, ![1, 1, 16, 64]⟩
abbrev S12x128x1x1 : Shape := ⟨4, ![12, 128, 1, 1]⟩
abbrev S12x16 : Shape := ⟨2, ![12, 16]⟩
abbrev S254 : Shape := ⟨1, ![254]⟩
abbrev S12x16x1 : Shape := ⟨3, ![12, 16, 1]⟩
abbrev S1x1x254 : Shape := ⟨3, ![1, 1, 254]⟩
abbrev S12x16x254 : Shape := ⟨3, ![12, 16, 254]⟩
abbrev S12x1x16x1 : Shape := ⟨4, ![12, 1, 16, 1]⟩

abbrev nBuf : Space → Nat
  | .hbm => 260
  | .vmem => 0
  | .smem => 0
  | _ => 0

abbrev hbmTy0_0 (i : Nat) : BufTy := match i % 128 with
  | 0 => ⟨S12x128x1024, .bf16⟩
  | 1 => ⟨S12, .i32⟩
  | 2 => ⟨S1024, .f32⟩
  | 3 => ⟨S1024, .f32⟩
  | 4 => ⟨S1024x16x64, .f32⟩
  | 5 => ⟨S16x64, .f32⟩
  | 6 => ⟨S1024x16x64, .f32⟩
  | 7 => ⟨S16x64, .f32⟩
  | 8 => ⟨S1024x16x64, .f32⟩
  | 9 => ⟨S16x64, .f32⟩
  | 10 => ⟨S128, .i32⟩
  | 11 => ⟨S1x128, .i32⟩
  | 12 => ⟨S12x1, .i32⟩
  | 13 => ⟨S12x128, .i32⟩
  | 14 => ⟨S12x128, .i32⟩
  | 15 => ⟨S12x128, .i1⟩
  | 16 => ⟨S12x128x1024, .f32⟩
  | 17 => ⟨S_, .f32⟩
  | 18 => ⟨S12x128, .f32⟩
  | 19 => ⟨S12x128x1, .f32⟩
  | 20 => ⟨S_, .f32⟩
  | 21 => ⟨S12x128x1, .f32⟩
  | 22 => ⟨S12x128x1, .f32⟩
  | 23 => ⟨S12x128x1024, .f32⟩
  | 24 => ⟨S12x128x1024, .f32⟩
  | 25 => ⟨S12x128x1024, .f32⟩
  | 26 => ⟨S_, .f32⟩
  | 27 => ⟨S12x128, .f32⟩
  | 28 => ⟨S12x128x1, .f32⟩
  | 29 => ⟨S_, .f32⟩
  | 30 => ⟨S12x128x1, .f32⟩
  | 31 => ⟨S12x128x1, .f32⟩
  | 32 => ⟨S_, .f32⟩
  | 33 => ⟨S12x128x1, .f32⟩
  | 34 => ⟨S12x128x1, .f32⟩
  | 35 => ⟨S12x128x1, .f32⟩
  | 36 => ⟨S12x128x1024, .f32⟩
  | 37 => ⟨S12x128x1024, .f32⟩
  | 38 => ⟨S1x1x1024, .f32⟩
  | 39 => ⟨S12x128x1024, .f32⟩
  | 40 => ⟨S12x128x1024, .f32⟩
  | 41 => ⟨S1x1x1024, .f32⟩
  | 42 => ⟨S12x128x1024, .f32⟩
  | 43 => ⟨S12x128x1024, .f32⟩
  | 44 => ⟨S12x128x16x64, .f32⟩
  | 45 => ⟨S1x1x16x64, .f32⟩
  | 46 => ⟨S12x128x16x64, .f32⟩
  | 47 => ⟨S12x128x16x64, .f32⟩
  | 48 => ⟨S12x128x16x64, .f32⟩
  | 49 => ⟨S1x1x16x64, .f32⟩
  | 50 => ⟨S12x128x16x64, .f32⟩
  | 51 => ⟨S12x128x16x64, .f32⟩
  | 52 => ⟨S12x128x16x64, .f32⟩
  | 53 => ⟨S1x1x16x64, .f32⟩
  | 54 => ⟨S12x128x16x64, .f32⟩
  | 55 => ⟨S12x128x16x64, .f32⟩
  | 56 => ⟨S12x128x1x1, .i1⟩
  | 57 => ⟨S12x128x16x64, .f32⟩
  | 58 => ⟨S_, .f32⟩
  | 59 => ⟨S_, .f32⟩
  | 60 => ⟨S12x128x16x64, .i1⟩
  | 61 => ⟨S12x128x16x64, .f32⟩
  | 62 => ⟨S12x128x16x64, .f32⟩
  | 63 => ⟨S_, .f32⟩
  | 64 => ⟨S12x16, .f32⟩
  | 65 => ⟨S_, .f32⟩
  | 66 => ⟨S12x16, .f32⟩
  | 67 => ⟨S12x16, .f32⟩
  | 68 => ⟨S254, .i32⟩
  | 69 => ⟨S_, .i32⟩
  | 70 => ⟨S254, .i32⟩
  | 71 => ⟨S254, .i32⟩
  | 72 => ⟨S_, .i32⟩
  | 73 => ⟨S254, .i32⟩
  | 74 => ⟨S254, .i32⟩
  | 75 => ⟨S_, .i32⟩
  | 76 => ⟨S254, .i32⟩
  | 77 => ⟨S254, .i32⟩
  | 78 => ⟨S254, .f32⟩
  | 79 => ⟨S12x16x1, .f32⟩
  | 80 => ⟨S1x1x254, .f32⟩
  | 81 => ⟨S12x16x254, .f32⟩
  | 82 => ⟨S12x16x254, .f32⟩
  | 83 => ⟨S12x16x254, .i1⟩
  | 84 => ⟨S12x16x254, .i32⟩
  | 85 => ⟨S_, .i32⟩
  | 86 => ⟨S12x16, .i32⟩
  | 87 => ⟨S_, .i32⟩
  | 88 => ⟨S12x16, .i32⟩
  | 89 => ⟨S12x16, .i1⟩
  | 90 => ⟨S_, .i32⟩
  | 91 => ⟨S12x16, .i32⟩
  | 92 => ⟨S12x16, .i32⟩
  | 93 => ⟨S_, .i32⟩
  | 94 => ⟨S_, .i32⟩
  | 95 => ⟨S12x16, .i32⟩
  | 96 => ⟨S12x16, .i32⟩
  | 97 => ⟨S_, .i32⟩
  | 98 => ⟨S12x16, .i32⟩
  | 99 => ⟨S12x16, .i32⟩
  | 100 => ⟨S_, .i32⟩
  | 101 => ⟨S12x16, .i32⟩
  | 102 => ⟨S12x16, .i32⟩
  | 103 => ⟨S12x16, .f32⟩
  | 104 => ⟨S12x16, .i32⟩
  | 105 => ⟨S_, .i32⟩
  | 106 => ⟨S12x16, .i32⟩
  | 107 => ⟨S12x16, .i32⟩
  | 108 => ⟨S_, .i32⟩
  | 109 => ⟨S12x16, .i32⟩
  | 110 => ⟨S12x16, .i32⟩
  | 111 => ⟨S12x16, .f32⟩
  | 112 => ⟨S12x1x16x1, .f32⟩
  | 113 => ⟨S12x128x16x64, .f32⟩
  | 114 => ⟨S12x128x16x64, .f32⟩
  | 115 => ⟨S_, .f32⟩
  | 116 => ⟨S_, .f32⟩
  | 117 => ⟨S_, .f32⟩
  | 118 => ⟨S12x128x16x64, .f32⟩
  | 119 => ⟨S12x128x16x64, .f32⟩
  | 120 => ⟨S_, .f32⟩
  | 121 => ⟨S12x128x16x64, .f32⟩
  | 122 => ⟨S12x128x16x64, .f32⟩
  | 123 => ⟨S12x128x16x64, .fp8e4m3⟩
  | 124 => ⟨S12x128x1x1, .i1⟩
  | 125 => ⟨S12x128x16x64, .f32⟩
  | 126 => ⟨S_, .f32⟩
  | 127 => ⟨S_, .f32⟩
  | _ => ⟨S12x128x1024, .bf16⟩

abbrev hbmTy0_1 (i : Nat) : BufTy := match i % 128 with
  | 0 => ⟨S12x128x16x64, .i1⟩
  | 1 => ⟨S12x128x16x64, .f32⟩
  | 2 => ⟨S12x128x16x64, .f32⟩
  | 3 => ⟨S_, .f32⟩
  | 4 => ⟨S12x16, .f32⟩
  | 5 => ⟨S_, .f32⟩
  | 6 => ⟨S12x16, .f32⟩
  | 7 => ⟨S12x16, .f32⟩
  | 8 => ⟨S254, .i32⟩
  | 9 => ⟨S_, .i32⟩
  | 10 => ⟨S254, .i32⟩
  | 11 => ⟨S254, .i32⟩
  | 12 => ⟨S_, .i32⟩
  | 13 => ⟨S254, .i32⟩
  | 14 => ⟨S254, .i32⟩
  | 15 => ⟨S_, .i32⟩
  | 16 => ⟨S254, .i32⟩
  | 17 => ⟨S254, .i32⟩
  | 18 => ⟨S254, .f32⟩
  | 19 => ⟨S12x16x1, .f32⟩
  | 20 => ⟨S1x1x254, .f32⟩
  | 21 => ⟨S12x16x254, .f32⟩
  | 22 => ⟨S12x16x254, .f32⟩
  | 23 => ⟨S12x16x254, .i1⟩
  | 24 => ⟨S12x16x254, .i32⟩
  | 25 => ⟨S_, .i32⟩
  | 26 => ⟨S12x16, .i32⟩
  | 27 => ⟨S_, .i32⟩
  | 28 => ⟨S12x16, .i32⟩
  | 29 => ⟨S12x16, .i1⟩
  | 30 => ⟨S_, .i32⟩
  | 31 => ⟨S12x16, .i32⟩
  | 32 => ⟨S12x16, .i32⟩
  | 33 => ⟨S_, .i32⟩
  | 34 => ⟨S_, .i32⟩
  | 35 => ⟨S12x16, .i32⟩
  | 36 => ⟨S12x16, .i32⟩
  | 37 => ⟨S_, .i32⟩
  | 38 => ⟨S12x16, .i32⟩
  | 39 => ⟨S12x16, .i32⟩
  | 40 => ⟨S_, .i32⟩
  | 41 => ⟨S12x16, .i32⟩
  | 42 => ⟨S12x16, .i32⟩
  | 43 => ⟨S12x16, .f32⟩
  | 44 => ⟨S12x16, .i32⟩
  | 45 => ⟨S_, .i32⟩
  | 46 => ⟨S12x16, .i32⟩
  | 47 => ⟨S12x16, .i32⟩
  | 48 => ⟨S_, .i32⟩
  | 49 => ⟨S12x16, .i32⟩
  | 50 => ⟨S12x16, .i32⟩
  | 51 => ⟨S12x16, .f32⟩
  | 52 => ⟨S12x1x16x1, .f32⟩
  | 53 => ⟨S12x128x16x64, .f32⟩
  | 54 => ⟨S12x128x16x64, .f32⟩
  | 55 => ⟨S_, .f32⟩
  | 56 => ⟨S_, .f32⟩
  | 57 => ⟨S_, .f32⟩
  | 58 => ⟨S12x128x16x64, .f32⟩
  | 59 => ⟨S12x128x16x64, .f32⟩
  | 60 => ⟨S_, .f32⟩
  | 61 => ⟨S12x128x16x64, .f32⟩
  | 62 => ⟨S12x128x16x64, .f32⟩
  | 63 => ⟨S12x128x16x64, .fp8e4m3⟩
  | 64 => ⟨S12x128x1x1, .i1⟩
  | 65 => ⟨S12x128x16x64, .f32⟩
  | 66 => ⟨S_, .f32⟩
  | 67 => ⟨S_, .f32⟩
  | 68 => ⟨S12x128x16x64, .i1⟩
  | 69 => ⟨S12x128x16x64, .f32⟩
  | 70 => ⟨S12x128x16x64, .f32⟩
  | 71 => ⟨S_, .f32⟩
  | 72 => ⟨S12x16, .f32⟩
  | 73 => ⟨S_, .f32⟩
  | 74 => ⟨S12x16, .f32⟩
  | 75 => ⟨S12x16, .f32⟩
  | 76 => ⟨S254, .i32⟩
  | 77 => ⟨S_, .i32⟩
  | 78 => ⟨S254, .i32⟩
  | 79 => ⟨S254, .i32⟩
  | 80 => ⟨S_, .i32⟩
  | 81 => ⟨S254, .i32⟩
  | 82 => ⟨S254, .i32⟩
  | 83 => ⟨S_, .i32⟩
  | 84 => ⟨S254, .i32⟩
  | 85 => ⟨S254, .i32⟩
  | 86 => ⟨S254, .f32⟩
  | 87 => ⟨S12x16x1, .f32⟩
  | 88 => ⟨S1x1x254, .f32⟩
  | 89 => ⟨S12x16x254, .f32⟩
  | 90 => ⟨S12x16x254, .f32⟩
  | 91 => ⟨S12x16x254, .i1⟩
  | 92 => ⟨S12x16x254, .i32⟩
  | 93 => ⟨S_, .i32⟩
  | 94 => ⟨S12x16, .i32⟩
  | 95 => ⟨S_, .i32⟩
  | 96 => ⟨S12x16, .i32⟩
  | 97 => ⟨S12x16, .i1⟩
  | 98 => ⟨S_, .i32⟩
  | 99 => ⟨S12x16, .i32⟩
  | 100 => ⟨S12x16, .i32⟩
  | 101 => ⟨S_, .i32⟩
  | 102 => ⟨S_, .i32⟩
  | 103 => ⟨S12x16, .i32⟩
  | 104 => ⟨S12x16, .i32⟩
  | 105 => ⟨S_, .i32⟩
  | 106 => ⟨S12x16, .i32⟩
  | 107 => ⟨S12x16, .i32⟩
  | 108 => ⟨S_, .i32⟩
  | 109 => ⟨S12x16, .i32⟩
  | 110 => ⟨S12x16, .i32⟩
  | 111 => ⟨S12x16, .f32⟩
  | 112 => ⟨S12x16, .i32⟩
  | 113 => ⟨S_, .i32⟩
  | 114 => ⟨S12x16, .i32⟩
  | 115 => ⟨S12x16, .i32⟩
  | 116 => ⟨S_, .i32⟩
  | 117 => ⟨S12x16, .i32⟩
  | 118 => ⟨S12x16, .i32⟩
  | 119 => ⟨S12x16, .f32⟩
  | 120 => ⟨S12x1x16x1, .f32⟩
  | 121 => ⟨S12x128x16x64, .f32⟩
  | 122 => ⟨S12x128x16x64, .f32⟩
  | 123 => ⟨S_, .f32⟩
  | 124 => ⟨S_, .f32⟩
  | 125 => ⟨S_, .f32⟩
  | 126 => ⟨S12x128x16x64, .f32⟩
  | 127 => ⟨S12x128x16x64, .f32⟩
  | _ => ⟨S12x128x1024, .bf16⟩

abbrev hbmTy0_2 (i : Nat) : BufTy := match i % 128 with
  | 0 => ⟨S_, .f32⟩
  | 1 => ⟨S12x128x16x64, .f32⟩
  | 2 => ⟨S12x128x16x64, .f32⟩
  | 3 => ⟨S12x128x16x64, .fp8e4m3⟩
  | _ => ⟨S12x128x1024, .bf16⟩

abbrev hbmTy (i : Nat) : BufTy := match i / 128 with
  | 0 => hbmTy0_0 i
  | 1 => hbmTy0_1 i
  | 2 => hbmTy0_2 i
  | _ => ⟨S12x128x1024, .bf16⟩

abbrev bufTy : (tb : Table) → Fin (tcTables nBuf tb) → BufTy
  | .hbm, ⟨i, _⟩ => hbmTy i
  | _, _ => ⟨S12x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_9 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_call1_v0 : Ref sig .tc := ⟨.hbm, 94, rfl⟩
abbrev main_call1_v1 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_c_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_cst_18 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v85 : Ref sig .tc := ⟨.hbm, 130, rfl⟩
abbrev main_cst_20 : Ref sig .tc := ⟨.hbm, 131, rfl⟩
abbrev main_v86 : Ref sig .tc := ⟨.hbm, 132, rfl⟩
abbrev main_cst_21 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_22 : Ref sig .tc := ⟨.hbm, 137, rfl⟩
abbrev main_v90 : Ref sig .tc := ⟨.hbm, 138, rfl⟩
abbrev main_v91 : Ref sig .tc := ⟨.hbm, 139, rfl⟩
abbrev main_c_23 : Ref sig .tc := ⟨.hbm, 140, rfl⟩
abbrev main_v92 : Ref sig .tc := ⟨.hbm, 141, rfl⟩
abbrev main_v93 : Ref sig .tc := ⟨.hbm, 142, rfl⟩
abbrev main_c_24 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_c_25 : Ref sig .tc := ⟨.hbm, 153, rfl⟩
abbrev main_v103 : Ref sig .tc := ⟨.hbm, 154, rfl⟩
abbrev main_c_26 : Ref sig .tc := ⟨.hbm, 155, rfl⟩
abbrev main_v104 : Ref sig .tc := ⟨.hbm, 156, rfl⟩
abbrev main_v105 : Ref sig .tc := ⟨.hbm, 157, rfl⟩
abbrev main_c_27 : Ref sig .tc := ⟨.hbm, 158, rfl⟩
abbrev main_v106 : Ref sig .tc := ⟨.hbm, 159, rfl⟩
abbrev main_v107 : Ref sig .tc := ⟨.hbm, 160, rfl⟩
abbrev main_c_28 : Ref sig .tc := ⟨.hbm, 161, rfl⟩
abbrev main_call4_v0 : Ref sig .tc := ⟨.hbm, 162, rfl⟩
abbrev main_call4_v1 : Ref sig .tc := ⟨.hbm, 163, rfl⟩
abbrev main_v108 : Ref sig .tc := ⟨.hbm, 164, rfl⟩
abbrev main_c_29 : Ref sig .tc := ⟨.hbm, 165, rfl⟩
abbrev main_v109 : Ref sig .tc := ⟨.hbm, 166, rfl⟩
abbrev main_v110 : Ref sig .tc := ⟨.hbm, 167, rfl⟩
abbrev main_c_30 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_c_31 : Ref sig .tc := ⟨.hbm, 173, rfl⟩
abbrev main_v115 : Ref sig .tc := ⟨.hbm, 174, rfl⟩
abbrev main_v116 : Ref sig .tc := ⟨.hbm, 175, rfl⟩
abbrev main_c_32 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_33 : Ref sig .tc := ⟨.hbm, 183, rfl⟩
abbrev main_cst_34 : Ref sig .tc := ⟨.hbm, 184, rfl⟩
abbrev main_call5_v0 : Ref sig .tc := ⟨.hbm, 185, rfl⟩
abbrev main_call5_v1 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_cst_35 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_v127 : Ref sig .tc := ⟨.hbm, 198, rfl⟩
abbrev main_cst_36 : Ref sig .tc := ⟨.hbm, 199, rfl⟩
abbrev main_v128 : Ref sig .tc := ⟨.hbm, 200, rfl⟩
abbrev main_cst_37 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_c_38 : Ref sig .tc := ⟨.hbm, 205, rfl⟩
abbrev main_v132 : Ref sig .tc := ⟨.hbm, 206, rfl⟩
abbrev main_v133 : Ref sig .tc := ⟨.hbm, 207, rfl⟩
abbrev main_c_39 : Ref sig .tc := ⟨.hbm, 208, rfl⟩
abbrev main_v134 : Ref sig .tc := ⟨.hbm, 209, rfl⟩
abbrev main_v135 : Ref sig .tc := ⟨.hbm, 210, rfl⟩
abbrev main_c_40 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_c_41 : Ref sig .tc := ⟨.hbm, 221, rfl⟩
abbrev main_v145 : Ref sig .tc := ⟨.hbm, 222, rfl⟩
abbrev main_c_42 : Ref sig .tc := ⟨.hbm, 223, rfl⟩
abbrev main_v146 : Ref sig .tc := ⟨.hbm, 224, rfl⟩
abbrev main_v147 : Ref sig .tc := ⟨.hbm, 225, rfl⟩
abbrev main_c_43 : Ref sig .tc := ⟨.hbm, 226, rfl⟩
abbrev main_v148 : Ref sig .tc := ⟨.hbm, 227, rfl⟩
abbrev main_v149 : Ref sig .tc := ⟨.hbm, 228, rfl⟩
abbrev main_c_44 : Ref sig .tc := ⟨.hbm, 229, rfl⟩
abbrev main_call7_v0 : Ref sig .tc := ⟨.hbm, 230, rfl⟩
abbrev main_call7_v1 : Ref sig .tc := ⟨.hbm, 231, rfl⟩
abbrev main_v150 : Ref sig .tc := ⟨.hbm, 232, rfl⟩
abbrev main_c_45 : Ref sig .tc := ⟨.hbm, 233, rfl⟩
abbrev main_v151 : Ref sig .tc := ⟨.hbm, 234, rfl⟩
abbrev main_v152 : Ref sig .tc := ⟨.hbm, 235, rfl⟩
abbrev main_c_46 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_c_47 : Ref sig .tc := ⟨.hbm, 241, rfl⟩
abbrev main_v157 : Ref sig .tc := ⟨.hbm, 242, rfl⟩
abbrev main_v158 : Ref sig .tc := ⟨.hbm, 243, rfl⟩
abbrev main_c_48 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_cst_49 : Ref sig .tc := ⟨.hbm, 251, rfl⟩
abbrev main_cst_50 : Ref sig .tc := ⟨.hbm, 252, rfl⟩
abbrev main_call8_v0 : Ref sig .tc := ⟨.hbm, 253, rfl⟩
abbrev main_call8_v1 : Ref sig .tc := ⟨.hbm, 254, rfl⟩
abbrev main_call8_v2 : Ref sig .tc := ⟨.hbm, 255, rfl⟩
abbrev main_call8_v3 : Ref sig .tc := ⟨.hbm, 256, rfl⟩
abbrev main_call8_v4 : Ref sig .tc := ⟨.hbm, 257, rfl⟩
abbrev main_v165 : Ref sig .tc := ⟨.hbm, 258, rfl⟩
abbrev main_v166 : Ref sig .tc := ⟨.hbm, 259, rfl⟩

abbrev nD : Nat := 1
abbrev τ : Topo := Topo.v7x

variable {F : FTy → Type} [FloatOps F]
-- ==== Proof.Ideal.Prep.lean ====
/- Preparing 16 rows of a projection's weights: the rows multiplied by the norm's weight and split in three
   bfloat16 terms, with their sum and their product with the norm's bias. One program for all twelve
   printed loops, which differ in where they read and write. -/
module

public import proofs.«01_k».proof.Proof.Gen.KernelIdeal
public import proofs.«01_k».proof.Proof.Gen.KernelIdeal.Skeleton

@[expose] public section

set_option synthInstance.maxSize 4096

noncomputable section

namespace Cert.KernelIdeal.Pf

open Cert.KernelIdeal Cert.KernelIdeal.Gen
open Idealize.ShloMosaic Idealize.SL.Sem

variable {F : FTy → Type} [FloatOps F]

/-- Where chunk `k` of the weights staged in `slot` is read and where its results go, for projection `t`, group `g`. -/
structure PrepAt (slot g t k : Nat) where
  o17 : Fin 3 → Nat
  h17 : ∀ a, o17 a + S1x16x1024.size a ≤ S6x256x1024.size a
  o18 : Fin 3 → Fin 4 → Nat
  h18 : ∀ s, ∀ a, o18 s a + S1x1x16x1024.size a ≤ S3x4x768x1024.size a
  p18 : ∀ s, (Rect.unit (s := S3x4x768x1024) (o18 s) S1x1x16x1024.size (h18 s)).PackedRows (EltTy.packing .bf16)
  ob : Fin 2 → Nat
  hb : ∀ a, ob a + S1x64.size a ≤ S16x64.size a
  oc : Fin 3 → Nat
  hc : ∀ a, oc a + S1x16x128.size a ≤ S4x768x128.size a
  word : BitVec 32
  e17 : o17 = ![slot, 16 * k, 0]
  e18 : ∀ s, o18 s = ![s.val, g, 16 * k + 256 * t, 0]
  eb : ob = ![4 * g + k / 4, 0]
  ec : oc = ![g, 16 * k + 256 * t, 0]
  ew : word = BitVec.ofNat 32 k

/-- The sums of the scaled rows, one per row, over lanes. -/
def csPay (w : Vec F S1x16x1024 .f32) (gg : Vec F S1x1024 .f32) : FVec F S1x16x128 .f32 := k0_pay402 (k0_pay9 w gg)

/-- The product of the rows with the norm's bias plus the projection's bias, one per row, over lanes. -/
def cbPay (word : BitVec 32) (w : Vec F S1x16x1024 .f32) (lb : Vec F S1x1024 .f32) (b : Vec F S1x64 .f32) : FVec F S1x16x128 .f32 :=
  k0_pay403 (k0_pay11 (k0_pay10 w lb)) (k0_pay12 word b)

/-- One chunk, as a program. -/
def prep (arg2 arg3 : Memref sig .tc .vmem S1x1024 .f32) (argb : Memref sig .tc .vmem S16x64 .f32)
    (arg17 : Memref sig .tc .vmem S6x256x1024 .f32) (arg18 : Memref sig .tc .vmem S3x4x768x1024 .bf16) (harg18 : arg18.IsWhole)
    (arg19 arg20 : Memref sig .tc .vmem S4x768x128 .f32) {slot g t k : Nat} (q : PrepAt slot g t k) :
    Prog (TpuEff nD τ sig (Elt F) Λ₀ .tc) Unit := do
  let w : Vec F S1x16x1024 .f32 ← Prog.lift (.load arg17 (Rect.unit (s := S6x256x1024) q.o17 S1x16x1024.size q.h17).toLoadRect (View.loadsAt_vmem h_S1x16x1024))
  let gg : Vec F S1x1024 .f32 ← Prog.lift (.load arg2 (Rect.unit (s := S1x1024) ![0, 0] S1x1024.size inb_S1x1024_S1x1024_0_0).toLoadRect (View.loadsAt_vmem h_S1x1024))
  let _ : Vec F S1x1x16x1024 .bf16 ← Prog.lift (.load arg18 (Rect.unit (s := S3x4x768x1024) (q.o18 0) S1x1x16x1024.size (q.h18 0)).toLoadRect (View.loadsAt_vmem h_S1x1x16x1024))
  Prog.lift (.store arg18 (Rect.unit (s := S3x4x768x1024) (q.o18 0) S1x1x16x1024.size (q.h18 0)) (k0_pay6 w gg) Finset.univ (View.stores_vmem h_S1x1x16x1024 (harg18.storeExact_slice rfl _ (q.p18 0)) (fun _ => rfl)) (.inl rfl))
  let _ : Vec F S1x1x16x1024 .bf16 ← Prog.lift (.load arg18 (Rect.unit (s := S3x4x768x1024) (q.o18 1) S1x1x16x1024.size (q.h18 1)).toLoadRect (View.loadsAt_vmem h_S1x1x16x1024))
  Prog.lift (.store arg18 (Rect.unit (s := S3x4x768x1024) (q.o18 1) S1x1x16x1024.size (q.h18 1)) (k0_pay7 w gg) Finset.univ (View.stores_vmem h_S1x1x16x1024 (harg18.storeExact_slice rfl _ (q.p18 1)) (fun _ => rfl)) (.inl rfl))
  let _ : Vec F S1x1x16x1024 .bf16 ← Prog.lift (.load arg18 (Rect.unit (s := S3x4x768x1024) (q.o18 2) S1x1x16x1024.size (q.h18 2)).toLoadRect (View.loadsAt_vmem h_S1x1x16x1024))
  Prog.lift (.store arg18 (Rect.unit (s := S3x4x768x1024) (q.o18 2) S1x1x16x1024.size (q.h18 2)) (k0_pay8 w gg) Finset.univ (View.stores_vmem h_S1x1x16x1024 (harg18.storeExact_slice rfl _ (q.p18 2)) (fun _ => rfl)) (.inl rfl))
  let lb : Vec F S1x1024 .f32 ← Prog.lift (.load arg3 (Rect.unit (s := S1x1024) ![0, 0] S1x1024.size inb_S1x1024_S1x1024_0_0).toLoadRect (View.loadsAt_vmem h_S1x1024))
  let b : Vec F S1x64 .f32 ← Prog.lift (.load argb (Rect.unit (s := S16x64) q.ob S1x64.size q.hb).toLoadRect (View.loadsAt_vmem h_S1x64))
  let _ : Vec F S1x16x128 .f32 ← Prog.lift (.load arg19 (Rect.unit (s := S4x768x128) q.oc S1x16x128.size q.hc).toLoadRect (View.loadsAt_vmem h_S1x16x128))
  Prog.lift (.store arg19 (Rect.unit (s := S4x768x128) q.oc S1x16x128.size q.hc) (csPay w gg) Finset.univ (View.stores_vmem_bits_univ h_S1x16x128 rfl) (.inl rfl))
  let _ : Vec F S1x16x128 .f32 ← Prog.lift (.load arg20 (Rect.unit (s := S4x768x128) q.oc S1x16x128.size q.hc).toLoadRect (View.loadsAt_vmem h_S1x16x128))
  Prog.lift (.store arg20 (Rect.unit (s := S4x768x128) q.oc S1x16x128.size q.hc) (cbPay q.word w lb b) Finset.univ (View.stores_vmem_bits_univ h_S1x16x128 rfl) (.inl rfl))

/-- Loop 1 : projection 0 of group 0. -/
def prepAt1 (k : Fin k0_t1_loop.trips) : PrepAt 0 0 0 k.val where
  o17 := k0_off1 k
  h17 := k0_off1_inb k
  o18 | 0 => k0_off2 k | 1 => k0_off3 k | 2 => k0_off4 k
  h18 | 0 => k0_off2_inb k | 1 => k0_off3_inb k | 2 => k0_off4_inb k
  p18 | 0 => k0_off2_packedbf16 k | 1 => k0_off3_packedbf16 k | 2 => k0_off4_packedbf16 k
  ob := k0_off5 k
  hb := k0_off5_inb k
  oc := k0_off6 k
  hc := k0_off6_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t1_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t1_loop.trips) (z : Unit) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg5 arg17 arg18 harg18 arg19 arg20 (prepAt1 k) := rfl

/-- Loop 2 : projection 1 of group 0. -/
def prepAt2 (k : Fin k0_t2_loop.trips) : PrepAt 1 0 1 k.val where
  o17 := k0_off7 k
  h17 := k0_off7_inb k
  o18 | 0 => k0_off8 k | 1 => k0_off9 k | 2 => k0_off10 k
  h18 | 0 => k0_off8_inb k | 1 => k0_off9_inb k | 2 => k0_off10_inb k
  p18 | 0 => k0_off8_packedbf16 k | 1 => k0_off9_packedbf16 k | 2 => k0_off10_packedbf16 k
  ob := k0_off11 k
  hb := k0_off11_inb k
  oc := k0_off12 k
  hc := k0_off12_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t2_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t2_loop.trips) (z : Unit) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg7 arg17 arg18 harg18 arg19 arg20 (prepAt2 k) := rfl

/-- Loop 3 : projection 2 of group 0. -/
def prepAt3 (k : Fin k0_t3_loop.trips) : PrepAt 2 0 2 k.val where
  o17 := k0_off13 k
  h17 := k0_off13_inb k
  o18 | 0 => k0_off14 k | 1 => k0_off15 k | 2 => k0_off16 k
  h18 | 0 => k0_off14_inb k | 1 => k0_off15_inb k | 2 => k0_off16_inb k
  p18 | 0 => k0_off14_packedbf16 k | 1 => k0_off15_packedbf16 k | 2 => k0_off16_packedbf16 k
  ob := k0_off17 k
  hb := k0_off17_inb k
  oc := k0_off18 k
  hc := k0_off18_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t3_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t3_loop.trips) (z : Unit) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg9 arg17 arg18 harg18 arg19 arg20 (prepAt3 k) := rfl

/-- Loop 4 : projection 0 of group 1. -/
def prepAt4 (k : Fin k0_t4_loop.trips) : PrepAt 3 1 0 k.val where
  o17 := k0_off19 k
  h17 := k0_off19_inb k
  o18 | 0 => k0_off20 k | 1 => k0_off21 k | 2 => k0_off22 k
  h18 | 0 => k0_off20_inb k | 1 => k0_off21_inb k | 2 => k0_off22_inb k
  p18 | 0 => k0_off20_packedbf16 k | 1 => k0_off21_packedbf16 k | 2 => k0_off22_packedbf16 k
  ob := k0_off23 k
  hb := k0_off23_inb k
  oc := k0_off24 k
  hc := k0_off24_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t4_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t4_loop.trips) (z : Unit) :
    k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg5 arg17 arg18 harg18 arg19 arg20 (prepAt4 k) := rfl

/-- Loop 5 : projection 1 of group 1. -/
def prepAt5 (k : Fin k0_t5_loop.trips) : PrepAt 4 1 1 k.val where
  o17 := k0_off25 k
  h17 := k0_off25_inb k
  o18 | 0 => k0_off26 k | 1 => k0_off27 k | 2 => k0_off28 k
  h18 | 0 => k0_off26_inb k | 1 => k0_off27_inb k | 2 => k0_off28_inb k
  p18 | 0 => k0_off26_packedbf16 k | 1 => k0_off27_packedbf16 k | 2 => k0_off28_packedbf16 k
  ob := k0_off29 k
  hb := k0_off29_inb k
  oc := k0_off30 k
  hc := k0_off30_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t5_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t5_loop.trips) (z : Unit) :
    k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg7 arg17 arg18 harg18 arg19 arg20 (prepAt5 k) := rfl

/-- Loop 6 : projection 2 of group 1. -/
def prepAt6 (k : Fin k0_t6_loop.trips) : PrepAt 5 1 2 k.val where
  o17 := k0_off31 k
  h17 := k0_off31_inb k
  o18 | 0 => k0_off32 k | 1 => k0_off33 k | 2 => k0_off34 k
  h18 | 0 => k0_off32_inb k | 1 => k0_off33_inb k | 2 => k0_off34_inb k
  p18 | 0 => k0_off32_packedbf16 k | 1 => k0_off33_packedbf16 k | 2 => k0_off34_packedbf16 k
  ob := k0_off35 k
  hb := k0_off35_inb k
  oc := k0_off36 k
  hc := k0_off36_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t6_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t6_loop.trips) (z : Unit) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg9 arg17 arg18 harg18 arg19 arg20 (prepAt6 k) := rfl

/-- Loop 7 : projection 0 of group 2. -/
def prepAt7 (k : Fin k0_t7_loop.trips) : PrepAt 0 2 0 k.val where
  o17 := k0_off37 k
  h17 := k0_off37_inb k
  o18 | 0 => k0_off38 k | 1 => k0_off39 k | 2 => k0_off40 k
  h18 | 0 => k0_off38_inb k | 1 => k0_off39_inb k | 2 => k0_off40_inb k
  p18 | 0 => k0_off38_packedbf16 k | 1 => k0_off39_packedbf16 k | 2 => k0_off40_packedbf16 k
  ob := k0_off41 k
  hb := k0_off41_inb k
  oc := k0_off42 k
  hc := k0_off42_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t7_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t7_loop.trips) (z : Unit) :
    k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg5 arg17 arg18 harg18 arg19 arg20 (prepAt7 k) := rfl

/-- Loop 8 : projection 1 of group 2. -/
def prepAt8 (k : Fin k0_t8_loop.trips) : PrepAt 1 2 1 k.val where
  o17 := k0_off43 k
  h17 := k0_off43_inb k
  o18 | 0 => k0_off44 k | 1 => k0_off45 k | 2 => k0_off46 k
  h18 | 0 => k0_off44_inb k | 1 => k0_off45_inb k | 2 => k0_off46_inb k
  p18 | 0 => k0_off44_packedbf16 k | 1 => k0_off45_packedbf16 k | 2 => k0_off46_packedbf16 k
  ob := k0_off47 k
  hb := k0_off47_inb k
  oc := k0_off48 k
  hc := k0_off48_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t8_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t8_loop.trips) (z : Unit) :
    k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg7 arg17 arg18 harg18 arg19 arg20 (prepAt8 k) := rfl

/-- Loop 9 : projection 2 of group 2. -/
def prepAt9 (k : Fin k0_t9_loop.trips) : PrepAt 2 2 2 k.val where
  o17 := k0_off49 k
  h17 := k0_off49_inb k
  o18 | 0 => k0_off50 k | 1 => k0_off51 k | 2 => k0_off52 k
  h18 | 0 => k0_off50_inb k | 1 => k0_off51_inb k | 2 => k0_off52_inb k
  p18 | 0 => k0_off50_packedbf16 k | 1 => k0_off51_packedbf16 k | 2 => k0_off52_packedbf16 k
  ob := k0_off53 k
  hb := k0_off53_inb k
  oc := k0_off54 k
  hc := k0_off54_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t9_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t9_loop.trips) (z : Unit) :
    k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg9 arg17 arg18 harg18 arg19 arg20 (prepAt9 k) := rfl

/-- Loop 10 : projection 0 of group 3. -/
def prepAt10 (k : Fin k0_t10_loop.trips) : PrepAt 3 3 0 k.val where
  o17 := k0_off55 k
  h17 := k0_off55_inb k
  o18 | 0 => k0_off56 k | 1 => k0_off57 k | 2 => k0_off58 k
  h18 | 0 => k0_off56_inb k | 1 => k0_off57_inb k | 2 => k0_off58_inb k
  p18 | 0 => k0_off56_packedbf16 k | 1 => k0_off57_packedbf16 k | 2 => k0_off58_packedbf16 k
  ob := k0_off59 k
  hb := k0_off59_inb k
  oc := k0_off60 k
  hc := k0_off60_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t10_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t10_loop.trips) (z : Unit) :
    k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg5 arg17 arg18 harg18 arg19 arg20 (prepAt10 k) := rfl

/-- Loop 11 : projection 1 of group 3. -/
def prepAt11 (k : Fin k0_t11_loop.trips) : PrepAt 4 3 1 k.val where
  o17 := k0_off61 k
  h17 := k0_off61_inb k
  o18 | 0 => k0_off62 k | 1 => k0_off63 k | 2 => k0_off64 k
  h18 | 0 => k0_off62_inb k | 1 => k0_off63_inb k | 2 => k0_off64_inb k
  p18 | 0 => k0_off62_packedbf16 k | 1 => k0_off63_packedbf16 k | 2 => k0_off64_packedbf16 k
  ob := k0_off65 k
  hb := k0_off65_inb k
  oc := k0_off66 k
  hc := k0_off66_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t11_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t11_loop.trips) (z : Unit) :
    k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg7 arg17 arg18 harg18 arg19 arg20 (prepAt11 k) := rfl

/-- Loop 12 : projection 2 of group 3. -/
def prepAt12 (k : Fin k0_t12_loop.trips) : PrepAt 5 3 2 k.val where
  o17 := k0_off67 k
  h17 := k0_off67_inb k
  o18 | 0 => k0_off68 k | 1 => k0_off69 k | 2 => k0_off70 k
  h18 | 0 => k0_off68_inb k | 1 => k0_off69_inb k | 2 => k0_off70_inb k
  p18 | 0 => k0_off68_packedbf16 k | 1 => k0_off69_packedbf16 k | 2 => k0_off70_packedbf16 k
  ob := k0_off71 k
  hb := k0_off71_inb k
  oc := k0_off72 k
  hc := k0_off72_inb k
  word := Scf.iv 0#32 1#32 k
  e17 := by revert k; decide +kernel
  e18 := by revert k; decide +kernel
  eb := by revert k; decide +kernel
  ec := by revert k; decide +kernel
  ew := by revert k; decide +kernel

set_option maxRecDepth 65536 in
theorem t12_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (k : Fin k0_t12_loop.trips) (z : Unit) :
    k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 k z = prep arg2 arg3 arg9 arg17 arg18 harg18 arg19 arg20 (prepAt12 k) := rfl

end Cert.KernelIdeal.Pf
-- ==== Proof.Ideal.Block.lean ====
/- One block of the projection: 64 columns of one projection (a head), one of the two batch rows of a
   pair. The arithmetic of a block as functions of what is loaded, and the block as a program. -/
module

public import proofs.«01_k».proof.Proof.Gen.KernelIdeal
public import proofs.«01_k».proof.Proof.Gen.KernelIdeal.Skeleton

@[expose] public section

set_option synthInstance.maxSize 4096

noncomputable section

namespace Cert.KernelIdeal.Pf

open Cert.KernelIdeal Cert.KernelIdeal.Gen
open Idealize.ShloMosaic Idealize.SL.Sem

variable {F : FTy → Type} [FloatOps F]

/-- A statistic (row means, row reciprocal deviations), one lane per node, laid over a block. -/
def statB (s : Vec F S1x1x8x128 .f32) : FVec F S8x8x128 .f32 :=
  broadcastTo S8x8x128 (shapeCast S1x8x128 (shapeCast S8x128 s shapeCasts_S1x1x8x128_S8x128) shapeCasts_S8x128_S1x8x128)
    broadcasts_S1x8x128_S8x8x128

/-- 64 rows of a buffer of per-column sums, as a block. -/
def rowsB (c : Vec F S1x64x128 .f32) : FVec F S8x8x128 .f32 :=
  shapeCast S8x8x128 (shapeCast S64x128 c shapeCasts_S1x64x128_S64x128) shapeCasts_S64x128_S8x8x128

/-- The projected block: product by reciprocal deviation, minus mean times column sum, plus bias. -/
def blockV (a : FVec F S64x128 .f32) (cs cb : Vec F S1x64x128 .f32) (s0 s1 : Vec F S1x1x8x128 .f32) : FVec F S8x8x128 .f32 :=
  addf (subf (mulf (shapeCast S8x8x128 a shapeCasts_S64x128_S8x8x128) (statB s0)) (mulf (statB s1) (rowsB cs))) (rowsB cb)

/-- The block's scale before rounding: the largest magnitude over the valid nodes, over 448. -/
def blockM (lane : IVec S8x128 32) (n : Elt F .i32) (v : FVec F S8x8x128 .f32) : FVec F S8x128 .f32 :=
  mulf
    (broadcastTo S8x128
      (shapeCast S1x1
        (shapeCast S1x1
          (multiReduction .maximumf [0] S1
            (shapeCast S8x1
              (multiReduction .maximumf [1] S8
                (select (cmpi .slt lane (broadcast S8x128 n))
                  (multiReduction .maximumf [0] S8x128 (absf v) 0xFF800000#32 reduces_S8x8x128_S8x128 (.inl rfl) rfl)
                  (broadcast S8x128 (Scalar.ofBits .f32 0x00000000#32)))
                0xFF800000#32 reduces_S8x128_S8 (.inl rfl) rfl) shapeCasts_S8_S8x1)
            0xFF800000#32 reduces_S8x1_S1 (.inl rfl) rfl) shapeCasts_S1_S1x1) shapeCasts_S1x1_S1x1) broadcasts_S1x1_S8x128)
    (broadcast S8x128 (Scalar.ofBits .f32 0x3B124925#32))

/-- An integer's bits, shifted into the exponent field of a float. -/
def fieldF (t : IVec S8x128 32) : FVec F S8x128 .f32 := bitcastToFloat .f32 (shli t (broadcast S8x128 23#32))

/-- One step of the bisection of the exponent field. -/
def bisect (m : FVec F S8x128 .f32) (k : BitVec 32) (t : IVec S8x128 32) : IVec S8x128 32 :=
  select (cmpf .oge m (fieldF (addi t (broadcast S8x128 k)))) (addi t (broadcast S8x128 k)) t

/-- The exponent field of `m`, found by bisection. -/
def blockField (m : FVec F S8x128 .f32) : IVec S8x128 32 :=
  bisect m 1#32 (bisect m 2#32 (bisect m 4#32 (bisect m 8#32 (bisect m 16#32 (bisect m 32#32 (bisect m 64#32
    (bisect m 128#32 (broadcast S8x128 0#32))))))))

/-- The block's exponent: field minus 126, or zero of a zero field. -/
def blockE (t : IVec S8x128 32) : IVec S8x128 32 :=
  select (cmpi .eq t (broadcast S8x128 0#32)) (broadcast S8x128 0#32) (subi t (broadcast S8x128 126#32))

/-- `2 ^ e` as a float. -/
def pow2F (e : IVec S8x128 32) : FVec F S8x128 .f32 := fieldF (addi e (broadcast S8x128 127#32))

/-- The block's codes: the projected block over the scale, clipped to ±448. -/
def blockCode (v : FVec F S8x8x128 .f32) (e : IVec S8x128 32) : FVec F S1x1x64x128 .fp8e4m3 :=
  shapeCast S1x1x64x128
    (truncf .fp8e4m3
      (shapeCast S64x128
        (minimumf (broadcast S8x8x128 (Scalar.ofBits .f32 0x43E00000#32))
          (maximumf (broadcast S8x8x128 (Scalar.ofBits .f32 0xC3E00000#32))
            (mulf v
              (broadcastTo S8x8x128
                (shapeCast S1x8x128 (pow2F (F := F) (subi (broadcast S8x128 0#32) e)) shapeCasts_S8x128_S1x8x128)
                broadcasts_S1x8x128_S8x8x128))))
        shapeCasts_S8x8x128_S64x128) bitsLt_fp8e4m3_f32) shapeCasts_S64x128_S1x1x64x128

/-- The block's scale, one row of lanes. -/
def blockScl (e : IVec S8x128 32) : FVec F S1x1x1x128 .f32 :=
  shapeCast S1x1x1x128 (extractStridedSlice S1x128 ![0, 0] (pow2F (F := F) e) slices_S8x128_o0_0_S1x128) shapeCasts_S1x128_S1x1x1x128

/-- The exponent of a block from everything it reads. -/
def blockX (lane : IVec S8x128 32) (n : Elt F .i32) (v : FVec F S8x8x128 .f32) : IVec S8x128 32 :=
  blockE (blockField (blockM (F := F) lane n v))

/-- A block as a program. -/
def block (arg0 : Memref sig .tc .smem S12 .i32) (arg19 arg20 : Memref sig .tc .vmem S4x768x128 .f32)
    (arg21 : Memref sig .tc .vmem S2x2x8x128 .f32) (arg22 : Memref sig .tc .vmem S3x12x1024x128 .fp8e4m3)
    (arg23 : Memref sig .tc .vmem S3x12x16x128 .f32)
    (lane : IVec S8x128 32) (a : FVec F S64x128 .f32)
    (oc : Fin 3 → Nat) (hc : ∀ x, oc x + S1x64x128.size x ≤ S4x768x128.size x)
    (o0 o1 : Fin 4 → Nat) (h0 : ∀ x, o0 x + S1x1x8x128.size x ≤ S2x2x8x128.size x)
    (h1 : ∀ x, o1 x + S1x1x8x128.size x ≤ S2x2x8x128.size x)
    (on : Fin 1 → Nat) (hn : ∀ x, on x + S1.size x ≤ S12.size x)
    (o22 : Fin 4 → Nat) (h22 : ∀ x, o22 x + S1x1x64x128.size x ≤ S3x12x1024x128.size x)
    (s22 : (arg22.access (Rect.unit (s := S3x12x1024x128) o22 S1x1x64x128.size h22)).Stores Finset.univ)
    (o23 : Fin 4 → Nat) (h23 : ∀ x, o23 x + S1x1x1x128.size x ≤ S3x12x16x128.size x) :
    Prog (TpuEff nD τ sig (Elt F) Λ₀ .tc) Unit := do
  let cs : Vec F S1x64x128 .f32 ← Prog.lift (.load arg19 (Rect.unit (s := S4x768x128) oc S1x64x128.size hc).toLoadRect (View.loadsAt_vmem h_S1x64x128))
  let cb : Vec F S1x64x128 .f32 ← Prog.lift (.load arg20 (Rect.unit (s := S4x768x128) oc S1x64x128.size hc).toLoadRect (View.loadsAt_vmem h_S1x64x128))
  let s0 : Vec F S1x1x8x128 .f32 ← Prog.lift (.load arg21 (Rect.unit (s := S2x2x8x128) o0 S1x1x8x128.size h0).toLoadRect (View.loadsAt_vmem h_S1x1x8x128))
  let s1 : Vec F S1x1x8x128 .f32 ← Prog.lift (.load arg21 (Rect.unit (s := S2x2x8x128) o1 S1x1x8x128.size h1).toLoadRect (View.loadsAt_vmem h_S1x1x8x128))
  let n : Elt F .i32 ← smemLoad arg0 (Rect.unit (s := S12) on S1.size hn) numel1_S1 rfl
  let _ : Vec F S1x1x64x128 .fp8e4m3 ← Prog.lift (.load arg22 (Rect.unit (s := S3x12x1024x128) o22 S1x1x64x128.size h22).toLoadRect (View.loadsAt_vmem h_S1x1x64x128))
  Prog.lift (.store arg22 (Rect.unit (s := S3x12x1024x128) o22 S1x1x64x128.size h22) (blockCode (blockV a cs cb s0 s1) (blockX (F := F) lane n (blockV a cs cb s0 s1))) Finset.univ s22 (.inl rfl))
  let _ : Vec F S1x1x1x128 .f32 ← Prog.lift (.load arg23 (Rect.unit (s := S3x12x16x128) o23 S1x1x1x128.size h23).toLoadRect (View.loadsAt_vmem h_S1x1x1x128))
  Prog.lift (.store arg23 (Rect.unit (s := S3x12x16x128) o23 S1x1x1x128.size h23) (blockScl (F := F) (blockX (F := F) lane n (blockV a cs cb s0 s1))) Finset.univ (View.stores_vmem_bits_univ h_S1x1x1x128 rfl) (.inl rfl))

end Cert.KernelIdeal.Pf
-- ==== Proof.Ideal.Project.lean ====
/- The projection loop's body, 24 blocks over one product, as a program over the list of blocks; the printed
   body is that program. -/
module

public import proofs.«01_k».proof.Proof.Ideal.Block

@[expose] public section

set_option synthInstance.maxSize 4096

noncomputable section

namespace Cert.KernelIdeal.Pf

open Cert.KernelIdeal Cert.KernelIdeal.Gen
open Idealize.ShloMosaic Idealize.SL.Sem

variable {F : FTy → Type} [FloatOps F]

/-- Where the column sums of projection `t`, head `hh` of group `g` lie. -/
def offC (g : Fin k0_t15_loop.trips) : Fin 3 → Fin 4 → Fin 3 → Nat
  | 0, 0 => k0_off82 g
  | 0, 1 => k0_off86 g
  | 0, 2 => k0_off87 g
  | 0, 3 => k0_off88 g
  | 1, 0 => k0_off89 g
  | 1, 1 => k0_off92 g
  | 1, 2 => k0_off93 g
  | 1, 3 => k0_off94 g
  | 2, 0 => k0_off95 g
  | 2, 1 => k0_off98 g
  | 2, 2 => k0_off99 g
  | 2, 3 => k0_off100 g

theorem offC_inb (g : Fin k0_t15_loop.trips) : ∀ (t : Fin 3) (hh : Fin 4), ∀ a, offC g t hh a + S1x64x128.size a ≤ S4x768x128.size a
  | 0, 0 => k0_off82_inb g
  | 0, 1 => k0_off86_inb g
  | 0, 2 => k0_off87_inb g
  | 0, 3 => k0_off88_inb g
  | 1, 0 => k0_off89_inb g
  | 1, 1 => k0_off92_inb g
  | 1, 2 => k0_off93_inb g
  | 1, 3 => k0_off94_inb g
  | 2, 0 => k0_off95_inb g
  | 2, 1 => k0_off98_inb g
  | 2, 2 => k0_off99_inb g
  | 2, 3 => k0_off100_inb g

/-- Where the block of projection `t`, head `hh`, batch row `u` of the pair is stored. -/
def off22 (p : Fin k0_t13_loop.trips) (g : Fin k0_t15_loop.trips) (t : Fin 3) (hh : Fin 4) (u : Fin 2) : Fin 4 → Nat :=
  match t with
  | 0 => k0_off84 p g (BitVec.ofNat 32 u.val) (BitVec.ofNat 32 hh.val)
  | 1 => k0_off90 p g (BitVec.ofNat 32 u.val) (BitVec.ofNat 32 hh.val)
  | 2 => k0_off96 p g (BitVec.ofNat 32 u.val) (BitVec.ofNat 32 hh.val)

theorem off22_inb (p : Fin k0_t13_loop.trips) (g : Fin k0_t15_loop.trips) (t : Fin 3) (hh : Fin 4) (u : Fin 2) : ∀ a, off22 p g t hh u a + S1x1x64x128.size a ≤ S3x12x1024x128.size a :=
  match t with
  | 0 => k0_off84_inb p g u hh
  | 1 => k0_off90_inb p g u hh
  | 2 => k0_off96_inb p g u hh

/-- Where the block of projection `t`, head `hh`, batch row `u` of the pair is stored. -/
def off23 (p : Fin k0_t13_loop.trips) (g : Fin k0_t15_loop.trips) (t : Fin 3) (hh : Fin 4) (u : Fin 2) : Fin 4 → Nat :=
  match t with
  | 0 => k0_off85 p g (BitVec.ofNat 32 u.val) (BitVec.ofNat 32 hh.val)
  | 1 => k0_off91 p g (BitVec.ofNat 32 u.val) (BitVec.ofNat 32 hh.val)
  | 2 => k0_off97 p g (BitVec.ofNat 32 u.val) (BitVec.ofNat 32 hh.val)

theorem off23_inb (p : Fin k0_t13_loop.trips) (g : Fin k0_t15_loop.trips) (t : Fin 3) (hh : Fin 4) (u : Fin 2) : ∀ a, off23 p g t hh u a + S1x1x1x128.size a ≤ S3x12x16x128.size a :=
  match t with
  | 0 => k0_off85_inb p g u hh
  | 1 => k0_off91_inb p g u hh
  | 2 => k0_off97_inb p g u hh

theorem off22_stores (arg22 : Memref sig .tc .vmem S3x12x1024x128 .fp8e4m3) (harg22 : arg22.IsWhole)
    (p : Fin k0_t13_loop.trips) (g : Fin k0_t15_loop.trips) (t : Fin 3) (hh : Fin 4) (u : Fin 2) :
    (arg22.access (Rect.unit (s := S3x12x1024x128) (off22 p g t hh u) S1x1x64x128.size (off22_inb p g t hh u))).Stores Finset.univ :=
  match t with
  | 0 => View.stores_vmem h_S1x1x64x128 (harg22.storeExact_slice rfl _ (k0_off84_packedfp8e4m3 p g u hh)) (fun _ => rfl)
  | 1 => View.stores_vmem h_S1x1x64x128 (harg22.storeExact_slice rfl _ (k0_off90_packedfp8e4m3 p g u hh)) (fun _ => rfl)
  | 2 => View.stores_vmem h_S1x1x64x128 (harg22.storeExact_slice rfl _ (k0_off96_packedfp8e4m3 p g u hh)) (fun _ => rfl)

theorem stat_inb (k : Fin 2) (u : Fin 2) : ∀ a, (![k.val, u.val, 0, 0] : Fin 4 → Nat) a + S1x1x8x128.size a ≤ S2x2x8x128.size a :=
  match k, u with
  | 0, 0 => inb_S2x2x8x128_S1x1x8x128_0_0_0_0
  | 0, 1 => inb_S2x2x8x128_S1x1x8x128_0_1_0_0
  | 1, 0 => inb_S2x2x8x128_S1x1x8x128_1_0_0_0
  | 1, 1 => inb_S2x2x8x128_S1x1x8x128_1_1_0_0

/-- Where a block lies in the product. -/
theorem acc_slices (u : Fin 2) : ∀ (t : Fin 3) (hh : Fin 4), S768x256.Slices ![256 * t.val + 64 * hh.val, 128 * u.val] S64x128 :=
  match u with
  | 0 => fun
    | 0, 0 => slices_S768x256_o0_0_S64x128
    | 0, 1 => slices_S768x256_o64_0_S64x128
    | 0, 2 => slices_S768x256_o128_0_S64x128
    | 0, 3 => slices_S768x256_o192_0_S64x128
    | 1, 0 => slices_S768x256_o256_0_S64x128
    | 1, 1 => slices_S768x256_o320_0_S64x128
    | 1, 2 => slices_S768x256_o384_0_S64x128
    | 1, 3 => slices_S768x256_o448_0_S64x128
    | 2, 0 => slices_S768x256_o512_0_S64x128
    | 2, 1 => slices_S768x256_o576_0_S64x128
    | 2, 2 => slices_S768x256_o640_0_S64x128
    | 2, 3 => slices_S768x256_o704_0_S64x128
  | 1 => fun
    | 0, 0 => slices_S768x256_o0_128_S64x128
    | 0, 1 => slices_S768x256_o64_128_S64x128
    | 0, 2 => slices_S768x256_o128_128_S64x128
    | 0, 3 => slices_S768x256_o192_128_S64x128
    | 1, 0 => slices_S768x256_o256_128_S64x128
    | 1, 1 => slices_S768x256_o320_128_S64x128
    | 1, 2 => slices_S768x256_o384_128_S64x128
    | 1, 3 => slices_S768x256_o448_128_S64x128
    | 2, 0 => slices_S768x256_o512_128_S64x128
    | 2, 1 => slices_S768x256_o576_128_S64x128
    | 2, 2 => slices_S768x256_o640_128_S64x128
    | 2, 3 => slices_S768x256_o704_128_S64x128

/-- The part of the product a block reads. -/
def accAt (acc : FVec F S768x256 .f32) (t : Fin 3) (hh : Fin 4) (u : Fin 2) : FVec F S64x128 .f32 :=
  extractStridedSlice S64x128 ![256 * t.val + 64 * hh.val, 128 * u.val] acc (acc_slices u t hh)

/-- The block of projection `t`, head `hh`, batch row `u` of the pair. -/
def blockAt (arg0 : Memref sig .tc .smem S12 .i32) (arg19 arg20 : Memref sig .tc .vmem S4x768x128 .f32)
    (arg21 : Memref sig .tc .vmem S2x2x8x128 .f32) (arg22 : Memref sig .tc .vmem S3x12x1024x128 .fp8e4m3) (harg22 : arg22.IsWhole)
    (arg23 : Memref sig .tc .vmem S3x12x16x128 .f32) (lane : IVec S8x128 32) (p : Fin k0_t13_loop.trips) (g : Fin k0_t15_loop.trips)
    (acc : FVec F S768x256 .f32) (b : Fin 3 × Fin 4 × Fin 2) : Prog (TpuEff nD τ sig (Elt F) Λ₀ .tc) Unit :=
  block arg0 arg19 arg20 arg21 arg22 arg23 lane (accAt acc b.1 b.2.1 b.2.2)
    (offC g b.1 b.2.1) (offC_inb g b.1 b.2.1)
    ![0, b.2.2.val, 0, 0] ![1, b.2.2.val, 0, 0] (stat_inb 0 b.2.2) (stat_inb 1 b.2.2)
    (k0_off83 p (BitVec.ofNat 32 b.2.2.val)) (k0_off83_inb p b.2.2)
    (off22 p g b.1 b.2.1 b.2.2) (off22_inb p g b.1 b.2.1 b.2.2) (off22_stores arg22 harg22 p g b.1 b.2.1 b.2.2)
    (off23 p g b.1 b.2.1 b.2.2) (off23_inb p g b.1 b.2.1 b.2.2)

/-- The blocks of a list, in order. -/
def runBlocks (f : Fin 3 × Fin 4 × Fin 2 → Prog (TpuEff nD τ sig (Elt F) Λ₀ .tc) Unit) :
    List (Fin 3 × Fin 4 × Fin 2) → Prog (TpuEff nD τ sig (Elt F) Λ₀ .tc) Unit
  | [] => pure ⟨⟩
  | b :: l => do
    f b
    runBlocks f l

/-- All blocks in the order they run. -/
def allBlocks : List (Fin 3 × Fin 4 × Fin 2) :=
  [(0, 0, 0), (0, 0, 1), (0, 1, 0), (0, 1, 1), (0, 2, 0), (0, 2, 1), (0, 3, 0), (0, 3, 1), (1, 0, 0), (1, 0, 1), (1, 1, 0), (1, 1, 1), (1, 2, 0), (1, 2, 1), (1, 3, 0), (1, 3, 1), (2, 0, 0), (2, 0, 1), (2, 1, 0), (2, 1, 1), (2, 2, 0), (2, 2, 1), (2, 3, 0), (2, 3, 1)]

/-- The projection loop's body. -/
def projBody (arg0 : Memref sig .tc .smem S12 .i32) (arg16 : Memref sig .tc .vmem S1536x1024 .bf16)
    (arg18 : Memref sig .tc .vmem S3x4x768x1024 .bf16) (arg19 arg20 : Memref sig .tc .vmem S4x768x128 .f32)
    (arg21 : Memref sig .tc .vmem S2x2x8x128 .f32) (arg22 : Memref sig .tc .vmem S3x12x1024x128 .fp8e4m3) (harg22 : arg22.IsWhole)
    (arg23 : Memref sig .tc .vmem S3x12x16x128 .f32) (lane : IVec S8x128 32) (p : Fin k0_t13_loop.trips) (g : Fin k0_t15_loop.trips) :
    Prog (TpuEff nD τ sig (Elt F) Λ₀ .tc) Unit := do
  let x : Vec F S256x1024 .bf16 ← Prog.lift (.load arg16 (Rect.unit (s := S1536x1024) (k0_off78 p) S256x1024.size (k0_off78_inb p)).toLoadRect (View.loadsAt_vmem h_S256x1024))
  let w0 : Vec F S1x1x768x1024 .bf16 ← Prog.lift (.load arg18 (Rect.unit (s := S3x4x768x1024) (k0_off79 g) S1x1x768x1024.size (k0_off79_inb g)).toLoadRect (View.loadsAt_vmem h_S1x1x768x1024))
  let w1 : Vec F S1x1x768x1024 .bf16 ← Prog.lift (.load arg18 (Rect.unit (s := S3x4x768x1024) (k0_off80 g) S1x1x768x1024.size (k0_off80_inb g)).toLoadRect (View.loadsAt_vmem h_S1x1x768x1024))
  let w2 : Vec F S1x1x768x1024 .bf16 ← Prog.lift (.load arg18 (Rect.unit (s := S3x4x768x1024) (k0_off81 g) S1x1x768x1024.size (k0_off81_inb g)).toLoadRect (View.loadsAt_vmem h_S1x1x768x1024))
  runBlocks (blockAt arg0 arg19 arg20 arg21 arg22 harg22 arg23 lane p g (k0_pay145 x w0 w1 w2)) allBlocks

set_option maxRecDepth 65536 in
set_option maxHeartbeats 4000000 in
/-- The printed body is the program above. -/
theorem t15_eq (arg0 : Memref sig .tc .smem S12 .i32) (harg0 : arg0.IsWhole) (arg1 : Memref sig .tc .hbm S1536x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .hbm S1024x1024 .f32) (harg4 : arg4.IsWhole) (arg5 : Memref sig .tc .vmem S16x64 .f32) (harg5 : arg5.IsWhole) (arg6 : Memref sig .tc .hbm S1024x1024 .f32) (harg6 : arg6.IsWhole) (arg7 : Memref sig .tc .vmem S16x64 .f32) (harg7 : arg7.IsWhole) (arg8 : Memref sig .tc .hbm S1024x1024 .f32) (harg8 : arg8.IsWhole) (arg9 : Memref sig .tc .vmem S16x64 .f32) (harg9 : arg9.IsWhole) (arg10 : Memref sig .tc .hbm S12x1024x128 .fp8e4m3) (harg10 : arg10.IsWhole) (arg11 : Memref sig .tc .vmem S12x16 .f32) (harg11 : arg11.IsWhole) (arg12 : Memref sig .tc .hbm S12x1024x128 .fp8e4m3) (harg12 : arg12.IsWhole) (arg13 : Memref sig .tc .vmem S12x16 .f32) (harg13 : arg13.IsWhole) (arg14 : Memref sig .tc .hbm S12x1024x128 .fp8e4m3) (harg14 : arg14.IsWhole) (arg15 : Memref sig .tc .vmem S12x16 .f32) (harg15 : arg15.IsWhole) (arg16 : Memref sig .tc .vmem S1536x1024 .bf16) (harg16 : arg16.IsWhole) (arg17 : Memref sig .tc .vmem S6x256x1024 .f32) (harg17 : arg17.IsWhole) (arg18 : Memref sig .tc .vmem S3x4x768x1024 .bf16) (harg18 : arg18.IsWhole) (arg19 : Memref sig .tc .vmem S4x768x128 .f32) (harg19 : arg19.IsWhole) (arg20 : Memref sig .tc .vmem S4x768x128 .f32) (harg20 : arg20.IsWhole) (arg21 : Memref sig .tc .vmem S2x2x8x128 .f32) (harg21 : arg21.IsWhole) (arg22 : Memref sig .tc .vmem S3x12x1024x128 .fp8e4m3) (harg22 : arg22.IsWhole) (arg23 : Memref sig .tc .vmem S3x12x16x128 .f32) (harg23 : arg23.IsWhole) (arg24 arg25 : DmaSems sig S6) (arg26 : DmaSems sig S3)
    (lane : IVec S8x128 32) (c0 c1 : BitVec 32) (p : Fin k0_t13_loop.trips) (a27 : BitVec 32) (g : Fin k0_t15_loop.trips) (z : Unit) :
    k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 lane c0 c1 p a27 g z = projBody arg0 arg16 arg18 arg19 arg20 arg21 arg22 harg22 arg23 lane p g := rfl

end Cert.KernelIdeal.Pf
-- ==== Proof.Common.Hold.lean ====
/- Holding part of a buffer with a description of what it holds. `Hold c m M P spec` owns the elements of the
   memref `m` at the indices in `M`, and says that where `P` holds the memref reads as `spec`. The rules of loads,
   stores and copies, stated of it. -/
module

public import Idealize.ShloMosaic.Lib.Batch
public import Idealize.ShloMosaic.Lib.Scf

@[expose] public section

noncomputable section

namespace Cert.Hold

open Idealize.ShloMosaic
open Idealize.SL
open Idealize.SL.RA Idealize.SL.Sem Idealize.SL.ProofMode
open Idealize.SL.BI (sProp bigSep Storable)
open scoped Idealize.SL.BI
open Idealize.SL.BI.BIBase Idealize.SL.BI.Laws
open Idealize.ShloMosaic.Transfers

variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

/-- The elements of `m` at the indices in `M` are held, and where `P` holds they read as `spec`. -/
def Hold (c : Thread nD τ) {sp : Space} {s : Shape} {e : EltTy} (m : Memref sig c.2.kind sp s e) (M : Finset s.Idx)
    (P : s.Idx → Prop) (spec : s.Idx → Val e) : sProp 𝕄 :=
  iprop(∃ f : Buf Val (m.view.loc c), (m.view.loc c ↦[m.view.setOn M]{fullShare} f)
    ∗ ⌜∀ x ∈ M, P x → m.view.read Val f x = spec x⌝)

section Basic
variable (c : Thread nD τ) {sp : Space} {s : Shape} {e : EltTy}

instance (m : Memref sig c.2.kind sp s e) (M : Finset s.Idx) (P : s.Idx → Prop) (spec : s.Idx → Val e) :
    Storable (upEmb : UEmb _ 𝕄) (Hold c m M P spec : sProp 𝕄) := by unfold Hold; infer_instance

variable {c} {m : Memref sig c.2.kind sp s e} {M : Finset s.Idx} {P P' : s.Idx → Prop} {spec spec' : s.Idx → Val e}

theorem Hold.mono (h : ∀ x ∈ M, P' x → P x ∧ spec x = spec' x) :
    (Hold c m M P spec : sProp 𝕄) ⊢ Hold c m M P' spec' := by
  unfold Hold
  iintro ⟨%f, H, %hf⟩
  iexists f
  isplitl [H]; · iexact H
  ipureintro
  intro x hx hP
  exact (hf x hx (h x hx hP).1).trans (h x hx hP).2

theorem Hold.intro (f : Buf Val (m.view.loc c)) (h : ∀ x ∈ M, P x → m.view.read Val f x = spec x) :
    (m.view.loc c ↦[m.view.setOn M]{fullShare} f) ⊢ (Hold c m M P spec : sProp 𝕄) := by
  unfold Hold
  iintro H
  iexists f
  isplitl [H]; · iexact H
  ipureintro; exact h

variable (c m) in
theorem setOn_subset {M M' : Finset s.Idx} (h : M ⊆ M') : m.view.setOn M ⊆ m.view.setOn M' :=
  Finset.map_subset_map.mpr h

/-- Holding splits along a subset of the indices. -/
theorem Hold.split [DecidableEq s.Idx] {M' : Finset s.Idx} (h : M' ⊆ M) :
    (Hold c m M P spec : sProp 𝕄) ⊢ iprop(Hold c m M' P spec ∗ Hold c m (M \ M') P spec) := by
  classical
  unfold Hold
  iintro ⟨%f, H, %hf⟩
  ihave H2 := (pointsTo_split_subset (setOn_subset c m h)).1 $$ H
  icases H2 with ⟨Ha, Hb⟩
  isplitl [Ha]
  · iexists f
    isplitl [Ha]; · iexact Ha
    ipureintro; exact fun x hx => hf x (h hx)
  · iexists f
    isplitl [Hb]
    · have e1 : m.view.setOn M \ m.view.setOn M' = m.view.setOn (M \ M') := by
        unfold View.setOn; rw [Finset.map_sdiff]
      rw [← e1]; iexact Hb
    · ipureintro; exact fun x hx => hf x (Finset.sdiff_subset hx)

/-- Two parts held join. -/
theorem Hold.join [DecidableEq s.Idx] {M' : Finset s.Idx} (h : Disjoint M M') :
    iprop(Hold c m M P spec ∗ Hold c m M' P spec) ⊢ (Hold c m (M ∪ M') P spec : sProp 𝕄) := by
  classical
  unfold Hold
  iintro ⟨⟨%f, H, %hf⟩, %g, H', %hg⟩
  have hd : Disjoint (m.view.setOn M) (m.view.setOn M') := (Finset.disjoint_map _).mpr h
  ihave H2 := (pointsTo_join (ℓ := m.view.loc c) (f := f) (g := g) hd) $$ [H H']
  · isplitl [H]; · iexact H
    iexact H'
  iexists ((m.view.setOn M').piecewise g f)
  isplitl [H2]
  · have e1 : m.view.setOn M ∪ m.view.setOn M' = m.view.setOn (M ∪ M') := by
      unfold View.setOn; rw [Finset.map_union]
    rw [← e1]; iexact H2
  · ipureintro
    intro x hx hP
    rw [View.read_apply]
    by_cases hx' : x ∈ M'
    · rw [Finset.piecewise_eq_of_mem _ _ _ (m.view.mem_setOn.mpr hx')]
      exact hg x hx' hP
    · rw [Finset.piecewise_eq_of_notMem _ _ _ (fun hh => hx' (m.view.mem_setOn.mp hh))]
      exact hf x ((Finset.mem_union.mp hx).resolve_right hx') hP

/-- A part of a memref held is a slice of it held whole. -/
theorem Hold.slice (r : Rect s) (hr) :
    (Hold c m (Finset.univ.map r.emb) P spec : sProp 𝕄)
      ⊣⊢ Hold c (m.slice r hr) Finset.univ (fun y => P (r.emb y)) (fun y => spec (r.emb y)) := by
  have e1 : (m.slice r hr).view.setOn Finset.univ = m.view.setOn (Finset.univ.map r.emb) := by
    unfold View.setOn
    exact (Finset.map_map _ _ _).symm
  unfold Hold
  constructor
  · iintro ⟨%f, H, %hf⟩
    iexists f
    isplitl [H]
    · rw [e1]; iexact H
    · ipureintro
      intro y _ hP
      exact hf _ (Finset.mem_map_of_mem _ (Finset.mem_univ y)) hP
  · iintro ⟨%f, H, %hf⟩
    iexists f
    isplitl [H]
    · rw [← e1]; iexact H
    · ipureintro
      intro x hx hP
      obtain ⟨y, -, rfl⟩ := Finset.mem_map.mp hx
      exact hf y (Finset.mem_univ y) hP

/-- Dropping axes of size one changes only the indices. -/
theorem Hold.squeeze {s' : Shape} (h : s.Squeezes s') :
    (Hold c m Finset.univ P spec : sProp 𝕄)
      ⊣⊢ Hold c (m.squeeze s' h) Finset.univ (fun y => P (Shape.reshapeEquiv h.numel_eq y))
        (fun y => spec (Shape.reshapeEquiv h.numel_eq y)) := by
  have e1 : (m.squeeze s' h).view.setOn Finset.univ = m.view.setOn Finset.univ := m.view.set_reshape h.numel_eq
  unfold Hold
  constructor
  · iintro ⟨%f, H, %hf⟩
    iexists f
    isplitl [H]
    · rw [e1]; iexact H
    · ipureintro
      intro y _ hP
      exact hf _ (Finset.mem_univ _) hP
  · iintro ⟨%f, H, %hf⟩
    iexists f
    isplitl [H]
    · rw [← e1]; iexact H
    · ipureintro
      intro x hx hP
      have := hf ((Shape.reshapeEquiv h.numel_eq).symm x) (Finset.mem_univ _)
      simp only [Equiv.apply_symm_apply] at this
      refine Eq.trans ?_ (this hP)
      exact congrArg (fun z => m.view.read Val f z) ((Shape.reshapeEquiv h.numel_eq).apply_symm_apply x).symm

/-- Many parts held join. -/
theorem Hold.joins {T : Type} [DecidableEq T] [DecidableEq s.Idx] (J : Finset T) (hJ : J.Nonempty) (K : T → Finset s.Idx)
    (h : ∀ t ∈ J, ∀ t' ∈ J, t ≠ t' → Disjoint (K t) (K t')) :
    bigSep J (fun t => (Hold c m (K t) P spec : sProp 𝕄)) ⊢ Hold c m (J.biUnion K) P spec := by
  induction hJ using Finset.Nonempty.cons_induction with
  | singleton a => rw [BI.bigSep_singleton, Finset.singleton_biUnion]
  | cons a J ha hJ ih =>
    rw [Finset.cons_eq_insert, BI.bigSep_insert ha, Finset.biUnion_insert]
    refine (sep_mono_right (ih fun t ht t' ht' => h t (Finset.mem_cons_of_mem ht) t' (Finset.mem_cons_of_mem ht'))).trans (Hold.join ?_)
    rw [Finset.disjoint_biUnion_right]
    intro t ht
    exact h a (Finset.mem_cons_self a J) t (Finset.mem_cons_of_mem ht) (fun e => ha (e ▸ ht))

/-- Holding splits into many parts. -/
theorem Hold.splits {T : Type} [DecidableEq T] [DecidableEq s.Idx] (J : Finset T) (hJ : J.Nonempty) (K : T → Finset s.Idx)
    (h : ∀ t ∈ J, ∀ t' ∈ J, t ≠ t' → Disjoint (K t) (K t')) :
    Hold c m (J.biUnion K) P spec ⊢ bigSep J (fun t => (Hold c m (K t) P spec : sProp 𝕄)) := by
  induction hJ using Finset.Nonempty.cons_induction with
  | singleton a => rw [BI.bigSep_singleton, Finset.singleton_biUnion]
  | cons a J ha hJ ih =>
    rw [Finset.cons_eq_insert, BI.bigSep_insert ha, Finset.biUnion_insert]
    have hd : Disjoint (K a) (J.biUnion K) := by
      rw [Finset.disjoint_biUnion_right]
      intro t ht
      exact h a (Finset.mem_cons_self a J) t (Finset.mem_cons_of_mem ht) (fun e => ha (e ▸ ht))
    refine (Hold.split (M' := K a) Finset.subset_union_left).trans (sep_mono_right ?_)
    rw [Finset.union_sdiff_cancel_left hd]
    exact ih fun t ht t' ht' => h t (Finset.mem_cons_of_mem ht) t' (Finset.mem_cons_of_mem ht')

/-- Holding nothing. -/
theorem Hold.none : (Hold c m ∅ P spec : sProp 𝕄) ⊢ iprop(emp) := by
  unfold Hold
  iintro ⟨%f, H, %hf⟩
  rw [show m.view.setOn ∅ = ∅ from Finset.map_empty _, pointsTo_empty]
  iempintro

/-- One of many is taken out, to be put back changed. -/
theorem take {T : Type} [Fintype T] [DecidableEq T] (p : T) (f f' : T → sProp 𝕄) (h : ∀ j, j ≠ p → f j = f' j) :
    bigSep Finset.univ f ⊢ iprop(f p ∗ (f' p -∗ bigSep Finset.univ f')) := by
  rw [BI.bigSep_univ_split p, BI.bigSep_univ_split p (Φ := f'),
    BI.bigSep_congr (Φ := f) (Ψ := f') (s := Finset.univ.erase p) fun i hi => h i (Finset.ne_of_mem_erase hi)]
  show iprop(f p ∗ bigSep (Finset.univ.erase p) f') ⊢ iprop(f p ∗ (f' p -∗ iprop(f' p ∗ bigSep (Finset.univ.erase p) f')))
  iintro ⟨H1, H2⟩
  isplitl [H1]; · iexact H1
  iintro H
  isplitl [H]; · iexact H
  iexact H2

theorem Hold.opened : (Hold c m M P spec : sProp 𝕄)
    ⊢ iprop(∃ f : Buf Val (m.view.loc c), (m.view.loc c ↦[m.view.setOn M]{fullShare} f) ∗ ⌜∀ x ∈ M, P x → m.view.read Val f x = spec x⌝) :=
  BI.Entails.refl _

/-- Fewer elements described. -/
theorem weaken (h : ∀ x, P' x → P x) : (Hold c m M P spec : sProp 𝕄) ⊢ Hold c m M P' spec :=
  Hold.mono fun x _ hx => ⟨h x hx, rfl⟩

/-- A part as a slice held whole, described by its own indices. -/
theorem Hold.toSlice (r : Rect s) (hr) (hM : M = Finset.univ.map r.emb) {Q : r.shape.Idx → Prop} {t : r.shape.Idx → Val e}
    (h : ∀ y, Q y → P (r.emb y) ∧ spec (r.emb y) = t y) :
    (Hold c m M P spec : sProp 𝕄) ⊢ Hold c (m.slice r hr) Finset.univ Q t := by
  subst hM
  exact (Hold.slice r hr).1.trans (Hold.mono fun y _ hy => h y hy)

theorem Hold.ofSlice (r : Rect s) (hr) (hM : M = Finset.univ.map r.emb) {Q : r.shape.Idx → Prop} {t : r.shape.Idx → Val e}
    (h : ∀ y, P (r.emb y) → Q y ∧ t y = spec (r.emb y)) :
    (Hold c (m.slice r hr) Finset.univ Q t : sProp 𝕄) ⊢ Hold c m M P spec := by
  subst hM
  exact (Hold.mono fun y _ hy => h y hy).trans (Hold.slice r hr).2

/-- A part as a slice with its axes of size one dropped. -/
theorem Hold.toSliceSq (r : Rect s) (hr) {s' : Shape} (hq : r.shape.Squeezes s') (hM : M = Finset.univ.map r.emb) {Q : s'.Idx → Prop} {t : s'.Idx → Val e}
    (h : ∀ y, Q y → P (r.emb (Shape.reshapeEquiv hq.numel_eq y)) ∧ spec (r.emb (Shape.reshapeEquiv hq.numel_eq y)) = t y) :
    (Hold c m M P spec : sProp 𝕄) ⊢ Hold c ((m.slice r hr).squeeze s' hq) Finset.univ Q t := by
  subst hM
  exact ((Hold.slice r hr).1.trans
    (Hold.squeeze (m := m.slice r hr) (P := fun y => P (r.emb y)) (spec := fun y => spec (r.emb y)) hq).1).trans (Hold.mono fun y _ hy => h y hy)

theorem Hold.ofSliceSq (r : Rect s) (hr) {s' : Shape} (hq : r.shape.Squeezes s') (hM : M = Finset.univ.map r.emb) {Q : s'.Idx → Prop} {t : s'.Idx → Val e}
    (h : ∀ y, P (r.emb (Shape.reshapeEquiv hq.numel_eq y)) → Q y ∧ t y = spec (r.emb (Shape.reshapeEquiv hq.numel_eq y))) :
    (Hold c ((m.slice r hr).squeeze s' hq) Finset.univ Q t : sProp 𝕄) ⊢ Hold c m M P spec := by
  subst hM
  exact ((Hold.mono fun y _ hy => h y hy).trans
    (Hold.squeeze (m := m.slice r hr) (P := fun y => P (r.emb y)) (spec := fun y => spec (r.emb y)) hq).2).trans (Hold.slice r hr).2

end Basic

section Steps
variable [Preorder Lvl] {defs : Defs nD τ sig Val Λ} (𝒱 : Variants) (c : Thread nD τ) (bd : Option 𝒱.V) (E : Set Name)
variable {sp sp' : Space} {s : Shape} {e : EltTy}
variable {α : Type}
variable {Q : α → sProp (MT nD τ sig Ix Val Name U Lvl)}
variable {M : Finset s.Idx} {P P' : s.Idx → Prop} {spec spec' : s.Idx → Val e}

/-- A load of a rectangle whose elements are all described. -/
theorem load {cs : CoreSpace} {m : Memref sig c.2.kind cs s e} {r : Rect s} {hl : m.view.LoadsAt r}
    {k : (r.shape.Idx → Val e) → Prog (TpuEff nD τ sig Val Λ c.2) α}
    (hM : ∀ y, r.emb y ∈ M) (hP : ∀ y, P (r.emb y)) :
    (Hold c m M P spec : sProp 𝕄)
      ⊢ iprop((Hold c m M P spec -∗ wp frame (wpE defs 𝒱 c bd) E (k (fun y => spec (r.emb y))) Q)
        -∗ wp frame (wpE defs 𝒱 c bd) E (.op (.load m r hl) k) Q) := by
  iintro H Hk
  unfold Hold
  icases H with ⟨%f, H, %hf⟩
  have hS : (m.access r).set ⊆ m.view.setOn M := by
    intro i hi
    obtain ⟨y, -, rfl⟩ := Finset.mem_map.mp hi
    exact m.view.mem_setOn.mpr (hM y)
  have hv : (m.access r).read Val f = fun y => spec (r.emb y) :=
    funext fun y => hf _ (hM y) (hP y)
  iapply (wp_load_rect 𝒱 c bd E hS) $$ H
  iintro H
  rw [hv]
  iapply Hk
  iexists f
  isplitl [H]; · iexact H
  ipureintro; exact hf

/-- A store of a whole rectangle: what it writes is described anew, the rest as before. -/
theorem store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α}
    (hM : ∀ y, r.emb y ∈ M) (hw : ∀ y, P' (r.emb y) → w y = spec' (r.emb y))
    (hP : ∀ x ∈ M, P' x → x ∉ r.set → P x ∧ spec x = spec' x) :
    (Hold c m M P spec : sProp 𝕄)
      ⊢ iprop((Hold c m M P' spec' -∗ wp frame (wpE defs 𝒱 c bd) E (k ⟨⟩) Q)
        -∗ wp frame (wpE defs 𝒱 c bd) E (.op (.store m r w Finset.univ hx hm) k) Q) := by
  iintro H Hk
  unfold Hold
  icases H with ⟨%f, H, %hf⟩
  have hS : (m.access r).setOn Finset.univ ⊆ m.view.setOn M := by
    intro i hi
    obtain ⟨y, -, rfl⟩ := Finset.mem_map.mp hi
    exact m.view.mem_setOn.mpr (hM y)
  iapply (wp_store 𝒱 c bd E hS) $$ H
  iintro H
  iapply Hk
  iexists ((m.access r).write Val f w Finset.univ)
  isplitl [H]; · iexact H
  ipureintro
  intro x hx' hPx
  by_cases hxr : x ∈ r.set
  · rw [← r.map_emb_univ] at hxr
    obtain ⟨y, -, rfl⟩ := Finset.mem_map.mp hxr
    rw [← hw y hPx]
    exact View.read_slice_write_emb (v := m.view) (Val := Val) r f w (Finset.mem_univ y)
  · obtain ⟨h1, h2⟩ := hP x hx' hPx hxr
    rw [← h2, ← hf x hx' h1]
    exact View.read_slice_write_of_not_mem (v := m.view) (Val := Val) r f w (M := Finset.univ) (by rwa [r.map_emb_univ])

/-! ### The same rules at a step of a program that is bound to the rest -/

theorem wp_step {β : Type} {e' : TpuEff nD τ sig Val Λ c.2 β} {R : β → sProp (MT nD τ sig Ix Val Name U Lvl)} {H H' : sProp 𝕄} {v : β}
    (h : H ⊢ iprop((H' -∗ wp frame (wpE defs 𝒱 c bd) E (Prog.ret v) R) -∗ wp frame (wpE defs 𝒱 c bd) E (.op e' .ret) R)) :
    H ⊢ iprop((H' -∗ R v) -∗ wp frame (wpE defs 𝒱 c bd) E (Prog.lift e') R) := by
  refine h.trans (wand_mono_left (wand_mono_right ?_))
  exact BI.fupd_intro

theorem load_l {cs : CoreSpace} {m : Memref sig c.2.kind cs s e} {r : Rect s} {hl : m.view.LoadsAt r}
    {R : (r.shape.Idx → Val e) → sProp (MT nD τ sig Ix Val Name U Lvl)}
    (hM : ∀ y, r.emb y ∈ M) (hP : ∀ y, P (r.emb y)) :
    (Hold c m M P spec : sProp 𝕄)
      ⊢ iprop((Hold c m M P spec -∗ R (fun y => spec (r.emb y)))
        -∗ wp frame (wpE defs 𝒱 c bd) E (Prog.lift (.load m r hl)) R) :=
  wp_step 𝒱 c bd E (load 𝒱 c bd E hM hP)

theorem load_v {cs : CoreSpace} {m : Memref sig c.2.kind cs s e} {r : Rect s} {hl : m.view.LoadsAt r}
    {R : (r.shape.Idx → Val e) → sProp (MT nD τ sig Ix Val Name U Lvl)} (v : r.shape.Idx → Val e)
    (hM : ∀ y, r.emb y ∈ M) (hP : ∀ y, P (r.emb y)) (hv : ∀ y, spec (r.emb y) = v y) :
    (Hold c m M P spec : sProp 𝕄)
      ⊢ iprop((Hold c m M P spec -∗ R v)
        -∗ wp frame (wpE defs 𝒱 c bd) E (Prog.lift (.load m r hl)) R) := by
  rw [← show (fun y => spec (r.emb y)) = v from funext hv]
  exact load_l 𝒱 c bd E hM hP

theorem smem_l {m : Memref sig c.2.kind .smem s e} {r : Rect s} {h1 : r.shape.numel = 1} {hp : e.packing = 1}
    {R : Val e → sProp (MT nD τ sig Ix Val Name U Lvl)}
    (hM : ∀ y, r.emb y ∈ M) (hP : ∀ y, P (r.emb y)) :
    (Hold c m M P spec : sProp 𝕄)
      ⊢ iprop((Hold c m M P spec -∗ R (spec (r.emb (Shape.Idx.first (h1.symm ▸ Nat.one_pos)))))
        -∗ wp frame (wpE defs 𝒱 c bd) E (smemLoad m r h1 hp) R) := by
  iintro H Hk
  unfold Hold smemLoad
  icases H with ⟨%f, H, %hf⟩
  have hS : (m.access r).set ⊆ m.view.setOn M := by
    intro i hi
    obtain ⟨y, -, rfl⟩ := Finset.mem_map.mp hi
    exact m.view.mem_setOn.mpr (hM y)
  have hv : (m.access r).read Val f = fun y => spec (r.emb y) :=
    funext fun y => hf _ (hM y) (hP y)
  iapply (wp_smemLoadElt 𝒱 c bd E hS) $$ H
  iintro H
  rw [hv]
  iapply (show R (spec (r.emb (Shape.Idx.first (h1.symm ▸ Nat.one_pos)))) ⊢ wp frame (wpE defs 𝒱 c bd) E (Prog.ret (spec (r.emb (Shape.Idx.first (h1.symm ▸ Nat.one_pos))))) R from BI.fupd_intro)
  iapply Hk
  iexists f
  isplitl [H]; · iexact H
  ipureintro; exact hf

theorem load_dead_l {cs : CoreSpace} {m : Memref sig c.2.kind cs s e} {r : Rect s} {hl : m.view.LoadsAt r}
    {R : (r.shape.Idx → Val e) → sProp (MT nD τ sig Ix Val Name U Lvl)}
    (hM : ∀ y, r.emb y ∈ M) :
    (Hold c m M P spec : sProp 𝕄)
      ⊢ iprop((Hold c m M P spec -∗ ∀ v, R v)
        -∗ wp frame (wpE defs 𝒱 c bd) E (Prog.lift (.load m r hl)) R) := by
  iintro H Hk
  unfold Hold
  icases H with ⟨%f, H, %hf⟩
  have hS : (m.access r).set ⊆ m.view.setOn M := by
    intro i hi
    obtain ⟨y, -, rfl⟩ := Finset.mem_map.mp hi
    exact m.view.mem_setOn.mpr (hM y)
  iapply (wp_load_rect 𝒱 c bd E (hl := hl) (k := .ret) hS) $$ H
  iintro H
  iapply (show R ((m.access r).read Val f) ⊢ wp frame (wpE defs 𝒱 c bd) E (Prog.ret ((m.access r).read Val f)) R from BI.fupd_intro)
  ispecialize Hk $$ [H]
  · iexists f
    isplitl [H]; · iexact H
    ipureintro; exact hf
  iapply Hk

theorem store_l {cs : CoreSpace} {m : Memref sig c.2.kind cs s e} {r : Rect s} {w : r.shape.Idx → Val e}
    {hx : (m.access r).Stores Finset.univ} {hm : Finset.univ = Finset.univ ∨ ∀ a, r.stride a = 1}
    {R : PUnit → sProp (MT nD τ sig Ix Val Name U Lvl)} (P' : s.Idx → Prop) (spec' : s.Idx → Val e)
    (hM : ∀ y, r.emb y ∈ M) (hw : ∀ y, P' (r.emb y) → w y = spec' (r.emb y))
    (hP : ∀ x ∈ M, P' x → x ∉ r.set → P x ∧ spec x = spec' x) :
    (Hold c m M P spec : sProp 𝕄)
      ⊢ iprop((Hold c m M P' spec' -∗ R ⟨⟩)
        -∗ wp frame (wpE defs 𝒱 c bd) E (Prog.lift (.store m r w Finset.univ hx hm)) R) :=
  wp_step 𝒱 c bd E (store 𝒱 c bd E hM hw hP)

/-! ### Copies -/

/-- What a finished copy hands back: the destination reading as the source, and the source. -/
theorem copied {src : Memref sig c.2.kind sp s e} {dst : Memref sig c.2.kind sp' s e} {fs : Buf Val (src.view.loc c)}
    {fd : Buf Val (dst.view.loc c)} (hf : ∀ x ∈ (Finset.univ : Finset s.Idx), True → src.view.read Val fs x = spec x) :
    iprop((dst.view.loc c ↦[dst.view.setOn Finset.univ]{fullShare} (dst.view.write Val fd ((ReadAs.same : ReadAs Val s e s e).apply (src.view.read Val fs)) Finset.univ))
        ∗ (src.view.loc c ↦[src.view.setOn Finset.univ]{fullShare} fs))
      ⊢ (iprop(Hold c dst Finset.univ (fun _ => True) spec ∗ Hold c src Finset.univ (fun _ => True) spec) : sProp 𝕄) := by
  iintro ⟨Hd, Hs⟩
  isplitl [Hd]
  · iapply (Hold.intro (c := c) (m := dst) (M := Finset.univ) (P := fun _ => True) (spec := spec) _ ?_) $$ Hd
    intro x hx _
    rw [View.read_write_univ, ReadAs.apply_same]
    exact hf x hx trivial
  · iapply (Hold.intro (c := c) (m := src) (M := Finset.univ) (P := fun _ => True) (spec := spec) fs hf) $$ Hs

variable (EC : UEmb Counters (MT nD τ sig Ix Val Name U Lvl))

/-- The start of a copy of everything a memref reads, on a semaphore of its own. -/
theorem dma [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α}
    (ι : Ix) (N : ℕ) (hN : dst.view.amount sm = N) (hN0 : 0 < N) :
    iprop(Hold c src Finset.univ (fun _ => True) spec ∗ Hold c dst Finset.univ P spec' ∗ semVal (c, sm) 0)
      ⊢ iprop((Flight EC c sm ι N iprop(Hold c dst Finset.univ (fun _ => True) spec ∗ Hold c src Finset.univ (fun _ => True) spec)
              -∗ wp frame (wpE defs 𝒱 c bd) Set.univ (k ⟨⟩) Q)
          -∗ wp frame (wpE defs 𝒱 c bd) Set.univ (.op (.enqueueDmaAs src (.here dst) .same sm hsrc hdst hsem) k) Q) := by
  refine (sep_mono (Hold.opened (c := c)) (sep_mono_left (Hold.opened (c := c)))).trans ?_
  iintro ⟨⟨%fs, Hs, %hfs⟩, ⟨%fd, Hd, %hfd⟩, Hv⟩ Hk
  iapply (wp_dmaLocal EC 𝒱 c bd ι N hN hN0 (Sd := dst.view.setOn Finset.univ) (fs := fs) (fd := fd) (Finset.Subset.refl _)) $$ [Hs Hd Hv]
  · isplitl [Hs]; · iexact Hs
    isplitl [Hd]; · iexact Hd
    iexact Hv
  iintro HF
  iapply Hk
  have hc : iprop((dst.view.loc c ↦[dst.view.setOn Finset.univ]{fullShare} (dst.view.write Val fd ((ReadAs.same : ReadAs Val s e s e).apply (src.view.read Val fs)) Finset.univ))
        ∗ (src.view.loc c ↦[src.view.set]{fullShare} fs))
      ⊢ (iprop(Hold c dst Finset.univ (fun _ => True) spec ∗ Hold c src Finset.univ (fun _ => True) spec) : sProp 𝕄) := copied c hfs
  iapply (Flight_mono EC c hc) $$ HF

/-- The wait for a copy. -/
theorem wait [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄} :
    iprop(Flight EC c (.dma sem) ι N D ∗ ∃ W, owes c 0 W)
      ⊢ iprop((iprop(D ∗ semVal (c, .dma sem) 0 ∗ ∃ W, owes c 0 W) -∗ wp frame (wpE defs 𝒱 c bd) Set.univ (k ⟨⟩) Q)
          -∗ wp frame (wpE defs 𝒱 c bd) Set.univ (.op (.waitDma2 sem srcw dstw hsrc hdst) k) Q) := by
  iintro ⟨HF, %W, HW⟩ Hk
  iapply (wp_waitLocal EC 𝒱 c bd ι hN (D := D) (W := W)) $$ [HF HW]
  · isplitl [HF]; · iexact HF
    iexact HW
  iintro ⟨HD, Hv, HO⟩
  iapply Hk
  isplitl [HD]; · iexact HD
  isplitl [Hv]; · iexact Hv
  iexists _
  iexact HO

/-- The start of one of several copies that share a semaphore. -/
theorem dma_batch [Infinite Name] [EC.LandsIn (upEmb : UEmb _ 𝕄)] {n : ℕ}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {D : Fin n → sProp 𝕄} {j : ℕ}
    (ι : Ix) (N : ℕ) (hN : dst.view.amount sm = N) (hj : j < n)
    (hD : iprop(Hold c dst Finset.univ (fun _ => True) spec ∗ Hold c src Finset.univ (fun _ => True) spec) ⊢ D ⟨j, hj⟩) :
    iprop(Hold c src Finset.univ (fun _ => True) spec ∗ Hold c dst Finset.univ P spec' ∗ Batch EC c sm ι N D j 0)
      ⊢ iprop((Batch EC c sm ι N D (j + 1) 0 -∗ wp frame (wpE defs 𝒱 c bd) Set.univ (k ⟨⟩) Q)
          -∗ wp frame (wpE defs 𝒱 c bd) Set.univ (.op (.enqueueDmaAs src (.here dst) .same sm hsrc hdst hsem) k) Q) := by
  refine (sep_mono (Hold.opened (c := c)) (sep_mono_left (Hold.opened (c := c)))).trans ?_
  iintro ⟨⟨%fs, Hs, %hfs⟩, ⟨%fd, Hd, %hfd⟩, Hv⟩ Hk
  iapply (wp_dmaBatch EC 𝒱 c bd ι N hN (Sd := dst.view.setOn Finset.univ) (fs := fs) (fd := fd) (Finset.Subset.refl _) hj (Nat.zero_le _)
    ((copied c hfs).trans hD)) $$ [Hs Hd Hv]
  · isplitl [Hs]; · iexact Hs
    isplitl [Hd]; · iexact Hd
    iexact Hv
  iexact Hk

/-- One wait for all the copies that share a semaphore. -/
theorem wait_batch [EC.LandsIn (upEmb : UEmb _ 𝕄)] {n : ℕ} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N J : ℕ} (hJ : dstw.view.dmaCredit = J) (hN0 : 0 < N)
    {D : Fin n → sProp 𝕄} (hu : J = N * n) :
    iprop(Batch EC c (.dma sem) ι N D n 0 ∗ ∃ W, owes c 0 W)
      ⊢ iprop((iprop(bigSep Finset.univ D ∗ semVal (c, .dma sem) 0 ∗ ∃ W, owes c 0 W) -∗ wp frame (wpE defs 𝒱 c bd) Set.univ (k ⟨⟩) Q)
          -∗ wp frame (wpE defs 𝒱 c bd) Set.univ (.op (.waitDma2 sem srcw dstw hsrc hdst) k) Q) := by
  iintro ⟨HF, %W, HW⟩ Hk
  iapply (wp_waitBatchAll EC 𝒱 c bd ι hJ hN0 (D := D) (u := 0) (by rw [Nat.zero_add]; exact hu) (W := W)) $$ [HF HW]
  · isplitl [HF]; · iexact HF
    iexact HW
  iintro ⟨HD, Hv, HO⟩
  iapply Hk
  isplitl [HD]; · iexact HD
  isplitl [Hv]; · iexact Hv
  iexists _
  iexact HO

theorem dma_l [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {R : PUnit → sProp (MT nD τ sig Ix Val Name U Lvl)}
    (ι : Ix) (N : ℕ) (hN : dst.view.amount sm = N) (hN0 : 0 < N) :
    iprop(Hold c src Finset.univ (fun _ => True) spec ∗ Hold c dst Finset.univ P spec' ∗ semVal (c, sm) 0)
      ⊢ iprop((Flight EC c sm ι N iprop(Hold c dst Finset.univ (fun _ => True) spec ∗ Hold c src Finset.univ (fun _ => True) spec)
              -∗ R ⟨⟩)
          -∗ wp frame (wpE defs 𝒱 c bd) Set.univ (Prog.lift (.enqueueDmaAs src (.here dst) .same sm hsrc hdst hsem)) R) :=
  wp_step 𝒱 c bd Set.univ (dma 𝒱 c bd EC ι N hN hN0)

theorem wait_l [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {R : PUnit → sProp (MT nD τ sig Ix Val Name U Lvl)} (ι : Ix) {N : ℕ} (hN : dstw.view.dmaCredit = N) {D : sProp 𝕄} :
    iprop(Flight EC c (.dma sem) ι N D ∗ ∃ W, owes c 0 W)
      ⊢ iprop((iprop(D ∗ semVal (c, .dma sem) 0 ∗ ∃ W, owes c 0 W) -∗ R ⟨⟩)
          -∗ wp frame (wpE defs 𝒱 c bd) Set.univ (Prog.lift (.waitDma2 sem srcw dstw hsrc hdst)) R) :=
  wp_step 𝒱 c bd Set.univ (wait 𝒱 c bd EC ι hN)

theorem dma_batch_l [Infinite Name] [EC.LandsIn (upEmb : UEmb _ 𝕄)] {n : ℕ}
    {src : Memref sig c.2.kind sp s e} {dst : Memref sig c.2.kind sp' s e} {sm : SemLoc sig}
    {hsrc : src.view.WordExact} {hdst : dst.view.WordExact} {hsem : DmaTarget.Typed (nD := nD) sp sm (.here dst)}
    {R : PUnit → sProp (MT nD τ sig Ix Val Name U Lvl)} {D : Fin n → sProp 𝕄} {j : ℕ}
    (ι : Ix) (N : ℕ) (hN : dst.view.amount sm = N) (hj : j < n)
    (hD : iprop(Hold c dst Finset.univ (fun _ => True) spec ∗ Hold c src Finset.univ (fun _ => True) spec) ⊢ D ⟨j, hj⟩) :
    iprop(Hold c src Finset.univ (fun _ => True) spec ∗ Hold c dst Finset.univ P spec' ∗ Batch EC c sm ι N D j 0)
      ⊢ iprop((Batch EC c sm ι N D (j + 1) 0 -∗ R ⟨⟩)
          -∗ wp frame (wpE defs 𝒱 c bd) Set.univ (Prog.lift (.enqueueDmaAs src (.here dst) .same sm hsrc hdst hsem)) R) :=
  wp_step 𝒱 c bd Set.univ (dma_batch 𝒱 c bd EC ι N hN hj hD)

theorem wait_batch_l [EC.LandsIn (upEmb : UEmb _ 𝕄)] {n : ℕ} {s' : Shape} {e' : EltTy} {κ' : Kind} {sem : DmaSem sig}
    {srcw : Memref sig c.2.kind sp' s' e'} {dstw : Memref sig κ' sp s e} {hsrc : srcw.view.WordExact} {hdst : dstw.view.WordExact}
    {R : PUnit → sProp (MT nD τ sig Ix Val Name U Lvl)} (ι : Ix) {N J : ℕ} (hJ : dstw.view.dmaCredit = J) (hN0 : 0 < N)
    {D : Fin n → sProp 𝕄} (hu : J = N * n) :
    iprop(Batch EC c (.dma sem) ι N D n 0 ∗ ∃ W, owes c 0 W)
      ⊢ iprop((iprop(bigSep Finset.univ D ∗ semVal (c, .dma sem) 0 ∗ ∃ W, owes c 0 W) -∗ R ⟨⟩)
          -∗ wp frame (wpE defs 𝒱 c bd) Set.univ (Prog.lift (.waitDma2 sem srcw dstw hsrc hdst)) R) :=
  wp_step 𝒱 c bd Set.univ (wait_batch 𝒱 c bd EC ι hJ hN0 hu)

end Steps

/-! ### Indices -/

/-- The index with the given coordinates (taken modulo the extents, so that no bound has to be shown). -/
def ix (s : Shape) (f : Fin s.rank → ℕ) (h : ∀ a, 0 < s.size a := by decide) : s.Idx :=
  fun a => ⟨f a % s.size a, Nat.mod_lt _ (h a)⟩

theorem ix_val (s : Shape) (f : Fin s.rank → ℕ) (h) (a : Fin s.rank) : (ix s f h a).val = f a % s.size a := rfl

theorem ix_eq {s : Shape} {f : Fin s.rank → ℕ} {h} {y : s.Idx} (hy : ∀ a, f a = (y a).val) : ix s f h = y := by
  funext a
  apply Fin.ext
  rw [ix_val, hy, Nat.mod_eq_of_lt (y a).isLt]

theorem ix_congr {s : Shape} {f g : Fin s.rank → ℕ} {h} (hy : ∀ a, f a = g a) : ix s f h = ix s g h := by
  rw [show f = g from funext hy]

/-- The coordinates of an index of a rectangle of unit stride. -/
theorem emb_val {s : Shape} {off size : Fin s.rank → ℕ} {inb} (y : (Rect.unit (s := s) off size inb).shape.Idx) (a : Fin s.rank) :
    ((Rect.unit (s := s) off size inb).emb y a).val = off a + (y a).val := by
  rw [Rect.emb_apply, Rect.off_unit, Rect.stride_unit, Nat.one_mul]

theorem emb_val' {s : Shape} {off off' size : Fin s.rank → ℕ} {inb} (h : off = off') (y : (Rect.unit (s := s) off size inb).shape.Idx)
    (a : Fin s.rank) : ((Rect.unit (s := s) off size inb).emb y a).val = off' a + (y a).val := by
  subst h; exact emb_val y a

theorem mem_set_unit' {s : Shape} {off off' size : Fin s.rank → ℕ} {inb} (h : off = off') {x : s.Idx} :
    x ∈ (Rect.unit (s := s) off size inb).set ↔ ∀ a, off' a ≤ (x a).val ∧ (x a).val < off' a + size a := by
  subst h; exact Rect.mem_set_unit

theorem mem_map_unit {s : Shape} {off size : Fin s.rank → ℕ} {inb} {x : s.Idx} :
    x ∈ Finset.univ.map (Rect.unit (s := s) off size inb).emb ↔ ∀ a, off a ≤ (x a).val ∧ (x a).val < off a + size a := by
  rw [Rect.map_emb_univ, Rect.mem_set_unit]

end Cert.Hold
-- ==== Proof.Ideal.Spec.lean ====
/- What each buffer of the kernel holds, as functions of the arguments. -/
module

public import proofs.«01_k».proof.Proof.Ideal.Prep
public import proofs.«01_k».proof.Proof.Ideal.Project
public import proofs.«01_k».proof.Proof.Common.Hold

@[expose] public section

set_option synthInstance.maxSize 4096

noncomputable section

namespace Cert.KernelIdeal.Pf

open Cert.KernelIdeal Cert.KernelIdeal.Gen
open Idealize.ShloMosaic Idealize.SL.Sem Cert.Hold

variable {F : FTy → Type} [FloatOps F]

/-- The arguments as the kernel's buffers read them: node counts, inputs, norm weights, then weights and biases by projection. -/
structure Inp (F : FTy → Type) where
  n : S12.Idx → Elt F .i32
  x : S1536x1024.Idx → Elt F .bf16
  g : S1x1024.Idx → Elt F .f32
  lb : S1x1024.Idx → Elt F .f32
  w : ℕ → S1024x1024.Idx → Elt F .f32
  b : ℕ → S16x64.Idx → Elt F .f32

variable (I : Inp F)

/-- Sixteen rows of a projection's weights, a chunk of a group of 256. -/
def wChunk (t g k : ℕ) : Vec F S1x16x1024 .f32 := fun y => I.w t (ix S1024x1024 ![256 * g + 16 * k + (y 1).val, (y 2).val])

/-- The bias row of the chunk's head. -/
def bRow (t g k : ℕ) : Vec F S1x64 .f32 := fun y => I.b t (ix S16x64 ![4 * g + k / 4, (y 1).val])

/-- A staging slot holding group `g` of projection `t`. -/
def wstS (t g : ℕ) : S6x256x1024.Idx → Elt F .f32 := fun i => I.w t (ix S1024x1024 ![256 * g + (i 1).val, (i 2).val])

/-- The prepared weights: three parts of the scaled weights, by group and row. -/
def wpS : S3x4x768x1024.Idx → Elt F .bf16 := fun i =>
  (if (i 0).val = 0 then k0_pay6 (F := F) else if (i 0).val = 1 then k0_pay7 (F := F) else k0_pay8 (F := F))
    (wChunk I ((i 2).val / 256) (i 1).val ((i 2).val % 256 / 16)) I.g (ix S1x1x16x1024 ![0, 0, (i 2).val % 16, (i 3).val])

/-- The column sums. -/
def csS : S4x768x128.Idx → Elt F .f32 := fun i =>
  csPay (F := F) (wChunk I ((i 1).val / 256) (i 0).val ((i 1).val % 256 / 16)) I.g (ix S1x16x128 ![0, (i 1).val % 16, (i 2).val])

/-- The bias sums. -/
def cbS : S4x768x128.Idx → Elt F .f32 := fun i =>
  cbPay (F := F) (BitVec.ofNat 32 ((i 1).val % 256 / 16)) (wChunk I ((i 1).val / 256) (i 0).val ((i 1).val % 256 / 16)) I.lb
    (bRow I ((i 1).val / 256) (i 0).val ((i 1).val % 256 / 16)) (ix S1x16x128 ![0, (i 1).val % 16, (i 2).val])

/-- The 128 rows of one batch row's nodes. -/
def xRows (p u : ℕ) : Vec F S128x1024 .bf16 := fun y => I.x (ix S1536x1024 ![256 * p + 128 * u + (y 0).val, (y 1).val])

/-- The 256 rows of a pair of batch rows. -/
def xBlk (p : ℕ) : Vec F S256x1024 .bf16 := fun y => I.x (ix S1536x1024 ![256 * p + (y 0).val, (y 1).val])

/-- The statistics of pair `p`: reciprocal deviations, then means times them. -/
def stS (p : ℕ) : S2x2x8x128.Idx → Elt F .f32 := fun i =>
  (if (i 0).val = 0 then k0_pay399 (F := F) else k0_pay400 (F := F)) (xRows I p (i 1).val) (ix S1x1x8x128 ![0, 0, (i 2).val, (i 3).val])

/-- The prepared weights of a group, one part. -/
def wAll (s g : ℕ) : Vec F S1x1x768x1024 .bf16 := fun y => wpS I (ix S3x4x768x1024 ![s, g, (y 2).val, (y 3).val])

/-- A group's product with a pair of batch rows. -/
def accS (p g : ℕ) : FVec F S768x256 .f32 := k0_pay145 (F := F) (xBlk I p) (wAll I 0 g) (wAll I 1 g) (wAll I 2 g)

/-- The rows of the column sums and bias sums a block reads. -/
def csRows (t g hh : ℕ) : Vec F S1x64x128 .f32 := fun y => csS I (ix S4x768x128 ![g, 256 * t + 64 * hh + (y 1).val, (y 2).val])
def cbRows (t g hh : ℕ) : Vec F S1x64x128 .f32 := fun y => cbS I (ix S4x768x128 ![g, 256 * t + 64 * hh + (y 1).val, (y 2).val])

/-- The statistics a block reads. -/
def stRow (s p u : ℕ) : Vec F S1x1x8x128 .f32 := fun y => stS I p (ix S2x2x8x128 ![s, u, (y 2).val, (y 3).val])

/-- A block's values. -/
def bV (p g : ℕ) (t : Fin 3) (hh : Fin 4) (u : Fin 2) : FVec F S8x8x128 .f32 :=
  blockV (F := F) (accAt (accS I p g) t hh u) (csRows I t g hh) (cbRows I t g hh) (stRow I 0 p u) (stRow I 1 p u)

/-- A lane's own number. -/
def lane : IVec S8x128 32 := iota .tc S8x128 32 [1] iota_S8x128_d1_w32

/-- A block's scale exponents. -/
def bX (p g : ℕ) (t : Fin 3) (hh : Fin 4) (u : Fin 2) :=
  blockX (F := F) lane (I.n (ix S12 ![2 * p + u.val])) (bV I p g t hh u)

/-- The codes. -/
def codeS : S3x12x1024x128.Idx → Elt F .fp8e4m3 := fun i =>
  let p := (i 1).val / 2
  let g := (i 2).val / 256
  let t := Fin.ofNat 3 (i 0).val
  let hh := Fin.ofNat 4 ((i 2).val % 256 / 64)
  let u := Fin.ofNat 2 (i 1).val
  blockCode (F := F) (bV I p g t hh u) (bX I p g t hh u) (ix S1x1x64x128 ![0, 0, (i 2).val % 64, (i 3).val])

/-- The scales, over lanes. -/
def sclS : S3x12x16x128.Idx → Elt F .f32 := fun i =>
  let p := (i 1).val / 2
  let g := (i 2).val / 4
  let t := Fin.ofNat 3 (i 0).val
  let hh := Fin.ofNat 4 (i 2).val
  let u := Fin.ofNat 2 (i 1).val
  blockScl (F := F) (bX I p g t hh u) (ix S1x1x1x128 ![0, 0, 0, (i 3).val])

/-! ### How far the buffers are filled -/

/-- Weights prepared before chunk `n`, and the first `s` parts of chunk `n`. -/
def wpD (n s : ℕ) (x : S3x4x768x1024.Idx) : Prop :=
  48 * (x 1).val + (x 2).val / 16 < n ∨ (48 * (x 1).val + (x 2).val / 16 = n ∧ (x 0).val < s)

/-- Sums prepared before chunk `n`. -/
def cD (n : ℕ) (x : S4x768x128.Idx) : Prop := 48 * (x 0).val + (x 1).val / 16 < n

/-- Blocks done: every pair before `p`, of pair `p` every group before `g`, of group `g` those not in `l`. -/
def bD (p g : ℕ) (l : List (Fin 3 × Fin 4 × Fin 2)) (q g' : ℕ) (b : Fin 3 × Fin 4 × Fin 2) : Prop :=
  q < p ∨ (q = p ∧ (g' < g ∨ (g' = g ∧ b ∉ l)))

def codeD (p g : ℕ) (l : List (Fin 3 × Fin 4 × Fin 2)) (x : S3x12x1024x128.Idx) : Prop :=
  bD p g l ((x 1).val / 2) ((x 2).val / 256) (Fin.ofNat 3 (x 0).val, Fin.ofNat 4 ((x 2).val % 256 / 64), Fin.ofNat 2 (x 1).val)

def sclD (p g : ℕ) (l : List (Fin 3 × Fin 4 × Fin 2)) (x : S3x12x16x128.Idx) : Prop :=
  bD p g l ((x 1).val / 2) ((x 2).val / 4) (Fin.ofNat 3 (x 0).val, Fin.ofNat 4 (x 2).val, Fin.ofNat 2 (x 1).val)

end Cert.KernelIdeal.Pf
-- ==== Proof.Ideal.StepPrep.lean ====
/- Preparing one chunk of weights: what the buffers hold before and after. -/
module

public import proofs.«01_k».proof.Proof.Ideal.Spec
public import Idealize.ShloMosaic.Lib.Pipeline.FrameSuffixV

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

/-- The algebra of the proof: the pipeline's, and the counters of the kernel's own copies. -/
local notation "𝕄" => MT nD τ sig Unit (Elt F) ℕ (Pipeline.UD sig nD τ) ℕ

/-- The core's thread. -/
abbrev th (c : Dev nD) : Thread nD τ := (c, Proc.tc)

/-- The elements of one staging slot. -/
def slotM (slot : ℕ) : Finset S6x256x1024.Idx := Finset.univ.filter (fun x => (x 0).val = slot)

variable {defs : Defs nD τ sig (Elt F) Λ₀} (𝒱 : Variants) (c : Dev nD) (bd : Option 𝒱.V) (E : Set ℕ) (I : Inp F)

/-! Coordinates of what is loaded and stored. -/

theorem slot_mem {slot g t k : Nat} (q : PrepAt slot g t k) (y) :
    (Rect.unit (s := S6x256x1024) q.o17 S1x16x1024.size q.h17).emb y ∈ slotM slot := by
  refine Finset.mem_filter.mpr ⟨Finset.mem_univ _, ?_⟩
  have h0 : (y 0).val < 1 := (y 0).isLt
  rw [emb_val' q.e17]
  show slot + (y 0).val = slot
  omega

theorem slot_val {slot g t k : Nat} (q : PrepAt slot g t k) (y) :
    wstS I t g ((Rect.unit (s := S6x256x1024) q.o17 S1x16x1024.size q.h17).emb y) = wChunk I t g k y := by
  unfold wstS wChunk
  refine congrArg (I.w t) (ix_congr ?_)
  rw [Fin.forall_fin_two]
  constructor
  · show 256 * g + _ = 256 * g + 16 * k + (y 1).val
    rw [emb_val' q.e17]
    show 256 * g + (16 * k + (y 1).val) = _
    omega
  · show (Rect.emb _ y 2).val = (y 2).val
    rw [emb_val' q.e17]
    show 0 + (y 2).val = _
    omega

theorem unit_zero_emb {s : Shape} {off : Fin s.rank → ℕ} {inb} (h : ∀ a, off a = 0) (y) :
    (Rect.unit (s := s) off s.size inb).emb y = y := by
  funext a
  apply Fin.ext
  rw [emb_val, h]
  exact Nat.zero_add _

theorem wp_val {slot g t k : Nat} (q : PrepAt slot g t k) (hk : k < 16) (s : Fin 3) (y) :
    (if s.val = 0 then k0_pay6 (F := F) else if s.val = 1 then k0_pay7 (F := F) else k0_pay8 (F := F)) (wChunk I t g k) I.g y
      = wpS I ((Rect.unit (s := S3x4x768x1024) (q.o18 s) S1x1x16x1024.size (q.h18 s)).emb y) := by
  have y0 : (y 0).val < 1 := (y 0).isLt
  have y1 : (y 1).val < 1 := (y 1).isLt
  have y2 : (y 2).val < 16 := (y 2).isLt
  have y3 : (y 3).val < 1024 := (y 3).isLt
  unfold wpS
  have e0 : ((Rect.unit (s := S3x4x768x1024) (q.o18 s) S1x1x16x1024.size (q.h18 s)).emb y 0).val = s.val := by
    rw [emb_val' (q.e18 _)]; show s.val + (y 0).val = _; omega
  have e1 : ((Rect.unit (s := S3x4x768x1024) (q.o18 s) S1x1x16x1024.size (q.h18 s)).emb y 1).val = g := by
    rw [emb_val' (q.e18 _)]; show g + (y 1).val = _; omega
  have e2 : ((Rect.unit (s := S3x4x768x1024) (q.o18 s) S1x1x16x1024.size (q.h18 s)).emb y 2).val = 16 * k + 256 * t + (y 2).val := by
    rw [emb_val' (q.e18 _)]; rfl
  have e3 : ((Rect.unit (s := S3x4x768x1024) (q.o18 s) S1x1x16x1024.size (q.h18 s)).emb y 3).val = (y 3).val := by
    rw [emb_val' (q.e18 _)]; show 0 + (y 3).val = _; omega
  rw [e0, e1, e2, e3, show (16 * k + 256 * t + (y 2).val) / 256 = t by omega,
    show (16 * k + 256 * t + (y 2).val) % 256 / 16 = k by omega, show (16 * k + 256 * t + (y 2).val) % 16 = (y 2).val by omega]
  refine congrArg _ (ix_eq ?_).symm
  rw [Fin.forall_fin_succ, Fin.forall_fin_succ, Fin.forall_fin_two]
  refine ⟨?_, ?_, rfl, rfl⟩
  · show 0 = (y 0).val; omega
  · show 0 = (y 1).val; omega

theorem wp_off {slot g t k : Nat} (q : PrepAt slot g t k) (ht : t < 3) (hk : k < 16) {n : ℕ} (hn : n = 16 * (3 * g + t) + k)
    (s : Fin 3) (x : S3x4x768x1024.Idx) (hx : wpD n (s.val + 1) x)
    (h : x ∉ (Rect.unit (s := S3x4x768x1024) (q.o18 s) S1x1x16x1024.size (q.h18 s)).set) : wpD n s.val x := by
  have x2 : (x 2).val < 768 := (x 2).isLt
  have x3 : (x 3).val < 1024 := (x 3).isLt
  rw [mem_set_unit' (q.e18 s), Fin.forall_fin_succ, Fin.forall_fin_succ, Fin.forall_fin_two] at h
  unfold wpD at hx ⊢
  rcases hx with hx | ⟨hx, hs⟩
  · exact .inl hx
  · refine .inr ⟨hx, ?_⟩
    by_contra hc
    apply h
    refine ⟨?_, ?_, ?_, ?_⟩
    · show s.val ≤ (x 0).val ∧ (x 0).val < s.val + 1; omega
    · show g ≤ (x 1).val ∧ (x 1).val < g + 1; omega
    · show 16 * k + 256 * t ≤ (x 2).val ∧ (x 2).val < 16 * k + 256 * t + 16; omega
    · show 0 ≤ (x 3).val ∧ (x 3).val < 0 + 1024; omega

theorem wpD_next {n : ℕ} (x : S3x4x768x1024.Idx) (hx : wpD (n + 1) 0 x) : wpD n 3 x := by
  have x0 : (x 0).val < 3 := (x 0).isLt
  unfold wpD at hx ⊢
  omega

theorem b_val {slot g t k : Nat} (q : PrepAt slot g t k) (y) :
    I.b t ((Rect.unit (s := S16x64) q.ob S1x64.size q.hb).emb y) = bRow I t g k y := by
  have y0 : (y 0).val < 1 := (y 0).isLt
  unfold bRow
  refine congrArg (I.b t) (ix_eq ?_).symm
  rw [Fin.forall_fin_two]
  rw [emb_val' q.eb, emb_val' q.eb]
  constructor
  · show 4 * g + k / 4 = 4 * g + k / 4 + (y 0).val; omega
  · show (y 1).val = 0 + (y 1).val; omega

/-- A chunk's rows of a buffer of sums. -/
theorem c_coords {slot g t k : Nat} (q : PrepAt slot g t k) (hk : k < 16) (y) :
    ((Rect.unit (s := S4x768x128) q.oc S1x16x128.size q.hc).emb y 0).val = g
    ∧ ((Rect.unit (s := S4x768x128) q.oc S1x16x128.size q.hc).emb y 1).val / 256 = t
    ∧ ((Rect.unit (s := S4x768x128) q.oc S1x16x128.size q.hc).emb y 1).val % 256 / 16 = k
    ∧ ix S1x16x128 ![0, ((Rect.unit (s := S4x768x128) q.oc S1x16x128.size q.hc).emb y 1).val % 16,
        ((Rect.unit (s := S4x768x128) q.oc S1x16x128.size q.hc).emb y 2).val] = y := by
  have y0 : (y 0).val < 1 := (y 0).isLt
  have y1 : (y 1).val < 16 := (y 1).isLt
  have e0 : ((Rect.unit (s := S4x768x128) q.oc S1x16x128.size q.hc).emb y 0).val = g := by
    rw [emb_val' q.ec]; show g + (y 0).val = _; omega
  have e1 : ((Rect.unit (s := S4x768x128) q.oc S1x16x128.size q.hc).emb y 1).val = 16 * k + 256 * t + (y 1).val := by
    rw [emb_val' q.ec]; rfl
  have e2 : ((Rect.unit (s := S4x768x128) q.oc S1x16x128.size q.hc).emb y 2).val = (y 2).val := by
    rw [emb_val' q.ec]; show 0 + (y 2).val = _; omega
  rw [e0, e1, e2]
  refine ⟨rfl, by omega, by omega, ix_eq ?_⟩
  rw [Fin.forall_fin_succ, Fin.forall_fin_two]
  refine ⟨?_, ?_, rfl⟩
  · show 0 = (y 0).val; omega
  · show (16 * k + 256 * t + (y 1).val) % 16 = (y 1).val; omega

theorem c_off {slot g t k : Nat} (q : PrepAt slot g t k) (ht : t < 3) (hk : k < 16) {n : ℕ} (hn : n = 16 * (3 * g + t) + k)
    (x : S4x768x128.Idx) (hx : cD (n + 1) x)
    (h : x ∉ (Rect.unit (s := S4x768x128) q.oc S1x16x128.size q.hc).set) : cD n x := by
  have x1 : (x 1).val < 768 := (x 1).isLt
  have x2 : (x 2).val < 128 := (x 2).isLt
  rw [mem_set_unit' q.ec, Fin.forall_fin_succ, Fin.forall_fin_two] at h
  unfold cD at hx ⊢
  by_contra hc
  apply h
  refine ⟨?_, ?_, ?_⟩
  · show g ≤ (x 0).val ∧ (x 0).val < g + 1; omega
  · show 16 * k + 256 * t ≤ (x 1).val ∧ (x 1).val < 16 * k + 256 * t + 16; omega
  · show 0 ≤ (x 2).val ∧ (x 2).val < 0 + 128; omega

theorem cs_val {slot g t k : Nat} (q : PrepAt slot g t k) (hk : k < 16) (y) :
    csPay (F := F) (wChunk I t g k) I.g y = csS I ((Rect.unit (s := S4x768x128) q.oc S1x16x128.size q.hc).emb y) := by
  obtain ⟨e0, e1, e2, e3⟩ := c_coords q hk y
  unfold csS
  rw [e0, e1, e2, e3]

theorem cb_val {slot g t k : Nat} (q : PrepAt slot g t k) (hk : k < 16) (y) :
    cbPay (F := F) q.word (wChunk I t g k) I.lb (bRow I t g k) y = cbS I ((Rect.unit (s := S4x768x128) q.oc S1x16x128.size q.hc).emb y) := by
  obtain ⟨e0, e1, e2, e3⟩ := c_coords q hk y
  unfold cbS
  rw [e0, e1, e2, e3, q.ew]

set_option maxHeartbeats 1000000 in
theorem wp_prep (arg2 arg3 : Memref sig .tc .vmem S1x1024 .f32) (argb : Memref sig .tc .vmem S16x64 .f32)
    (arg17 : Memref sig .tc .vmem S6x256x1024 .f32) (arg18 : Memref sig .tc .vmem S3x4x768x1024 .bf16) (harg18 : arg18.IsWhole)
    (arg19 arg20 : Memref sig .tc .vmem S4x768x128 .f32) {slot g t k : Nat} (q : PrepAt slot g t k)
    (ht : t < 3) (hk : k < 16) {n : ℕ} (hn : n = 16 * (3 * g + t) + k)
    {R : Unit → sProp (MT nD τ sig Unit (Elt F) ℕ (Pipeline.UD sig nD τ) ℕ)} :
    (iprop(Hold (th c) arg2 Finset.univ (fun _ => True) I.g ∗ Hold (th c) arg3 Finset.univ (fun _ => True) I.lb
      ∗ Hold (th c) argb Finset.univ (fun _ => True) (I.b t) ∗ Hold (th c) arg17 (slotM slot) (fun _ => True) (wstS I t g)
      ∗ Hold (th c) arg18 Finset.univ (wpD n 0) (wpS I) ∗ Hold (th c) arg19 Finset.univ (cD n) (csS I)
      ∗ Hold (th c) arg20 Finset.univ (cD n) (cbS I)) : sProp 𝕄)
    ⊢ iprop((iprop(Hold (th c) arg2 Finset.univ (fun _ => True) I.g ∗ Hold (th c) arg3 Finset.univ (fun _ => True) I.lb
      ∗ Hold (th c) argb Finset.univ (fun _ => True) (I.b t) ∗ Hold (th c) arg17 (slotM slot) (fun _ => True) (wstS I t g)
      ∗ Hold (th c) arg18 Finset.univ (wpD (n + 1) 0) (wpS I) ∗ Hold (th c) arg19 Finset.univ (cD (n + 1)) (csS I)
      ∗ Hold (th c) arg20 Finset.univ (cD (n + 1)) (cbS I)) -∗ R ⟨⟩)
      -∗ wp frame (wpE defs 𝒱 (th c) bd) E (prep (F := F) arg2 arg3 argb arg17 arg18 harg18 arg19 arg20 q) R) := by
  iintro ⟨H2, H3, Hb, H17, H18, H19, H20⟩ Hk
  unfold prep
  simp only [wp_bind]
  iapply (load_v 𝒱 (th c) bd E (wChunk I t g k) ?_ (fun _ => trivial) ?_) $$ H17
  · exact slot_mem q
  · exact slot_val I q
  iintro H17
  iapply (load_v 𝒱 (th c) bd E I.g (fun _ => Finset.mem_univ _) (fun _ => trivial) ?_) $$ H2
  · intro y; rw [unit_zero_emb (s := S1x1024)]; rw [Fin.forall_fin_two]; exact ⟨rfl, rfl⟩
  iintro H2
  iapply (load_dead_l 𝒱 (th c) bd E (fun _ => Finset.mem_univ _)) $$ H18
  iintro H18 %_
  iapply (store_l 𝒱 (th c) bd E (wpD n 1) (wpS I) (fun _ => Finset.mem_univ _) ?_ ?_) $$ H18
  · exact fun y _ => wp_val I q hk 0 y
  · exact fun x _ hx hn' => ⟨wp_off q ht hk hn 0 x hx hn', rfl⟩
  iintro H18
  iapply (load_dead_l 𝒱 (th c) bd E (fun _ => Finset.mem_univ _)) $$ H18
  iintro H18 %_
  iapply (store_l 𝒱 (th c) bd E (wpD n 2) (wpS I) (fun _ => Finset.mem_univ _) ?_ ?_) $$ H18
  · exact fun y _ => wp_val I q hk 1 y
  · exact fun x _ hx hn' => ⟨wp_off q ht hk hn 1 x hx hn', rfl⟩
  iintro H18
  iapply (load_dead_l 𝒱 (th c) bd E (fun _ => Finset.mem_univ _)) $$ H18
  iintro H18 %_
  iapply (store_l 𝒱 (th c) bd E (wpD (n + 1) 0) (wpS I) (fun _ => Finset.mem_univ _) ?_ ?_) $$ H18
  · exact fun y _ => wp_val I q hk 2 y
  · exact fun x _ hx hn' => ⟨wp_off q ht hk hn 2 x (wpD_next x hx) hn', rfl⟩
  iintro H18
  iapply (load_v 𝒱 (th c) bd E I.lb (fun _ => Finset.mem_univ _) (fun _ => trivial) ?_) $$ H3
  · intro y; rw [unit_zero_emb (s := S1x1024)]; rw [Fin.forall_fin_two]; exact ⟨rfl, rfl⟩
  iintro H3
  iapply (load_v 𝒱 (th c) bd E (bRow I t g k) (fun _ => Finset.mem_univ _) (fun _ => trivial) ?_) $$ Hb
  · exact b_val I q
  iintro Hb
  iapply (load_dead_l 𝒱 (th c) bd E (fun _ => Finset.mem_univ _)) $$ H19
  iintro H19 %_
  iapply (store_l 𝒱 (th c) bd E (cD (n + 1)) (csS I) (fun _ => Finset.mem_univ _) ?_ ?_) $$ H19
  · exact fun y _ => cs_val I q hk y
  · exact fun x _ hx hn' => ⟨c_off q ht hk hn x hx hn', rfl⟩
  iintro H19
  iapply (load_dead_l 𝒱 (th c) bd E (fun _ => Finset.mem_univ _)) $$ H20
  iintro H20 %_
  iapply (store_l 𝒱 (th c) bd E (cD (n + 1)) (cbS I) (fun _ => Finset.mem_univ _) ?_ ?_) $$ H20
  · exact fun y _ => cb_val I q hk y
  · exact fun x _ hx hn' => ⟨c_off q ht hk hn x hx hn', rfl⟩
  iintro H20
  iapply Hk
  isplitl [H2]; · iexact H2
  isplitl [H3]; · iexact H3
  isplitl [Hb]; · iexact Hb
  isplitl [H17]; · iexact H17
  isplitl [H18]; · iexact H18
  isplitl [H19]; · iexact H19
  iexact H20

end Cert.KernelIdeal.Pf
-- ==== Proof.Ideal.StepProject.lean ====
/- The statistics and the projection of one pair of batch rows: what the buffers hold before and after. -/
module

public import proofs.«01_k».proof.Proof.Ideal.StepPrep

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

/-- The rows of a pair of batch rows. -/
def xM (p : ℕ) : Finset S1536x1024.Idx := Finset.univ.filter (fun x => (x 0).val / 256 = p)

/-- The codes from pair `p` on. -/
def cM (p : ℕ) : Finset S3x12x1024x128.Idx := Finset.univ.filter (fun x => p ≤ (x 1).val / 2)

/-- Statistics filled before batch row `u` of the pair, and the first `s` of row `u`. -/
def stD (u s : ℕ) (x : S2x2x8x128.Idx) : Prop := (x 1).val < u ∨ ((x 1).val = u ∧ (x 0).val < s)

variable {defs : Defs nD τ sig (Elt F) Λ₀} (𝒱 : Variants) (c : Dev nD) (bd : Option 𝒱.V) (E : Set ℕ) (I : Inp F)

theorem trips13 (p : Fin k0_t13_loop.trips) : p.val < 6 := p.isLt
theorem trips14 (p : Fin k0_t14_loop.trips) : p.val < 2 := p.isLt
theorem trips15 (p : Fin k0_t15_loop.trips) : p.val < 4 := p.isLt

/-! ### Statistics -/

/-- The statistics of one batch row, as a program. -/
def stat (arg16 : Memref sig .tc .vmem S1536x1024 .bf16) (arg21 : Memref sig .tc .vmem S2x2x8x128 .f32)
    (p : Fin k0_t13_loop.trips) (u : Fin k0_t14_loop.trips) : Prog (TpuEff nD τ sig (Elt F) Λ₀ .tc) Unit := do
  let x : Vec F S128x1024 .bf16 ← Prog.lift (.load arg16 (Rect.unit (s := S1536x1024) (k0_off75 p u) S128x1024.size (k0_off75_inb p u)).toLoadRect (View.loadsAt_vmem h_S128x1024))
  let _ : Vec F S1x1x8x128 .f32 ← Prog.lift (.load arg21 (Rect.unit (s := S2x2x8x128) (k0_off76 u) S1x1x8x128.size (k0_off76_inb u)).toLoadRect (View.loadsAt_vmem h_S1x1x8x128))
  Prog.lift (.store arg21 (Rect.unit (s := S2x2x8x128) (k0_off76 u) S1x1x8x128.size (k0_off76_inb u)) (k0_pay399 x) Finset.univ (View.stores_vmem_bits_univ h_S1x1x8x128 rfl) (.inl rfl))
  let _ : Vec F S1x1x8x128 .f32 ← Prog.lift (.load arg21 (Rect.unit (s := S2x2x8x128) (k0_off77 u) S1x1x8x128.size (k0_off77_inb u)).toLoadRect (View.loadsAt_vmem h_S1x1x8x128))
  Prog.lift (.store arg21 (Rect.unit (s := S2x2x8x128) (k0_off77 u) S1x1x8x128.size (k0_off77_inb u)) (k0_pay400 x) Finset.univ (View.stores_vmem_bits_univ h_S1x1x8x128 rfl) (.inl rfl))

theorem x_mem (p : Fin k0_t13_loop.trips) (u : Fin k0_t14_loop.trips) (y) :
    (Rect.unit (s := S1536x1024) (k0_off75 p u) S128x1024.size (k0_off75_inb p u)).emb y ∈ xM p.val := by
  have hu := trips14 u
  have y0 : (y 0).val < 128 := (y 0).isLt
  refine Finset.mem_filter.mpr ⟨Finset.mem_univ _, ?_⟩
  rw [emb_val' (k0_off75_eq p u)]
  show (256 * p.val + 128 * u.val + (y 0).val) / 256 = p.val
  omega

theorem x_val (p : Fin k0_t13_loop.trips) (u : Fin k0_t14_loop.trips) (y) :
    I.x ((Rect.unit (s := S1536x1024) (k0_off75 p u) S128x1024.size (k0_off75_inb p u)).emb y) = xRows I p.val u.val y := by
  unfold xRows
  refine congrArg I.x (ix_eq ?_).symm
  rw [Fin.forall_fin_two, emb_val' (k0_off75_eq p u), emb_val' (k0_off75_eq p u)]
  refine ⟨rfl, ?_⟩
  show (y 1).val = 0 + (y 1).val
  omega

theorem st_val (p : ℕ) (u : ℕ) (s : Fin 2) {o} {inb} (ho : o = ![s.val, u, 0, 0]) (y) :
    (if s.val = 0 then k0_pay399 (F := F) else k0_pay400 (F := F)) (xRows I p u) y
      = stS I p ((Rect.unit (s := S2x2x8x128) o S1x1x8x128.size inb).emb y) := by
  have y0 : (y 0).val < 1 := (y 0).isLt
  have y1 : (y 1).val < 1 := (y 1).isLt
  have e0 : ((Rect.unit (s := S2x2x8x128) o S1x1x8x128.size inb).emb y 0).val = s.val := by
    rw [emb_val' ho]; show s.val + (y 0).val = _; omega
  have e1 : ((Rect.unit (s := S2x2x8x128) o S1x1x8x128.size inb).emb y 1).val = u := by
    rw [emb_val' ho]; show u + (y 1).val = _; omega
  have e2 : ((Rect.unit (s := S2x2x8x128) o S1x1x8x128.size inb).emb y 2).val = (y 2).val := by
    rw [emb_val' ho]; show 0 + (y 2).val = _; omega
  have e3 : ((Rect.unit (s := S2x2x8x128) o S1x1x8x128.size inb).emb y 3).val = (y 3).val := by
    rw [emb_val' ho]; show 0 + (y 3).val = _; omega
  unfold stS
  rw [e0, e1, e2, e3]
  refine congrArg _ (ix_eq ?_).symm
  rw [Fin.forall_fin_succ, Fin.forall_fin_succ, Fin.forall_fin_two]
  refine ⟨?_, ?_, rfl, rfl⟩
  · show 0 = (y 0).val; omega
  · show 0 = (y 1).val; omega

theorem st_off (u : ℕ) (s : Fin 2) {o} {inb} (ho : o = ![s.val, u, 0, 0]) (x : S2x2x8x128.Idx) (hx : stD u (s.val + 1) x)
    (h : x ∉ (Rect.unit (s := S2x2x8x128) o S1x1x8x128.size inb).set) : stD u s.val x := by
  have x2 : (x 2).val < 8 := (x 2).isLt
  have x3 : (x 3).val < 128 := (x 3).isLt
  rw [mem_set_unit' ho, Fin.forall_fin_succ, Fin.forall_fin_succ, Fin.forall_fin_two] at h
  unfold stD at hx ⊢
  by_contra hc
  apply h
  refine ⟨?_, ?_, ?_, ?_⟩
  · show s.val ≤ (x 0).val ∧ (x 0).val < s.val + 1; omega
  · show u ≤ (x 1).val ∧ (x 1).val < u + 1; omega
  · show 0 ≤ (x 2).val ∧ (x 2).val < 0 + 8; omega
  · show 0 ≤ (x 3).val ∧ (x 3).val < 0 + 128; omega

theorem stD_next {u : ℕ} (x : S2x2x8x128.Idx) (hx : stD (u + 1) 0 x) : stD u 2 x := by
  have x0 : (x 0).val < 2 := (x 0).isLt
  unfold stD at hx ⊢
  omega

theorem wp_stat (arg16 : Memref sig .tc .vmem S1536x1024 .bf16) (arg21 : Memref sig .tc .vmem S2x2x8x128 .f32)
    (p : Fin k0_t13_loop.trips) (u : Fin k0_t14_loop.trips) {R : Unit → sProp (MT nD τ sig Unit (Elt F) ℕ (Pipeline.UD sig nD τ) ℕ)} :
    (iprop(Hold (th c) arg16 (xM p.val) (fun _ => True) I.x ∗ Hold (th c) arg21 Finset.univ (stD u.val 0) (stS I p.val)) : sProp 𝕄)
    ⊢ iprop((iprop(Hold (th c) arg16 (xM p.val) (fun _ => True) I.x ∗ Hold (th c) arg21 Finset.univ (stD (u.val + 1) 0) (stS I p.val)) -∗ R ⟨⟩)
      -∗ wp frame (wpE defs 𝒱 (th c) bd) E (stat (F := F) arg16 arg21 p u) R) := by
  iintro ⟨H16, H21⟩ Hk
  unfold stat
  simp only [wp_bind]
  iapply (load_v 𝒱 (th c) bd E (xRows I p.val u.val) (x_mem p u) (fun _ => trivial) (x_val I p u)) $$ H16
  iintro H16
  iapply (load_dead_l 𝒱 (th c) bd E (fun _ => Finset.mem_univ _)) $$ H21
  iintro H21 %_
  iapply (store_l 𝒱 (th c) bd E (stD u.val 1) (stS I p.val) (fun _ => Finset.mem_univ _) ?_ ?_) $$ H21
  · exact fun y _ => st_val I p.val u.val 0 (k0_off76_eq u) y
  · exact fun x _ hx hn => ⟨st_off u.val 0 (k0_off76_eq u) x hx hn, rfl⟩
  iintro H21
  iapply (load_dead_l 𝒱 (th c) bd E (fun _ => Finset.mem_univ _)) $$ H21
  iintro H21 %_
  iapply (store_l 𝒱 (th c) bd E (stD (u.val + 1) 0) (stS I p.val) (fun _ => Finset.mem_univ _) ?_ ?_) $$ H21
  · exact fun y _ => st_val I p.val u.val 1 (k0_off77_eq u) y
  · exact fun x _ hx hn => ⟨st_off u.val 1 (k0_off77_eq u) x (stD_next x hx) hn, rfl⟩
  iintro H21
  iapply Hk
  isplitl [H16]; · iexact H16
  iexact H21

/-! ### Blocks -/

theorem offC_eq (g : Fin k0_t15_loop.trips) (t : Fin 3) (hh : Fin 4) : offC g t hh = ![g.val, 256 * t.val + 64 * hh.val, 0] := by
  revert g t hh; decide +kernel

theorem off22_eq (p : Fin k0_t13_loop.trips) (g : Fin k0_t15_loop.trips) (t : Fin 3) (hh : Fin 4) (u : Fin 2) :
    off22 p g t hh u = ![t.val, 2 * p.val + u.val, 256 * g.val + 64 * hh.val, 0] := by
  revert p g t hh u; decide +kernel

theorem off23_eq (p : Fin k0_t13_loop.trips) (g : Fin k0_t15_loop.trips) (t : Fin 3) (hh : Fin 4) (u : Fin 2) :
    off23 p g t hh u = ![t.val, 2 * p.val + u.val, 4 * g.val + hh.val, 0] := by
  revert p g t hh u; decide +kernel

theorem rows_val {g t hh : ℕ} (ht : t < 3) (hh4 : hh < 4) (S : S4x768x128.Idx → Elt F .f32) {o} {inb} (ho : o = ![g, 256 * t + 64 * hh, 0]) (y) :
    S ((Rect.unit (s := S4x768x128) o S1x64x128.size inb).emb y) = S (ix S4x768x128 ![g, 256 * t + 64 * hh + (y 1).val, (y 2).val]) := by
  have y0 : (y 0).val < 1 := (y 0).isLt
  refine congrArg S (ix_eq ?_).symm
  rw [Fin.forall_fin_succ, Fin.forall_fin_two, emb_val' ho]
  refine ⟨?_, ?_, ?_⟩
  · show g = g + (y 0).val; omega
  · show _ = (Rect.emb _ y 1).val; rw [emb_val' ho]; rfl
  · show _ = (Rect.emb _ y 2).val; rw [emb_val' ho]; show (y 2).val = 0 + (y 2).val; omega

theorem stRow_val (p s u : ℕ) {o} {inb} (ho : o = ![s, u, 0, 0]) (y) :
    stS I p ((Rect.unit (s := S2x2x8x128) o S1x1x8x128.size inb).emb y) = stRow I s p u y := by
  have y0 : (y 0).val < 1 := (y 0).isLt
  have y1 : (y 1).val < 1 := (y 1).isLt
  refine congrArg (stS I p) (ix_eq ?_).symm
  rw [Fin.forall_fin_succ, Fin.forall_fin_succ, Fin.forall_fin_two, emb_val' ho]
  refine ⟨?_, ?_, ?_, ?_⟩
  · show s = s + (y 0).val; omega
  · show _ = (Rect.emb _ y 1).val; rw [emb_val' ho]; show u = u + (y 1).val; omega
  · show _ = (Rect.emb _ y 2).val; rw [emb_val' ho]; show (y 2).val = 0 + (y 2).val; omega
  · show _ = (Rect.emb _ y 3).val; rw [emb_val' ho]; show (y 3).val = 0 + (y 3).val; omega

theorem ofNat_val {n : ℕ} [NeZero n] (t : Fin n) : Fin.ofNat n t.val = t := by
  apply Fin.ext; exact Nat.mod_eq_of_lt t.isLt

theorem code_val (p g : ℕ) (t : Fin 3) (hh : Fin 4) (u : Fin 2) {o} {inb}
    (ho : o = ![t.val, 2 * p + u.val, 256 * g + 64 * hh.val, 0]) (y) :
    blockCode (F := F) (bV I p g t hh u) (bX I p g t hh u) y
      = codeS I ((Rect.unit (s := S3x12x1024x128) o S1x1x64x128.size inb).emb y) := by
  have y0 : (y 0).val < 1 := (y 0).isLt
  have y1 : (y 1).val < 1 := (y 1).isLt
  have y2 : (y 2).val < 64 := (y 2).isLt
  have hu := u.isLt
  have hhl := hh.isLt
  have e0 : ((Rect.unit (s := S3x12x1024x128) o S1x1x64x128.size inb).emb y 0).val = t.val := by
    rw [emb_val' ho]; show t.val + (y 0).val = _; omega
  have e1 : ((Rect.unit (s := S3x12x1024x128) o S1x1x64x128.size inb).emb y 1).val = 2 * p + u.val := by
    rw [emb_val' ho]; show 2 * p + u.val + (y 1).val = _; omega
  have e2 : ((Rect.unit (s := S3x12x1024x128) o S1x1x64x128.size inb).emb y 2).val = 256 * g + 64 * hh.val + (y 2).val := by
    rw [emb_val' ho]; rfl
  have e3 : ((Rect.unit (s := S3x12x1024x128) o S1x1x64x128.size inb).emb y 3).val = (y 3).val := by
    rw [emb_val' ho]; show 0 + (y 3).val = _; omega
  unfold codeS
  rw [e0, e1, e2, e3]
  have f1 : (2 * p + u.val) / 2 = p := by omega
  have f2 : (256 * g + 64 * hh.val + (y 2).val) / 256 = g := by omega
  have f3 : (256 * g + 64 * hh.val + (y 2).val) % 256 / 64 = hh.val := by omega
  have f4 : (256 * g + 64 * hh.val + (y 2).val) % 64 = (y 2).val := by omega
  have f5 : Fin.ofNat 2 (2 * p + u.val) = u := by apply Fin.ext; show (2 * p + u.val) % 2 = u.val; omega
  rw [f1, f2, f3, f4, f5, ofNat_val, ofNat_val]
  refine congrArg _ (ix_eq ?_).symm
  rw [Fin.forall_fin_succ, Fin.forall_fin_succ, Fin.forall_fin_two]
  refine ⟨?_, ?_, rfl, rfl⟩
  · show 0 = (y 0).val; omega
  · show 0 = (y 1).val; omega

theorem scl_val (p g : ℕ) (t : Fin 3) (hh : Fin 4) (u : Fin 2) {o} {inb}
    (ho : o = ![t.val, 2 * p + u.val, 4 * g + hh.val, 0]) (y) :
    blockScl (F := F) (bX I p g t hh u) y
      = sclS I ((Rect.unit (s := S3x12x16x128) o S1x1x1x128.size inb).emb y) := by
  have y0 : (y 0).val < 1 := (y 0).isLt
  have y1 : (y 1).val < 1 := (y 1).isLt
  have y2 : (y 2).val < 1 := (y 2).isLt
  have hu := u.isLt
  have hhl := hh.isLt
  have e0 : ((Rect.unit (s := S3x12x16x128) o S1x1x1x128.size inb).emb y 0).val = t.val := by
    rw [emb_val' ho]; show t.val + (y 0).val = _; omega
  have e1 : ((Rect.unit (s := S3x12x16x128) o S1x1x1x128.size inb).emb y 1).val = 2 * p + u.val := by
    rw [emb_val' ho]; show 2 * p + u.val + (y 1).val = _; omega
  have e2 : ((Rect.unit (s := S3x12x16x128) o S1x1x1x128.size inb).emb y 2).val = 4 * g + hh.val := by
    rw [emb_val' ho]; show 4 * g + hh.val + (y 2).val = _; omega
  have e3 : ((Rect.unit (s := S3x12x16x128) o S1x1x1x128.size inb).emb y 3).val = (y 3).val := by
    rw [emb_val' ho]; show 0 + (y 3).val = _; omega
  unfold sclS
  rw [e0, e1, e2, e3]
  have f1 : (2 * p + u.val) / 2 = p := by omega
  have f2 : (4 * g + hh.val) / 4 = g := by omega
  have f3 : Fin.ofNat 4 (4 * g + hh.val) = hh := by apply Fin.ext; show (4 * g + hh.val) % 4 = hh.val; omega
  have f5 : Fin.ofNat 2 (2 * p + u.val) = u := by apply Fin.ext; show (2 * p + u.val) % 2 = u.val; omega
  rw [f1, f2, f3, f5, ofNat_val]
  refine congrArg _ (ix_eq ?_).symm
  rw [Fin.forall_fin_succ, Fin.forall_fin_succ, Fin.forall_fin_two]
  refine ⟨?_, ?_, ?_, rfl⟩
  · show 0 = (y 0).val; omega
  · show 0 = (y 1).val; omega
  · show 0 = (y 2).val; omega

theorem bD_step {p g : ℕ} {b : Fin 3 × Fin 4 × Fin 2} {l} {q g' : ℕ} {b'} (h : bD p g l q g' b') (hne : ¬ (q = p ∧ g' = g ∧ b' = b)) :
    bD p g (b :: l) q g' b' := by
  unfold bD at h ⊢
  rcases h with h | ⟨h1, h | ⟨h2, h3⟩⟩
  · exact .inl h
  · exact .inr ⟨h1, .inl h⟩
  · refine .inr ⟨h1, .inr ⟨h2, ?_⟩⟩
    rw [List.mem_cons]
    rintro (h4 | h4)
    · exact hne ⟨h1, h2, h4⟩
    · exact h3 h4

theorem code_off {p g : ℕ} {b : Fin 3 × Fin 4 × Fin 2} {l} {o} {inb}
    (ho : o = ![b.1.val, 2 * p + b.2.2.val, 256 * g + 64 * b.2.1.val, 0]) (x : S3x12x1024x128.Idx) (hx : codeD p g l x)
    (h : x ∉ (Rect.unit (s := S3x12x1024x128) o S1x1x64x128.size inb).set) : codeD p g (b :: l) x := by
  have x0 : (x 0).val < 3 := (x 0).isLt
  have x3 : (x 3).val < 128 := (x 3).isLt
  refine bD_step hx ?_
  rintro ⟨h1, h2, h3⟩
  have h4 : (x 0).val % 3 = b.1.val := congrArg (fun z => z.1.val) h3
  have h5 : ((x 2).val % 256 / 64) % 4 = b.2.1.val := congrArg (fun z => z.2.1.val) h3
  have h6 : (x 1).val % 2 = b.2.2.val := congrArg (fun z => z.2.2.val) h3
  rw [mem_set_unit' ho, Fin.forall_fin_succ, Fin.forall_fin_succ, Fin.forall_fin_two] at h
  apply h
  refine ⟨?_, ?_, ?_, ?_⟩
  · show b.1.val ≤ (x 0).val ∧ (x 0).val < b.1.val + 1; omega
  · show 2 * p + b.2.2.val ≤ (x 1).val ∧ (x 1).val < 2 * p + b.2.2.val + 1; omega
  · show 256 * g + 64 * b.2.1.val ≤ (x 2).val ∧ (x 2).val < 256 * g + 64 * b.2.1.val + 64; omega
  · show 0 ≤ (x 3).val ∧ (x 3).val < 0 + 128; omega

theorem scl_off {p g : ℕ} {b : Fin 3 × Fin 4 × Fin 2} {l} {o} {inb}
    (ho : o = ![b.1.val, 2 * p + b.2.2.val, 4 * g + b.2.1.val, 0]) (x : S3x12x16x128.Idx) (hx : sclD p g l x)
    (h : x ∉ (Rect.unit (s := S3x12x16x128) o S1x1x1x128.size inb).set) : sclD p g (b :: l) x := by
  have x0 : (x 0).val < 3 := (x 0).isLt
  have x3 : (x 3).val < 128 := (x 3).isLt
  refine bD_step hx ?_
  rintro ⟨h1, h2, h3⟩
  have h4 : (x 0).val % 3 = b.1.val := congrArg (fun z => z.1.val) h3
  have h5 : (x 2).val % 4 = b.2.1.val := congrArg (fun z => z.2.1.val) h3
  have h6 : (x 1).val % 2 = b.2.2.val := congrArg (fun z => z.2.2.val) h3
  rw [mem_set_unit' ho, Fin.forall_fin_succ, Fin.forall_fin_succ, Fin.forall_fin_two] at h
  apply h
  refine ⟨?_, ?_, ?_, ?_⟩
  · show b.1.val ≤ (x 0).val ∧ (x 0).val < b.1.val + 1; omega
  · show 2 * p + b.2.2.val ≤ (x 1).val ∧ (x 1).val < 2 * p + b.2.2.val + 1; omega
  · show 4 * g + b.2.1.val ≤ (x 2).val ∧ (x 2).val < 4 * g + b.2.1.val + 1; omega
  · show 0 ≤ (x 3).val ∧ (x 3).val < 0 + 128; omega

theorem n_val (p : Fin k0_t13_loop.trips) (u : Fin 2) (y) :
    I.n ((Rect.unit (s := S12) (k0_off83 p (BitVec.ofNat 32 u.val)) S1.size (k0_off83_inb p u)).emb y) = I.n (ix S12 ![2 * p.val + u.val]) := by
  have y0 : (y 0).val < 1 := (y 0).isLt
  refine congrArg I.n (ix_eq ?_).symm
  rw [Fin.forall_fin_one, emb_val' (k0_off83_eq p u)]
  show 2 * p.val + u.val = 2 * p.val + u.val + (y 0).val
  omega

theorem code_mem (p g : ℕ) (t : Fin 3) (hh : Fin 4) (u : Fin 2) {o} {inb}
    (ho : o = ![t.val, 2 * p + u.val, 256 * g + 64 * hh.val, 0]) (y) :
    (Rect.unit (s := S3x12x1024x128) o S1x1x64x128.size inb).emb y ∈ cM p := by
  refine Finset.mem_filter.mpr ⟨Finset.mem_univ _, ?_⟩
  rw [emb_val' ho]
  show p ≤ (2 * p + u.val + (y 1).val) / 2
  omega

/-- One block. -/
theorem wp_block (arg0 : Memref sig .tc .smem S12 .i32) (arg19 arg20 : Memref sig .tc .vmem S4x768x128 .f32)
    (arg21 : Memref sig .tc .vmem S2x2x8x128 .f32) (arg22 : Memref sig .tc .vmem S3x12x1024x128 .fp8e4m3) (harg22 : arg22.IsWhole)
    (arg23 : Memref sig .tc .vmem S3x12x16x128 .f32) (p : Fin k0_t13_loop.trips) (g : Fin k0_t15_loop.trips)
    (b : Fin 3 × Fin 4 × Fin 2) (l : List (Fin 3 × Fin 4 × Fin 2)) {R : Unit → sProp (MT nD τ sig Unit (Elt F) ℕ (Pipeline.UD sig nD τ) ℕ)} :
    (iprop((Hold (th c) arg0 Finset.univ (fun _ => True) I.n ∗ Hold (th c) arg19 Finset.univ (fun _ => True) (csS I)
        ∗ Hold (th c) arg20 Finset.univ (fun _ => True) (cbS I) ∗ Hold (th c) arg21 Finset.univ (fun _ => True) (stS I p.val))
      ∗ Hold (th c) arg22 (cM p.val) (codeD p.val g.val (b :: l)) (codeS I) ∗ Hold (th c) arg23 Finset.univ (sclD p.val g.val (b :: l)) (sclS I)) : sProp 𝕄)
    ⊢ iprop((iprop((Hold (th c) arg0 Finset.univ (fun _ => True) I.n ∗ Hold (th c) arg19 Finset.univ (fun _ => True) (csS I)
        ∗ Hold (th c) arg20 Finset.univ (fun _ => True) (cbS I) ∗ Hold (th c) arg21 Finset.univ (fun _ => True) (stS I p.val))
      ∗ Hold (th c) arg22 (cM p.val) (codeD p.val g.val l) (codeS I) ∗ Hold (th c) arg23 Finset.univ (sclD p.val g.val l) (sclS I)) -∗ R ⟨⟩)
      -∗ wp frame (wpE defs 𝒱 (th c) bd) E (blockAt (F := F) arg0 arg19 arg20 arg21 arg22 harg22 arg23 lane p g (accS I p.val g.val) b) R) := by
  iintro ⟨⟨H0, H19, H20, H21⟩, H22, H23⟩ Hk
  unfold blockAt block
  simp only [wp_bind]
  iapply (load_v 𝒱 (th c) bd E (csRows I b.1 g.val b.2.1) (fun _ => Finset.mem_univ _) (fun _ => trivial) (rows_val b.1.isLt b.2.1.isLt (csS I) (offC_eq g b.1 b.2.1))) $$ H19
  iintro H19
  iapply (load_v 𝒱 (th c) bd E (cbRows I b.1 g.val b.2.1) (fun _ => Finset.mem_univ _) (fun _ => trivial) (rows_val b.1.isLt b.2.1.isLt (cbS I) (offC_eq g b.1 b.2.1))) $$ H20
  iintro H20
  iapply (load_v 𝒱 (th c) bd E (stRow I 0 p.val b.2.2.val) (fun _ => Finset.mem_univ _) (fun _ => trivial) (stRow_val I p.val 0 b.2.2.val rfl)) $$ H21
  iintro H21
  iapply (load_v 𝒱 (th c) bd E (stRow I 1 p.val b.2.2.val) (fun _ => Finset.mem_univ _) (fun _ => trivial) (stRow_val I p.val 1 b.2.2.val rfl)) $$ H21
  iintro H21
  iapply (smem_l 𝒱 (th c) bd E (fun _ => Finset.mem_univ _) (fun _ => trivial)) $$ H0
  iintro H0
  rw [n_val I p b.2.2]
  iapply (load_dead_l 𝒱 (th c) bd E (code_mem p.val g.val b.1 b.2.1 b.2.2 (off22_eq p g b.1 b.2.1 b.2.2))) $$ H22
  iintro H22 %_
  iapply (store_l 𝒱 (th c) bd E (codeD p.val g.val l) (codeS I) (code_mem p.val g.val b.1 b.2.1 b.2.2 (off22_eq p g b.1 b.2.1 b.2.2)) ?_ ?_) $$ H22
  · exact fun y _ => code_val I p.val g.val b.1 b.2.1 b.2.2 (off22_eq p g b.1 b.2.1 b.2.2) y
  · exact fun x _ hx hn => ⟨code_off (off22_eq p g b.1 b.2.1 b.2.2) x hx hn, rfl⟩
  iintro H22
  iapply (load_dead_l 𝒱 (th c) bd E (fun _ => Finset.mem_univ _)) $$ H23
  iintro H23 %_
  iapply (store_l 𝒱 (th c) bd E (sclD p.val g.val l) (sclS I) (fun _ => Finset.mem_univ _) ?_ ?_) $$ H23
  · exact fun y _ => scl_val I p.val g.val b.1 b.2.1 b.2.2 (off23_eq p g b.1 b.2.1 b.2.2) y
  · exact fun x _ hx hn => ⟨scl_off (off23_eq p g b.1 b.2.1 b.2.2) x hx hn, rfl⟩
  iintro H23
  iapply Hk
  isplitl [H0 H19 H20 H21]
  · isplitl [H0]; · iexact H0
    isplitl [H19]; · iexact H19
    isplitl [H20]; · iexact H20
    iexact H21
  isplitl [H22]; · iexact H22
  iexact H23

end Cert.KernelIdeal.Pf
-- ==== Proof.Ideal.StepGroups.lean ====
/- One pass of the projection loop, and the two inner loops of a pair of batch rows. -/
module

public import proofs.«01_k».proof.Proof.Ideal.StepProject

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-! ### The blocks of one group -/

/-- What the blocks only read. -/
def rdB (arg0 : Memref sig .tc .smem S12 .i32) (arg19 arg20 : Memref sig .tc .vmem S4x768x128 .f32)
    (arg21 : Memref sig .tc .vmem S2x2x8x128 .f32) (p : ℕ) : sProp 𝕄 :=
  iprop(Hold (th c) arg0 Finset.univ (fun _ => True) I.n ∗ Hold (th c) arg19 Finset.univ (fun _ => True) (csS I)
    ∗ Hold (th c) arg20 Finset.univ (fun _ => True) (cbS I) ∗ Hold (th c) arg21 Finset.univ (fun _ => True) (stS I p))

theorem wp_runBlocks (arg0 : Memref sig .tc .smem S12 .i32) (arg19 arg20 : Memref sig .tc .vmem S4x768x128 .f32)
    (arg21 : Memref sig .tc .vmem S2x2x8x128 .f32) (arg22 : Memref sig .tc .vmem S3x12x1024x128 .fp8e4m3) (harg22 : arg22.IsWhole)
    (arg23 : Memref sig .tc .vmem S3x12x16x128 .f32) (p : Fin k0_t13_loop.trips) (g : Fin k0_t15_loop.trips) :
    ∀ (l : List (Fin 3 × Fin 4 × Fin 2)) {R : Unit → sProp (MT nD τ sig Unit (Elt F) ℕ (Pipeline.UD sig nD τ) ℕ)},
    (iprop(rdB c I arg0 arg19 arg20 arg21 p.val
      ∗ Hold (th c) arg22 (cM p.val) (codeD p.val g.val l) (codeS I) ∗ Hold (th c) arg23 Finset.univ (sclD p.val g.val l) (sclS I)) : sProp 𝕄)
    ⊢ iprop((iprop(rdB c I arg0 arg19 arg20 arg21 p.val
      ∗ Hold (th c) arg22 (cM p.val) (codeD p.val g.val []) (codeS I) ∗ Hold (th c) arg23 Finset.univ (sclD p.val g.val []) (sclS I)) -∗ R ⟨⟩)
      -∗ wp frame (wpE defs 𝒱 (th c) bd) E
        (runBlocks (blockAt (F := F) arg0 arg19 arg20 arg21 arg22 harg22 arg23 lane p g (accS I p.val g.val)) l) R)
  | [], R => by
    iintro H Hk
    unfold runBlocks
    iapply (show R ⟨⟩ ⊢ wp frame (wpE defs 𝒱 (th c) bd) E (Prog.ret ⟨⟩) R from BI.fupd_intro)
    iapply Hk
    iexact H
  | b :: l, R => by
    iintro H Hk
    unfold runBlocks
    rw [wp_bind]
    iapply (wp_block 𝒱 c bd E I arg0 arg19 arg20 arg21 arg22 harg22 arg23 p g b l) $$ [H]
    · iexact H
    iintro H
    iapply (wp_runBlocks arg0 arg19 arg20 arg21 arg22 harg22 arg23 p g l) $$ [H]
    · iexact H
    iexact Hk

theorem mem_allBlocks : ∀ b, b ∈ allBlocks := by decide

theorem bD_all {p g q g' : ℕ} {b} (h : bD p (g + 1) allBlocks q g' b) : bD p g [] q g' b := by
  unfold bD at h ⊢
  have := mem_allBlocks b
  rcases h with h | ⟨h1, h | ⟨h2, h3⟩⟩
  · exact Or.inl h
  · rcases Nat.lt_succ_iff_lt_or_eq.mp h with h | h
    · exact Or.inr ⟨h1, Or.inl h⟩
    · exact Or.inr ⟨h1, Or.inr ⟨h, List.not_mem_nil⟩⟩
  · exact absurd this h3

/-- After the fourth group the pair is done. -/
theorem bD_pair {p q g' : ℕ} {b} (hg : g' < 4) (h : bD (p + 1) 0 allBlocks q g' b) : bD p 4 allBlocks q g' b := by
  unfold bD at h ⊢
  have := mem_allBlocks b
  rcases h with h | ⟨h1, h | ⟨h2, h3⟩⟩
  · rcases Nat.lt_succ_iff_lt_or_eq.mp h with h | h
    · exact Or.inl h
    · exact Or.inr ⟨h, Or.inl hg⟩
  · omega
  · exact absurd this h3

theorem xBlk_mem (p : Fin k0_t13_loop.trips) (y) :
    (Rect.unit (s := S1536x1024) (k0_off78 p) S256x1024.size (k0_off78_inb p)).emb y ∈ xM p.val := by
  have y0 : (y 0).val < 256 := (y 0).isLt
  refine Finset.mem_filter.mpr ⟨Finset.mem_univ _, ?_⟩
  rw [emb_val' (k0_off78_eq p)]
  show (256 * p.val + (y 0).val) / 256 = p.val
  omega

theorem xBlk_val (p : Fin k0_t13_loop.trips) (y) :
    I.x ((Rect.unit (s := S1536x1024) (k0_off78 p) S256x1024.size (k0_off78_inb p)).emb y) = xBlk I p.val y := by
  refine congrArg I.x (ix_eq ?_).symm
  rw [Fin.forall_fin_two, emb_val' (k0_off78_eq p), emb_val' (k0_off78_eq p)]
  exact ⟨rfl, (Nat.zero_add _).symm⟩

theorem wAll_val {s g : ℕ} {o} {inb} (ho : o = ![s, g, 0, 0]) (y) :
    wpS I ((Rect.unit (s := S3x4x768x1024) o S1x1x768x1024.size inb).emb y) = wAll I s g y := by
  have y0 : (y 0).val < 1 := (y 0).isLt
  have y1 : (y 1).val < 1 := (y 1).isLt
  refine congrArg (wpS I) (ix_eq ?_).symm
  intro a
  rw [emb_val' (s := S3x4x768x1024) ho]
  revert a
  rw [Fin.forall_fin_succ, Fin.forall_fin_succ, Fin.forall_fin_two]
  refine ⟨?_, ?_, (Nat.zero_add _).symm, (Nat.zero_add _).symm⟩
  · show s = s + (y 0).val; omega
  · show g = g + (y 1).val; omega

/-- One group of one pair. -/
theorem wp_projBody (arg0 : Memref sig .tc .smem S12 .i32) (arg16 : Memref sig .tc .vmem S1536x1024 .bf16)
    (arg18 : Memref sig .tc .vmem S3x4x768x1024 .bf16) (arg19 arg20 : Memref sig .tc .vmem S4x768x128 .f32)
    (arg21 : Memref sig .tc .vmem S2x2x8x128 .f32) (arg22 : Memref sig .tc .vmem S3x12x1024x128 .fp8e4m3) (harg22 : arg22.IsWhole)
    (arg23 : Memref sig .tc .vmem S3x12x16x128 .f32) (p : Fin k0_t13_loop.trips) (g : Fin k0_t15_loop.trips)
    {R : Unit → sProp (MT nD τ sig Unit (Elt F) ℕ (Pipeline.UD sig nD τ) ℕ)} :
    (iprop(Hold (th c) arg16 (xM p.val) (fun _ => True) I.x ∗ Hold (th c) arg18 Finset.univ (fun _ => True) (wpS I)
      ∗ rdB c I arg0 arg19 arg20 arg21 p.val
      ∗ Hold (th c) arg22 (cM p.val) (codeD p.val g.val allBlocks) (codeS I) ∗ Hold (th c) arg23 Finset.univ (sclD p.val g.val allBlocks) (sclS I)) : sProp 𝕄)
    ⊢ iprop((iprop(Hold (th c) arg16 (xM p.val) (fun _ => True) I.x ∗ Hold (th c) arg18 Finset.univ (fun _ => True) (wpS I)
      ∗ rdB c I arg0 arg19 arg20 arg21 p.val
      ∗ Hold (th c) arg22 (cM p.val) (codeD p.val (g.val + 1) allBlocks) (codeS I) ∗ Hold (th c) arg23 Finset.univ (sclD p.val (g.val + 1) allBlocks) (sclS I)) -∗ R ⟨⟩)
      -∗ wp frame (wpE defs 𝒱 (th c) bd) E
        (projBody (F := F) arg0 arg16 arg18 arg19 arg20 arg21 arg22 harg22 arg23 lane p g) R) := by
  iintro ⟨H16, H18, HR, H22, H23⟩ Hk
  unfold projBody
  simp only [wp_bind]
  iapply (load_v 𝒱 (th c) bd E (xBlk I p.val) (xBlk_mem p) (fun _ => trivial) (xBlk_val I p)) $$ H16
  iintro H16
  iapply (load_v 𝒱 (th c) bd E (wAll I 0 g.val) (fun _ => Finset.mem_univ _) (fun _ => trivial) (wAll_val I (k0_off79_eq g))) $$ H18
  iintro H18
  iapply (load_v 𝒱 (th c) bd E (wAll I 1 g.val) (fun _ => Finset.mem_univ _) (fun _ => trivial) (wAll_val I (k0_off80_eq g))) $$ H18
  iintro H18
  iapply (load_v 𝒱 (th c) bd E (wAll I 2 g.val) (fun _ => Finset.mem_univ _) (fun _ => trivial) (wAll_val I (k0_off81_eq g))) $$ H18
  iintro H18
  iapply (wp_runBlocks 𝒱 c bd E I arg0 arg19 arg20 arg21 arg22 harg22 arg23 p g allBlocks) $$ [HR H22 H23]
  · isplitl [HR]; · iexact HR
    isplitl [H22]; · iexact H22
    iexact H23
  iintro ⟨HR, H22, H23⟩
  iapply Hk
  isplitl [H16]; · iexact H16
  isplitl [H18]; · iexact H18
  isplitl [HR]; · iexact HR
  isplitl [H22]
  · iapply (weaken (P := codeD p.val g.val []) (P' := codeD p.val (g.val + 1) allBlocks) fun x h => bD_all h) $$ H22
  iapply (weaken (P := sclD p.val g.val []) (P' := sclD p.val (g.val + 1) allBlocks) fun x h => bD_all h) $$ H23

/-! ### The two loops of a pair -/

/-- The statistics of both batch rows of a pair. -/
theorem wp_statLoop (arg16 : Memref sig .tc .vmem S1536x1024 .bf16) (arg21 : Memref sig .tc .vmem S2x2x8x128 .f32)
    (p : Fin k0_t13_loop.trips) {R : Unit → sProp (MT nD τ sig Unit (Elt F) ℕ (Pipeline.UD sig nD τ) ℕ)} :
    (iprop(Hold (th c) arg16 (xM p.val) (fun _ => True) I.x ∗ Hold (th c) arg21 Finset.univ (fun _ => False) (stS I p.val)) : sProp 𝕄)
    ⊢ iprop((iprop(Hold (th c) arg16 (xM p.val) (fun _ => True) I.x ∗ Hold (th c) arg21 Finset.univ (fun _ => True) (stS I p.val)) -∗ R ⟨⟩)
      -∗ wp frame (wpE defs 𝒱 (th c) bd) E (Scf.Loop.for k0_t14_loop k0_t14_ok ⟨⟩ (fun u _ => stat (F := F) arg16 arg21 p u)) R) := by
  iintro ⟨H16, H21⟩ Hk
  iapply (Scf.wp_for frame (wpE defs 𝒱 (th c) bd) E k0_t14_loop.lb k0_t14_loop.ub k0_t14_loop.st k0_t14_ok ⟨⟩ (fun u _ => stat (F := F) arg16 arg21 p u)
    (fun u _ => iprop(Hold (th c) arg16 (xM p.val) (fun _ => True) I.x ∗ Hold (th c) arg21 Finset.univ (stD u 0) (stS I p.val))) ?_)
  · intro u _
    iintro H
    iapply (wp_stat 𝒱 c bd E I arg16 arg21 p u) $$ [H]
    · iexact H
    iintro H
    iexact H
  isplitl [H16 H21]
  · isplitl [H16]; · iexact H16
    iapply (weaken (P := fun _ => False) (P' := stD 0 0) fun x h => by unfold stD at h; omega) $$ H21
  iintro %_ ⟨H16, H21⟩
  iapply Hk
  isplitl [H16]; · iexact H16
  iapply (weaken (P := stD (Scf.trips k0_t14_loop.lb k0_t14_loop.ub k0_t14_loop.st) 0) (P' := fun _ => True) fun x _ => Or.inl (x 1).isLt) $$ H21

/-- All groups of a pair. -/
theorem wp_projLoop (arg0 : Memref sig .tc .smem S12 .i32) (arg16 : Memref sig .tc .vmem S1536x1024 .bf16)
    (arg18 : Memref sig .tc .vmem S3x4x768x1024 .bf16) (arg19 arg20 : Memref sig .tc .vmem S4x768x128 .f32)
    (arg21 : Memref sig .tc .vmem S2x2x8x128 .f32) (arg22 : Memref sig .tc .vmem S3x12x1024x128 .fp8e4m3) (harg22 : arg22.IsWhole)
    (arg23 : Memref sig .tc .vmem S3x12x16x128 .f32) (p : Fin k0_t13_loop.trips)
    {R : Unit → sProp (MT nD τ sig Unit (Elt F) ℕ (Pipeline.UD sig nD τ) ℕ)} :
    (iprop(Hold (th c) arg16 (xM p.val) (fun _ => True) I.x ∗ Hold (th c) arg18 Finset.univ (fun _ => True) (wpS I)
      ∗ rdB c I arg0 arg19 arg20 arg21 p.val
      ∗ Hold (th c) arg22 (cM p.val) (codeD p.val 0 allBlocks) (codeS I) ∗ Hold (th c) arg23 Finset.univ (sclD p.val 0 allBlocks) (sclS I)) : sProp 𝕄)
    ⊢ iprop((iprop(Hold (th c) arg16 (xM p.val) (fun _ => True) I.x ∗ Hold (th c) arg18 Finset.univ (fun _ => True) (wpS I)
      ∗ rdB c I arg0 arg19 arg20 arg21 p.val
      ∗ Hold (th c) arg22 (cM p.val) (codeD (p.val + 1) 0 allBlocks) (codeS I) ∗ Hold (th c) arg23 Finset.univ (sclD (p.val + 1) 0 allBlocks) (sclS I)) -∗ R ⟨⟩)
      -∗ wp frame (wpE defs 𝒱 (th c) bd) E
        (Scf.Loop.for k0_t15_loop k0_t15_ok ⟨⟩ (fun g _ => projBody (F := F) arg0 arg16 arg18 arg19 arg20 arg21 arg22 harg22 arg23 lane p g)) R) := by
  iintro H Hk
  iapply (Scf.wp_for frame (wpE defs 𝒱 (th c) bd) E k0_t15_loop.lb k0_t15_loop.ub k0_t15_loop.st k0_t15_ok ⟨⟩
    (fun g _ => projBody (F := F) arg0 arg16 arg18 arg19 arg20 arg21 arg22 harg22 arg23 lane p g)
    (fun g _ => iprop(Hold (th c) arg16 (xM p.val) (fun _ => True) I.x ∗ Hold (th c) arg18 Finset.univ (fun _ => True) (wpS I)
      ∗ rdB c I arg0 arg19 arg20 arg21 p.val
      ∗ Hold (th c) arg22 (cM p.val) (codeD p.val g allBlocks) (codeS I) ∗ Hold (th c) arg23 Finset.univ (sclD p.val g allBlocks) (sclS I))) ?_)
  · intro g _
    iintro H
    iapply (wp_projBody 𝒱 c bd E I arg0 arg16 arg18 arg19 arg20 arg21 arg22 harg22 arg23 p g) $$ [H]
    · iexact H
    iintro H
    iexact H
  isplitl [H]
  · iexact H
  iintro %_ ⟨H16, H18, HR, H22, H23⟩
  iapply Hk
  isplitl [H16]; · iexact H16
  isplitl [H18]; · iexact H18
  isplitl [HR]; · iexact HR
  isplitl [H22]
  · iapply (weaken (P := codeD p.val (Scf.trips k0_t15_loop.lb k0_t15_loop.ub k0_t15_loop.st) allBlocks) (P' := codeD (p.val + 1) 0 allBlocks) fun x h => (bD_pair (Nat.div_lt_iff_lt_mul (by decide) |>.mpr (show (x 2).val < 1024 from (x 2).isLt)) h)) $$ H22
  iapply (weaken (P := sclD p.val (Scf.trips k0_t15_loop.lb k0_t15_loop.ub k0_t15_loop.st) allBlocks) (P' := sclD (p.val + 1) 0 allBlocks) fun x h => (bD_pair (Nat.div_lt_iff_lt_mul (by decide) |>.mpr (show (x 2).val < 16 from (x 2).isLt)) h)) $$ H23

end Cert.KernelIdeal.Pf
-- ==== Proof.Ideal.Bufs.lean ====
/- The kernel's buffers and semaphores, and the body of one pair of batch rows as a program over them. -/
module

public import proofs.«01_k».proof.Proof.Ideal.StepGroups

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-- The buffers and semaphores of the kernel, in the order of its arguments. -/
structure Bufs where
  a0 : Memref sig .tc .smem S12 .i32
  h0 : a0.IsWhole
  a1 : Memref sig .tc .hbm S1536x1024 .bf16
  h1 : a1.IsWhole
  a2 : Memref sig .tc .vmem S1x1024 .f32
  h2 : a2.IsWhole
  a3 : Memref sig .tc .vmem S1x1024 .f32
  h3 : a3.IsWhole
  a4 : Memref sig .tc .hbm S1024x1024 .f32
  h4 : a4.IsWhole
  a5 : Memref sig .tc .vmem S16x64 .f32
  h5 : a5.IsWhole
  a6 : Memref sig .tc .hbm S1024x1024 .f32
  h6 : a6.IsWhole
  a7 : Memref sig .tc .vmem S16x64 .f32
  h7 : a7.IsWhole
  a8 : Memref sig .tc .hbm S1024x1024 .f32
  h8 : a8.IsWhole
  a9 : Memref sig .tc .vmem S16x64 .f32
  h9 : a9.IsWhole
  a10 : Memref sig .tc .hbm S12x1024x128 .fp8e4m3
  h10 : a10.IsWhole
  a11 : Memref sig .tc .vmem S12x16 .f32
  h11 : a11.IsWhole
  a12 : Memref sig .tc .hbm S12x1024x128 .fp8e4m3
  h12 : a12.IsWhole
  a13 : Memref sig .tc .vmem S12x16 .f32
  h13 : a13.IsWhole
  a14 : Memref sig .tc .hbm S12x1024x128 .fp8e4m3
  h14 : a14.IsWhole
  a15 : Memref sig .tc .vmem S12x16 .f32
  h15 : a15.IsWhole
  a16 : Memref sig .tc .vmem S1536x1024 .bf16
  h16 : a16.IsWhole
  a17 : Memref sig .tc .vmem S6x256x1024 .f32
  h17 : a17.IsWhole
  a18 : Memref sig .tc .vmem S3x4x768x1024 .bf16
  h18 : a18.IsWhole
  a19 : Memref sig .tc .vmem S4x768x128 .f32
  h19 : a19.IsWhole
  a20 : Memref sig .tc .vmem S4x768x128 .f32
  h20 : a20.IsWhole
  a21 : Memref sig .tc .vmem S2x2x8x128 .f32
  h21 : a21.IsWhole
  a22 : Memref sig .tc .vmem S3x12x1024x128 .fp8e4m3
  h22 : a22.IsWhole
  a23 : Memref sig .tc .vmem S3x12x16x128 .f32
  h23 : a23.IsWhole
  a24 : DmaSems sig S6
  a25 : DmaSems sig S6
  a26 : DmaSems sig S3

/-- A cell of a row of six, and of a row of three. -/
def cell6 (a : DmaSems sig S6) (i : ℕ) : SemLoc sig := .dma (a.ix (ix S6 ![i]))
def cell3 (a : DmaSems sig S3) (i : ℕ) : SemLoc sig := .dma (a.ix (ix S3 ![i]))

theorem cell6_eq (a : DmaSems sig S6) {i : ℕ} {o : Fin 1 → ℕ} {inb} (ho : o = ![i]) :
    SemLoc.dma ((a.slice (Rect.unit (s := S6) o S1.size inb)).squeeze S_ squeezes_S1_S_).sem = cell6 a i := by
  refine congrArg (fun y => SemLoc.dma (a.ix y)) (ix_eq fun q => ?_).symm
  have h0 : ∀ z : (Rect.unit (s := S6) o S1.size inb).shape.Idx, (z 0).val < 1 := fun z => (z 0).isLt
  rw [emb_val' ho]
  revert q
  rw [Fin.forall_fin_one]
  exact (congrArg (i + ·) (Nat.lt_one_iff.mp (h0 _))).symm

theorem cell3_eq (a : DmaSems sig S3) {i : ℕ} {o : Fin 1 → ℕ} {inb} (ho : o = ![i]) :
    SemLoc.dma ((a.slice (Rect.unit (s := S3) o S1.size inb)).squeeze S_ squeezes_S1_S_).sem = cell3 a i := by
  refine congrArg (fun y => SemLoc.dma (a.ix y)) (ix_eq fun q => ?_).symm
  have h0 : ∀ z : (Rect.unit (s := S3) o S1.size inb).shape.Idx, (z 0).val < 1 := fun z => (z 0).isLt
  rw [emb_val' ho]
  revert q
  rw [Fin.forall_fin_one]
  exact (congrArg (i + ·) (Nat.lt_one_iff.mp (h0 _))).symm

/-- The copy of a finished pair's codes, as a program. -/
def outCopy (arg22 : Memref sig .tc .vmem S3x12x1024x128 .fp8e4m3) (argo : Memref sig .tc .hbm S12x1024x128 .fp8e4m3) (sem : DmaSem sig)
    (o : Fin 4 → ℕ) (inb : ∀ a, o a + S1x2x1024x128.size a ≤ S3x12x1024x128.size a)
    (o' : Fin 3 → ℕ) (inb' : ∀ a, o' a + S2x1024x128.size a ≤ S12x1024x128.size a)
    (e1 : ((arg22.slice (Rect.unit (s := S3x12x1024x128) o S1x2x1024x128.size inb) (fun _ => rfl)).squeeze S2x1024x128 squeezes_S1x2x1024x128_S2x1024x128).view.WordExact)
    (e2 : (argo.slice (Rect.unit (s := S12x1024x128) o' S2x1024x128.size inb') (fun _ => rfl)).view.WordExact) :
    Prog (TpuEff nD τ sig (Elt F) Λ₀ .tc) Unit :=
  Prog.lift (.enqueueDma ((arg22.slice (Rect.unit (s := S3x12x1024x128) o S1x2x1024x128.size inb) (fun _ => rfl)).squeeze S2x1024x128 squeezes_S1x2x1024x128_S2x1024x128)
    (.here (argo.slice (Rect.unit (s := S12x1024x128) o' S2x1024x128.size inb') (fun _ => rfl))) (.dma sem) e1 e2 ⟨Or.inl rfl, trivial⟩)

/-- The body of a pair up to its second copy. -/
def pairHead (B : Bufs) (p : Fin k0_t13_loop.trips) : Prog (TpuEff nD τ sig (Elt F) Λ₀ .tc) Unit := do
  Prog.lift (.waitDma2 ((B.a24.slice (Rect.unit (s := S6) (k0_off73 p) S1.size (k0_off73_inb p))).squeeze S_ squeezes_S1_S_).sem
    (B.a1.slice (Rect.unit (s := S1536x1024) (k0_off74 p) S256x1024.size (k0_off74_inb p)) (fun _ => rfl))
    (B.a16.slice (Rect.unit (s := S1536x1024) (k0_off74 p) S256x1024.size (k0_off74_inb p)) (fun _ => rfl))
    (B.h1.wordExact_slice rfl _ (k0_off74_wordsbf16 p)) (B.h16.wordExact_slice rfl _ (k0_off74_wordsbf16 p)))
  Scf.Loop.for k0_t14_loop k0_t14_ok ⟨⟩ (fun u _ => stat B.a16 B.a21 p u)
  Scf.Loop.for k0_t15_loop k0_t15_ok ⟨⟩ (fun g _ => projBody B.a0 B.a16 B.a18 B.a19 B.a20 B.a21 B.a22 B.h22 B.a23 lane p g)
  outCopy B.a22 B.a10 ((B.a26.slice (Rect.unit (s := S3) ![0] S1.size inb_S3_S1_0)).squeeze S_ squeezes_S1_S_).sem
    (k0_off102 p) (k0_off102_inb p) (k0_off101 p) (k0_off101_inb p)
    ((B.h22.wordExact_slice rfl _ (k0_off102_wordsfp8e4m3 p)).reshape _ _) (B.h10.wordExact_slice rfl _ (k0_off101_wordsfp8e4m3 p))
  outCopy B.a22 B.a12 ((B.a26.slice (Rect.unit (s := S3) ![1] S1.size inb_S3_S1_1)).squeeze S_ squeezes_S1_S_).sem
    (k0_off103 p) (k0_off103_inb p) (k0_off101 p) (k0_off101_inb p)
    ((B.h22.wordExact_slice rfl _ (k0_off103_wordsfp8e4m3 p)).reshape _ _) (B.h12.wordExact_slice rfl _ (k0_off101_wordsfp8e4m3 p))

/-- The body of a pair. -/
def pairBody (B : Bufs) (p : Fin k0_t13_loop.trips) : Prog (TpuEff nD τ sig (Elt F) Λ₀ .tc) Unit := do
  pairHead B p
  outCopy B.a22 B.a14 ((B.a26.slice (Rect.unit (s := S3) ![2] S1.size inb_S3_S1_2)).squeeze S_ squeezes_S1_S_).sem
    (k0_off104 p) (k0_off104_inb p) (k0_off101 p) (k0_off101_inb p)
    ((B.h22.wordExact_slice rfl _ (k0_off104_wordsfp8e4m3 p)).reshape _ _) (B.h14.wordExact_slice rfl _ (k0_off101_wordsfp8e4m3 p))

set_option maxRecDepth 65536 in
/-- The printed body of the statistics loop. -/
theorem t14_eq (B : Bufs) (c0 c1 : BitVec 32) (p : Fin k0_t13_loop.trips) :
    k0_t14_body (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 lane c0 c1 p = fun u _ => stat B.a16 B.a21 p u := rfl

set_option maxRecDepth 65536 in
set_option maxHeartbeats 4000000 in
/-- The printed body of the pair loop is the program above. -/
theorem t13_eq (B : Bufs) (p : Fin k0_t13_loop.trips) (z : Unit) :
    k0_t13_body (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 lane p z = pairBody B p := rfl

end Cert.KernelIdeal.Pf
-- ==== Proof.Ideal.StepOut.lean ====
/- One pair of batch rows: its rows arrive, its statistics and codes are computed, its codes are sent off. -/
module

public import proofs.«01_k».proof.Proof.Ideal.Bufs

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-! ### Parts -/

/-- The codes of projection `t`, as the result has them. -/
def codeOut (t : ℕ) : S12x1024x128.Idx → Elt F .fp8e4m3 := fun x =>
  codeS I (ix S3x12x1024x128 ![t, (x 0).val, (x 1).val, (x 2).val])

/-- Pair `p` of a result, and everything from pair `p` on. -/
def oP (p : ℕ) : Finset S12x1024x128.Idx := Finset.univ.filter (fun x => (x 0).val / 2 = p)
def oM (p : ℕ) : Finset S12x1024x128.Idx := Finset.univ.filter (fun x => p ≤ (x 0).val / 2)

/-- Pair `p` of projection `t` of the codes. -/
def cP (t p : ℕ) : Finset S3x12x1024x128.Idx := Finset.univ.filter (fun x => (x 0).val = t ∧ (x 1).val / 2 = p)

theorem sq_code (h : S2x1024x128.numel = S1x2x1024x128.numel) (y : S2x1024x128.Idx) :
    (Shape.reshapeEquiv (s := S1x2x1024x128) (s' := S2x1024x128) h y) = ix S1x2x1024x128 ![0, (y 0).val, (y 1).val, (y 2).val] := by
  refine Shape.reshapeEquiv_eq_of_rowMajor h ?_
  have y0 : (y 0).val < 2 := (y 0).isLt
  have y1 : (y 1).val < 1024 := (y 1).isLt
  have y2 : (y 2).val < 128 := (y 2).isLt
  rw [Shape.rowMajor_val_four, Shape.rowMajor_val_three]
  show ((0 % 1 * 2 + (y 0).val % 2) * 1024 + (y 1).val % 1024) * 128 + (y 2).val % 128 = ((y 0).val * 1024 + (y 1).val) * 128 + (y 2).val
  omega

theorem cP_eq {t p : ℕ} {o} {inb} (ho : o = ![t, 2 * p, 0, 0]) :
    cP t p = Finset.univ.map (Rect.unit (s := S3x12x1024x128) o S1x2x1024x128.size inb).emb := by
  subst ho
  ext x
  rw [mem_map_unit, Fin.forall_fin_succ, Fin.forall_fin_succ, Fin.forall_fin_two]
  have x2 : (x 2).val < 1024 := (x 2).isLt
  have x3 : (x 3).val < 128 := (x 3).isLt
  unfold cP
  rw [Finset.mem_filter]
  show _ ∧ (x 0).val = t ∧ (x 1).val / 2 = p ↔ (t ≤ (x 0).val ∧ (x 0).val < t + 1) ∧ (2 * p ≤ (x 1).val ∧ (x 1).val < 2 * p + 2)
    ∧ (0 ≤ (x 2).val ∧ (x 2).val < 0 + 1024) ∧ (0 ≤ (x 3).val ∧ (x 3).val < 0 + 128)
  simp only [Finset.mem_univ, true_and]
  omega

theorem oP_eq {p : ℕ} {o} {inb} (ho : o = ![2 * p, 0, 0]) :
    oP p = Finset.univ.map (Rect.unit (s := S12x1024x128) o S2x1024x128.size inb).emb := by
  subst ho
  ext x
  rw [mem_map_unit, Fin.forall_fin_succ, Fin.forall_fin_two]
  have x1 : (x 1).val < 1024 := (x 1).isLt
  have x2 : (x 2).val < 128 := (x 2).isLt
  unfold oP
  rw [Finset.mem_filter]
  show _ ∧ (x 0).val / 2 = p ↔ (2 * p ≤ (x 0).val ∧ (x 0).val < 2 * p + 2) ∧ (0 ≤ (x 1).val ∧ (x 1).val < 0 + 1024) ∧ (0 ≤ (x 2).val ∧ (x 2).val < 0 + 128)
  simp only [Finset.mem_univ, true_and]
  omega

/-- A code read where the copy reads it is the result's there. -/
theorem out_val (t p : ℕ) {o} {inb} {o'} {inb'} (ho : o = ![t, 2 * p, 0, 0]) (ho' : o' = ![2 * p, 0, 0]) (h : S2x1024x128.numel = S1x2x1024x128.numel) (y : S2x1024x128.Idx) :
    codeS I ((Rect.unit (s := S3x12x1024x128) o S1x2x1024x128.size inb).emb (Shape.reshapeEquiv (s := S1x2x1024x128) h y))
      = codeOut I t ((Rect.unit (s := S12x1024x128) o' S2x1024x128.size inb').emb y) := by
  have y0 : (y 0).val < 2 := (y 0).isLt
  have y1 : (y 1).val < 1024 := (y 1).isLt
  have y2 : (y 2).val < 128 := (y 2).isLt
  unfold codeOut
  refine congrArg (codeS I) (ix_eq ?_).symm
  rw [sq_code h y]
  intro a
  rw [emb_val' (s := S3x12x1024x128) ho]
  simp only [emb_val' (s := S12x1024x128) ho']
  revert a
  rw [Fin.forall_fin_succ, Fin.forall_fin_succ, Fin.forall_fin_two]
  refine ⟨?_, ?_, ?_, ?_⟩
  · show t = t + 0 % 1; omega
  · show 2 * p + (y 0).val = 2 * p + (y 0).val % 2; omega
  · show 0 + (y 1).val = 0 + (y 1).val % 1024; omega
  · show 0 + (y 2).val = 0 + (y 2).val % 128; omega

/-! ### A finished pair's copy -/

/-- What the copy of pair `p` hands back. -/
def outD (arg22 : Memref sig .tc .vmem S3x12x1024x128 .fp8e4m3) (argo : Memref sig .tc .hbm S12x1024x128 .fp8e4m3) (t : ℕ) (p : Fin 6) : sProp 𝕄 :=
  iprop(Hold (th c) argo (oP p.val) (fun _ => True) (codeOut I t) ∗ Hold (th c) arg22 (cP t p.val) (fun _ => True) (codeS I))

instance (arg22 argo t p) : Storable (upEmb : UEmb _ 𝕄) (outD c I arg22 argo t p) := by
  unfold outD; infer_instance

theorem wp_outCopy (arg22 : Memref sig .tc .vmem S3x12x1024x128 .fp8e4m3) (argo : Memref sig .tc .hbm S12x1024x128 .fp8e4m3) (sem : DmaSem sig)
    {sm : SemLoc sig} (hsm : SemLoc.dma sem = sm) {N : ℕ} (t : ℕ) (p : Fin k0_t13_loop.trips)
    {o inb o' inb' e1 e2} (ho : o = ![t, 2 * p.val, 0, 0]) (ho' : o' = ![2 * p.val, 0, 0])
    (hN : (argo.slice (Rect.unit (s := S12x1024x128) o' S2x1024x128.size inb') (fun _ => rfl)).view.dmaCredit = N)
    {R : Unit → sProp (MT nD τ sig Unit (Elt F) ℕ (Pipeline.UD sig nD τ) ℕ)} :
    (iprop(Hold (th c) arg22 (cP t p.val) (fun _ => True) (codeS I) ∗ Hold (th c) argo (oP p.val) (fun _ => False) (codeOut I t)
      ∗ Transfers.Batch (countersEmb (U := Pipeline.UD sig nD τ)) (th c) sm () N (outD c I arg22 argo t) p.val 0) : sProp 𝕄)
    ⊢ iprop((Transfers.Batch (countersEmb (U := Pipeline.UD sig nD τ)) (th c) sm () N (outD c I arg22 argo t) (p.val + 1) 0 -∗ R ⟨⟩)
      -∗ wp frame (wpE defs 𝒱 (th c) bd) Set.univ (outCopy (F := F) arg22 argo sem o inb o' inb' e1 e2) R) := by
  subst hsm
  iintro ⟨H22, Ho, HB⟩ Hk
  unfold outCopy
  iapply (dma_batch_l 𝒱 (th c) bd (countersEmb (U := Pipeline.UD sig nD τ)) (sm := .dma sem) () N hN (D := outD c I arg22 argo t) (j := p.val) (P := fun _ => False)
    (spec := fun y => codeOut I t ((Rect.unit (s := S12x1024x128) o' S2x1024x128.size inb').emb y))
    (spec' := fun y => codeOut I t ((Rect.unit (s := S12x1024x128) o' S2x1024x128.size inb').emb y)) p.isLt ?_) $$ [H22 Ho HB]
  · unfold outD
    exact sep_mono (Hold.ofSlice (c := th c) _ (fun _ => rfl) (oP_eq ho') fun y _ => ⟨trivial, rfl⟩)
      (Hold.ofSliceSq (c := th c) (m := arg22) (P := fun _ => True) (Rect.unit (s := S3x12x1024x128) o S1x2x1024x128.size inb) (fun _ => rfl) squeezes_S1x2x1024x128_S2x1024x128 (cP_eq ho)
        fun y _ => ⟨trivial, (out_val I t p.val (inb' := inb') ho ho' _ y).symm⟩)
  · isplitl [H22]
    · iapply (Hold.toSliceSq (c := th c) (m := arg22) (Rect.unit (s := S3x12x1024x128) o S1x2x1024x128.size inb) (fun _ => rfl) squeezes_S1x2x1024x128_S2x1024x128 (cP_eq ho) fun y _ => ⟨trivial, out_val I t p.val ho ho' _ y⟩) $$ H22
    isplitl [Ho]
    · iapply (Hold.toSlice (c := th c) (m := argo) (Rect.unit (s := S12x1024x128) o' S2x1024x128.size inb') (fun _ => rfl) (oP_eq ho') fun y h => ⟨h, rfl⟩) $$ Ho
    iexact HB
  iexact Hk

end Cert.KernelIdeal.Pf
-- ==== Proof.Ideal.StepPair.lean ====
/- One pair of batch rows: its rows arrive, its statistics and codes are computed, its codes are sent off; and the loop
   over the six pairs. -/
module

public import proofs.«01_k».proof.Proof.Ideal.StepOut

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-- What one copy of each kind credits: rows of the input, rows of a weight, a pair of a result; and a whole result. -/
structure Cred (B : Bufs) (NX NW NO : ℕ) : Prop where
  x : ∀ (o : Fin 2 → ℕ) inb, (B.a16.slice (Rect.unit (s := S1536x1024) o S256x1024.size inb) (fun _ => rfl)).view.dmaCredit = NX
  w : ∀ (o : Fin 3 → ℕ) inb, ((B.a17.slice (Rect.unit (s := S6x256x1024) o S1x256x1024.size inb) (fun _ => rfl)).squeeze S256x1024 squeezes_S1x256x1024_S256x1024).view.dmaCredit = NW
  o10 : ∀ (o : Fin 3 → ℕ) inb, (B.a10.slice (Rect.unit (s := S12x1024x128) o S2x1024x128.size inb) (fun _ => rfl)).view.dmaCredit = NO
  o12 : ∀ (o : Fin 3 → ℕ) inb, (B.a12.slice (Rect.unit (s := S12x1024x128) o S2x1024x128.size inb) (fun _ => rfl)).view.dmaCredit = NO
  o14 : ∀ (o : Fin 3 → ℕ) inb, (B.a14.slice (Rect.unit (s := S12x1024x128) o S2x1024x128.size inb) (fun _ => rfl)).view.dmaCredit = NO
  t10 : B.a10.view.dmaCredit = NO * 6
  t12 : B.a12.view.dmaCredit = NO * 6
  t14 : B.a14.view.dmaCredit = NO * 6

/-- The rows of pair `j` in both places, once they have arrived. -/
def xHere (B : Bufs) (j : ℕ) : sProp 𝕄 :=
  iprop(Hold (th c) B.a16 (xM j) (fun _ => True) I.x ∗ Hold (th c) B.a1 (xM j) (fun _ => True) I.x)

/-- The rows of pair `j` before pair `p`: arrived, or on their way. -/
def xJ (B : Bufs) (NX p : ℕ) (j : Fin 6) : sProp 𝕄 :=
  if j.val < p then iprop(xHere c I B j.val ∗ semVal (th c, cell6 B.a24 j.val) 0)
  else Transfers.Flight (countersEmb (U := Pipeline.UD sig nD τ)) (th c) (cell6 B.a24 j.val) () NX (xHere c I B j.val)

/-- A result before pair `p`: the pairs from `p` on, and the copies sent off. -/
def outJ (B : Bufs) (argo : Memref sig .tc .hbm S12x1024x128 .fp8e4m3) (t NO p : ℕ) : sProp 𝕄 :=
  iprop(Hold (th c) argo (oM p) (fun _ => False) (codeOut I t)
    ∗ Transfers.Batch (countersEmb (U := Pipeline.UD sig nD τ)) (th c) (cell3 B.a26 t) () NO (outD c I B.a22 argo t) p 0)

/-- What holds before pair `p`. -/
def pairI (B : Bufs) (NX NO p : ℕ) : sProp 𝕄 :=
  iprop((Hold (th c) B.a0 Finset.univ (fun _ => True) I.n ∗ Hold (th c) B.a18 Finset.univ (fun _ => True) (wpS I)
      ∗ Hold (th c) B.a19 Finset.univ (fun _ => True) (csS I) ∗ Hold (th c) B.a20 Finset.univ (fun _ => True) (cbS I))
    ∗ Hold (th c) B.a21 Finset.univ (fun _ => False) (stS I p)
    ∗ Hold (th c) B.a22 (cM p) (codeD p 0 allBlocks) (codeS I) ∗ Hold (th c) B.a23 Finset.univ (sclD p 0 allBlocks) (sclS I)
    ∗ bigSep Finset.univ (xJ c I B NX p) ∗ outJ c I B B.a10 0 NO p ∗ outJ c I B B.a12 1 NO p ∗ outJ c I B B.a14 2 NO p
    ∗ ∃ W, owes (th c) 0 W)

/-! ### Taking the pair's parts -/

theorem oM_split (argo : Memref sig .tc .hbm S12x1024x128 .fp8e4m3) (t p : ℕ) :
    (Hold (th c) argo (oM p) (fun _ => False) (codeOut I t) : sProp 𝕄)
      ⊢ iprop(Hold (th c) argo (oP p) (fun _ => False) (codeOut I t) ∗ Hold (th c) argo (oM (p + 1)) (fun _ => False) (codeOut I t)) := by
  have h1 : oP p ⊆ oM p := fun x hx => by
    unfold oP oM at *; rw [Finset.mem_filter] at *; exact ⟨hx.1, hx.2 ▸ Nat.le_refl _⟩
  have h2 : oM p \ oP p = oM (p + 1) := by
    ext x; unfold oP oM; simp only [Finset.mem_sdiff, Finset.mem_filter, Finset.mem_univ, true_and]; omega
  rw [← h2]
  exact Hold.split h1

theorem cM_split (arg22 : Memref sig .tc .vmem S3x12x1024x128 .fp8e4m3) (p : ℕ) :
    (Hold (th c) arg22 (cM p) (codeD (p + 1) 0 allBlocks) (codeS I) : sProp 𝕄)
      ⊢ iprop(Hold (th c) arg22 (cP 0 p) (fun _ => True) (codeS I) ∗ Hold (th c) arg22 (cP 1 p) (fun _ => True) (codeS I)
        ∗ Hold (th c) arg22 (cP 2 p) (fun _ => True) (codeS I) ∗ Hold (th c) arg22 (cM (p + 1)) (codeD (p + 1) 0 allBlocks) (codeS I)) := by
  have hd : ∀ t, (Hold (th c) arg22 (cP t p) (codeD (p + 1) 0 allBlocks) (codeS I) : sProp 𝕄) ⊢ Hold (th c) arg22 (cP t p) (fun _ => True) (codeS I) :=
    fun t => Hold.mono fun x hx _ => ⟨Or.inl (by
      unfold cP at hx; rw [Finset.mem_filter] at hx; rw [hx.2.2]; exact Nat.lt_succ_self _), rfl⟩
  have h0 : cP 0 p ⊆ cM p := fun x hx => by
    unfold cP cM at *; rw [Finset.mem_filter] at *; exact ⟨hx.1, hx.2.2 ▸ Nat.le_refl _⟩
  have h1 : cP 1 p ⊆ cM p \ cP 0 p := fun x hx => by
    unfold cP cM at *; simp only [Finset.mem_sdiff, Finset.mem_filter, Finset.mem_univ, true_and] at *; omega
  have h2 : cP 2 p ⊆ (cM p \ cP 0 p) \ cP 1 p := fun x hx => by
    unfold cP cM at *; simp only [Finset.mem_sdiff, Finset.mem_filter, Finset.mem_univ, true_and] at *; omega
  have h3 : ((cM p \ cP 0 p) \ cP 1 p) \ cP 2 p = cM (p + 1) := by
    ext x
    have x0 : (x 0).val < 3 := (x 0).isLt
    unfold cP cM
    simp only [Finset.mem_sdiff, Finset.mem_filter, Finset.mem_univ, true_and]
    omega
  rw [← h3]
  exact (Hold.split h0).trans (sep_mono (hd 0) ((Hold.split h1).trans (sep_mono (hd 1) ((Hold.split h2).trans (sep_mono_left (hd 2))))))

theorem xJ_take (B : Bufs) (NX : ℕ) (p : Fin k0_t13_loop.trips) :
    bigSep Finset.univ (xJ c I B NX p.val) ⊢ iprop(Transfers.Flight (countersEmb (U := Pipeline.UD sig nD τ)) (th c) (cell6 B.a24 p.val) () NX (xHere c I B p.val)
      ∗ (iprop(xHere c I B p.val ∗ semVal (th c, cell6 B.a24 p.val) 0) -∗ bigSep Finset.univ (xJ c I B NX (p.val + 1)))) := by
  have h := take (⟨p.val, p.isLt⟩ : Fin 6) (xJ c I B NX p.val) (xJ c I B NX (p.val + 1)) (fun j hj => by
    have : j.val ≠ p.val := fun h => hj (Fin.ext h)
    unfold xJ
    rw [if_congr (show j.val < p.val ↔ j.val < p.val + 1 by omega) rfl rfl])
  have e1 : xJ c I B NX p.val (⟨p.val, p.isLt⟩ : Fin 6) = Transfers.Flight (countersEmb (U := Pipeline.UD sig nD τ)) (th c) (cell6 B.a24 p.val) () NX (xHere c I B p.val) :=
    if_neg (Nat.lt_irrefl _)
  have e2 : xJ c I B NX (p.val + 1) (⟨p.val, p.isLt⟩ : Fin 6) = iprop(xHere c I B p.val ∗ semVal (th c, cell6 B.a24 p.val) 0) :=
    if_pos (Nat.lt_succ_self _)
  rw [e1, e2] at h
  exact h

/-- One pair. -/
theorem wp_pair (B : Bufs) {NX NW NO : ℕ} (hC : Cred B NX NW NO) (p : Fin k0_t13_loop.trips)
    {R : Unit → sProp (MT nD τ sig Unit (Elt F) ℕ (Pipeline.UD sig nD τ) ℕ)} :
    (pairI c I B NX NO p.val : sProp 𝕄)
    ⊢ iprop((pairI c I B NX NO (p.val + 1) -∗ R ⟨⟩) -∗ wp frame (wpE defs 𝒱 (th c) bd) Set.univ (pairBody (F := F) B p) R) := by
  unfold pairI
  iintro ⟨⟨H0, H18, H19, H20⟩, H21, H22, H23, HX, HO0, HO1, HO2, HW⟩ Hk
  unfold pairBody pairHead
  simp only [wp_bind]
  icases (xJ_take c I B NX p) $$ HX with ⟨HF, HX⟩
  rw [← cell6_eq B.a24 (o := k0_off73 p) (inb := k0_off73_inb p) (k0_off73_eq p)]
  iapply (wait_l 𝒱 (th c) bd (countersEmb (U := Pipeline.UD sig nD τ)) () (hC.x _ _) (D := xHere c I B p.val)) $$ [HF HW]
  · isplitl [HF]; · iexact HF
    iexact HW
  unfold xHere
  iintro ⟨⟨H16, H1⟩, Hv, HW⟩
  iapply (wp_statLoop 𝒱 c bd Set.univ I B.a16 B.a21 p) $$ [H16 H21]
  · isplitl [H16]; · iexact H16
    iexact H21
  iintro ⟨H16, H21⟩
  iapply (wp_projLoop 𝒱 c bd Set.univ I B.a0 B.a16 B.a18 B.a19 B.a20 B.a21 B.a22 B.h22 B.a23 p) $$ [H16 H18 H0 H19 H20 H21 H22 H23]
  · unfold rdB
    isplitl [H16]; · iexact H16
    isplitl [H18]; · iexact H18
    isplitl [H0 H19 H20 H21]
    · isplitl [H0]; · iexact H0
      isplitl [H19]; · iexact H19
      isplitl [H20]; · iexact H20
      iexact H21
    isplitl [H22]; · iexact H22
    iexact H23
  unfold rdB outJ
  iintro ⟨H16, H18, ⟨H0, H19, H20, H21⟩, H22, H23⟩
  icases HO0 with ⟨HO0, HB0⟩
  icases HO1 with ⟨HO1, HB1⟩
  icases HO2 with ⟨HO2, HB2⟩
  icases (cM_split c I B.a22 p.val) $$ H22 with ⟨HC0, HC1, HC2, H22⟩
  icases (oM_split c I B.a10 0 p.val) $$ HO0 with ⟨HP0, HO0⟩
  icases (oM_split c I B.a12 1 p.val) $$ HO1 with ⟨HP1, HO1⟩
  icases (oM_split c I B.a14 2 p.val) $$ HO2 with ⟨HP2, HO2⟩
  iapply (wp_outCopy 𝒱 c bd I B.a22 B.a10 _ (cell3_eq B.a26 rfl) 0 p (k0_off102_eq p) (k0_off101_eq p) (hC.o10 _ _)) $$ [HC0 HP0 HB0]
  · isplitl [HC0]; · iexact HC0
    isplitl [HP0]; · iexact HP0
    iexact HB0
  iintro HB0
  iapply (wp_outCopy 𝒱 c bd I B.a22 B.a12 _ (cell3_eq B.a26 rfl) 1 p (k0_off103_eq p) (k0_off101_eq p) (hC.o12 _ _)) $$ [HC1 HP1 HB1]
  · isplitl [HC1]; · iexact HC1
    isplitl [HP1]; · iexact HP1
    iexact HB1
  iintro HB1
  iapply (wp_outCopy 𝒱 c bd I B.a22 B.a14 _ (cell3_eq B.a26 rfl) 2 p (k0_off104_eq p) (k0_off101_eq p) (hC.o14 _ _)) $$ [HC2 HP2 HB2]
  · isplitl [HC2]; · iexact HC2
    isplitl [HP2]; · iexact HP2
    iexact HB2
  iintro HB2
  iapply Hk
  isplitl [H0 H18 H19 H20]
  · isplitl [H0]; · iexact H0
    isplitl [H18]; · iexact H18
    isplitl [H19]; · iexact H19
    iexact H20
  isplitl [H21]
  · iapply (Hold.mono (c := th c) (m := B.a21) (M := Finset.univ) (P := fun _ => True) (spec := stS I p.val) (P' := fun _ => False)
      fun x _ h => h.elim) $$ H21
  isplitl [H22]; · iexact H22
  isplitl [H23]; · iexact H23
  isplitl [HX H16 H1 Hv]
  · iapply HX
    isplitl [H16 H1]
    · isplitl [H16]; · iexact H16
      iexact H1
    iexact Hv
  isplitl [HO0 HB0]
  · isplitl [HO0]; · iexact HO0
    iexact HB0
  isplitl [HO1 HB1]
  · isplitl [HO1]; · iexact HO1
    iexact HB1
  isplitl [HO2 HB2]
  · isplitl [HO2]; · iexact HO2
    iexact HB2
  iexact HW

/-- All pairs. -/
theorem wp_pairs (B : Bufs) {NX NW NO : ℕ} (hC : Cred B NX NW NO)
    {R : Unit → sProp (MT nD τ sig Unit (Elt F) ℕ (Pipeline.UD sig nD τ) ℕ)} :
    (pairI c I B NX NO 0 : sProp 𝕄)
    ⊢ iprop((pairI c I B NX NO 6 -∗ R ⟨⟩) -∗ wp frame (wpE defs 𝒱 (th c) bd) Set.univ
      (Scf.Loop.for k0_t13_loop k0_t13_ok ⟨⟩ (fun p _ => pairBody (F := F) B p)) R) := by
  iintro H Hk
  iapply (Scf.wp_for frame (wpE defs 𝒱 (th c) bd) Set.univ k0_t13_loop.lb k0_t13_loop.ub k0_t13_loop.st k0_t13_ok ⟨⟩ (fun p _ => pairBody (F := F) B p)
    (fun p _ => pairI c I B NX NO p) ?_)
  · intro p _
    iintro H
    iapply (wp_pair 𝒱 c bd I B hC p) $$ H
    iintro H
    iexact H
  isplitl [H]
  · iexact H
  iintro %_ H
  iapply Hk
  iexact H

end Cert.KernelIdeal.Pf
-- ==== Proof.Ideal.MainProg.lean ====
/- The kernel's body as a program over its buffers: the copies of the inputs and weights, the preparation of the
   weights, the loop over the pairs, the rows of scales, and the waits for the results. -/
module

public import proofs.«01_k».proof.Proof.Ideal.StepPair

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-- The start of the copy of pair `j`'s rows. -/
def xStart (arg1 : Memref sig .tc .hbm S1536x1024 .bf16) (arg16 : Memref sig .tc .vmem S1536x1024 .bf16)
    (arg24 : DmaSems sig S6) (j o : ℕ) (hs : ∀ a, ![j] a + S1.size a ≤ S6.size a) (h : ∀ a, ![o, 0] a + S256x1024.size a ≤ S1536x1024.size a)
    (e1 : (arg1.slice (Rect.unit (s := S1536x1024) ![o, 0] S256x1024.size h) (fun _ => rfl)).view.WordExact)
    (e2 : (arg16.slice (Rect.unit (s := S1536x1024) ![o, 0] S256x1024.size h) (fun _ => rfl)).view.WordExact) : Prog (TpuEff nD τ sig (Elt F) Λ₀ .tc) Unit :=
  Prog.lift (.enqueueDma (arg1.slice (Rect.unit (s := S1536x1024) ![o, 0] S256x1024.size h) (fun _ => rfl))
    (.here (arg16.slice (Rect.unit (s := S1536x1024) ![o, 0] S256x1024.size h) (fun _ => rfl)))
    (.dma ((arg24.slice (Rect.unit (s := S6) ![j] S1.size hs)).squeeze S_ squeezes_S1_S_).sem)
    e1 e2 ⟨Or.inl rfl, trivial⟩)

/-- The start of, and the wait for, the copy of the rows from `o` of a weight to slot `j`. -/
def wStart (argw : Memref sig .tc .hbm S1024x1024 .f32) (arg17 : Memref sig .tc .vmem S6x256x1024 .f32) (arg25 : DmaSems sig S6) (j o : ℕ)
    (hs : ∀ a, ![j] a + S1.size a ≤ S6.size a) (h1 : ∀ a, ![j, 0, 0] a + S1x256x1024.size a ≤ S6x256x1024.size a)
    (h2 : ∀ a, ![o, 0] a + S256x1024.size a ≤ S1024x1024.size a) : Prog (TpuEff nD τ sig (Elt F) Λ₀ .tc) Unit :=
  Prog.lift (.enqueueDma (argw.slice (Rect.unit (s := S1024x1024) ![o, 0] S256x1024.size h2) (fun _ => rfl))
    (.here ((arg17.slice (Rect.unit (s := S6x256x1024) ![j, 0, 0] S1x256x1024.size h1) (fun _ => rfl)).squeeze S256x1024 squeezes_S1x256x1024_S256x1024))
    (.dma ((arg25.slice (Rect.unit (s := S6) ![j] S1.size hs)).squeeze S_ squeezes_S1_S_).sem)
    (View.wordExact_bits rfl) ((View.wordExact_bits rfl).reshape _ _) ⟨Or.inl rfl, trivial⟩)
def wWait (argw : Memref sig .tc .hbm S1024x1024 .f32) (arg17 : Memref sig .tc .vmem S6x256x1024 .f32) (arg25 : DmaSems sig S6) (j o : ℕ)
    (hs : ∀ a, ![j] a + S1.size a ≤ S6.size a) (h1 : ∀ a, ![j, 0, 0] a + S1x256x1024.size a ≤ S6x256x1024.size a)
    (h2 : ∀ a, ![o, 0] a + S256x1024.size a ≤ S1024x1024.size a) : Prog (TpuEff nD τ sig (Elt F) Λ₀ .tc) Unit :=
  Prog.lift (.waitDma2 ((arg25.slice (Rect.unit (s := S6) ![j] S1.size hs)).squeeze S_ squeezes_S1_S_).sem
    (argw.slice (Rect.unit (s := S1024x1024) ![o, 0] S256x1024.size h2) (fun _ => rfl))
    ((arg17.slice (Rect.unit (s := S6x256x1024) ![j, 0, 0] S1x256x1024.size h1) (fun _ => rfl)).squeeze S256x1024 squeezes_S1x256x1024_S256x1024)
    (View.wordExact_bits rfl) ((View.wordExact_bits rfl).reshape _ _))

/-- A stretch of the kernel: the copies of the input. -/
def stretch106 (B : Bufs) : Prog (TpuEff nD τ sig (Elt F) Λ₀ .tc) Unit := do
  xStart B.a1 B.a16 B.a24 0 0 inb_S6_S1_0 inb_S1536x1024_S256x1024_0_0 (B.h1.wordExact_slice rfl _ wordsbf16_S1536x1024_S256x1024_0_0) (B.h16.wordExact_slice rfl _ wordsbf16_S1536x1024_S256x1024_0_0)
  xStart B.a1 B.a16 B.a24 1 256 inb_S6_S1_1 inb_S1536x1024_S256x1024_256_0 (B.h1.wordExact_slice rfl _ wordsbf16_S1536x1024_S256x1024_256_0) (B.h16.wordExact_slice rfl _ wordsbf16_S1536x1024_S256x1024_256_0)
  xStart B.a1 B.a16 B.a24 2 512 inb_S6_S1_2 inb_S1536x1024_S256x1024_512_0 (B.h1.wordExact_slice rfl _ wordsbf16_S1536x1024_S256x1024_512_0) (B.h16.wordExact_slice rfl _ wordsbf16_S1536x1024_S256x1024_512_0)
  xStart B.a1 B.a16 B.a24 3 768 inb_S6_S1_3 inb_S1536x1024_S256x1024_768_0 (B.h1.wordExact_slice rfl _ wordsbf16_S1536x1024_S256x1024_768_0) (B.h16.wordExact_slice rfl _ wordsbf16_S1536x1024_S256x1024_768_0)
  xStart B.a1 B.a16 B.a24 4 1024 inb_S6_S1_4 inb_S1536x1024_S256x1024_1024_0 (B.h1.wordExact_slice rfl _ wordsbf16_S1536x1024_S256x1024_1024_0) (B.h16.wordExact_slice rfl _ wordsbf16_S1536x1024_S256x1024_1024_0)
  xStart B.a1 B.a16 B.a24 5 1280 inb_S6_S1_5 inb_S1536x1024_S256x1024_1280_0 (B.h1.wordExact_slice rfl _ wordsbf16_S1536x1024_S256x1024_1280_0) (B.h16.wordExact_slice rfl _ wordsbf16_S1536x1024_S256x1024_1280_0)

set_option maxRecDepth 65536 in
set_option maxHeartbeats 4000000 in
theorem stretch106_eq (B : Bufs) : k0_part106 (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 = stretch106 B := rfl

/-- A stretch of the kernel: the first copies of the weights. -/
def stretch107 (B : Bufs) : Prog (TpuEff nD τ sig (Elt F) Λ₀ .tc) Unit := do
  wStart B.a4 B.a17 B.a25 0 0 inb_S6_S1_0 inb_S6x256x1024_S1x256x1024_0_0_0 inb_S1024x1024_S256x1024_0_0
  wStart B.a6 B.a17 B.a25 1 0 inb_S6_S1_1 inb_S6x256x1024_S1x256x1024_1_0_0 inb_S1024x1024_S256x1024_0_0
  wStart B.a8 B.a17 B.a25 2 0 inb_S6_S1_2 inb_S6x256x1024_S1x256x1024_2_0_0 inb_S1024x1024_S256x1024_0_0
  wStart B.a4 B.a17 B.a25 3 256 inb_S6_S1_3 inb_S6x256x1024_S1x256x1024_3_0_0 inb_S1024x1024_S256x1024_256_0
  wStart B.a6 B.a17 B.a25 4 256 inb_S6_S1_4 inb_S6x256x1024_S1x256x1024_4_0_0 inb_S1024x1024_S256x1024_256_0

set_option maxRecDepth 65536 in
set_option maxHeartbeats 4000000 in
theorem stretch107_eq (B : Bufs) : k0_part107 (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 = stretch107 B := rfl

/-- A stretch of the kernel: weights arriving and prepared. -/
def stretch108 (B : Bufs) : Prog (TpuEff nD τ sig (Elt F) Λ₀ .tc) (IVec S8x128 32) := do
  wStart B.a8 B.a17 B.a25 5 256 inb_S6_S1_5 inb_S6x256x1024_S1x256x1024_5_0_0 inb_S1024x1024_S256x1024_256_0
  wWait B.a4 B.a17 B.a25 0 0 inb_S6_S1_0 inb_S6x256x1024_S1x256x1024_0_0_0 inb_S1024x1024_S256x1024_0_0
  Scf.Loop.for k0_t1_loop k0_t1_ok ⟨⟩ (fun k _ => prep B.a2 B.a3 B.a5 B.a17 B.a18 B.h18 B.a19 B.a20 (prepAt1 k))
  wStart B.a4 B.a17 B.a25 0 512 inb_S6_S1_0 inb_S6x256x1024_S1x256x1024_0_0_0 inb_S1024x1024_S256x1024_512_0
  wWait B.a6 B.a17 B.a25 1 0 inb_S6_S1_1 inb_S6x256x1024_S1x256x1024_1_0_0 inb_S1024x1024_S256x1024_0_0
  Scf.Loop.for k0_t2_loop k0_t2_ok ⟨⟩ (fun k _ => prep B.a2 B.a3 B.a7 B.a17 B.a18 B.h18 B.a19 B.a20 (prepAt2 k))
  pure lane

set_option maxRecDepth 65536 in
set_option maxHeartbeats 4000000 in
theorem stretch108_eq (B : Bufs) : k0_part108 (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 = stretch108 B := rfl

/-- A stretch of the kernel: weights arriving and prepared. -/
def stretch109 (B : Bufs) : Prog (TpuEff nD τ sig (Elt F) Λ₀ .tc) Unit := do
  wStart B.a6 B.a17 B.a25 1 512 inb_S6_S1_1 inb_S6x256x1024_S1x256x1024_1_0_0 inb_S1024x1024_S256x1024_512_0
  wWait B.a8 B.a17 B.a25 2 0 inb_S6_S1_2 inb_S6x256x1024_S1x256x1024_2_0_0 inb_S1024x1024_S256x1024_0_0
  Scf.Loop.for k0_t3_loop k0_t3_ok ⟨⟩ (fun k _ => prep B.a2 B.a3 B.a9 B.a17 B.a18 B.h18 B.a19 B.a20 (prepAt3 k))
  wStart B.a8 B.a17 B.a25 2 512 inb_S6_S1_2 inb_S6x256x1024_S1x256x1024_2_0_0 inb_S1024x1024_S256x1024_512_0
  wWait B.a4 B.a17 B.a25 3 256 inb_S6_S1_3 inb_S6x256x1024_S1x256x1024_3_0_0 inb_S1024x1024_S256x1024_256_0
  Scf.Loop.for k0_t4_loop k0_t4_ok ⟨⟩ (fun k _ => prep B.a2 B.a3 B.a5 B.a17 B.a18 B.h18 B.a19 B.a20 (prepAt4 k))
  pure ⟨⟩

set_option maxRecDepth 65536 in
set_option maxHeartbeats 4000000 in
theorem stretch109_eq (B : Bufs) : k0_part109 (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 = stretch109 B := rfl

/-- A stretch of the kernel: weights arriving and prepared. -/
def stretch110 (B : Bufs) : Prog (TpuEff nD τ sig (Elt F) Λ₀ .tc) Unit := do
  wStart B.a4 B.a17 B.a25 3 768 inb_S6_S1_3 inb_S6x256x1024_S1x256x1024_3_0_0 inb_S1024x1024_S256x1024_768_0
  wWait B.a6 B.a17 B.a25 4 256 inb_S6_S1_4 inb_S6x256x1024_S1x256x1024_4_0_0 inb_S1024x1024_S256x1024_256_0
  Scf.Loop.for k0_t5_loop k0_t5_ok ⟨⟩ (fun k _ => prep B.a2 B.a3 B.a7 B.a17 B.a18 B.h18 B.a19 B.a20 (prepAt5 k))
  wStart B.a6 B.a17 B.a25 4 768 inb_S6_S1_4 inb_S6x256x1024_S1x256x1024_4_0_0 inb_S1024x1024_S256x1024_768_0
  wWait B.a8 B.a17 B.a25 5 256 inb_S6_S1_5 inb_S6x256x1024_S1x256x1024_5_0_0 inb_S1024x1024_S256x1024_256_0
  Scf.Loop.for k0_t6_loop k0_t6_ok ⟨⟩ (fun k _ => prep B.a2 B.a3 B.a9 B.a17 B.a18 B.h18 B.a19 B.a20 (prepAt6 k))
  pure ⟨⟩

set_option maxRecDepth 65536 in
set_option maxHeartbeats 4000000 in
theorem stretch110_eq (B : Bufs) : k0_part110 (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 = stretch110 B := rfl

/-- A stretch of the kernel: weights arriving and prepared. -/
def stretch111 (B : Bufs) : Prog (TpuEff nD τ sig (Elt F) Λ₀ .tc) Unit := do
  wStart B.a8 B.a17 B.a25 5 768 inb_S6_S1_5 inb_S6x256x1024_S1x256x1024_5_0_0 inb_S1024x1024_S256x1024_768_0
  wWait B.a4 B.a17 B.a25 0 512 inb_S6_S1_0 inb_S6x256x1024_S1x256x1024_0_0_0 inb_S1024x1024_S256x1024_512_0
  Scf.Loop.for k0_t7_loop k0_t7_ok ⟨⟩ (fun k _ => prep B.a2 B.a3 B.a5 B.a17 B.a18 B.h18 B.a19 B.a20 (prepAt7 k))
  wWait B.a6 B.a17 B.a25 1 512 inb_S6_S1_1 inb_S6x256x1024_S1x256x1024_1_0_0 inb_S1024x1024_S256x1024_512_0
  Scf.Loop.for k0_t8_loop k0_t8_ok ⟨⟩ (fun k _ => prep B.a2 B.a3 B.a7 B.a17 B.a18 B.h18 B.a19 B.a20 (prepAt8 k))
  pure ⟨⟩

set_option maxRecDepth 65536 in
set_option maxHeartbeats 4000000 in
theorem stretch111_eq (B : Bufs) : k0_part111 (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 = stretch111 B := rfl

/-- A stretch of the kernel: weights arriving and prepared. -/
def stretch112 (B : Bufs) : Prog (TpuEff nD τ sig (Elt F) Λ₀ .tc) Unit := do
  wWait B.a8 B.a17 B.a25 2 512 inb_S6_S1_2 inb_S6x256x1024_S1x256x1024_2_0_0 inb_S1024x1024_S256x1024_512_0
  Scf.Loop.for k0_t9_loop k0_t9_ok ⟨⟩ (fun k _ => prep B.a2 B.a3 B.a9 B.a17 B.a18 B.h18 B.a19 B.a20 (prepAt9 k))
  wWait B.a4 B.a17 B.a25 3 768 inb_S6_S1_3 inb_S6x256x1024_S1x256x1024_3_0_0 inb_S1024x1024_S256x1024_768_0
  Scf.Loop.for k0_t10_loop k0_t10_ok ⟨⟩ (fun k _ => prep B.a2 B.a3 B.a5 B.a17 B.a18 B.h18 B.a19 B.a20 (prepAt10 k))
  wWait B.a6 B.a17 B.a25 4 768 inb_S6_S1_4 inb_S6x256x1024_S1x256x1024_4_0_0 inb_S1024x1024_S256x1024_768_0
  Scf.Loop.for k0_t11_loop k0_t11_ok ⟨⟩ (fun k _ => prep B.a2 B.a3 B.a7 B.a17 B.a18 B.h18 B.a19 B.a20 (prepAt11 k))
  wWait B.a8 B.a17 B.a25 5 768 inb_S6_S1_5 inb_S6x256x1024_S1x256x1024_5_0_0 inb_S1024x1024_S256x1024_768_0
  Scf.Loop.for k0_t12_loop k0_t12_ok ⟨⟩ (fun k _ => prep B.a2 B.a3 B.a9 B.a17 B.a18 B.h18 B.a19 B.a20 (prepAt12 k))
  pure ⟨⟩

set_option maxRecDepth 65536 in
set_option maxHeartbeats 4000000 in
theorem stretch112_eq (B : Bufs) : k0_part112 (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 = stretch112 B := rfl

/-- One row of scales: sixteen lanes' own numbers, gathered to a row. -/
def row (arg23 : Memref sig .tc .vmem S3x12x16x128 .f32) (argo : Memref sig .tc .vmem S12x16 .f32) (t b : ℕ)
    (h1 : ∀ a, ![t, b, 0, 0] a + S1x1x16x128.size a ≤ S3x12x16x128.size a) (h2 : ∀ a, ![b, 0] a + S1x16.size a ≤ S12x16.size a) :
    Prog (TpuEff nD τ sig (Elt F) Λ₀ .tc) Unit := do
  let v : Vec F S1x1x16x128 .f32 ← Prog.lift (.load arg23 (Rect.unit (s := S3x12x16x128) ![t, b, 0, 0] S1x1x16x128.size h1).toLoadRect (View.loadsAt_vmem h_S1x1x16x128))
  let _ : Vec F S1x16 .f32 ← Prog.lift (.load argo (Rect.unit (s := S12x16) ![b, 0] S1x16.size h2).toLoadRect (View.loadsAt_vmem h_S1x16))
  Prog.lift (.store argo (Rect.unit (s := S12x16) ![b, 0] S1x16.size h2) (k0_pay427 v) Finset.univ (View.stores_vmem_bits_univ h_S1x16 rfl) (.inl rfl))

theorem row_inb1 {t b : ℕ} (ht : t < 3) (hb : b < 12) : ∀ a, ![t, b, 0, 0] a + S1x1x16x128.size a ≤ S3x12x16x128.size a := by
  rw [Fin.forall_fin_succ, Fin.forall_fin_succ, Fin.forall_fin_two]
  exact ⟨ht, hb, Nat.le_refl 16, Nat.le_refl 128⟩
theorem row_inb2 {b : ℕ} (hb : b < 12) : ∀ a, ![b, 0] a + S1x16.size a ≤ S12x16.size a := by
  rw [Fin.forall_fin_two]
  exact ⟨hb, Nat.le_refl 16⟩

/-- The rows of a list, in order. -/
def runRows (arg23 : Memref sig .tc .vmem S3x12x16x128 .f32) (argo : Memref sig .tc .vmem S12x16 .f32) (t : ℕ) (ht : t < 3) :
    List (Fin 12) → Prog (TpuEff nD τ sig (Elt F) Λ₀ .tc) Unit
  | [] => pure ⟨⟩
  | b :: l => do
    row arg23 argo t b.val (row_inb1 ht b.isLt) (row_inb2 b.isLt)
    runRows arg23 argo t ht l

def allRows : List (Fin 12) := [0, 1, 2, 3, 4, 5, 6, 7, 8, 9, 10, 11]

/-- The wait for a result. -/
def outWait (arg22 : Memref sig .tc .vmem S3x12x1024x128 .fp8e4m3) (argo : Memref sig .tc .hbm S12x1024x128 .fp8e4m3)
    (arg26 : DmaSems sig S3) (t : ℕ) (hs : ∀ a, ![t] a + S1.size a ≤ S3.size a) (h : ∀ a, ![t, 0, 0, 0] a + S1x12x1024x128.size a ≤ S3x12x1024x128.size a)
    (e1 : ((arg22.slice (Rect.unit (s := S3x12x1024x128) ![t, 0, 0, 0] S1x12x1024x128.size h) (fun _ => rfl)).squeeze S12x1024x128 squeezes_S1x12x1024x128_S12x1024x128).view.WordExact)
    (e2 : argo.view.WordExact) : Prog (TpuEff nD τ sig (Elt F) Λ₀ .tc) Unit :=
  Prog.lift (.waitDma2 ((arg26.slice (Rect.unit (s := S3) ![t] S1.size hs)).squeeze S_ squeezes_S1_S_).sem
    ((arg22.slice (Rect.unit (s := S3x12x1024x128) ![t, 0, 0, 0] S1x12x1024x128.size h) (fun _ => rfl)).squeeze S12x1024x128 squeezes_S1x12x1024x128_S12x1024x128)
    argo e1 e2)

/-- The rows of scales and the waits for the results. -/
def finish (B : Bufs) : Prog (TpuEff nD τ sig (Elt F) Λ₀ .tc) Unit := do
  runRows B.a23 B.a11 0 (by decide) allRows
  runRows B.a23 B.a13 1 (by decide) allRows
  runRows B.a23 B.a15 2 (by decide) allRows
  outWait B.a22 B.a10 B.a26 0 inb_S3_S1_0 inb_S3x12x1024x128_S1x12x1024x128_0_0_0_0 ((B.h22.wordExact_slice rfl _ wordsfp8e4m3_S3x12x1024x128_S1x12x1024x128_0_0_0_0).reshape _ _) B.h10.wordExact
  outWait B.a22 B.a12 B.a26 1 inb_S3_S1_1 inb_S3x12x1024x128_S1x12x1024x128_1_0_0_0 ((B.h22.wordExact_slice rfl _ wordsfp8e4m3_S3x12x1024x128_S1x12x1024x128_1_0_0_0).reshape _ _) B.h12.wordExact
  outWait B.a22 B.a14 B.a26 2 inb_S3_S1_2 inb_S3x12x1024x128_S1x12x1024x128_2_0_0_0 ((B.h22.wordExact_slice rfl _ wordsfp8e4m3_S3x12x1024x128_S1x12x1024x128_2_0_0_0).reshape _ _) B.h14.wordExact

/-- What the printed parts run between the loop over the pairs and the last wait. -/
def tailA (B : Bufs) : Prog (TpuEff nD τ sig (Elt F) Λ₀ .tc) (Σ' (v160 : IVec S16x128 1), FVec F S1x16 .f32) := do
  let v161 : Vec F S1x1x16x128 .f32 ← Prog.lift (.load B.a23 (Rect.unit (s := S3x12x16x128) ![0, 0, 0, 0] S1x1x16x128.size inb_S3x12x16x128_S1x1x16x128_0_0_0_0).toLoadRect (View.loadsAt_vmem h_S1x1x16x128))
  let v168 : Vec F S1x16 .f32 ← Prog.lift (.load B.a11 (Rect.unit (s := S12x16) ![0, 0] S1x16.size inb_S12x16_S1x16_0_0).toLoadRect (View.loadsAt_vmem h_S1x16))
  Prog.lift (.store B.a11 (Rect.unit (s := S12x16) ![0, 0] S1x16.size inb_S12x16_S1x16_0_0) (k0_pay427 v161) Finset.univ (View.stores_vmem_bits_univ h_S1x16 rfl) (.inl rfl))
  let v169 : Vec F S1x1x16x128 .f32 ← Prog.lift (.load B.a23 (Rect.unit (s := S3x12x16x128) ![0, 1, 0, 0] S1x1x16x128.size inb_S3x12x16x128_S1x1x16x128_0_1_0_0).toLoadRect (View.loadsAt_vmem h_S1x1x16x128))
  let v176 : Vec F S1x16 .f32 ← Prog.lift (.load B.a11 (Rect.unit (s := S12x16) ![1, 0] S1x16.size inb_S12x16_S1x16_1_0).toLoadRect (View.loadsAt_vmem h_S1x16))
  Prog.lift (.store B.a11 (Rect.unit (s := S12x16) ![1, 0] S1x16.size inb_S12x16_S1x16_1_0) (k0_pay428 v169) Finset.univ (View.stores_vmem_bits_univ h_S1x16 rfl) (.inl rfl))
  let v177 : Vec F S1x1x16x128 .f32 ← Prog.lift (.load B.a23 (Rect.unit (s := S3x12x16x128) ![0, 2, 0, 0] S1x1x16x128.size inb_S3x12x16x128_S1x1x16x128_0_2_0_0).toLoadRect (View.loadsAt_vmem h_S1x1x16x128))
  let v184 : Vec F S1x16 .f32 ← Prog.lift (.load B.a11 (Rect.unit (s := S12x16) ![2, 0] S1x16.size inb_S12x16_S1x16_2_0).toLoadRect (View.loadsAt_vmem h_S1x16))
  pure ⟨k0_pay426, k0_pay429 v177⟩
def tailB (B : Bufs) (r : Σ' (v160 : IVec S16x128 1), FVec F S1x16 .f32) : Prog (TpuEff nD τ sig (Elt F) Λ₀ .tc) PUnit := do
  let ⟨v160, v183⟩ : Σ' (v160 : IVec S16x128 1), FVec F S1x16 .f32 := r
  let ⟨v210, v211⟩ : Σ' (v210 : FVec F S16x128 .f32), FVec F S16x128 .f32 ← k0_part114 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160 v183
  k0_part115 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160 v210 v211
  let v268 : FVec F S16x128 .f32 ← k0_part116 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160
  k0_part117 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160 v268
  let v324 : FVec F S16x128 .f32 ← k0_part118 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160
  k0_part119 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160 v324
  let v381 : FVec F S128 .f32 ← k0_part120 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160
  k0_part121 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160 v381
  let v438 : FVec F S1x128 .f32 ← k0_part122 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v160
  let v440 : Vec F S1x16 .f32 ← Prog.lift (.load B.a15 (Rect.unit (s := S12x16) ![10, 0] S1x16.size inb_S12x16_S1x16_10_0).toLoadRect (View.loadsAt_vmem h_S1x16))
  Prog.lift (.store B.a15 (Rect.unit (s := S12x16) ![10, 0] S1x16.size inb_S12x16_S1x16_10_0) (k0_pay467 v438) Finset.univ (View.stores_vmem_bits_univ h_S1x16 rfl) (.inl rfl))
  let v441 : Vec F S1x1x16x128 .f32 ← Prog.lift (.load B.a23 (Rect.unit (s := S3x12x16x128) ![2, 11, 0, 0] S1x1x16x128.size inb_S3x12x16x128_S1x1x16x128_2_11_0_0).toLoadRect (View.loadsAt_vmem h_S1x1x16x128))
  let v448 : Vec F S1x16 .f32 ← Prog.lift (.load B.a15 (Rect.unit (s := S12x16) ![11, 0] S1x16.size inb_S12x16_S1x16_11_0).toLoadRect (View.loadsAt_vmem h_S1x16))
  Prog.lift (.store B.a15 (Rect.unit (s := S12x16) ![11, 0] S1x16.size inb_S12x16_S1x16_11_0) (k0_pay468 v160 v441) Finset.univ (View.stores_vmem_bits_univ h_S1x16 rfl) (.inl rfl))
  let v449 : DmaSems sig S1 := B.a26.slice (Rect.unit (s := S3) ![0] S1.size inb_S3_S1_0)
  let v450 : DmaSems sig S_ := v449.squeeze S_ squeezes_S1_S_
  let v451 : Memref sig .tc .vmem S1x12x1024x128 .fp8e4m3 := B.a22.slice (Rect.unit (s := S3x12x1024x128) ![0, 0, 0, 0] S1x12x1024x128.size inb_S3x12x1024x128_S1x12x1024x128_0_0_0_0) (fun _ => rfl)
  let v452 : Memref sig .tc .vmem S12x1024x128 .fp8e4m3 := v451.squeeze S12x1024x128 squeezes_S1x12x1024x128_S12x1024x128
  Prog.lift (.waitDma2 v450.sem v452 B.a10 ((B.h22.wordExact_slice rfl _ wordsfp8e4m3_S3x12x1024x128_S1x12x1024x128_0_0_0_0).reshape _ _) B.h10.wordExact)
  let v453 : DmaSems sig S1 := B.a26.slice (Rect.unit (s := S3) ![1] S1.size inb_S3_S1_1)
  let v454 : DmaSems sig S_ := v453.squeeze S_ squeezes_S1_S_
  let v455 : Memref sig .tc .vmem S1x12x1024x128 .fp8e4m3 := B.a22.slice (Rect.unit (s := S3x12x1024x128) ![1, 0, 0, 0] S1x12x1024x128.size inb_S3x12x1024x128_S1x12x1024x128_1_0_0_0) (fun _ => rfl)
  let v456 : Memref sig .tc .vmem S12x1024x128 .fp8e4m3 := v455.squeeze S12x1024x128 squeezes_S1x12x1024x128_S12x1024x128
  Prog.lift (.waitDma2 v454.sem v456 B.a12 ((B.h22.wordExact_slice rfl _ wordsfp8e4m3_S3x12x1024x128_S1x12x1024x128_1_0_0_0).reshape _ _) B.h12.wordExact)
  pure ⟨⟩
def tailC (B : Bufs) : Prog (TpuEff nD τ sig (Elt F) Λ₀ .tc) PUnit :=
  outWait B.a22 B.a14 B.a26 2 inb_S3_S1_2 inb_S3x12x1024x128_S1x12x1024x128_2_0_0_0 ((B.h22.wordExact_slice rfl _ wordsfp8e4m3_S3x12x1024x128_S1x12x1024x128_2_0_0_0).reshape _ _) B.h14.wordExact

set_option maxRecDepth 65536 in
set_option maxHeartbeats 4000000 in
theorem tail_eq (B : Bufs) : (do let r ← tailA (F := F) B; tailB B r; tailC B) = finish B := rfl

set_option maxRecDepth 65536 in
set_option maxHeartbeats 4000000 in
theorem part113_eq (B : Bufs) : k0_part113 (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 lane
    = (do Scf.Loop.for k0_t13_loop k0_t13_ok ⟨⟩ (fun p _ => pairBody (F := F) B p); tailA B) :=
  congrArg (fun f : Fin k0_t13_loop.trips → PUnit → Prog (TpuEff nD τ sig (Elt F) Λ₀ .tc) PUnit => (Scf.Loop.for k0_t13_loop k0_t13_ok PUnit.unit f >>= fun _ => tailA B)) (funext fun p => funext fun z => t13_eq B p z)

set_option maxRecDepth 65536 in
set_option maxHeartbeats 4000000 in
theorem main_eq (B : Bufs) : cc0_graphormer (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26
    = (do (do k0_part106 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26; k0_part107 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26; let v ← k0_part108 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26; k0_part109 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26; k0_part110 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26
              k0_part111 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26; k0_part112 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26; let r ← k0_part113 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26 v; tailB B r); tailC B) := rfl

end Cert.KernelIdeal.Pf
-- ==== Proof.Ideal.StepRing.lean ====
/- The steps before the loop over the pairs: the copies of the input's rows, and the ring of weight copies with the
   preparation of each group as it arrives. -/
module

public import proofs.«01_k».proof.Proof.Ideal.MainProg

@[expose] public section
@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-! ### The input's rows -/

/-- The rows of pair `j` before copy `s` starts: on their way, or still at home. -/
def xS (B : Bufs) (NX s : ℕ) (j : Fin 6) : sProp 𝕄 :=
  if j.val < s then Transfers.Flight (countersEmb (U := Pipeline.UD sig nD τ)) (th c) (cell6 B.a24 j.val) () NX (xHere c I B j.val)
  else iprop(Hold (th c) B.a16 (xM j.val) (fun _ => False) I.x ∗ Hold (th c) B.a1 (xM j.val) (fun _ => True) I.x ∗ semVal (th c, cell6 B.a24 j.val) 0)

theorem xM_eq {j : ℕ} {o} {inb} (ho : o = 256 * j) :
    xM j = Finset.univ.map (Rect.unit (s := S1536x1024) ![o, 0] S256x1024.size inb).emb := by
  subst ho
  ext x
  rw [mem_map_unit, Fin.forall_fin_two]
  have x1 : (x 1).val < 1024 := (x 1).isLt
  unfold xM
  rw [Finset.mem_filter]
  show _ ∧ (x 0).val / 256 = j ↔ (256 * j ≤ (x 0).val ∧ (x 0).val < 256 * j + 256) ∧ (0 ≤ (x 1).val ∧ (x 1).val < 0 + 1024)
  simp only [Finset.mem_univ, true_and]
  omega

theorem wp_xStart (B : Bufs) {NX NW NO : ℕ} (hC : Cred B NX NW NO) (s : ℕ) (hs6 : s < 6) {o : ℕ} {hs h e1 e2} (ho : o = 256 * s)
    {R : Unit → sProp (MT nD τ sig Unit (Elt F) ℕ (Pipeline.UD sig nD τ) ℕ)} :
    bigSep Finset.univ (xS c I B NX s)
    ⊢ iprop((bigSep Finset.univ (xS c I B NX (s + 1)) -∗ R ⟨⟩)
      -∗ wp frame (wpE defs 𝒱 (th c) bd) Set.univ (xStart (F := F) B.a1 B.a16 B.a24 s o hs h e1 e2) R) := by
  have ht := take (⟨s, hs6⟩ : Fin 6) (xS c I B NX s) (xS c I B NX (s + 1)) (fun j hj => by
    have : j.val ≠ s := fun h => hj (Fin.ext h)
    unfold xS
    rw [if_congr (show j.val < s ↔ j.val < s + 1 by omega) rfl rfl])
  have q1 : xS c I B NX s (⟨s, hs6⟩ : Fin 6) = _ := if_neg (Nat.lt_irrefl _)
  have q2 : xS c I B NX (s + 1) (⟨s, hs6⟩ : Fin 6) = _ := if_pos (Nat.lt_succ_self _)
  rw [q1, q2] at ht
  iintro HX Hk
  icases ht $$ HX with ⟨⟨H16, H1, Hv⟩, HX⟩
  unfold xStart
  have hc := cell6_eq B.a24 (i := s) (o := ![s]) (inb := hs) rfl
  rw [← hc]
  iapply (dma_l 𝒱 (th c) bd (countersEmb (U := Pipeline.UD sig nD τ)) (sm := .dma ((B.a24.slice (Rect.unit (s := S6) ![s] S1.size hs)).squeeze S_ squeezes_S1_S_).sem) () NX (hC.x _ _)
    (hC.x ![o, 0] h ▸ View.dmaCredit_pos _ (show 0 < S256x1024.numel by decide)) (P := fun _ => False)
    (spec := fun y => I.x ((Rect.unit (s := S1536x1024) ![o, 0] S256x1024.size h).emb y))
    (spec' := fun y => I.x ((Rect.unit (s := S1536x1024) ![o, 0] S256x1024.size h).emb y))) $$ [H16 H1 Hv]
  · isplitl [H1]
    · iapply (Hold.toSlice (c := th c) (m := B.a1) (Rect.unit (s := S1536x1024) ![o, 0] S256x1024.size h) (fun _ => rfl) (xM_eq ho) fun y h => ⟨h, rfl⟩) $$ H1
    isplitl [H16]
    · iapply (Hold.toSlice (c := th c) (m := B.a16) (Rect.unit (s := S1536x1024) ![o, 0] S256x1024.size h) (fun _ => rfl) (xM_eq ho) fun y h => ⟨h, rfl⟩) $$ H16
    iexact Hv
  iintro HF
  iapply Hk
  iapply HX
  iapply (Transfers.Flight_mono (countersEmb (U := Pipeline.UD sig nD τ)) (th c) (?_ : _ ⊢ xHere c I B s)) $$ HF
  exact sep_mono (Hold.ofSlice (c := th c) (m := B.a16) (Rect.unit (s := S1536x1024) ![o, 0] S256x1024.size h) (fun _ => rfl) (xM_eq ho) fun y _ => ⟨trivial, rfl⟩)
      (Hold.ofSlice (c := th c) (m := B.a1) (Rect.unit (s := S1536x1024) ![o, 0] S256x1024.size h) (fun _ => rfl) (xM_eq ho) fun y _ => ⟨trivial, rfl⟩)

/-! ### The weights' ring -/

/-- The weight and the bias of projection `t`. -/
def wArg (B : Bufs) (t : ℕ) : Memref sig .tc .hbm S1024x1024 .f32 := if t = 0 then B.a4 else if t = 1 then B.a6 else B.a8
def bArg (B : Bufs) (t : ℕ) : Memref sig .tc .vmem S16x64 .f32 := if t = 0 then B.a5 else if t = 1 then B.a7 else B.a9

/-- Group `g` of a weight's rows. -/
def wM (g : ℕ) : Finset S1024x1024.Idx := Finset.univ.filter (fun x => (x 0).val / 256 = g)

/-- What the copy of item `i` hands back. -/
def wHere (B : Bufs) (i : ℕ) : sProp 𝕄 :=
  iprop(Hold (th c) B.a17 (slotM (i % 6)) (fun _ => True) (wstS I (i % 3) (i / 3)) ∗ Hold (th c) (wArg B (i % 3)) (wM (i / 3)) (fun _ => True) (I.w (i % 3)))

/-- Item `i` once the first `s` copies have started and the first `w` have been waited for. -/
def wI (B : Bufs) (NW s w : ℕ) (i : Fin 12) : sProp 𝕄 :=
  if w ≤ i.val ∧ i.val < s then Transfers.Flight (countersEmb (U := Pipeline.UD sig nD τ)) (th c) (cell6 B.a25 (i.val % 6)) () NW (wHere c I B i.val)
  else Hold (th c) (wArg B (i.val % 3)) (wM (i.val / 3)) (fun _ => True) (I.w (i.val % 3))

/-- Slot `j`, free when as many copies to it have been waited for as have started. -/
def wF (B : Bufs) (s w : ℕ) (j : Fin 6) : sProp 𝕄 :=
  if (s + 5 - j.val) / 6 = (w + 5 - j.val) / 6 then
    iprop(Hold (th c) B.a17 (slotM j.val) (fun _ => False) (wstS I 0 0) ∗ semVal (th c, cell6 B.a25 j.val) 0)
  else iprop(emp)

def ring (B : Bufs) (NW s w : ℕ) : sProp 𝕄 :=
  iprop(bigSep Finset.univ (wI c I B NW s w) ∗ bigSep Finset.univ (wF c I B s w))

theorem wM_eq {g : ℕ} {o} {inb} (ho : o = 256 * g) :
    wM g = Finset.univ.map (Rect.unit (s := S1024x1024) ![o, 0] S256x1024.size inb).emb := by
  subst ho
  ext x
  rw [mem_map_unit, Fin.forall_fin_two]
  have x1 : (x 1).val < 1024 := (x 1).isLt
  unfold wM
  rw [Finset.mem_filter]
  show _ ∧ (x 0).val / 256 = g ↔ (256 * g ≤ (x 0).val ∧ (x 0).val < 256 * g + 256) ∧ (0 ≤ (x 1).val ∧ (x 1).val < 0 + 1024)
  simp only [Finset.mem_univ, true_and]
  omega

theorem slotM_eq {j : ℕ} {inb} :
    slotM j = Finset.univ.map (Rect.unit (s := S6x256x1024) ![j, 0, 0] S1x256x1024.size inb).emb := by
  ext x
  rw [mem_map_unit, Fin.forall_fin_succ, Fin.forall_fin_two]
  have x1 : (x 1).val < 256 := (x 1).isLt
  have x2 : (x 2).val < 1024 := (x 2).isLt
  unfold slotM
  rw [Finset.mem_filter]
  show _ ∧ (x 0).val = j ↔ (j ≤ (x 0).val ∧ (x 0).val < j + 1) ∧ (0 ≤ (x 1).val ∧ (x 1).val < 0 + 256) ∧ (0 ≤ (x 2).val ∧ (x 2).val < 0 + 1024)
  simp only [Finset.mem_univ, true_and]
  omega

theorem sq_slot (h : S256x1024.numel = S1x256x1024.numel) (y : S256x1024.Idx) :
    (Shape.reshapeEquiv (s := S1x256x1024) (s' := S256x1024) h y) = ix S1x256x1024 ![0, (y 0).val, (y 1).val] := by
  refine Shape.reshapeEquiv_eq_of_rowMajor h ?_
  have y0 : (y 0).val < 256 := (y 0).isLt
  have y1 : (y 1).val < 1024 := (y 1).isLt
  rw [Shape.rowMajor_val_three, Shape.rowMajor_val_two]
  show (0 % 1 * 256 + (y 0).val % 256) * 1024 + (y 1).val % 1024 = (y 0).val * 1024 + (y 1).val
  omega

/-- A weight read where the copy reads it is the slot's there. -/
theorem wst_val (t g j : ℕ) {o} {inb inb'} (ho : o = 256 * g) (h : S256x1024.numel = S1x256x1024.numel) (y : S256x1024.Idx) :
    wstS I t g ((Rect.unit (s := S6x256x1024) ![j, 0, 0] S1x256x1024.size inb).emb (Shape.reshapeEquiv (s := S1x256x1024) h y))
      = I.w t ((Rect.unit (s := S1024x1024) ![o, 0] S256x1024.size inb').emb y) := by
  have y0 : (y 0).val < 256 := (y 0).isLt
  have y1 : (y 1).val < 1024 := (y 1).isLt
  unfold wstS
  refine congrArg (I.w t) ?_
  refine ix_eq ?_
  rw [sq_slot h y]
  intro a
  simp only [emb_val]
  revert a
  rw [Fin.forall_fin_two]
  refine ⟨?_, ?_⟩
  · show 256 * g + (0 + (y 0).val % 256) = o + (y 0).val; omega
  · show 0 + (y 1).val % 1024 = 0 + (y 1).val; omega

theorem wp_wStart (B : Bufs) {NX NW NO : ℕ} (hC : Cred B NX NW NO) (s w : ℕ) (hs12 : s < 12) (hws : w ≤ s) (hsw : s < w + 6)
    {argw} (hargw : argw = wArg B (s % 3)) {j o : ℕ} {hs h1 h2} (hj : j = s % 6) (ho : o = 256 * (s / 3))
    {R : Unit → sProp (MT nD τ sig Unit (Elt F) ℕ (Pipeline.UD sig nD τ) ℕ)} :
    ring c I B NW s w
    ⊢ iprop((ring c I B NW (s + 1) w -∗ R ⟨⟩)
      -∗ wp frame (wpE defs 𝒱 (th c) bd) Set.univ (wStart (F := F) argw B.a17 B.a25 j o hs h1 h2) R) := by
  subst hj
  subst hargw
  have ht := take (⟨s, hs12⟩ : Fin 12) (wI c I B NW s w) (wI c I B NW (s + 1) w) (fun j hj => by
    have : j.val ≠ s := fun h => hj (Fin.ext h)
    unfold wI
    rw [if_congr (show (w ≤ j.val ∧ j.val < s) ↔ (w ≤ j.val ∧ j.val < s + 1) by omega) rfl rfl])
  have q1 : wI c I B NW s w (⟨s, hs12⟩ : Fin 12) = _ := if_neg (fun h => Nat.lt_irrefl _ h.2)
  have q2 : wI c I B NW (s + 1) w (⟨s, hs12⟩ : Fin 12) = _ := if_pos ⟨hws, Nat.lt_succ_self _⟩
  rw [q1, q2] at ht
  have hf := take (⟨s % 6, Nat.mod_lt _ (by decide)⟩ : Fin 6) (wF c I B s w) (wF c I B (s + 1) w) (fun j hj => by
    have : j.val ≠ s % 6 := fun h => hj (Fin.ext h)
    have : j.val < 6 := j.isLt
    unfold wF
    rw [if_congr (show ((s + 5 - j.val) / 6 = (w + 5 - j.val) / 6) ↔ ((s + 1 + 5 - j.val) / 6 = (w + 5 - j.val) / 6) by omega) rfl rfl])
  have q3 : wF c I B s w (⟨s % 6, Nat.mod_lt _ (by decide)⟩ : Fin 6) = _ := if_pos (show (s + 5 - s % 6) / 6 = (w + 5 - s % 6) / 6 by omega)
  have q4 : wF c I B (s + 1) w (⟨s % 6, Nat.mod_lt _ (by decide)⟩ : Fin 6) = _ := if_neg (show ¬ (s + 1 + 5 - s % 6) / 6 = (w + 5 - s % 6) / 6 by omega)
  rw [q3, q4] at hf
  unfold ring
  iintro ⟨HI, HF⟩ Hk
  icases ht $$ HI with ⟨Hw, HI⟩
  icases hf $$ HF with ⟨⟨H17, Hv⟩, HF⟩
  unfold wStart
  have hc := cell6_eq B.a25 (i := s % 6) (o := ![s % 6]) (inb := hs) rfl
  rw [← hc]
  iapply (dma_l 𝒱 (th c) bd (countersEmb (U := Pipeline.UD sig nD τ)) (sm := .dma ((B.a25.slice (Rect.unit (s := S6) ![s % 6] S1.size hs)).squeeze S_ squeezes_S1_S_).sem) () NW (hC.w _ _)
    (hC.w ![s % 6, 0, 0] h1 ▸ View.dmaCredit_pos _ (show 0 < S256x1024.numel by decide)) (P := fun _ => False)
    (spec := fun y => I.w (s % 3) ((Rect.unit (s := S1024x1024) ![o, 0] S256x1024.size h2).emb y))
    (spec' := fun y => I.w (s % 3) ((Rect.unit (s := S1024x1024) ![o, 0] S256x1024.size h2).emb y))) $$ [H17 Hw Hv]
  · isplitl [Hw]
    · iapply (Hold.toSlice (c := th c) (m := wArg B (s % 3)) (Rect.unit (s := S1024x1024) ![o, 0] S256x1024.size h2) (fun _ => rfl) (wM_eq ho) fun y h => ⟨h, rfl⟩) $$ Hw
    isplitl [H17]
    · iapply (Hold.toSliceSq (c := th c) (m := B.a17) (Rect.unit (s := S6x256x1024) ![s % 6, 0, 0] S1x256x1024.size h1) (fun _ => rfl) squeezes_S1x256x1024_S256x1024 slotM_eq fun y h => h.elim) $$ H17
    iexact Hv
  iintro HT
  iapply Hk
  isplitl [HI HT]
  · iapply HI
    iapply (Transfers.Flight_mono (countersEmb (U := Pipeline.UD sig nD τ)) (th c) (?_ : _ ⊢ wHere c I B s)) $$ HT
    exact sep_mono (Hold.ofSliceSq (c := th c) (m := B.a17) (P := fun _ => True) (Rect.unit (s := S6x256x1024) ![s % 6, 0, 0] S1x256x1024.size h1) (fun _ => rfl) squeezes_S1x256x1024_S256x1024 slotM_eq
        fun y _ => ⟨trivial, (wst_val I (s % 3) (s / 3) (s % 6) ho _ y).symm⟩)
      (Hold.ofSlice (c := th c) (m := wArg B (s % 3)) (Rect.unit (s := S1024x1024) ![o, 0] S256x1024.size h2) (fun _ => rfl) (wM_eq ho) fun y _ => ⟨trivial, rfl⟩)
  iapply HF
  iempintro

/-! ### An item: its wait and its preparation -/

/-- The norm's weights, the biases and what has been prepared before chunk `n`. -/
def prepI (B : Bufs) (n : ℕ) : sProp 𝕄 :=
  iprop(Hold (th c) B.a2 Finset.univ (fun _ => True) I.g ∗ Hold (th c) B.a3 Finset.univ (fun _ => True) I.lb
    ∗ (Hold (th c) B.a5 Finset.univ (fun _ => True) (I.b 0) ∗ Hold (th c) B.a7 Finset.univ (fun _ => True) (I.b 1) ∗ Hold (th c) B.a9 Finset.univ (fun _ => True) (I.b 2))
    ∗ Hold (th c) B.a18 Finset.univ (wpD n 0) (wpS I) ∗ Hold (th c) B.a19 Finset.univ (cD n) (csS I) ∗ Hold (th c) B.a20 Finset.univ (cD n) (cbS I))

theorem bias_take (B : Bufs) (t : ℕ) (ht : t < 3) :
    (iprop(Hold (th c) B.a5 Finset.univ (fun _ => True) (I.b 0) ∗ Hold (th c) B.a7 Finset.univ (fun _ => True) (I.b 1) ∗ Hold (th c) B.a9 Finset.univ (fun _ => True) (I.b 2)) : sProp 𝕄)
    ⊢ iprop(Hold (th c) (bArg B t) Finset.univ (fun _ => True) (I.b t) ∗ (Hold (th c) (bArg B t) Finset.univ (fun _ => True) (I.b t)
      -∗ iprop(Hold (th c) B.a5 Finset.univ (fun _ => True) (I.b 0) ∗ Hold (th c) B.a7 Finset.univ (fun _ => True) (I.b 1) ∗ Hold (th c) B.a9 Finset.univ (fun _ => True) (I.b 2)))) := by
  obtain rfl | rfl | rfl : t = 0 ∨ t = 1 ∨ t = 2 := by omega
  · show _ ⊢ iprop(Hold (th c) B.a5 Finset.univ (fun _ => True) (I.b 0) ∗ (Hold (th c) B.a5 Finset.univ (fun _ => True) (I.b 0) -∗ _))
    iintro ⟨H5, H7, H9⟩
    isplitl [H5]; · iexact H5
    iintro H5
    isplitl [H5]; · iexact H5
    isplitl [H7]; · iexact H7
    iexact H9
  · show _ ⊢ iprop(Hold (th c) B.a7 Finset.univ (fun _ => True) (I.b 1) ∗ (Hold (th c) B.a7 Finset.univ (fun _ => True) (I.b 1) -∗ _))
    iintro ⟨H5, H7, H9⟩
    isplitl [H7]; · iexact H7
    iintro H7
    isplitl [H5]; · iexact H5
    isplitl [H7]; · iexact H7
    iexact H9
  · show _ ⊢ iprop(Hold (th c) B.a9 Finset.univ (fun _ => True) (I.b 2) ∗ (Hold (th c) B.a9 Finset.univ (fun _ => True) (I.b 2) -∗ _))
    iintro ⟨H5, H7, H9⟩
    isplitl [H9]; · iexact H9
    iintro H9
    isplitl [H5]; · iexact H5
    isplitl [H7]; · iexact H7
    iexact H9

theorem wp_item (B : Bufs) {NX NW NO : ℕ} (hC : Cred B NX NW NO) (s w : ℕ) (hw12 : w < 12) (hws : w < s) (hsw : s ≤ w + 6)
    {argw argb} (hargw : argw = wArg B (w % 3)) (hargb : argb = bArg B (w % 3)) {j o : ℕ} {hs h1 h2} (hj : j = w % 6)
    {l : Scf.Loop 32} (hl : l.OK) (htr : Scf.trips l.lb l.ub l.st = 16) {slot g t : ℕ} (q : ∀ k : Fin l.trips, PrepAt slot g t k.val)
    (hslot : slot = w % 6) (hg : g = w / 3) (htt : t = w % 3) {n : ℕ} (hn : n = 16 * w)
    {R : Unit → sProp (MT nD τ sig Unit (Elt F) ℕ (Pipeline.UD sig nD τ) ℕ)} :
    (iprop(ring c I B NW s w ∗ prepI c I B n ∗ ∃ W, owes (th c) 0 W) : sProp 𝕄)
    ⊢ iprop((iprop(ring c I B NW s (w + 1) ∗ prepI c I B (n + 16) ∗ ∃ W, owes (th c) 0 W) -∗ R ⟨⟩)
      -∗ wp frame (wpE defs 𝒱 (th c) bd) Set.univ (wWait (F := F) argw B.a17 B.a25 j o hs h1 h2)
        (fun _ => wp frame (wpE defs 𝒱 (th c) bd) Set.univ (Scf.Loop.for l hl ⟨⟩ (fun k _ => prep (F := F) B.a2 B.a3 argb B.a17 B.a18 B.h18 B.a19 B.a20 (q k))) R)) := by
  subst hj; subst hargw; subst hargb; subst hslot; subst hg; subst htt
  have ht := take (⟨w, hw12⟩ : Fin 12) (wI c I B NW s w) (wI c I B NW s (w + 1)) (fun j hj => by
    have : j.val ≠ w := fun h => hj (Fin.ext h)
    unfold wI
    rw [if_congr (show (w ≤ j.val ∧ j.val < s) ↔ (w + 1 ≤ j.val ∧ j.val < s) by omega) rfl rfl])
  have q1 : wI c I B NW s w (⟨w, hw12⟩ : Fin 12) = _ := if_pos ⟨Nat.le_refl _, hws⟩
  have q2 : wI c I B NW s (w + 1) (⟨w, hw12⟩ : Fin 12) = _ := if_neg (fun h => Nat.lt_irrefl _ h.1)
  rw [q1, q2] at ht
  have hf := take (⟨w % 6, Nat.mod_lt _ (by decide)⟩ : Fin 6) (wF c I B s w) (wF c I B s (w + 1)) (fun j hj => by
    have : j.val ≠ w % 6 := fun h => hj (Fin.ext h)
    have : j.val < 6 := j.isLt
    unfold wF
    rw [if_congr (show ((s + 5 - j.val) / 6 = (w + 5 - j.val) / 6) ↔ ((s + 5 - j.val) / 6 = (w + 1 + 5 - j.val) / 6) by omega) rfl rfl])
  have q3 : wF c I B s w (⟨w % 6, Nat.mod_lt _ (by decide)⟩ : Fin 6) = _ := if_neg (show ¬ (s + 5 - w % 6) / 6 = (w + 5 - w % 6) / 6 by omega)
  have q4 : wF c I B s (w + 1) (⟨w % 6, Nat.mod_lt _ (by decide)⟩ : Fin 6) = _ := if_pos (show (s + 5 - w % 6) / 6 = (w + 1 + 5 - w % 6) / 6 by omega)
  rw [q3, q4] at hf
  unfold ring
  iintro ⟨⟨HI, HF⟩, HP, HW⟩ Hk
  icases ht $$ HI with ⟨HT, HI⟩
  icases hf $$ HF with ⟨-, HF⟩
  unfold wWait
  have hc := cell6_eq B.a25 (i := w % 6) (o := ![w % 6]) (inb := hs) rfl
  rw [← hc]
  iapply (wait_l 𝒱 (th c) bd (countersEmb (U := Pipeline.UD sig nD τ)) () (hC.w _ _) (D := wHere c I B w)) $$ [HT HW]
  · isplitl [HT]; · iexact HT
    iexact HW
  unfold wHere prepI
  iintro ⟨⟨H17, Hw⟩, Hv, HW⟩
  icases HP with ⟨H2, H3, HB, H18, H19, H20⟩
  icases (bias_take c I B (w % 3) (Nat.mod_lt _ (by decide))) $$ HB with ⟨Hb, HB⟩
  iapply (Scf.wp_for frame (wpE defs 𝒱 (th c) bd) Set.univ l.lb l.ub l.st hl ⟨⟩ (fun k _ => prep (F := F) B.a2 B.a3 (bArg B (w % 3)) B.a17 B.a18 B.h18 B.a19 B.a20 (q k))
    (fun k _ => iprop(Hold (th c) B.a2 Finset.univ (fun _ => True) I.g ∗ Hold (th c) B.a3 Finset.univ (fun _ => True) I.lb
      ∗ Hold (th c) (bArg B (w % 3)) Finset.univ (fun _ => True) (I.b (w % 3)) ∗ Hold (th c) B.a17 (slotM (w % 6)) (fun _ => True) (wstS I (w % 3) (w / 3))
      ∗ Hold (th c) B.a18 Finset.univ (wpD (n + k) 0) (wpS I) ∗ Hold (th c) B.a19 Finset.univ (cD (n + k)) (csS I)
      ∗ Hold (th c) B.a20 Finset.univ (cD (n + k)) (cbS I))) ?_)
  · intro k _
    iintro H
    iapply (wp_prep 𝒱 c bd Set.univ I B.a2 B.a3 (bArg B (w % 3)) B.a17 B.a18 B.h18 B.a19 B.a20 (q k) (Nat.mod_lt _ (by decide)) (htr ▸ k.isLt)
      (n := n + k.val) (by omega)) $$ H
    iintro H
    iexact H
  isplitl [H2 H3 Hb H17 H18 H19 H20]
  · isplitl [H2]; · iexact H2
    isplitl [H3]; · iexact H3
    isplitl [Hb]; · iexact Hb
    isplitl [H17]; · iexact H17
    isplitl [H18]; · iexact H18
    isplitl [H19]; · iexact H19
    iexact H20
  rw [htr]
  iintro %_ ⟨H2, H3, Hb, H17, H18, H19, H20⟩
  iapply Hk
  isplitl [HI HF H17 Hv Hw]
  · isplitl [HI Hw]
    · iapply HI
      iexact Hw
    iapply HF
    isplitl [H17]
    · iapply (Hold.mono (c := th c) (m := B.a17) (M := slotM (w % 6)) (P := fun _ => True) (spec := wstS I (w % 3) (w / 3)) (P' := fun _ => False)
        fun x _ h => h.elim) $$ H17
    iexact Hv
  isplitl [H2 H3 HB Hb H18 H19 H20]
  · isplitl [H2]; · iexact H2
    isplitl [H3]; · iexact H3
    isplitl [HB Hb]
    · iapply HB
      iexact Hb
    isplitl [H18]; · iexact H18
    isplitl [H19]; · iexact H19
    iexact H20
  iexact HW

end Cert.KernelIdeal.Pf
-- ==== Proof.Ideal.StepRows.lean ====
/- The last steps: the rows of scales, and the waits for the results. -/
module

public import proofs.«01_k».proof.Proof.Ideal.StepRing

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-! ### The rows of scales -/

/-- The scales of projection `t`, as the result has them. -/
def sclRow (t b : ℕ) : Vec F S1x1x16x128 .f32 := fun y => sclS I (ix S3x12x16x128 ![t, b, (y 2).val, (y 3).val])
def sclOut (t : ℕ) : S12x16.Idx → Elt F .f32 := fun x => k0_pay427 (F := F) (sclRow I t (x 0).val) (ix S1x16 ![0, (x 1).val])

/-- Every row but those of a list. -/
def rowD (l : List (Fin 12)) (x : S12x16.Idx) : Prop := ∀ b ∈ l, (x 0).val ≠ b.val

theorem wp_row (arg23 : Memref sig .tc .vmem S3x12x16x128 .f32) (argo : Memref sig .tc .vmem S12x16 .f32) (t : ℕ) (ht : t < 3) (b : Fin 12) (l : List (Fin 12)) {h1 h2}
    {R : Unit → sProp (MT nD τ sig Unit (Elt F) ℕ (Pipeline.UD sig nD τ) ℕ)} :
    (iprop(Hold (th c) arg23 Finset.univ (fun _ => True) (sclS I) ∗ Hold (th c) argo Finset.univ (rowD (b :: l)) (sclOut I t)) : sProp 𝕄)
    ⊢ iprop((iprop(Hold (th c) arg23 Finset.univ (fun _ => True) (sclS I) ∗ Hold (th c) argo Finset.univ (rowD l) (sclOut I t)) -∗ R ⟨⟩)
      -∗ wp frame (wpE defs 𝒱 (th c) bd) E (row (F := F) arg23 argo t b.val h1 h2) R) := by
  iintro ⟨H23, Ho⟩ Hk
  unfold row
  simp only [wp_bind]
  iapply (load_v 𝒱 (th c) bd E (sclRow I t b.val) (fun _ => Finset.mem_univ _) (fun _ => trivial) ?_) $$ H23
  · intro y
    have y0 : (y 0).val < 1 := (y 0).isLt
    have y1 : (y 1).val < 1 := (y 1).isLt
    have y2 : (y 2).val < 16 := (y 2).isLt
    have y3 : (y 3).val < 128 := (y 3).isLt
    have hb : b.val < 12 := b.isLt
    unfold sclRow
    refine congrArg (sclS I) (Eq.symm ?_)
    refine ix_eq ?_
    intro a
    rw [emb_val (s := S3x12x16x128)]
    revert a
    rw [Fin.forall_fin_succ, Fin.forall_fin_succ, Fin.forall_fin_two]
    refine ⟨?_, ?_, ?_, ?_⟩
    · show t = t + (y 0).val; omega
    · show b.val = b.val + (y 1).val; omega
    · show (y 2).val = 0 + (y 2).val; omega
    · show (y 3).val = 0 + (y 3).val; omega
  iintro H23
  iapply (load_dead_l 𝒱 (th c) bd E (fun _ => Finset.mem_univ _)) $$ Ho
  iintro Ho %_
  iapply (store_l 𝒱 (th c) bd E (rowD l) (sclOut I t) (fun _ => Finset.mem_univ _) ?_ ?_) $$ Ho
  · intro y _
    have y0 : (y 0).val < 1 := (y 0).isLt
    have y1 : (y 1).val < 16 := (y 1).isLt
    unfold sclOut
    rw [emb_val (s := S12x16), emb_val (s := S12x16)]
    have e0 : ![b.val, 0] (0 : Fin 2) + (y 0).val = b.val := by show b.val + (y 0).val = b.val; omega
    rw [e0]
    refine congrArg (k0_pay427 (F := F) (sclRow I t b.val)) (Eq.symm ?_)
    refine ix_eq ?_
    rw [Fin.forall_fin_two]
    refine ⟨?_, ?_⟩
    · show 0 = (y 0).val; omega
    · show 0 + (y 1).val = (y 1).val; omega
  · intro x _ hx hn
    refine ⟨fun b' hm h0 => ?_, rfl⟩
    rcases List.mem_cons.mp hm with h | h
    · refine hn (Rect.mem_set_unit.mpr ?_)
      have x1 : (x 1).val < 16 := (x 1).isLt
      rw [Fin.forall_fin_two]
      rw [h] at h0
      refine ⟨?_, ?_⟩
      · show b.val ≤ (x 0).val ∧ (x 0).val < b.val + 1; omega
      · show 0 ≤ (x 1).val ∧ (x 1).val < 0 + 16; omega
    · exact hx b' h h0
  iintro Ho
  iapply Hk
  isplitl [H23]; · iexact H23
  iexact Ho

theorem wp_runRows (arg23 : Memref sig .tc .vmem S3x12x16x128 .f32) (argo : Memref sig .tc .vmem S12x16 .f32) (t : ℕ) (ht : t < 3) (l : List (Fin 12))
    {R : Unit → sProp (MT nD τ sig Unit (Elt F) ℕ (Pipeline.UD sig nD τ) ℕ)} :
    (iprop(Hold (th c) arg23 Finset.univ (fun _ => True) (sclS I) ∗ Hold (th c) argo Finset.univ (rowD l) (sclOut I t)) : sProp 𝕄)
    ⊢ iprop((iprop(Hold (th c) arg23 Finset.univ (fun _ => True) (sclS I) ∗ Hold (th c) argo Finset.univ (rowD []) (sclOut I t)) -∗ R ⟨⟩)
      -∗ wp frame (wpE defs 𝒱 (th c) bd) E (runRows (F := F) arg23 argo t ht l) R) := by
  induction l with
  | nil =>
    iintro H Hk
    iapply (show R ⟨⟩ ⊢ wp frame (wpE defs 𝒱 (th c) bd) E (runRows (F := F) arg23 argo t ht []) R from BI.fupd_intro)
    iapply Hk
    iexact H
  | cons b l ih =>
    iintro H Hk
    unfold runRows
    simp only [wp_bind]
    iapply (wp_row 𝒱 c bd E I arg23 argo t ht b l) $$ H
    iintro H
    iapply ih $$ H
    iexact Hk

theorem wp_rows (arg23 : Memref sig .tc .vmem S3x12x16x128 .f32) (argo : Memref sig .tc .vmem S12x16 .f32) (t : ℕ) (ht : t < 3)
    {R : Unit → sProp (MT nD τ sig Unit (Elt F) ℕ (Pipeline.UD sig nD τ) ℕ)} :
    (iprop(Hold (th c) arg23 Finset.univ (fun _ => True) (sclS I) ∗ Hold (th c) argo Finset.univ (fun _ => False) (sclOut I t)) : sProp 𝕄)
    ⊢ iprop((iprop(Hold (th c) arg23 Finset.univ (fun _ => True) (sclS I) ∗ Hold (th c) argo Finset.univ (fun _ => True) (sclOut I t)) -∗ R ⟨⟩)
      -∗ wp frame (wpE defs 𝒱 (th c) bd) E (runRows (F := F) arg23 argo t ht allRows) R) := by
  iintro ⟨H23, Ho⟩ Hk
  have hall : ∀ b : Fin 12, b ∈ allRows := by decide
  iapply (wp_runRows 𝒱 c bd E I arg23 argo t ht allRows) $$ [H23 Ho]
  · isplitl [H23]; · iexact H23
    iapply (weaken (c := th c) (m := argo) (P := fun _ => False) (P' := rowD allRows) fun x h => h ⟨(x 0).val, (x 0).isLt⟩ (hall _) rfl) $$ Ho
  iintro ⟨H23, Ho⟩
  iapply Hk
  isplitl [H23]; · iexact H23
  iapply (weaken (c := th c) (m := argo) (P := rowD []) (P' := fun _ => True) fun x _ b hb => absurd hb List.not_mem_nil) $$ Ho

/-! ### The waits for the results -/

/-- Projection `t` of the codes. -/
def cT (t : ℕ) : Finset S3x12x1024x128.Idx := Finset.univ.filter (fun x => (x 0).val = t)

theorem wp_outWait (arg22 : Memref sig .tc .vmem S3x12x1024x128 .fp8e4m3) (argo : Memref sig .tc .hbm S12x1024x128 .fp8e4m3) (arg26 : DmaSems sig S3)
    (t : ℕ) {N : ℕ} (hN : argo.view.dmaCredit = N * 6) {hs h e1 e2}
    {R : Unit → sProp (MT nD τ sig Unit (Elt F) ℕ (Pipeline.UD sig nD τ) ℕ)} :
    (iprop(Transfers.Batch (countersEmb (U := Pipeline.UD sig nD τ)) (th c) (cell3 arg26 t) () N (outD c I arg22 argo t) 6 0 ∗ ∃ W, owes (th c) 0 W) : sProp 𝕄)
    ⊢ iprop((iprop(Hold (th c) argo Finset.univ (fun _ => True) (codeOut I t) ∗ Hold (th c) arg22 (cT t) (fun _ => True) (codeS I)
        ∗ semVal (th c, cell3 arg26 t) 0 ∗ ∃ W, owes (th c) 0 W) -∗ R ⟨⟩)
      -∗ wp frame (wpE defs 𝒱 (th c) bd) Set.univ (outWait (F := F) arg22 argo arg26 t hs h e1 e2) R) := by
  have hN0 : 0 < N := by
    have : 0 < argo.view.dmaCredit := View.dmaCredit_pos _ (show 0 < S12x1024x128.numel by decide)
    rw [hN] at this
    exact Nat.pos_of_mul_pos_right this
  have hc := cell3_eq arg26 (i := t) (o := ![t]) (inb := hs) rfl
  have u1 : (Finset.univ : Finset (Fin 6)).biUnion (fun p => oP p.val) = Finset.univ := by
    ext x
    have x0 : (x 0).val < 12 := (x 0).isLt
    simp only [Finset.mem_biUnion, Finset.mem_univ, true_and, iff_true]
    exact ⟨⟨(x 0).val / 2, by omega⟩, by unfold oP; exact Finset.mem_filter.mpr ⟨Finset.mem_univ _, rfl⟩⟩
  have u2 : (Finset.univ : Finset (Fin 6)).biUnion (fun p => cP t p.val) = cT t := by
    ext x
    have x1 : (x 1).val < 12 := (x 1).isLt
    unfold cP cT
    simp only [Finset.mem_biUnion, Finset.mem_univ, true_and, Finset.mem_filter]
    exact ⟨fun ⟨p, h, _⟩ => h, fun h => ⟨⟨(x 1).val / 2, by omega⟩, h, rfl⟩⟩
  have j1 := Hold.joins (Ix := Unit) (Name := ℕ) (U := Pipeline.UD sig nD τ) (Lvl := ℕ) (c := th c) (m := argo) (P := fun _ => True) (spec := codeOut I t) Finset.univ ⟨(0 : Fin 6), Finset.mem_univ _⟩ (fun p : Fin 6 => oP p.val)
    (fun p _ p' _ hp => Finset.disjoint_left.mpr fun x h h' => by
      unfold oP at h h'; rw [Finset.mem_filter] at h h'; exact hp (Fin.ext (h.2.symm.trans h'.2)))
  have j2 := Hold.joins (Ix := Unit) (Name := ℕ) (U := Pipeline.UD sig nD τ) (Lvl := ℕ) (c := th c) (m := arg22) (P := fun _ => True) (spec := codeS I) Finset.univ ⟨(0 : Fin 6), Finset.mem_univ _⟩ (fun p : Fin 6 => cP t p.val)
    (fun p _ p' _ hp => Finset.disjoint_left.mpr fun x h h' => by
      unfold cP at h h'; rw [Finset.mem_filter] at h h'; exact hp (Fin.ext (h.2.2.symm.trans h'.2.2)))
  rw [u1] at j1
  rw [u2] at j2
  iintro ⟨HB, HW⟩ Hk
  unfold outWait
  rw [← hc]
  iapply (wait_batch_l 𝒱 (th c) bd (countersEmb (U := Pipeline.UD sig nD τ)) () hN hN0 rfl (D := outD c I arg22 argo t)) $$ [HB HW]
  · isplitl [HB]; · iexact HB
    iexact HW
  iintro ⟨HD, Hv, HW⟩
  iapply Hk
  icases (show bigSep Finset.univ (outD c I arg22 argo t) ⊢ (iprop(bigSep Finset.univ (fun p : Fin 6 => Hold (th c) argo (oP p.val) (fun _ => True) (codeOut I t))
    ∗ bigSep Finset.univ (fun p : Fin 6 => Hold (th c) arg22 (cP t p.val) (fun _ => True) (codeS I))) : sProp 𝕄) from Entails.of_eq (BI.bigSep_sep _ _ _)) $$ HD with ⟨HO, H22⟩
  isplitl [HO]
  · iapply j1 $$ HO
  isplitl [H22]
  · iapply j2 $$ H22
  isplitl [Hv]; · iexact Hv
  iexact HW

/-- The codes whole again. -/
theorem codes_join (arg22 : Memref sig .tc .vmem S3x12x1024x128 .fp8e4m3) :
    (iprop(Hold (th c) arg22 (cT 0) (fun _ => True) (codeS I) ∗ Hold (th c) arg22 (cT 1) (fun _ => True) (codeS I) ∗ Hold (th c) arg22 (cT 2) (fun _ => True) (codeS I)) : sProp 𝕄)
    ⊢ Hold (th c) arg22 Finset.univ (fun _ => True) (codeS I) := by
  have d1 : Disjoint (cT 1) (cT 2) := Finset.disjoint_left.mpr fun x h h' => by
    unfold cT at h h'; rw [Finset.mem_filter] at h h'; omega
  have d0 : Disjoint (cT 0) (cT 1 ∪ cT 2) := Finset.disjoint_left.mpr fun x h h' => by
    unfold cT at h h'; simp only [Finset.mem_union, Finset.mem_filter, Finset.mem_univ, true_and] at h h'; omega
  have u : cT 0 ∪ (cT 1 ∪ cT 2) = Finset.univ := by
    ext x
    have x0 : (x 0).val < 3 := (x 0).isLt
    unfold cT
    simp only [Finset.mem_union, Finset.mem_filter, Finset.mem_univ, true_and, iff_true]
    omega
  exact (sep_mono_right (Hold.join (c := th c) (m := arg22) d1)).trans (u ▸ Hold.join (c := th c) (m := arg22) d0)

end Cert.KernelIdeal.Pf
-- ==== Proof.Ideal.StepStretch.lean ====
/- The stretches before the loop over the pairs, run to their ends. -/
module

public import proofs.«01_k».proof.Proof.Ideal.StepRows

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-! ### The stretches -/

theorem trips12 : Scf.trips k0_t12_loop.lb k0_t12_loop.ub k0_t12_loop.st = 16 := by decide
theorem trips11 : Scf.trips k0_t11_loop.lb k0_t11_loop.ub k0_t11_loop.st = 16 := by decide
theorem trips10 : Scf.trips k0_t10_loop.lb k0_t10_loop.ub k0_t10_loop.st = 16 := by decide
theorem trips9 : Scf.trips k0_t9_loop.lb k0_t9_loop.ub k0_t9_loop.st = 16 := by decide
theorem trips8 : Scf.trips k0_t8_loop.lb k0_t8_loop.ub k0_t8_loop.st = 16 := by decide
theorem trips7 : Scf.trips k0_t7_loop.lb k0_t7_loop.ub k0_t7_loop.st = 16 := by decide
theorem trips6 : Scf.trips k0_t6_loop.lb k0_t6_loop.ub k0_t6_loop.st = 16 := by decide
theorem trips5 : Scf.trips k0_t5_loop.lb k0_t5_loop.ub k0_t5_loop.st = 16 := by decide
theorem trips4 : Scf.trips k0_t4_loop.lb k0_t4_loop.ub k0_t4_loop.st = 16 := by decide
theorem trips3 : Scf.trips k0_t3_loop.lb k0_t3_loop.ub k0_t3_loop.st = 16 := by decide
theorem trips2 : Scf.trips k0_t2_loop.lb k0_t2_loop.ub k0_t2_loop.st = 16 := by decide
theorem trips1 : Scf.trips k0_t1_loop.lb k0_t1_loop.ub k0_t1_loop.st = 16 := by decide

theorem wp_stretch106 (B : Bufs) {NX NW NO : ℕ} (hC : Cred B NX NW NO)
    {R : Unit → sProp (MT nD τ sig Unit (Elt F) ℕ (Pipeline.UD sig nD τ) ℕ)} :
    bigSep Finset.univ (xS c I B NX 0)
    ⊢ iprop((bigSep Finset.univ (xS c I B NX 6) -∗ R ⟨⟩) -∗ wp frame (wpE defs 𝒱 (th c) bd) Set.univ (stretch106 (F := F) B) R) := by
  unfold stretch106
  simp only [wp_bind]
  iintro H Hk
  iapply (wp_xStart 𝒱 c bd I B hC 0 (by decide) rfl) $$ H
  iintro H
  iapply (wp_xStart 𝒱 c bd I B hC 1 (by decide) rfl) $$ H
  iintro H
  iapply (wp_xStart 𝒱 c bd I B hC 2 (by decide) rfl) $$ H
  iintro H
  iapply (wp_xStart 𝒱 c bd I B hC 3 (by decide) rfl) $$ H
  iintro H
  iapply (wp_xStart 𝒱 c bd I B hC 4 (by decide) rfl) $$ H
  iintro H
  iapply (wp_xStart 𝒱 c bd I B hC 5 (by decide) rfl) $$ H
  iintro H
  iapply Hk
  iexact H

theorem wp_stretch107 (B : Bufs) {NX NW NO : ℕ} (hC : Cred B NX NW NO)
    {R : Unit → sProp (MT nD τ sig Unit (Elt F) ℕ (Pipeline.UD sig nD τ) ℕ)} :
    ring c I B NW 0 0
    ⊢ iprop((ring c I B NW 5 0 -∗ R ⟨⟩) -∗ wp frame (wpE defs 𝒱 (th c) bd) Set.univ (stretch107 (F := F) B) R) := by
  unfold stretch107
  simp only [wp_bind]
  iintro H Hk
  iapply (wp_wStart 𝒱 c bd I B hC 0 0 (by decide) (by decide) (by decide) rfl rfl rfl) $$ H
  iintro H
  iapply (wp_wStart 𝒱 c bd I B hC 1 0 (by decide) (by decide) (by decide) rfl rfl rfl) $$ H
  iintro H
  iapply (wp_wStart 𝒱 c bd I B hC 2 0 (by decide) (by decide) (by decide) rfl rfl rfl) $$ H
  iintro H
  iapply (wp_wStart 𝒱 c bd I B hC 3 0 (by decide) (by decide) (by decide) rfl rfl rfl) $$ H
  iintro H
  iapply (wp_wStart 𝒱 c bd I B hC 4 0 (by decide) (by decide) (by decide) rfl rfl rfl) $$ H
  iintro H
  iapply Hk
  iexact H

theorem wp_stretch108 (B : Bufs) {NX NW NO : ℕ} (hC : Cred B NX NW NO)
    {R : (IVec S8x128 32) → sProp (MT nD τ sig Unit (Elt F) ℕ (Pipeline.UD sig nD τ) ℕ)} :
    (iprop(ring c I B NW 5 0 ∗ prepI c I B 0 ∗ ∃ W, owes (th c) 0 W) : sProp 𝕄)
    ⊢ iprop((iprop(ring c I B NW 7 2 ∗ prepI c I B 32 ∗ ∃ W, owes (th c) 0 W) -∗ R lane)
      -∗ wp frame (wpE defs 𝒱 (th c) bd) Set.univ (stretch108 (F := F) B) R) := by
  unfold stretch108
  simp only [wp_bind]
  iintro ⟨H, HP, HW⟩ Hk
  iapply (wp_wStart 𝒱 c bd I B hC 5 0 (by decide) (by decide) (by decide) rfl rfl rfl) $$ H
  iintro H
  iapply (wp_item 𝒱 c bd I B hC 6 0 (by decide) (by decide) (by decide) rfl rfl rfl k0_t1_ok trips1 prepAt1 rfl rfl rfl rfl) $$ [H HP HW]
  · isplitl [H]; · iexact H
    isplitl [HP]; · iexact HP
    iexact HW
  iintro ⟨H, HP, HW⟩
  iapply (wp_wStart 𝒱 c bd I B hC 6 1 (by decide) (by decide) (by decide) rfl rfl rfl) $$ H
  iintro H
  iapply (wp_item 𝒱 c bd I B hC 7 1 (by decide) (by decide) (by decide) rfl rfl rfl k0_t2_ok trips2 prepAt2 rfl rfl rfl rfl) $$ [H HP HW]
  · isplitl [H]; · iexact H
    isplitl [HP]; · iexact HP
    iexact HW
  iintro ⟨H, HP, HW⟩
  iapply (show R lane ⊢ wp frame (wpE defs 𝒱 (th c) bd) Set.univ (pure lane) R from BI.fupd_intro)
  iapply Hk
  isplitl [H]; · iexact H
  isplitl [HP]; · iexact HP
  iexact HW

theorem wp_stretch109 (B : Bufs) {NX NW NO : ℕ} (hC : Cred B NX NW NO)
    {R : Unit → sProp (MT nD τ sig Unit (Elt F) ℕ (Pipeline.UD sig nD τ) ℕ)} :
    (iprop(ring c I B NW 7 2 ∗ prepI c I B 32 ∗ ∃ W, owes (th c) 0 W) : sProp 𝕄)
    ⊢ iprop((iprop(ring c I B NW 9 4 ∗ prepI c I B 64 ∗ ∃ W, owes (th c) 0 W) -∗ R ⟨⟩)
      -∗ wp frame (wpE defs 𝒱 (th c) bd) Set.univ (stretch109 (F := F) B) R) := by
  unfold stretch109
  simp only [wp_bind]
  iintro ⟨H, HP, HW⟩ Hk
  iapply (wp_wStart 𝒱 c bd I B hC 7 2 (by decide) (by decide) (by decide) rfl rfl rfl) $$ H
  iintro H
  iapply (wp_item 𝒱 c bd I B hC 8 2 (by decide) (by decide) (by decide) rfl rfl rfl k0_t3_ok trips3 prepAt3 rfl rfl rfl rfl) $$ [H HP HW]
  · isplitl [H]; · iexact H
    isplitl [HP]; · iexact HP
    iexact HW
  iintro ⟨H, HP, HW⟩
  iapply (wp_wStart 𝒱 c bd I B hC 8 3 (by decide) (by decide) (by decide) rfl rfl rfl) $$ H
  iintro H
  iapply (wp_item 𝒱 c bd I B hC 9 3 (by decide) (by decide) (by decide) rfl rfl rfl k0_t4_ok trips4 prepAt4 rfl rfl rfl rfl) $$ [H HP HW]
  · isplitl [H]; · iexact H
    isplitl [HP]; · iexact HP
    iexact HW
  iintro ⟨H, HP, HW⟩
  iapply (show R ⟨⟩ ⊢ wp frame (wpE defs 𝒱 (th c) bd) Set.univ (pure ⟨⟩) R from BI.fupd_intro)
  iapply Hk
  isplitl [H]; · iexact H
  isplitl [HP]; · iexact HP
  iexact HW

theorem wp_stretch110 (B : Bufs) {NX NW NO : ℕ} (hC : Cred B NX NW NO)
    {R : Unit → sProp (MT nD τ sig Unit (Elt F) ℕ (Pipeline.UD sig nD τ) ℕ)} :
    (iprop(ring c I B NW 9 4 ∗ prepI c I B 64 ∗ ∃ W, owes (th c) 0 W) : sProp 𝕄)
    ⊢ iprop((iprop(ring c I B NW 11 6 ∗ prepI c I B 96 ∗ ∃ W, owes (th c) 0 W) -∗ R ⟨⟩)
      -∗ wp frame (wpE defs 𝒱 (th c) bd) Set.univ (stretch110 (F := F) B) R) := by
  unfold stretch110
  simp only [wp_bind]
  iintro ⟨H, HP, HW⟩ Hk
  iapply (wp_wStart 𝒱 c bd I B hC 9 4 (by decide) (by decide) (by decide) rfl rfl rfl) $$ H
  iintro H
  iapply (wp_item 𝒱 c bd I B hC 10 4 (by decide) (by decide) (by decide) rfl rfl rfl k0_t5_ok trips5 prepAt5 rfl rfl rfl rfl) $$ [H HP HW]
  · isplitl [H]; · iexact H
    isplitl [HP]; · iexact HP
    iexact HW
  iintro ⟨H, HP, HW⟩
  iapply (wp_wStart 𝒱 c bd I B hC 10 5 (by decide) (by decide) (by decide) rfl rfl rfl) $$ H
  iintro H
  iapply (wp_item 𝒱 c bd I B hC 11 5 (by decide) (by decide) (by decide) rfl rfl rfl k0_t6_ok trips6 prepAt6 rfl rfl rfl rfl) $$ [H HP HW]
  · isplitl [H]; · iexact H
    isplitl [HP]; · iexact HP
    iexact HW
  iintro ⟨H, HP, HW⟩
  iapply (show R ⟨⟩ ⊢ wp frame (wpE defs 𝒱 (th c) bd) Set.univ (pure ⟨⟩) R from BI.fupd_intro)
  iapply Hk
  isplitl [H]; · iexact H
  isplitl [HP]; · iexact HP
  iexact HW

theorem wp_stretch111 (B : Bufs) {NX NW NO : ℕ} (hC : Cred B NX NW NO)
    {R : Unit → sProp (MT nD τ sig Unit (Elt F) ℕ (Pipeline.UD sig nD τ) ℕ)} :
    (iprop(ring c I B NW 11 6 ∗ prepI c I B 96 ∗ ∃ W, owes (th c) 0 W) : sProp 𝕄)
    ⊢ iprop((iprop(ring c I B NW 12 8 ∗ prepI c I B 128 ∗ ∃ W, owes (th c) 0 W) -∗ R ⟨⟩)
      -∗ wp frame (wpE defs 𝒱 (th c) bd) Set.univ (stretch111 (F := F) B) R) := by
  unfold stretch111
  simp only [wp_bind]
  iintro ⟨H, HP, HW⟩ Hk
  iapply (wp_wStart 𝒱 c bd I B hC 11 6 (by decide) (by decide) (by decide) rfl rfl rfl) $$ H
  iintro H
  iapply (wp_item 𝒱 c bd I B hC 12 6 (by decide) (by decide) (by decide) rfl rfl rfl k0_t7_ok trips7 prepAt7 rfl rfl rfl rfl) $$ [H HP HW]
  · isplitl [H]; · iexact H
    isplitl [HP]; · iexact HP
    iexact HW
  iintro ⟨H, HP, HW⟩
  iapply (wp_item 𝒱 c bd I B hC 12 7 (by decide) (by decide) (by decide) rfl rfl rfl k0_t8_ok trips8 prepAt8 rfl rfl rfl rfl) $$ [H HP HW]
  · isplitl [H]; · iexact H
    isplitl [HP]; · iexact HP
    iexact HW
  iintro ⟨H, HP, HW⟩
  iapply (show R ⟨⟩ ⊢ wp frame (wpE defs 𝒱 (th c) bd) Set.univ (pure ⟨⟩) R from BI.fupd_intro)
  iapply Hk
  isplitl [H]; · iexact H
  isplitl [HP]; · iexact HP
  iexact HW

theorem wp_stretch112 (B : Bufs) {NX NW NO : ℕ} (hC : Cred B NX NW NO)
    {R : Unit → sProp (MT nD τ sig Unit (Elt F) ℕ (Pipeline.UD sig nD τ) ℕ)} :
    (iprop(ring c I B NW 12 8 ∗ prepI c I B 128 ∗ ∃ W, owes (th c) 0 W) : sProp 𝕄)
    ⊢ iprop((iprop(ring c I B NW 12 12 ∗ prepI c I B 192 ∗ ∃ W, owes (th c) 0 W) -∗ R ⟨⟩)
      -∗ wp frame (wpE defs 𝒱 (th c) bd) Set.univ (stretch112 (F := F) B) R) := by
  unfold stretch112
  simp only [wp_bind]
  iintro ⟨H, HP, HW⟩ Hk
  iapply (wp_item 𝒱 c bd I B hC 12 8 (by decide) (by decide) (by decide) rfl rfl rfl k0_t9_ok trips9 prepAt9 rfl rfl rfl rfl) $$ [H HP HW]
  · isplitl [H]; · iexact H
    isplitl [HP]; · iexact HP
    iexact HW
  iintro ⟨H, HP, HW⟩
  iapply (wp_item 𝒱 c bd I B hC 12 9 (by decide) (by decide) (by decide) rfl rfl rfl k0_t10_ok trips10 prepAt10 rfl rfl rfl rfl) $$ [H HP HW]
  · isplitl [H]; · iexact H
    isplitl [HP]; · iexact HP
    iexact HW
  iintro ⟨H, HP, HW⟩
  iapply (wp_item 𝒱 c bd I B hC 12 10 (by decide) (by decide) (by decide) rfl rfl rfl k0_t11_ok trips11 prepAt11 rfl rfl rfl rfl) $$ [H HP HW]
  · isplitl [H]; · iexact H
    isplitl [HP]; · iexact HP
    iexact HW
  iintro ⟨H, HP, HW⟩
  iapply (wp_item 𝒱 c bd I B hC 12 11 (by decide) (by decide) (by decide) rfl rfl rfl k0_t12_ok trips12 prepAt12 rfl rfl rfl rfl) $$ [H HP HW]
  · isplitl [H]; · iexact H
    isplitl [HP]; · iexact HP
    iexact HW
  iintro ⟨H, HP, HW⟩
  iapply (show R ⟨⟩ ⊢ wp frame (wpE defs 𝒱 (th c) bd) Set.univ (pure ⟨⟩) R from BI.fupd_intro)
  iapply Hk
  isplitl [H]; · iexact H
  isplitl [HP]; · iexact HP
  iexact HW

end Cert.KernelIdeal.Pf
-- ==== Proof.Ideal.Main.lean ====
/- The kernel's body, run from its start to its end. -/
module

public import proofs.«01_k».proof.Proof.Ideal.StepStretch

@[expose] public section

set_option synthInstance.maxSize 4096

noncomputable section

namespace Cert.KernelIdeal.Pf

open Cert.KernelIdeal Cert.KernelIdeal.Gen
open Idealize.ShloMosaic Idealize.SL Idealize.SL.RA Idealize.SL.Sem Idealize.SL.ProofMode Cert.Hold
open Idealize.SL.BI (sProp bigSep Storable)
open scoped Idealize.SL.BI
open Idealize.SL.BI.BIBase Idealize.SL.BI.Laws

variable {F : FTy → Type} [FloatOps F]

local notation "𝕄" => MT nD τ sig Unit (Elt F) ℕ (Pipeline.UD sig nD τ) ℕ

variable {defs : Defs nD τ sig (Elt F) Λ₀} (𝒱 : Variants) (c : Dev nD) (bd : Option 𝒱.V) (E : Set ℕ) (I : Inp F)

/-! ### Buffers in parts -/

section Parts
variable {sp : Space} {e : EltTy} {P : Prop}

theorem x_biUnion : (Finset.univ : Finset (Fin 6)).biUnion (fun j => xM j.val) = Finset.univ := by
  ext x
  have x0 : (x 0).val < 1536 := (x 0).isLt
  simp only [Finset.mem_biUnion, Finset.mem_univ, true_and, iff_true]
  exact ⟨⟨(x 0).val / 256, by omega⟩, by unfold xM; exact Finset.mem_filter.mpr ⟨Finset.mem_univ _, rfl⟩⟩

theorem xM_disj (j : Fin 6) (_ : j ∈ Finset.univ) (j' : Fin 6) (_ : j' ∈ Finset.univ) (h : j ≠ j') : Disjoint (xM j.val) (xM j'.val) :=
  Finset.disjoint_left.mpr fun x h1 h2 => by
    unfold xM at h1 h2; rw [Finset.mem_filter] at h1 h2; exact h (Fin.ext (h1.2.symm.trans h2.2))

theorem x_splits (m : Memref sig .tc sp S1536x1024 e) (s : S1536x1024.Idx → Elt F e) :
    Hold (th c) m Finset.univ (fun _ => P) s ⊢ bigSep Finset.univ (fun j : Fin 6 => (Hold (th c) m (xM j.val) (fun _ => P) s : sProp 𝕄)) :=
  x_biUnion ▸ Hold.splits (c := th c) (m := m) Finset.univ ⟨0, Finset.mem_univ _⟩ (fun j : Fin 6 => xM j.val) xM_disj

theorem x_joins (m : Memref sig .tc sp S1536x1024 e) (s : S1536x1024.Idx → Elt F e) :
    bigSep Finset.univ (fun j : Fin 6 => (Hold (th c) m (xM j.val) (fun _ => P) s : sProp 𝕄)) ⊢ Hold (th c) m Finset.univ (fun _ => P) s :=
  x_biUnion ▸ Hold.joins (c := th c) (m := m) Finset.univ ⟨0, Finset.mem_univ _⟩ (fun j : Fin 6 => xM j.val) xM_disj

theorem slot_biUnion : (Finset.univ : Finset (Fin 6)).biUnion (fun j => slotM j.val) = Finset.univ := by
  ext x
  have x0 : (x 0).val < 6 := (x 0).isLt
  simp only [Finset.mem_biUnion, Finset.mem_univ, true_and, iff_true]
  exact ⟨⟨(x 0).val, by omega⟩, by unfold slotM; exact Finset.mem_filter.mpr ⟨Finset.mem_univ _, rfl⟩⟩

theorem slotM_disj (j : Fin 6) (_ : j ∈ Finset.univ) (j' : Fin 6) (_ : j' ∈ Finset.univ) (h : j ≠ j') : Disjoint (slotM j.val) (slotM j'.val) :=
  Finset.disjoint_left.mpr fun x h1 h2 => by
    unfold slotM at h1 h2; rw [Finset.mem_filter] at h1 h2; exact h (Fin.ext (h1.2.symm.trans h2.2))

theorem slot_splits (m : Memref sig .tc sp S6x256x1024 e) (s : S6x256x1024.Idx → Elt F e) :
    Hold (th c) m Finset.univ (fun _ => P) s ⊢ bigSep Finset.univ (fun j : Fin 6 => (Hold (th c) m (slotM j.val) (fun _ => P) s : sProp 𝕄)) :=
  slot_biUnion ▸ Hold.splits (c := th c) (m := m) Finset.univ ⟨0, Finset.mem_univ _⟩ (fun j : Fin 6 => slotM j.val) slotM_disj

theorem slot_joins (m : Memref sig .tc sp S6x256x1024 e) (s : S6x256x1024.Idx → Elt F e) :
    bigSep Finset.univ (fun j : Fin 6 => (Hold (th c) m (slotM j.val) (fun _ => P) s : sProp 𝕄)) ⊢ Hold (th c) m Finset.univ (fun _ => P) s :=
  slot_biUnion ▸ Hold.joins (c := th c) (m := m) Finset.univ ⟨0, Finset.mem_univ _⟩ (fun j : Fin 6 => slotM j.val) slotM_disj

/-- The items of projection `t`. -/
def iT (t : ℕ) : Finset (Fin 12) := Finset.univ.filter (fun i => i.val % 3 = t)

theorem w_biUnion (t : ℕ) (ht : t < 3) : (iT t).biUnion (fun i => wM (i.val / 3)) = Finset.univ := by
  ext x
  have x0 : (x 0).val < 1024 := (x 0).isLt
  simp only [Finset.mem_biUnion, Finset.mem_univ, iff_true]
  refine ⟨⟨3 * ((x 0).val / 256) + t, by omega⟩, Finset.mem_filter.mpr ⟨Finset.mem_univ _, ?_⟩, Finset.mem_filter.mpr ⟨Finset.mem_univ _, ?_⟩⟩
  · show (3 * ((x 0).val / 256) + t) % 3 = t; omega
  · show (x 0).val / 256 = (3 * ((x 0).val / 256) + t) / 3; omega

theorem wM_disj (t : ℕ) (i : Fin 12) (hi : i ∈ iT t) (i' : Fin 12) (hi' : i' ∈ iT t) (h : i ≠ i') : Disjoint (wM (i.val / 3)) (wM (i'.val / 3)) :=
  Finset.disjoint_left.mpr fun x h1 h2 => by
    unfold wM at h1 h2; unfold iT at hi hi'; rw [Finset.mem_filter] at h1 h2 hi hi'
    exact h (Fin.ext (by omega))

theorem iT_nonempty (t : ℕ) (ht : t < 3) : (iT t).Nonempty := ⟨⟨t, by omega⟩, Finset.mem_filter.mpr ⟨Finset.mem_univ _, Nat.mod_eq_of_lt ht⟩⟩

/-- The item's piece of its weight. -/
def wHome (B : Bufs) (i : Fin 12) : sProp 𝕄 := Hold (th c) (wArg B (i.val % 3)) (wM (i.val / 3)) (fun _ => True) (I.w (i.val % 3))

theorem wHome_split (B : Bufs) : bigSep Finset.univ (wHome c I B)
    = iprop(bigSep (iT 0) (fun i => Hold (th c) B.a4 (wM (i.val / 3)) (fun _ => True) (I.w 0))
      ∗ bigSep (iT 1) (fun i => Hold (th c) B.a6 (wM (i.val / 3)) (fun _ => True) (I.w 1))
      ∗ bigSep (iT 2) (fun i => Hold (th c) B.a8 (wM (i.val / 3)) (fun _ => True) (I.w 2))) := by
  have e : ∀ t, bigSep (iT t) (wHome c I B) = bigSep (iT t) (fun i => Hold (th c) (wArg B t) (wM (i.val / 3)) (fun _ => True) (I.w t)) := fun t =>
    BI.bigSep_congr fun i hi => by unfold wHome; rw [(Finset.mem_filter.mp hi).2]
  rw [show (Finset.univ : Finset (Fin 12)) = iT 0 ∪ (iT 1 ∪ iT 2) by decide, BI.bigSep_union (by decide), BI.bigSep_union (by decide), e 0, e 1, e 2]
  rfl

theorem w_splits (B : Bufs) :
    (iprop(Hold (th c) B.a4 Finset.univ (fun _ => True) (I.w 0) ∗ Hold (th c) B.a6 Finset.univ (fun _ => True) (I.w 1) ∗ Hold (th c) B.a8 Finset.univ (fun _ => True) (I.w 2)) : sProp 𝕄)
    ⊢ bigSep Finset.univ (wHome c I B) := by
  rw [wHome_split]
  exact sep_mono (w_biUnion 0 (by decide) ▸ Hold.splits (c := th c) (m := B.a4) (iT 0) (iT_nonempty 0 (by decide)) (fun i => wM (i.val / 3)) (wM_disj 0))
    (sep_mono (w_biUnion 1 (by decide) ▸ Hold.splits (c := th c) (m := B.a6) (iT 1) (iT_nonempty 1 (by decide)) (fun i => wM (i.val / 3)) (wM_disj 1))
      (w_biUnion 2 (by decide) ▸ Hold.splits (c := th c) (m := B.a8) (iT 2) (iT_nonempty 2 (by decide)) (fun i => wM (i.val / 3)) (wM_disj 2)))

theorem w_joins (B : Bufs) : bigSep Finset.univ (wHome c I B)
    ⊢ (iprop(Hold (th c) B.a4 Finset.univ (fun _ => True) (I.w 0) ∗ Hold (th c) B.a6 Finset.univ (fun _ => True) (I.w 1) ∗ Hold (th c) B.a8 Finset.univ (fun _ => True) (I.w 2)) : sProp 𝕄) := by
  rw [wHome_split]
  exact sep_mono (w_biUnion 0 (by decide) ▸ Hold.joins (c := th c) (m := B.a4) (iT 0) (iT_nonempty 0 (by decide)) (fun i => wM (i.val / 3)) (wM_disj 0))
    (sep_mono (w_biUnion 1 (by decide) ▸ Hold.joins (c := th c) (m := B.a6) (iT 1) (iT_nonempty 1 (by decide)) (fun i => wM (i.val / 3)) (wM_disj 1))
      (w_biUnion 2 (by decide) ▸ Hold.joins (c := th c) (m := B.a8) (iT 2) (iT_nonempty 2 (by decide)) (fun i => wM (i.val / 3)) (wM_disj 2)))

end Parts

/-! ### The body's start and end -/

/-- What the body has at its start, and, with the results written, at its end. -/
def bodyI (B : Bufs) (d : Prop) : sProp 𝕄 :=
  iprop((Hold (th c) B.a0 Finset.univ (fun _ => True) I.n ∗ Hold (th c) B.a1 Finset.univ (fun _ => True) I.x
      ∗ Hold (th c) B.a2 Finset.univ (fun _ => True) I.g ∗ Hold (th c) B.a3 Finset.univ (fun _ => True) I.lb
      ∗ (Hold (th c) B.a4 Finset.univ (fun _ => True) (I.w 0) ∗ Hold (th c) B.a6 Finset.univ (fun _ => True) (I.w 1) ∗ Hold (th c) B.a8 Finset.univ (fun _ => True) (I.w 2))
      ∗ (Hold (th c) B.a5 Finset.univ (fun _ => True) (I.b 0) ∗ Hold (th c) B.a7 Finset.univ (fun _ => True) (I.b 1) ∗ Hold (th c) B.a9 Finset.univ (fun _ => True) (I.b 2)))
    ∗ (Hold (th c) B.a10 Finset.univ (fun _ => d) (codeOut I 0) ∗ Hold (th c) B.a12 Finset.univ (fun _ => d) (codeOut I 1) ∗ Hold (th c) B.a14 Finset.univ (fun _ => d) (codeOut I 2))
    ∗ (Hold (th c) B.a11 Finset.univ (fun _ => d) (sclOut I 0) ∗ Hold (th c) B.a13 Finset.univ (fun _ => d) (sclOut I 1) ∗ Hold (th c) B.a15 Finset.univ (fun _ => d) (sclOut I 2))
    ∗ (Hold (th c) B.a16 Finset.univ (fun _ => False) I.x ∗ Hold (th c) B.a17 Finset.univ (fun _ => False) (wstS I 0 0)
      ∗ Hold (th c) B.a18 Finset.univ (fun _ => False) (wpS I) ∗ Hold (th c) B.a19 Finset.univ (fun _ => False) (csS I) ∗ Hold (th c) B.a20 Finset.univ (fun _ => False) (cbS I)
      ∗ Hold (th c) B.a21 Finset.univ (fun _ => False) (stS I 0) ∗ Hold (th c) B.a22 Finset.univ (fun _ => False) (codeS I) ∗ Hold (th c) B.a23 Finset.univ (fun _ => False) (sclS I))
    ∗ (bigSep Finset.univ (fun j : Fin 6 => semVal (th c, cell6 B.a24 j.val) 0) ∗ bigSep Finset.univ (fun j : Fin 6 => semVal (th c, cell6 B.a25 j.val) 0)
      ∗ (semVal (th c, cell3 B.a26 0) 0 ∗ semVal (th c, cell3 B.a26 1) 0 ∗ semVal (th c, cell3 B.a26 2) 0))
    ∗ ∃ W, owes (th c) 0 W)

/-- Forgetting what a buffer holds. -/
theorem forget {sp : Space} {s : Shape} {e : EltTy} {m : Memref sig .tc sp s e} {M : Finset s.Idx} {P : s.Idx → Prop} {f g : s.Idx → Elt F e} :
    (Hold (th c) m M P f : sProp 𝕄) ⊢ Hold (th c) m M (fun _ => False) g := Hold.mono fun _ _ h => h.elim

theorem oM_start (argo : Memref sig .tc .hbm S12x1024x128 .fp8e4m3) (arg22 : Memref sig .tc .vmem S3x12x1024x128 .fp8e4m3) (sm : SemLoc sig) (t N : ℕ) {E : Set ℕ} :
    (iprop(Hold (th c) argo Finset.univ (fun _ => False) (codeOut I t) ∗ semVal (th c, sm) 0) : sProp 𝕄)
    ⊢ iprop(|={E}=> (Hold (th c) argo (oM 0) (fun _ => False) (codeOut I t) ∗ Transfers.Batch (countersEmb (U := Pipeline.UD sig nD τ)) (th c) sm () N (outD c I arg22 argo t) 0 0)) := by
  have e : oM 0 = Finset.univ := by ext x; unfold oM; simp
  rw [e]
  iintro ⟨H, Hv⟩
  imod (Transfers.batch_alloc' (countersEmb (U := Pipeline.UD sig nD τ)) (th c) () N (outD c I arg22 argo t) (E := E)) $$ Hv with HB
  imodintro
  isplitl [H]; · iexact H
  iexact HB

/-- The loop over the pairs begins. -/
theorem pairs_start (B : Bufs) {NX NO : ℕ} {E : Set ℕ} :
    (iprop((Hold (th c) B.a0 Finset.univ (fun _ => True) I.n ∗ Hold (th c) B.a18 Finset.univ (wpD 192 0) (wpS I)
      ∗ Hold (th c) B.a19 Finset.univ (cD 192) (csS I) ∗ Hold (th c) B.a20 Finset.univ (cD 192) (cbS I))
    ∗ Hold (th c) B.a21 Finset.univ (fun _ => False) (stS I 0)
    ∗ Hold (th c) B.a22 Finset.univ (fun _ => False) (codeS I) ∗ Hold (th c) B.a23 Finset.univ (fun _ => False) (sclS I)
    ∗ bigSep Finset.univ (xS c I B NX 6)
    ∗ (Hold (th c) B.a10 Finset.univ (fun _ => False) (codeOut I 0) ∗ semVal (th c, cell3 B.a26 0) 0)
    ∗ (Hold (th c) B.a12 Finset.univ (fun _ => False) (codeOut I 1) ∗ semVal (th c, cell3 B.a26 1) 0)
    ∗ (Hold (th c) B.a14 Finset.univ (fun _ => False) (codeOut I 2) ∗ semVal (th c, cell3 B.a26 2) 0)
    ∗ ∃ W, owes (th c) 0 W) : sProp 𝕄) ⊢ iprop(|={E}=> pairI c I B NX NO 0) := by
  have hb : ∀ q g' b, ¬ bD 0 0 allBlocks q g' b := fun q g' b h => by
    have := mem_allBlocks b
    unfold bD at h
    rcases h with h | ⟨_, h | ⟨_, h⟩⟩
    · omega
    · omega
    · exact h this
  have hc0 : cM 0 = Finset.univ := by ext x; unfold cM; simp
  have hx : bigSep Finset.univ (xS c I B NX 6) = bigSep Finset.univ (xJ c I B NX 0) := BI.bigSep_congr fun j _ => by
    unfold xS xJ; rw [if_pos j.isLt, if_neg (Nat.not_lt_zero _)]
  iintro ⟨⟨H0, H18, H19, H20⟩, H21, H22, H23, HX, HO0, HO1, HO2, HW⟩
  imod (oM_start c I B.a10 B.a22 (cell3 B.a26 0) 0 NO (E := E)) $$ HO0 with HO0
  imod (oM_start c I B.a12 B.a22 (cell3 B.a26 1) 1 NO (E := E)) $$ HO1 with HO1
  imod (oM_start c I B.a14 B.a22 (cell3 B.a26 2) 2 NO (E := E)) $$ HO2 with HO2
  imodintro
  unfold pairI outJ
  rw [hc0, ← hx]
  isplitl [H0 H18 H19 H20]
  · isplitl [H0]; · iexact H0
    isplitl [H18]
    · iapply (weaken (c := th c) (m := B.a18) (P := wpD 192 0) (P' := fun _ => True) fun x _ => Or.inl (by
        have x1 : (x 1).val < 4 := (x 1).isLt
        have x2 : (x 2).val < 768 := (x 2).isLt
        omega)) $$ H18
    isplitl [H19]
    · iapply (weaken (c := th c) (m := B.a19) (P := cD 192) (P' := fun _ => True) fun x _ => by
        have x1 : (x 0).val < 4 := (x 0).isLt
        have x2 : (x 1).val < 768 := (x 1).isLt
        show 48 * (x 0).val + (x 1).val / 16 < 192
        omega) $$ H19
    · iapply (weaken (c := th c) (m := B.a20) (P := cD 192) (P' := fun _ => True) fun x _ => by
        have x1 : (x 0).val < 4 := (x 0).isLt
        have x2 : (x 1).val < 768 := (x 1).isLt
        show 48 * (x 0).val + (x 1).val / 16 < 192
        omega) $$ H20
  isplitl [H21]; · iexact H21
  isplitl [H22]
  · iapply (weaken (c := th c) (m := B.a22) (P := fun _ => False) (P' := codeD 0 0 allBlocks) fun x h => hb _ _ _ h) $$ H22
  isplitl [H23]
  · iapply (weaken (c := th c) (m := B.a23) (P := fun _ => False) (P' := sclD 0 0 allBlocks) fun x h => hb _ _ _ h) $$ H23
  isplitl [HX]; · iexact HX
  isplitl [HO0]; · iexact HO0
  isplitl [HO1]; · iexact HO1
  isplitl [HO2]; · iexact HO2
  iexact HW

/-- The rows have all arrived. -/
theorem x_end (B : Bufs) {NX : ℕ} : bigSep Finset.univ (xJ c I B NX 6)
    ⊢ (iprop(Hold (th c) B.a16 Finset.univ (fun _ => True) I.x ∗ Hold (th c) B.a1 Finset.univ (fun _ => True) I.x
      ∗ bigSep Finset.univ (fun j : Fin 6 => semVal (th c, cell6 B.a24 j.val) 0)) : sProp 𝕄) := by
  have hx : bigSep Finset.univ (xJ c I B NX 6) = bigSep Finset.univ (fun j : Fin 6 =>
      (iprop((Hold (th c) B.a16 (xM j.val) (fun _ => True) I.x ∗ Hold (th c) B.a1 (xM j.val) (fun _ => True) I.x) ∗ semVal (th c, cell6 B.a24 j.val) 0) : sProp 𝕄)) :=
    BI.bigSep_congr fun j _ => by unfold xJ xHere; rw [if_pos j.isLt]
  rw [hx, BI.bigSep_sep', BI.bigSep_sep']
  exact sep_assoc.1.trans (sep_mono (x_joins c B.a16 I.x) (sep_mono_left (x_joins c B.a1 I.x)))

theorem x_start (B : Bufs) {NX : ℕ} :
    (iprop(Hold (th c) B.a16 Finset.univ (fun _ => False) I.x ∗ Hold (th c) B.a1 Finset.univ (fun _ => True) I.x
      ∗ bigSep Finset.univ (fun j : Fin 6 => semVal (th c, cell6 B.a24 j.val) 0)) : sProp 𝕄) ⊢ bigSep Finset.univ (xS c I B NX 0) := by
  have hx : bigSep Finset.univ (xS c I B NX 0) = bigSep Finset.univ (fun j : Fin 6 =>
      (iprop(Hold (th c) B.a16 (xM j.val) (fun _ => False) I.x ∗ Hold (th c) B.a1 (xM j.val) (fun _ => True) I.x ∗ semVal (th c, cell6 B.a24 j.val) 0) : sProp 𝕄)) :=
    BI.bigSep_congr fun j _ => by unfold xS; rw [if_neg (Nat.not_lt_zero _)]
  rw [hx, BI.bigSep_sep', BI.bigSep_sep']
  exact sep_mono (x_splits c B.a16 I.x) (sep_mono_left (x_splits c B.a1 I.x))

theorem ring_home (B : Bufs) {NW s : ℕ} : ring c I B NW s s
    = (iprop(bigSep Finset.univ (wHome c I B) ∗ bigSep Finset.univ (fun j : Fin 6 => Hold (th c) B.a17 (slotM j.val) (fun _ => False) (wstS I 0 0))
      ∗ bigSep Finset.univ (fun j : Fin 6 => semVal (th c, cell6 B.a25 j.val) 0)) : sProp 𝕄) := by
  rw [← BI.bigSep_sep']
  unfold ring
  rw [BI.bigSep_congr (Φ := wI c I B NW s s) (Ψ := wHome c I B) fun i _ => if_neg (by omega),
    BI.bigSep_congr (Φ := wF c I B s s) fun i _ => if_pos rfl]

theorem ring_start (B : Bufs) {NW s : ℕ} :
    (iprop((Hold (th c) B.a4 Finset.univ (fun _ => True) (I.w 0) ∗ Hold (th c) B.a6 Finset.univ (fun _ => True) (I.w 1) ∗ Hold (th c) B.a8 Finset.univ (fun _ => True) (I.w 2))
      ∗ Hold (th c) B.a17 Finset.univ (fun _ => False) (wstS I 0 0) ∗ bigSep Finset.univ (fun j : Fin 6 => semVal (th c, cell6 B.a25 j.val) 0)) : sProp 𝕄)
    ⊢ ring c I B NW s s := by
  rw [ring_home]
  exact sep_mono (w_splits c I B) (sep_mono_left (slot_splits c B.a17 _))

theorem ring_end (B : Bufs) {NW s : ℕ} : ring c I B NW s s
    ⊢ (iprop((Hold (th c) B.a4 Finset.univ (fun _ => True) (I.w 0) ∗ Hold (th c) B.a6 Finset.univ (fun _ => True) (I.w 1) ∗ Hold (th c) B.a8 Finset.univ (fun _ => True) (I.w 2))
      ∗ Hold (th c) B.a17 Finset.univ (fun _ => False) (wstS I 0 0) ∗ bigSep Finset.univ (fun j : Fin 6 => semVal (th c, cell6 B.a25 j.val) 0)) : sProp 𝕄) := by
  rw [ring_home]
  exact sep_mono (w_joins c I B) (sep_mono_left (slot_joins c B.a17 _))

/-! ### The end -/

theorem wp_finish (B : Bufs) {NX NW NO : ℕ} (hC : Cred B NX NW NO)
    {R : Unit → sProp (MT nD τ sig Unit (Elt F) ℕ (Pipeline.UD sig nD τ) ℕ)} :
    (iprop(Hold (th c) B.a23 Finset.univ (fun _ => True) (sclS I)
      ∗ (Hold (th c) B.a11 Finset.univ (fun _ => False) (sclOut I 0) ∗ Hold (th c) B.a13 Finset.univ (fun _ => False) (sclOut I 1) ∗ Hold (th c) B.a15 Finset.univ (fun _ => False) (sclOut I 2))
      ∗ (Transfers.Batch (countersEmb (U := Pipeline.UD sig nD τ)) (th c) (cell3 B.a26 0) () NO (outD c I B.a22 B.a10 0) 6 0 ∗ Transfers.Batch (countersEmb (U := Pipeline.UD sig nD τ)) (th c) (cell3 B.a26 1) () NO (outD c I B.a22 B.a12 1) 6 0
        ∗ Transfers.Batch (countersEmb (U := Pipeline.UD sig nD τ)) (th c) (cell3 B.a26 2) () NO (outD c I B.a22 B.a14 2) 6 0) ∗ ∃ W, owes (th c) 0 W) : sProp 𝕄)
    ⊢ iprop((iprop(Hold (th c) B.a23 Finset.univ (fun _ => True) (sclS I)
      ∗ (Hold (th c) B.a11 Finset.univ (fun _ => True) (sclOut I 0) ∗ Hold (th c) B.a13 Finset.univ (fun _ => True) (sclOut I 1) ∗ Hold (th c) B.a15 Finset.univ (fun _ => True) (sclOut I 2))
      ∗ (Hold (th c) B.a10 Finset.univ (fun _ => True) (codeOut I 0) ∗ Hold (th c) B.a12 Finset.univ (fun _ => True) (codeOut I 1) ∗ Hold (th c) B.a14 Finset.univ (fun _ => True) (codeOut I 2))
      ∗ Hold (th c) B.a22 Finset.univ (fun _ => True) (codeS I)
      ∗ (semVal (th c, cell3 B.a26 0) 0 ∗ semVal (th c, cell3 B.a26 1) 0 ∗ semVal (th c, cell3 B.a26 2) 0) ∗ ∃ W, owes (th c) 0 W) -∗ R ⟨⟩)
      -∗ wp frame (wpE defs 𝒱 (th c) bd) Set.univ (finish (F := F) B) R) := by
  iintro ⟨H23, ⟨HS0, HS1, HS2⟩, ⟨HB0, HB1, HB2⟩, HW⟩ Hk
  unfold finish
  simp only [wp_bind]
  iapply (wp_rows 𝒱 c bd Set.univ I B.a23 B.a11 0 _) $$ [H23 HS0]
  · isplitl [H23]; · iexact H23
    iexact HS0
  iintro ⟨H23, HS0⟩
  iapply (wp_rows 𝒱 c bd Set.univ I B.a23 B.a13 1 _) $$ [H23 HS1]
  · isplitl [H23]; · iexact H23
    iexact HS1
  iintro ⟨H23, HS1⟩
  iapply (wp_rows 𝒱 c bd Set.univ I B.a23 B.a15 2 _) $$ [H23 HS2]
  · isplitl [H23]; · iexact H23
    iexact HS2
  iintro ⟨H23, HS2⟩
  iapply (wp_outWait 𝒱 c bd I B.a22 B.a10 B.a26 0 hC.t10) $$ [HB0 HW]
  · isplitl [HB0]; · iexact HB0
    iexact HW
  iintro ⟨HO0, HC0, Hv0, HW⟩
  iapply (wp_outWait 𝒱 c bd I B.a22 B.a12 B.a26 1 hC.t12) $$ [HB1 HW]
  · isplitl [HB1]; · iexact HB1
    iexact HW
  iintro ⟨HO1, HC1, Hv1, HW⟩
  iapply (wp_outWait 𝒱 c bd I B.a22 B.a14 B.a26 2 hC.t14) $$ [HB2 HW]
  · isplitl [HB2]; · iexact HB2
    iexact HW
  iintro ⟨HO2, HC2, Hv2, HW⟩
  iapply Hk
  isplitl [H23]; · iexact H23
  isplitl [HS0 HS1 HS2]
  · isplitl [HS0]; · iexact HS0
    isplitl [HS1]; · iexact HS1
    iexact HS2
  isplitl [HO0 HO1 HO2]
  · isplitl [HO0]; · iexact HO0
    isplitl [HO1]; · iexact HO1
    iexact HO2
  isplitl [HC0 HC1 HC2]
  · iapply (codes_join c I B.a22)
    isplitl [HC0]; · iexact HC0
    isplitl [HC1]; · iexact HC1
    iexact HC2
  isplitl [Hv0 Hv1 Hv2]
  · isplitl [Hv0]; · iexact Hv0
    isplitl [Hv1]; · iexact Hv1
    iexact Hv2
  iexact HW

theorem tail_wp (B : Bufs) (R : Unit → sProp (MT nD τ sig Unit (Elt F) ℕ (Pipeline.UD sig nD τ) ℕ)) :
    wp frame (wpE defs 𝒱 (th c) bd) Set.univ (tailA (F := F) B) (fun r => wp frame (wpE defs 𝒱 (th c) bd) Set.univ (tailB (F := F) B r)
      fun _ => wp frame (wpE defs 𝒱 (th c) bd) Set.univ (tailC (F := F) B) R)
    = wp frame (wpE defs 𝒱 (th c) bd) Set.univ (finish (F := F) B) R := by
  rw [← tail_eq]
  simp only [wp_bind]

/-- The whole body. -/
theorem wp_main (B : Bufs) {NX NW NO : ℕ} (hC : Cred B NX NW NO)
    {R : Unit → sProp (MT nD τ sig Unit (Elt F) ℕ (Pipeline.UD sig nD τ) ℕ)} :
    (bodyI c I B False : sProp 𝕄) ⊢ iprop((bodyI c I B True -∗ R ⟨⟩) -∗ wp frame (wpE defs 𝒱 (th c) bd) Set.univ
      (cc0_graphormer (F := F) B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.a25 B.a26) R) := by
  rw [main_eq]
  simp only [wp_bind, stretch106_eq, stretch107_eq, stretch108_eq, stretch109_eq, stretch110_eq, stretch111_eq, stretch112_eq]
  unfold bodyI
  iintro ⟨⟨H0, H1, H2, H3, HWs, HBs⟩, ⟨HO0, HO1, HO2⟩, ⟨HS0, HS1, HS2⟩, ⟨H16, H17, H18, H19, H20, H21, H22, H23⟩, ⟨HX, HR, Hv0, Hv1, Hv2⟩, HW⟩ Hk
  iapply (wp_stretch106 𝒱 c bd I B hC) $$ [H16 H1 HX]
  · iapply (x_start c I B)
    isplitl [H16]; · iexact H16
    isplitl [H1]; · iexact H1
    iexact HX
  iintro HX
  iapply (wp_stretch107 𝒱 c bd I B hC) $$ [HWs H17 HR]
  · iapply (ring_start c I B)
    isplitl [HWs]; · iexact HWs
    isplitl [H17]; · iexact H17
    iexact HR
  iintro HR
  iapply (wp_stretch108 𝒱 c bd I B hC) $$ [HR H2 H3 HBs H18 H19 H20 HW]
  · isplitl [HR]; · iexact HR
    isplitl [H2 H3 HBs H18 H19 H20]
    · unfold prepI
      isplitl [H2]; · iexact H2
      isplitl [H3]; · iexact H3
      isplitl [HBs]; · iexact HBs
      isplitl [H18]
      · iapply (weaken (c := th c) (m := B.a18) (P := fun _ => False) (P' := wpD 0 0) fun x h => by unfold wpD at h; omega) $$ H18
      isplitl [H19]
      · iapply (weaken (c := th c) (m := B.a19) (P := fun _ => False) (P' := cD 0) fun x h => by unfold cD at h; omega) $$ H19
      iapply (weaken (c := th c) (m := B.a20) (P := fun _ => False) (P' := cD 0) fun x h => by unfold cD at h; omega) $$ H20
    iexact HW
  iintro H
  iapply (wp_stretch109 𝒱 c bd I B hC) $$ H
  iintro H
  iapply (wp_stretch110 𝒱 c bd I B hC) $$ H
  iintro H
  iapply (wp_stretch111 𝒱 c bd I B hC) $$ H
  iintro H
  iapply (wp_stretch112 𝒱 c bd I B hC) $$ H
  unfold prepI
  iintro ⟨HR, ⟨H2, H3, HBs, H18, H19, H20⟩, HW⟩
  icases (ring_end c I B) $$ HR with ⟨HWs, H17, HR⟩
  simp only [part113_eq, wp_bind, tail_wp]
  imod (pairs_start c I B (NX := NX) (NO := NO) (E := Set.univ)) $$ [H0 H18 H19 H20 H21 H22 H23 HX HO0 HO1 HO2 Hv0 Hv1 Hv2 HW] with H
  · isplitl [H0 H18 H19 H20]
    · isplitl [H0]; · iexact H0
      isplitl [H18]; · iexact H18
      isplitl [H19]; · iexact H19
      iexact H20
    isplitl [H21]; · iexact H21
    isplitl [H22]; · iexact H22
    isplitl [H23]; · iexact H23
    isplitl [HX]; · iexact HX
    isplitl [HO0 Hv0]
    · isplitl [HO0]; · iexact HO0
      iexact Hv0
    isplitl [HO1 Hv1]
    · isplitl [HO1]; · iexact HO1
      iexact Hv1
    isplitl [HO2 Hv2]
    · isplitl [HO2]; · iexact HO2
      iexact Hv2
    iexact HW
  iapply (wp_pairs 𝒱 c bd I B hC) $$ H
  unfold pairI outJ
  iintro ⟨⟨H0, H18, H19, H20⟩, H21, H22, H23, HX, ⟨HE0, HB0⟩, ⟨HE1, HB1⟩, ⟨HE2, HB2⟩, HW⟩
  rw [show oM 6 = ∅ by ext x; have x0 : (x 0).val < 12 := (x 0).isLt; unfold oM; simp only [Finset.mem_filter, Finset.mem_univ, true_and, Finset.notMem_empty, iff_false]; omega,
    show cM 6 = ∅ by ext x; have x0 : (x 1).val < 12 := (x 1).isLt; unfold cM; simp only [Finset.mem_filter, Finset.mem_univ, true_and, Finset.notMem_empty, iff_false]; omega]
  icases (Hold.none (c := th c) (m := B.a22)) $$ H22 with -
  icases (Hold.none (c := th c) (m := B.a10)) $$ HE0 with -
  icases (Hold.none (c := th c) (m := B.a12)) $$ HE1 with -
  icases (Hold.none (c := th c) (m := B.a14)) $$ HE2 with -
  icases (x_end c I B) $$ HX with ⟨H16, H1, HX⟩
  iapply (wp_finish 𝒱 c bd I B hC) $$ [H23 HS0 HS1 HS2 HB0 HB1 HB2 HW]
  · isplitl [H23]
    · iapply (weaken (c := th c) (m := B.a23) (P := sclD 6 0 allBlocks) (P' := fun _ => True) fun x _ => Or.inl (by
        have x1 : (x 1).val < 12 := (x 1).isLt
        omega)) $$ H23
    isplitl [HS0 HS1 HS2]
    · isplitl [HS0]; · iexact HS0
      isplitl [HS1]; · iexact HS1
      iexact HS2
    isplitl [HB0 HB1 HB2]
    · isplitl [HB0]; · iexact HB0
      isplitl [HB1]; · iexact HB1
      iexact HB2
    iexact HW
  iintro ⟨H23, HS, HO, H22, Hv, HW⟩
  iapply Hk
  isplitl [H0 H1 H2 H3 HWs HBs]
  · isplitl [H0]; · iexact H0
    isplitl [H1]; · iexact H1
    isplitl [H2]; · iexact H2
    isplitl [H3]; · iexact H3
    isplitl [HWs]; · iexact HWs
    iexact HBs
  isplitl [HO]; · iexact HO
  isplitl [HS]; · iexact HS
  isplitl [H16 H17 H18 H19 H20 H21 H22 H23]
  · isplitl [H16]; · iapply (forget c) $$ H16
    isplitl [H17]; · iexact H17
    isplitl [H18]; · iapply (forget c) $$ H18
    isplitl [H19]; · iapply (forget c) $$ H19
    isplitl [H20]; · iapply (forget c) $$ H20
    isplitl [H21]; · iapply (forget c) $$ H21
    isplitl [H22]; · iapply (forget c) $$ H22
    iapply (forget c) $$ H23
  isplitl [HX HR Hv]
  · isplitl [HX]; · iexact HX
    isplitl [HR]; · iexact HR
    iexact Hv
  iexact HW

end Cert.KernelIdeal.Pf
-- ==== Proof.Ideal.Launch.lean ====
/- The whole program's run: what every buffer holds when it is over, from the run of the kernel's body. -/
module

public import proofs.«01_k».proof.Proof.Ideal.Main
public import proofs.«01_k».proof.Proof.Gen.KernelIdeal.Frame
public import Idealize.ShloMosaic.Lib.Pipeline.FrameBody
public import Idealize.ShloMosaic.Lib.Pipeline.FrameSuffixV

@[expose] public section

set_option synthInstance.maxSize 4096
set_option maxRecDepth 16384

noncomputable section

namespace Cert.KernelIdeal.Pf

open Cert.KernelIdeal Cert.KernelIdeal.Gen
open Idealize.ShloMosaic Idealize.ShloMosaic.TcCoe Idealize.ShloMosaic.Tactic Idealize.SL Idealize.SL.RA Idealize.SL.Sem Idealize.SL.ProofMode Cert.Hold
open Idealize.SL.BI (sProp bigSep Storable)
open scoped Idealize.SL.BI
open Idealize.SL.BI.BIBase Idealize.SL.BI.Laws
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ### The program's inputs and buffers -/

/-- What the kernel reads, of the arrays as the host lines leave them. -/
def inp : Inp F where
  n := iblk m c 0 t0_0
  x := V m c main_v0
  g := iblk m c 1 t0_0
  lb := iblk m c 2 t0_0
  w := fun t => match t with
    | 0 => V m c main_v4
    | 1 => V m c main_v6
    | _ => V m c main_v8
  b := fun t => match t with
    | 0 => iblk m c 3 t0_0
    | 1 => iblk m c 4 t0_0
    | _ => iblk m c 5 t0_0

/-- The kernel's buffers in this program. -/
def bufs : Bufs where
  a0 := win0_0.stage (cfg0.slots t0_0 0)
  h0 := hstage0_0 0
  a1 := Memref.whole main_v0
  h1 := Memref.isWhole_whole _
  a2 := win0_1.stage (cfg0.slots t0_0 1)
  h2 := hstage0_1 0
  a3 := win0_2.stage (cfg0.slots t0_0 2)
  h3 := hstage0_2 0
  a4 := Memref.whole main_v4
  h4 := Memref.isWhole_whole _
  a5 := win0_3.stage (cfg0.slots t0_0 3)
  h5 := hstage0_3 0
  a6 := Memref.whole main_v6
  h6 := Memref.isWhole_whole _
  a7 := win0_4.stage (cfg0.slots t0_0 4)
  h7 := hstage0_4 0
  a8 := Memref.whole main_v8
  h8 := Memref.isWhole_whole _
  a9 := win0_5.stage (cfg0.slots t0_0 5)
  h9 := hstage0_5 0
  a10 := Memref.whole main_v9_0
  h10 := Memref.isWhole_whole _
  a11 := win0_6.stage (cfg0.slots t0_0 6)
  h11 := hstage0_6 0
  a12 := Memref.whole main_v9_2
  h12 := Memref.isWhole_whole _
  a13 := win0_7.stage (cfg0.slots t0_0 7)
  h13 := hstage0_7 0
  a14 := Memref.whole main_v9_4
  h14 := Memref.isWhole_whole _
  a15 := win0_8.stage (cfg0.slots t0_0 8)
  h15 := hstage0_8 0
  a16 := Memref.whole cc0_scratch0
  h16 := Memref.isWhole_whole _
  a17 := Memref.whole cc0_scratch1
  h17 := Memref.isWhole_whole _
  a18 := Memref.whole cc0_scratch2
  h18 := Memref.isWhole_whole _
  a19 := Memref.whole cc0_scratch3
  h19 := Memref.isWhole_whole _
  a20 := Memref.whole cc0_scratch4
  h20 := Memref.isWhole_whole _
  a21 := Memref.whole cc0_scratch5
  h21 := Memref.isWhole_whole _
  a22 := Memref.whole cc0_scratch6
  h22 := Memref.isWhole_whole _
  a23 := Memref.whole cc0_scratch7
  h23 := Memref.isWhole_whole _
  a24 := cc0_scratch8
  a25 := cc0_scratch9
  a26 := cc0_scratch10

theorem bufs_x (o : Fin 2 → ℕ) (inb) : (bufs.a16.slice (Rect.unit (s := S1536x1024) o S256x1024.size inb) (fun _ => rfl)).view.dmaCredit
    = (bufs.a16.slice (Rect.unit (s := S1536x1024) ![0, 0] S256x1024.size (by decide)) (fun _ => rfl)).view.dmaCredit := rfl

/-- How much each of the kernel's copies counts. -/
theorem cred : Cred bufs
    (bufs.a16.slice (Rect.unit (s := S1536x1024) ![0, 0] S256x1024.size (by decide)) (fun _ => rfl)).view.dmaCredit
    ((bufs.a17.slice (Rect.unit (s := S6x256x1024) ![0, 0, 0] S1x256x1024.size (by decide)) (fun _ => rfl)).squeeze S256x1024 squeezes_S1x256x1024_S256x1024).view.dmaCredit
    (bufs.a10.slice (Rect.unit (s := S12x1024x128) ![0, 0, 0] S2x1024x128.size (by decide)) (fun _ => rfl)).view.dmaCredit where
  x _ _ := rfl
  w _ _ := rfl
  o10 _ _ := rfl
  o12 _ _ := rfl
  o14 _ _ := rfl
  t10 := by rfl
  t12 := by rfl
  t14 := by rfl

/-- The buffers the kernel copies from, and the ones it copies its codes to. -/
def Hs : Finset (Ref sig .tc) := {main_v0, main_v4, main_v6, main_v8}
def Rs : Finset (Ref sig .tc) := {main_v9_0, main_v9_2, main_v9_4}

/-- What the codes' buffers hold at the end. -/
def endR (b : Ref sig .tc) : Buf (Elt F) ((c : Thread nD τ).loc b) :=
  Function.update (Function.update (Function.update (V m c) main_v9_0 (codeOut (inp m c) 0)) main_v9_2 (codeOut (inp m c) 1)) main_v9_4 (codeOut (inp m c) 2) b

theorem endR_0 : endR m c main_v9_0 = codeOut (inp m c) 0 := by
  unfold endR
  rw [Function.update_of_ne (by decide), Function.update_of_ne (by decide), Function.update_self]
theorem endR_2 : endR m c main_v9_2 = codeOut (inp m c) 1 := by
  unfold endR
  rw [Function.update_of_ne (by decide), Function.update_self]
theorem endR_4 : endR m c main_v9_4 = codeOut (inp m c) 2 := by
  unfold endR
  rw [Function.update_self]

/-- The kernel's own semaphore cells. -/
def osem : Fin 15 → SemLoc sig := fun j => ![SemLoc.dma 9, SemLoc.dma 10, SemLoc.dma 11, SemLoc.dma 12, SemLoc.dma 13, SemLoc.dma 14,
  SemLoc.dma 15, SemLoc.dma 16, SemLoc.dma 17, SemLoc.dma 18, SemLoc.dma 19, SemLoc.dma 20, SemLoc.dma 21, SemLoc.dma 22, SemLoc.dma 23] j

theorem ownSemFacts : Pipeline.OwnSemFacts spec0 osem := by decide

theorem Hs_sub : Hs ⊆ Pipeline.restRefs sig spec0 := by decide
theorem Rs_sub : Rs ⊆ Pipeline.restRefs sig spec0 \ Hs := by decide

theorem cells8 : ∀ j : Fin 6, cell6 cc0_scratch8 j.val = SemLoc.dma ⟨9 + j.val, by have := j.isLt; show 9 + j.val < 24; omega⟩ := by decide
theorem cells9 : ∀ j : Fin 6, cell6 cc0_scratch9 j.val = SemLoc.dma ⟨15 + j.val, by have := j.isLt; show 15 + j.val < 24; omega⟩ := by decide
theorem cells10 : ∀ j : Fin 3, cell3 cc0_scratch10 j.val = SemLoc.dma ⟨21 + j.val, by have := j.isLt; show 21 + j.val < 24; omega⟩ := by decide

/-- The kernel's own counters, one by one. -/
theorem ownSems_eq : (Pipeline.ownSems0 (Ix := Unit) (Name := ℕ) (U := Pipeline.UD sig nD τ) (Lvl := ℕ) (Val := Elt F) (τ := τ) osem c : sProp 𝕄)
    ⊣⊢ iprop(bigSep Finset.univ (fun j : Fin 6 => semVal (th c, cell6 cc0_scratch8 j.val) 0) ∗ bigSep Finset.univ (fun j : Fin 6 => semVal (th c, cell6 cc0_scratch9 j.val) 0)
      ∗ (semVal (th c, cell3 cc0_scratch10 0) 0 ∗ semVal (th c, cell3 cc0_scratch10 1) 0 ∗ semVal (th c, cell3 cc0_scratch10 2) 0)) := by
  have h6 : ∀ a : DmaSems sig S6, (bigSep Finset.univ (fun j : Fin 6 => semVal (th c, cell6 a j.val) 0) : sProp 𝕄)
      = iprop(semVal (th c, cell6 a 0) 0 ∗ semVal (th c, cell6 a 1) 0 ∗ semVal (th c, cell6 a 2) 0 ∗ semVal (th c, cell6 a 3) 0 ∗ semVal (th c, cell6 a 4) 0 ∗ semVal (th c, cell6 a 5) 0) := fun a =>
    BI.bigSep_univ_eq_bigSepL [(0 : Fin 6), 1, 2, 3, 4, 5] (by decide) (by decide) _
  have e : (Pipeline.ownSems0 (Ix := Unit) (Name := ℕ) (U := Pipeline.UD sig nD τ) (Lvl := ℕ) (Val := Elt F) (τ := τ) osem c : sProp 𝕄)
      = iprop(semVal (th c, cell6 cc0_scratch8 0) 0 ∗ semVal (th c, cell6 cc0_scratch8 1) 0 ∗ semVal (th c, cell6 cc0_scratch8 2) 0 ∗ semVal (th c, cell6 cc0_scratch8 3) 0 ∗ semVal (th c, cell6 cc0_scratch8 4) 0 ∗ semVal (th c, cell6 cc0_scratch8 5) 0
        ∗ semVal (th c, cell6 cc0_scratch9 0) 0 ∗ semVal (th c, cell6 cc0_scratch9 1) 0 ∗ semVal (th c, cell6 cc0_scratch9 2) 0 ∗ semVal (th c, cell6 cc0_scratch9 3) 0 ∗ semVal (th c, cell6 cc0_scratch9 4) 0 ∗ semVal (th c, cell6 cc0_scratch9 5) 0
        ∗ semVal (th c, cell3 cc0_scratch10 0) 0 ∗ semVal (th c, cell3 cc0_scratch10 1) 0 ∗ semVal (th c, cell3 cc0_scratch10 2) 0) := by
    rw [Pipeline.ownSems0_eq_of_list c osem [0, 1, 2, 3, 4, 5, 6, 7, 8, 9, 10, 11, 12, 13, 14] (by decide) (by decide)]
    rw [show cell6 cc0_scratch8 0 = SemLoc.dma 9 from cells8 0,
      show cell6 cc0_scratch8 1 = SemLoc.dma 10 from cells8 1,
      show cell6 cc0_scratch8 2 = SemLoc.dma 11 from cells8 2,
      show cell6 cc0_scratch8 3 = SemLoc.dma 12 from cells8 3,
      show cell6 cc0_scratch8 4 = SemLoc.dma 13 from cells8 4,
      show cell6 cc0_scratch8 5 = SemLoc.dma 14 from cells8 5,
      show cell6 cc0_scratch9 0 = SemLoc.dma 15 from cells9 0,
      show cell6 cc0_scratch9 1 = SemLoc.dma 16 from cells9 1,
      show cell6 cc0_scratch9 2 = SemLoc.dma 17 from cells9 2,
      show cell6 cc0_scratch9 3 = SemLoc.dma 18 from cells9 3,
      show cell6 cc0_scratch9 4 = SemLoc.dma 19 from cells9 4,
      show cell6 cc0_scratch9 5 = SemLoc.dma 20 from cells9 5,
      show cell3 cc0_scratch10 0 = SemLoc.dma 21 from cells10 0,
      show cell3 cc0_scratch10 1 = SemLoc.dma 22 from cells10 1,
      show cell3 cc0_scratch10 2 = SemLoc.dma 23 from cells10 2]
    rfl
  rw [h6, h6, e]
  constructor
  · iintro ⟨A0, A1, A2, A3, A4, A5, B0, B1, B2, B3, B4, B5, C0, C1, C2⟩
    iframe
  · iintro ⟨⟨A0, A1, A2, A3, A4, A5⟩, ⟨B0, B1, B2, B3, B4, B5⟩, C0, C1, C2⟩
    iframe

/-! ### Whole buffers and held ones -/

theorem hold_of_owns {sp : Space} {s : Shape} {e : EltTy} (r : Memref sig .tc sp s e) (X : s.Idx → Elt F e) :
    (owns (c : Thread nD τ) r fullShare X : sProp 𝕄) ⊢ Hold (th c) r Finset.univ (fun _ => True) X := by
  unfold owns
  iintro ⟨%f, %hf, H⟩
  iapply (Hold.intro (c := th c) (m := r) (P := fun _ => True) f fun x _ _ => congrFun hf x)
  rw [View.setOn_univ]
  iexact H

theorem owns_of_hold {sp : Space} {s : Shape} {e : EltTy} (r : Memref sig .tc sp s e) (X : s.Idx → Elt F e) :
    Hold (th c) r Finset.univ (fun _ => True) X ⊢ (owns (c : Thread nD τ) r fullShare X : sProp 𝕄) := by
  unfold owns Hold
  rw [View.setOn_univ]
  iintro ⟨%f, H, %hf⟩
  iexists f
  isplitr; · ipureintro; exact funext fun x => hf x (Finset.mem_univ x) trivial
  iexact H

theorem hold_of_pts (b : Ref sig .tc) (f : b.ty.Contents (Elt F)) :
    (((c : Thread nD τ).loc b) ↦{fullShare} f : sProp 𝕄) ⊢ Hold (th c) (Memref.whole b) Finset.univ (fun _ => True) f := by
  have h := owns_whole (Ix := Unit) (Name := ℕ) (U := Pipeline.UD sig nD τ) (Lvl := ℕ) (c : Thread nD τ) b fullShare f
  exact (Entails.of_eq h.symm).trans (hold_of_owns c (Memref.whole b) f)

theorem pts_of_hold (b : Ref sig .tc) (f : b.ty.Contents (Elt F)) :
    Hold (th c) (Memref.whole b) Finset.univ (fun _ => True) f ⊢ (((c : Thread nD τ).loc b) ↦{fullShare} f : sProp 𝕄) := by
  have h := owns_whole (Ix := Unit) (Name := ℕ) (U := Pipeline.UD sig nD τ) (Lvl := ℕ) (c : Thread nD τ) b fullShare f
  exact (owns_of_hold c (Memref.whole b) f).trans (Entails.of_eq h)

/-- A buffer at anything is held at nothing in particular. -/
theorem free_of_owns {sp : Space} {s : Shape} {e : EltTy} (r : Memref sig .tc sp s e) (X g : s.Idx → Elt F e) :
    (owns (c : Thread nD τ) r fullShare X : sProp 𝕄) ⊢ Hold (th c) r Finset.univ (fun _ => False) g :=
  (hold_of_owns c r X).trans (forget c)

theorem free_of_pts (b : Ref sig .tc) (g : b.ty.Contents (Elt F)) :
    (iprop(∃ f : Buf (Elt F) ((c : Thread nD τ).loc b), ((c : Thread nD τ).loc b) ↦{fullShare} f) : sProp 𝕄) ⊢ Hold (th c) (Memref.whole b) Finset.univ (fun _ => False) g := by
  iintro ⟨%f, H⟩
  iapply (forget c)
  iapply (hold_of_pts c b f)
  iexact H

theorem pts_of_free (b : Ref sig .tc) (P : b.ty.shape.Idx → Prop) (g : b.ty.Contents (Elt F)) :
    Hold (th c) (Memref.whole b) Finset.univ P g ⊢ (iprop(∃ f : Buf (Elt F) ((c : Thread nD τ).loc b), ((c : Thread nD τ).loc b) ↦{fullShare} f) : sProp 𝕄) := by
  unfold Hold
  rw [View.setOn_univ]
  iintro ⟨%f, H, -⟩
  iexists f
  simp only [Memref.view_whole, View.set_whole]
  iexact H

/-! ### The proof data of the one pipeline -/

/-- The arrays as the region finds them; each result's buffer after the body; the kernel's own buffers and counters,
    the codes' buffers as found before the body and written after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sclOut (inp m c) 0
    | ⟨7, _⟩ => sclOut (inp m c) 1
    | ⟨8, _⟩ => sclOut (inp m c) 2
  Φ t := Pipeline.ΦDRV osem spec0 Hs Rs (V m) (if t.val = 0 then V m else endR m) c
  q _ := fullShare
  owed _ := 0

theorem A_eq (c : Dev nD) (w : Fin cfg0.W) : (dats m 0 c).A w = V m c (Pipeline.arrRef spec0 w) := by
  dsimp only [dats]

theorem before_0 (t : Fin cfg0.N) (d) : (dats m 0 c).before 0 t d = iblk m c 0 t := by
  unfold Dat.before; rw [if_pos (fetch0_0 t)]; rfl
theorem before_1 (t : Fin cfg0.N) (d) : (dats m 0 c).before 1 t d = iblk m c 1 t := by
  unfold Dat.before; rw [if_pos (fetch0_1 t)]; rfl
theorem before_2 (t : Fin cfg0.N) (d) : (dats m 0 c).before 2 t d = iblk m c 2 t := by
  unfold Dat.before; rw [if_pos (fetch0_2 t)]; rfl
theorem before_3 (t : Fin cfg0.N) (d) : (dats m 0 c).before 3 t d = iblk m c 3 t := by
  unfold Dat.before; rw [if_pos (fetch0_3 t)]; rfl
theorem before_4 (t : Fin cfg0.N) (d) : (dats m 0 c).before 4 t d = iblk m c 4 t := by
  unfold Dat.before; rw [if_pos (fetch0_4 t)]; rfl
theorem before_5 (t : Fin cfg0.N) (d) : (dats m 0 c).before 5 t d = iblk m c 5 t := by
  unfold Dat.before; rw [if_pos (fetch0_5 t)]; rfl

/-- The codes' buffers. -/
theorem Rs_eq (G : (b : Ref sig .tc) → Buf (Elt F) ((c : Thread nD τ).loc b)) :
    (bigSep Rs fun b => ((c : Thread nD τ).loc b) ↦{fullShare} G b : sProp 𝕄)
      = iprop((((c : Thread nD τ).loc main_v9_0) ↦{fullShare} G main_v9_0) ∗ (((c : Thread nD τ).loc main_v9_2) ↦{fullShare} G main_v9_2) ∗ (((c : Thread nD τ).loc main_v9_4) ↦{fullShare} G main_v9_4)) := by
  rw [BI.bigSep_eq_bigSepL_of_eq [main_v9_0, main_v9_2, main_v9_4] (by decide) (by decide)]; rfl

/-- The buffers the kernel copies from. -/
theorem Hs_eq (G : (b : Ref sig .tc) → Buf (Elt F) ((c : Thread nD τ).loc b)) :
    (bigSep Hs fun b => ((c : Thread nD τ).loc b) ↦{fullShare} G b : sProp 𝕄)
      = iprop((((c : Thread nD τ).loc main_v0) ↦{fullShare} G main_v0) ∗ (((c : Thread nD τ).loc main_v4) ↦{fullShare} G main_v4) ∗ (((c : Thread nD τ).loc main_v6) ↦{fullShare} G main_v6) ∗ (((c : Thread nD τ).loc main_v8) ↦{fullShare} G main_v8)) := by
  rw [BI.bigSep_eq_bigSepL_of_eq [main_v0, main_v4, main_v6, main_v8] (by decide) (by decide)]; rfl

theorem defs₀_row (t : Fin cfg0.N) : defs₀ (F := F) .tc cfg0.body (cfg0.bodyArgs t (cfg0.slots t)) = bodyAt0 t := by
  unfold defs₀; rw [Defs.onTc_tc]

def scr (c : Dev nD) : sProp 𝕄 := Pipeline.scopedRest (Ix := Unit) (Name := ℕ) (U := Pipeline.UD sig nD τ) (Lvl := ℕ) (Val := Elt F) spec0 c

def bodyPre (c : Dev nD) : sProp 𝕄 :=
  iprop((dats m 0 c).Φ t0_0.castSucc ∗ (dats m 0 c).owesAt () t0_0.castSucc
    ∗ (∃ d, owns (c : Thread nD τ) (st0_0 t0_0) fullShare ((dats m 0 c).before 0 t0_0 d))
    ∗ (∃ d, owns (c : Thread nD τ) (st0_1 t0_0) fullShare ((dats m 0 c).before 1 t0_0 d))
    ∗ (∃ d, owns (c : Thread nD τ) (st0_2 t0_0) fullShare ((dats m 0 c).before 2 t0_0 d))
    ∗ (∃ d, owns (c : Thread nD τ) (st0_3 t0_0) fullShare ((dats m 0 c).before 3 t0_0 d))
    ∗ (∃ d, owns (c : Thread nD τ) (st0_4 t0_0) fullShare ((dats m 0 c).before 4 t0_0 d))
    ∗ (∃ d, owns (c : Thread nD τ) (st0_5 t0_0) fullShare ((dats m 0 c).before 5 t0_0 d))
    ∗ (∃ d, owns (c : Thread nD τ) (st0_6 t0_0) fullShare ((dats m 0 c).before 6 t0_0 d))
    ∗ (∃ d, owns (c : Thread nD τ) (st0_7 t0_0) fullShare ((dats m 0 c).before 7 t0_0 d))
    ∗ (∃ d, owns (c : Thread nD τ) (st0_8 t0_0) fullShare ((dats m 0 c).before 8 t0_0 d)))

def bodyPost (c : Dev nD) : sProp 𝕄 :=
  iprop((dats m 0 c).Φ t0_0.succ ∗ (dats m 0 c).owesAt () t0_0.succ
    ∗ owns (c : Thread nD τ) (st0_0 t0_0) fullShare (iblk m c 0 t0_0)
    ∗ owns (c : Thread nD τ) (st0_1 t0_0) fullShare (iblk m c 1 t0_0)
    ∗ owns (c : Thread nD τ) (st0_2 t0_0) fullShare (iblk m c 2 t0_0)
    ∗ owns (c : Thread nD τ) (st0_3 t0_0) fullShare (iblk m c 3 t0_0)
    ∗ owns (c : Thread nD τ) (st0_4 t0_0) fullShare (iblk m c 4 t0_0)
    ∗ owns (c : Thread nD τ) (st0_5 t0_0) fullShare (iblk m c 5 t0_0)
    ∗ owns (c : Thread nD τ) (st0_6 t0_0) fullShare (sclOut (inp m c) 0)
    ∗ owns (c : Thread nD τ) (st0_7 t0_0) fullShare (sclOut (inp m c) 1)
    ∗ owns (c : Thread nD τ) (st0_8 t0_0) fullShare (sclOut (inp m c) 2))

theorem body_in : bodyPre m c ⊢ bodyI c (inp m c) bufs False := by
  unfold bodyPre bodyI
  rw [show (dats m 0 c).Φ t0_0.castSucc = Pipeline.ΦDRV osem spec0 Hs Rs (V m) (V m) c from rfl]
  unfold Pipeline.ΦDRV Dat.owesAt Pipeline.owesWithin
  rw [Rs_eq, Hs_eq, scopedRest0_eq, show (dats m 0 c).owed t0_0.castSucc = 0 from rfl]
  simp only [before_0, before_1, before_2, before_3, before_4, before_5]
  iintro ⟨⟨⟨S0, S1, S2, S3, S4, S5, S6, S7⟩, HQ, ⟨H0, H1, H2, H3⟩, R0, R1, R2⟩, ⟨%W, -, HW⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  isplitl [W0 H0 W1 W2 H1 H2 H3 W3 W4 W5]
  · isplitl [W0]; · iapply (show (owns (c : Thread nD τ) (st0_0 t0_0) fullShare (iblk m c 0 t0_0) : sProp 𝕄) ⊢ Hold (th c) bufs.a0 Finset.univ (fun _ => True) (inp m c).n from hold_of_owns c bufs.a0 (inp m c).n) $$ W0
    isplitl [H0]; · iapply (show (((c : Thread nD τ).loc main_v0) ↦{fullShare} V m c main_v0 : sProp 𝕄) ⊢ Hold (th c) bufs.a1 Finset.univ (fun _ => True) (inp m c).x from hold_of_pts c main_v0 (V m c main_v0)) $$ H0
    isplitl [W1]; · iapply (show (owns (c : Thread nD τ) (st0_1 t0_0) fullShare (iblk m c 1 t0_0) : sProp 𝕄) ⊢ Hold (th c) bufs.a2 Finset.univ (fun _ => True) (inp m c).g from hold_of_owns c bufs.a2 (inp m c).g) $$ W1
    isplitl [W2]; · iapply (show (owns (c : Thread nD τ) (st0_2 t0_0) fullShare (iblk m c 2 t0_0) : sProp 𝕄) ⊢ Hold (th c) bufs.a3 Finset.univ (fun _ => True) (inp m c).lb from hold_of_owns c bufs.a3 (inp m c).lb) $$ W2
    isplitl [H1 H2 H3]
    · isplitl [H1]; · iapply (show (((c : Thread nD τ).loc main_v4) ↦{fullShare} V m c main_v4 : sProp 𝕄) ⊢ Hold (th c) bufs.a4 Finset.univ (fun _ => True) ((inp m c).w 0) from hold_of_pts c main_v4 (V m c main_v4)) $$ H1
      isplitl [H2]; · iapply (show (((c : Thread nD τ).loc main_v6) ↦{fullShare} V m c main_v6 : sProp 𝕄) ⊢ Hold (th c) bufs.a6 Finset.univ (fun _ => True) ((inp m c).w 1) from hold_of_pts c main_v6 (V m c main_v6)) $$ H2
      iapply (show (((c : Thread nD τ).loc main_v8) ↦{fullShare} V m c main_v8 : sProp 𝕄) ⊢ Hold (th c) bufs.a8 Finset.univ (fun _ => True) ((inp m c).w 2) from hold_of_pts c main_v8 (V m c main_v8)) $$ H3
    isplitl [W3]; · iapply (show (owns (c : Thread nD τ) (st0_3 t0_0) fullShare (iblk m c 3 t0_0) : sProp 𝕄) ⊢ Hold (th c) bufs.a5 Finset.univ (fun _ => True) ((inp m c).b 0) from hold_of_owns c bufs.a5 ((inp m c).b 0)) $$ W3
    isplitl [W4]; · iapply (show (owns (c : Thread nD τ) (st0_4 t0_0) fullShare (iblk m c 4 t0_0) : sProp 𝕄) ⊢ Hold (th c) bufs.a7 Finset.univ (fun _ => True) ((inp m c).b 1) from hold_of_owns c bufs.a7 ((inp m c).b 1)) $$ W4
    iapply (show (owns (c : Thread nD τ) (st0_5 t0_0) fullShare (iblk m c 5 t0_0) : sProp 𝕄) ⊢ Hold (th c) bufs.a9 Finset.univ (fun _ => True) ((inp m c).b 2) from hold_of_owns c bufs.a9 ((inp m c).b 2)) $$ W5
  isplitl [R0 R1 R2]
  · isplitl [R0]; · iapply (show (iprop(∃ f : Buf (Elt F) ((c : Thread nD τ).loc main_v9_0), ((c : Thread nD τ).loc main_v9_0) ↦{fullShare} f) : sProp 𝕄) ⊢ Hold (th c) bufs.a10 Finset.univ (fun _ => False) (codeOut (inp m c) 0) from free_of_pts c main_v9_0 (codeOut (inp m c) 0)); iexists _; iexact R0
    isplitl [R1]; · iapply (show (iprop(∃ f : Buf (Elt F) ((c : Thread nD τ).loc main_v9_2), ((c : Thread nD τ).loc main_v9_2) ↦{fullShare} f) : sProp 𝕄) ⊢ Hold (th c) bufs.a12 Finset.univ (fun _ => False) (codeOut (inp m c) 1) from free_of_pts c main_v9_2 (codeOut (inp m c) 1)); iexists _; iexact R1
    iapply (show (iprop(∃ f : Buf (Elt F) ((c : Thread nD τ).loc main_v9_4), ((c : Thread nD τ).loc main_v9_4) ↦{fullShare} f) : sProp 𝕄) ⊢ Hold (th c) bufs.a14 Finset.univ (fun _ => False) (codeOut (inp m c) 2) from free_of_pts c main_v9_4 (codeOut (inp m c) 2)); iexists _; iexact R2
  isplitl [W6 W7 W8]
  · isplitl [W6]; · iapply (show (owns (c : Thread nD τ) (st0_6 t0_0) fullShare ((dats m 0 c).before 6 t0_0 d6) : sProp 𝕄) ⊢ Hold (th c) bufs.a11 Finset.univ (fun _ => False) (sclOut (inp m c) 0) from free_of_owns c bufs.a11 _ (sclOut (inp m c) 0)) $$ W6
    isplitl [W7]; · iapply (show (owns (c : Thread nD τ) (st0_7 t0_0) fullShare ((dats m 0 c).before 7 t0_0 d7) : sProp 𝕄) ⊢ Hold (th c) bufs.a13 Finset.univ (fun _ => False) (sclOut (inp m c) 1) from free_of_owns c bufs.a13 _ (sclOut (inp m c) 1)) $$ W7
    iapply (show (owns (c : Thread nD τ) (st0_8 t0_0) fullShare ((dats m 0 c).before 8 t0_0 d8) : sProp 𝕄) ⊢ Hold (th c) bufs.a15 Finset.univ (fun _ => False) (sclOut (inp m c) 2) from free_of_owns c bufs.a15 _ (sclOut (inp m c) 2)) $$ W8
  isplitl [S0 S1 S2 S3 S4 S5 S6 S7]
  · isplitl [S0]; · iapply (show (iprop(∃ f : Buf (Elt F) ((c : Thread nD τ).loc cc0_scratch0), ((c : Thread nD τ).loc cc0_scratch0) ↦{fullShare} f) : sProp 𝕄) ⊢ Hold (th c) bufs.a16 Finset.univ (fun _ => False) (inp m c).x from free_of_pts c cc0_scratch0 (inp m c).x) $$ S0
    isplitl [S1]; · iapply (show (iprop(∃ f : Buf (Elt F) ((c : Thread nD τ).loc cc0_scratch1), ((c : Thread nD τ).loc cc0_scratch1) ↦{fullShare} f) : sProp 𝕄) ⊢ Hold (th c) bufs.a17 Finset.univ (fun _ => False) (wstS (inp m c) 0 0) from free_of_pts c cc0_scratch1 (wstS (inp m c) 0 0)) $$ S1
    isplitl [S2]; · iapply (show (iprop(∃ f : Buf (Elt F) ((c : Thread nD τ).loc cc0_scratch2), ((c : Thread nD τ).loc cc0_scratch2) ↦{fullShare} f) : sProp 𝕄) ⊢ Hold (th c) bufs.a18 Finset.univ (fun _ => False) (wpS (inp m c)) from free_of_pts c cc0_scratch2 (wpS (inp m c))) $$ S2
    isplitl [S3]; · iapply (show (iprop(∃ f : Buf (Elt F) ((c : Thread nD τ).loc cc0_scratch3), ((c : Thread nD τ).loc cc0_scratch3) ↦{fullShare} f) : sProp 𝕄) ⊢ Hold (th c) bufs.a19 Finset.univ (fun _ => False) (csS (inp m c)) from free_of_pts c cc0_scratch3 (csS (inp m c))) $$ S3
    isplitl [S4]; · iapply (show (iprop(∃ f : Buf (Elt F) ((c : Thread nD τ).loc cc0_scratch4), ((c : Thread nD τ).loc cc0_scratch4) ↦{fullShare} f) : sProp 𝕄) ⊢ Hold (th c) bufs.a20 Finset.univ (fun _ => False) (cbS (inp m c)) from free_of_pts c cc0_scratch4 (cbS (inp m c))) $$ S4
    isplitl [S5]; · iapply (show (iprop(∃ f : Buf (Elt F) ((c : Thread nD τ).loc cc0_scratch5), ((c : Thread nD τ).loc cc0_scratch5) ↦{fullShare} f) : sProp 𝕄) ⊢ Hold (th c) bufs.a21 Finset.univ (fun _ => False) (stS (inp m c) 0) from free_of_pts c cc0_scratch5 (stS (inp m c) 0)) $$ S5
    isplitl [S6]; · iapply (show (iprop(∃ f : Buf (Elt F) ((c : Thread nD τ).loc cc0_scratch6), ((c : Thread nD τ).loc cc0_scratch6) ↦{fullShare} f) : sProp 𝕄) ⊢ Hold (th c) bufs.a22 Finset.univ (fun _ => False) (codeS (inp m c)) from free_of_pts c cc0_scratch6 (codeS (inp m c))) $$ S6
    iapply (show (iprop(∃ f : Buf (Elt F) ((c : Thread nD τ).loc cc0_scratch7), ((c : Thread nD τ).loc cc0_scratch7) ↦{fullShare} f) : sProp 𝕄) ⊢ Hold (th c) bufs.a23 Finset.univ (fun _ => False) (sclS (inp m c)) from free_of_pts c cc0_scratch7 (sclS (inp m c))) $$ S7
  isplitl [HQ]; · iapply (ownSems_eq c).1; iexact HQ
  iexists W; iexact HW

theorem body_out : bodyI c (inp m c) bufs True ⊢ bodyPost m c := by
  unfold bodyPost bodyI
  rw [show (dats m 0 c).Φ t0_0.succ = Pipeline.ΦDRV osem spec0 Hs Rs (V m) (endR m) c from rfl]
  unfold Pipeline.ΦDRV Dat.owesAt Pipeline.owesWithin
  rw [Rs_eq, Hs_eq, scopedRest0_eq, show (dats m 0 c).owed t0_0.succ = 0 from rfl, endR_0, endR_2, endR_4]
  iintro ⟨⟨W0, H0, W1, W2, ⟨H1, H2, H3⟩, W3, W4, W5⟩, ⟨R0, R1, R2⟩, ⟨W6, W7, W8⟩, ⟨S0, S1, S2, S3, S4, S5, S6, S7⟩, HQ, ⟨%W, HW⟩⟩
  isplitl [S0 S1 S2 S3 S4 S5 S6 S7 HQ H0 H1 H2 H3 R0 R1 R2]
  · isplitl [S0 S1 S2 S3 S4 S5 S6 S7]
    · isplitl [S0]; · iapply (show Hold (th c) bufs.a16 Finset.univ (fun _ => False) (inp m c).x ⊢ (iprop(∃ f : Buf (Elt F) ((c : Thread nD τ).loc cc0_scratch0), ((c : Thread nD τ).loc cc0_scratch0) ↦{fullShare} f) : sProp 𝕄) from pts_of_free c cc0_scratch0 _ _) $$ S0
      isplitl [S1]; · iapply (show Hold (th c) bufs.a17 Finset.univ (fun _ => False) (wstS (inp m c) 0 0) ⊢ (iprop(∃ f : Buf (Elt F) ((c : Thread nD τ).loc cc0_scratch1), ((c : Thread nD τ).loc cc0_scratch1) ↦{fullShare} f) : sProp 𝕄) from pts_of_free c cc0_scratch1 _ _) $$ S1
      isplitl [S2]; · iapply (show Hold (th c) bufs.a18 Finset.univ (fun _ => False) (wpS (inp m c)) ⊢ (iprop(∃ f : Buf (Elt F) ((c : Thread nD τ).loc cc0_scratch2), ((c : Thread nD τ).loc cc0_scratch2) ↦{fullShare} f) : sProp 𝕄) from pts_of_free c cc0_scratch2 _ _) $$ S2
      isplitl [S3]; · iapply (show Hold (th c) bufs.a19 Finset.univ (fun _ => False) (csS (inp m c)) ⊢ (iprop(∃ f : Buf (Elt F) ((c : Thread nD τ).loc cc0_scratch3), ((c : Thread nD τ).loc cc0_scratch3) ↦{fullShare} f) : sProp 𝕄) from pts_of_free c cc0_scratch3 _ _) $$ S3
      isplitl [S4]; · iapply (show Hold (th c) bufs.a20 Finset.univ (fun _ => False) (cbS (inp m c)) ⊢ (iprop(∃ f : Buf (Elt F) ((c : Thread nD τ).loc cc0_scratch4), ((c : Thread nD τ).loc cc0_scratch4) ↦{fullShare} f) : sProp 𝕄) from pts_of_free c cc0_scratch4 _ _) $$ S4
      isplitl [S5]; · iapply (show Hold (th c) bufs.a21 Finset.univ (fun _ => False) (stS (inp m c) 0) ⊢ (iprop(∃ f : Buf (Elt F) ((c : Thread nD τ).loc cc0_scratch5), ((c : Thread nD τ).loc cc0_scratch5) ↦{fullShare} f) : sProp 𝕄) from pts_of_free c cc0_scratch5 _ _) $$ S5
      isplitl [S6]; · iapply (show Hold (th c) bufs.a22 Finset.univ (fun _ => False) (codeS (inp m c)) ⊢ (iprop(∃ f : Buf (Elt F) ((c : Thread nD τ).loc cc0_scratch6), ((c : Thread nD τ).loc cc0_scratch6) ↦{fullShare} f) : sProp 𝕄) from pts_of_free c cc0_scratch6 _ _) $$ S6
      iapply (show Hold (th c) bufs.a23 Finset.univ (fun _ => False) (sclS (inp m c)) ⊢ (iprop(∃ f : Buf (Elt F) ((c : Thread nD τ).loc cc0_scratch7), ((c : Thread nD τ).loc cc0_scratch7) ↦{fullShare} f) : sProp 𝕄) from pts_of_free c cc0_scratch7 _ _) $$ S7
    isplitl [HQ]; · iapply (ownSems_eq c).2; iexact HQ
    isplitl [H0 H1 H2 H3]
    · isplitl [H0]; · iapply (show Hold (th c) bufs.a1 Finset.univ (fun _ => True) (inp m c).x ⊢ (((c : Thread nD τ).loc main_v0) ↦{fullShare} V m c main_v0 : sProp 𝕄) from pts_of_hold c main_v0 (V m c main_v0)) $$ H0
      isplitl [H1]; · iapply (show Hold (th c) bufs.a4 Finset.univ (fun _ => True) ((inp m c).w 0) ⊢ (((c : Thread nD τ).loc main_v4) ↦{fullShare} V m c main_v4 : sProp 𝕄) from pts_of_hold c main_v4 (V m c main_v4)) $$ H1
      isplitl [H2]; · iapply (show Hold (th c) bufs.a6 Finset.univ (fun _ => True) ((inp m c).w 1) ⊢ (((c : Thread nD τ).loc main_v6) ↦{fullShare} V m c main_v6 : sProp 𝕄) from pts_of_hold c main_v6 (V m c main_v6)) $$ H2
      iapply (show Hold (th c) bufs.a8 Finset.univ (fun _ => True) ((inp m c).w 2) ⊢ (((c : Thread nD τ).loc main_v8) ↦{fullShare} V m c main_v8 : sProp 𝕄) from pts_of_hold c main_v8 (V m c main_v8)) $$ H3
    isplitl [R0]; · iapply (show Hold (th c) bufs.a10 Finset.univ (fun _ => True) (codeOut (inp m c) 0) ⊢ (((c : Thread nD τ).loc main_v9_0) ↦{fullShare} (codeOut (inp m c) 0) : sProp 𝕄) from pts_of_hold c main_v9_0 (codeOut (inp m c) 0)) $$ R0
    isplitl [R1]; · iapply (show Hold (th c) bufs.a12 Finset.univ (fun _ => True) (codeOut (inp m c) 1) ⊢ (((c : Thread nD τ).loc main_v9_2) ↦{fullShare} (codeOut (inp m c) 1) : sProp 𝕄) from pts_of_hold c main_v9_2 (codeOut (inp m c) 1)) $$ R1
    iapply (show Hold (th c) bufs.a14 Finset.univ (fun _ => True) (codeOut (inp m c) 2) ⊢ (((c : Thread nD τ).loc main_v9_4) ↦{fullShare} (codeOut (inp m c) 2) : sProp 𝕄) from pts_of_hold c main_v9_4 (codeOut (inp m c) 2)) $$ R2
  isplitl [HW]
  · iexists W; isplitr; · ipureintro; exact fun _ _ => Or.inl trivial
    iexact HW
  isplitl [W0]; · iapply (show Hold (th c) bufs.a0 Finset.univ (fun _ => True) (inp m c).n ⊢ (owns (c : Thread nD τ) (st0_0 t0_0) fullShare (iblk m c 0 t0_0) : sProp 𝕄) from owns_of_hold c bufs.a0 (inp m c).n) $$ W0
  isplitl [W1]; · iapply (show Hold (th c) bufs.a2 Finset.univ (fun _ => True) (inp m c).g ⊢ (owns (c : Thread nD τ) (st0_1 t0_0) fullShare (iblk m c 1 t0_0) : sProp 𝕄) from owns_of_hold c bufs.a2 (inp m c).g) $$ W1
  isplitl [W2]; · iapply (show Hold (th c) bufs.a3 Finset.univ (fun _ => True) (inp m c).lb ⊢ (owns (c : Thread nD τ) (st0_2 t0_0) fullShare (iblk m c 2 t0_0) : sProp 𝕄) from owns_of_hold c bufs.a3 (inp m c).lb) $$ W2
  isplitl [W3]; · iapply (show Hold (th c) bufs.a5 Finset.univ (fun _ => True) ((inp m c).b 0) ⊢ (owns (c : Thread nD τ) (st0_3 t0_0) fullShare (iblk m c 3 t0_0) : sProp 𝕄) from owns_of_hold c bufs.a5 ((inp m c).b 0)) $$ W3
  isplitl [W4]; · iapply (show Hold (th c) bufs.a7 Finset.univ (fun _ => True) ((inp m c).b 1) ⊢ (owns (c : Thread nD τ) (st0_4 t0_0) fullShare (iblk m c 4 t0_0) : sProp 𝕄) from owns_of_hold c bufs.a7 ((inp m c).b 1)) $$ W4
  isplitl [W5]; · iapply (show Hold (th c) bufs.a9 Finset.univ (fun _ => True) ((inp m c).b 2) ⊢ (owns (c : Thread nD τ) (st0_5 t0_0) fullShare (iblk m c 5 t0_0) : sProp 𝕄) from owns_of_hold c bufs.a9 ((inp m c).b 2)) $$ W5
  isplitl [W6]; · iapply (show Hold (th c) bufs.a11 Finset.univ (fun _ => True) (sclOut (inp m c) 0) ⊢ (owns (c : Thread nD τ) (st0_6 t0_0) fullShare (sclOut (inp m c) 0) : sProp 𝕄) from owns_of_hold c bufs.a11 (sclOut (inp m c) 0)) $$ W6
  isplitl [W7]; · iapply (show Hold (th c) bufs.a13 Finset.univ (fun _ => True) (sclOut (inp m c) 1) ⊢ (owns (c : Thread nD τ) (st0_7 t0_0) fullShare (sclOut (inp m c) 1) : sProp 𝕄) from owns_of_hold c bufs.a13 (sclOut (inp m c) 1)) $$ W7
  iapply (show Hold (th c) bufs.a15 Finset.univ (fun _ => True) (sclOut (inp m c) 2) ⊢ (owns (c : Thread nD τ) (st0_8 t0_0) fullShare (sclOut (inp m c) 2) : sProp 𝕄) from owns_of_hold c bufs.a15 (sclOut (inp m c) 2)) $$ W8

theorem sound_body : bodyPre m c ⊢ wp frame (wpE (defs₀ (F := F)) Variants.none c none) Set.univ (bodyAt0 t0_0) (fun _ => bodyPost m c) := by
  have h := wp_main (defs := defs₀ (F := F)) Variants.none c none (inp m c) bufs cred (R := fun _ => bodyPost m c)
  iintro H
  iapply h $$ [H]
  · iapply (body_in m c) $$ H
  iintro H
  iapply (body_out m c) $$ H

theorem body_obligation (c : Dev nD) : BodyObligation (dats (F := F) m 0 c) (defs₀ (F := F)) Variants.none () Set.univ := fun t => by
  rw [fin_N0 t, bigSep_W0, bigSep_W0, defs₀_row]
  exact triple_restated (sound_body m c) rfl .rfl fun _ => .rfl

/-! ### The run -/

/-- What a buffer no window stages holds at the end. -/
abbrev tailV (c : Dev nD) : Valuation τ sig (Elt F) :=
  StableHlo.after (List.flatten [hostOps1]) (Pipeline.withArrays spec0 c (Pipeline.withR (V0 m c) Rs c (endR m c)) fun w => (dats m 0 c).arrAt w cfg0.N)

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
theorem run_main : θ_run defs (onTc (τ := τ) (main (F := F))) (s₀ m ρ) (fun r => (∀ c : Dev nD,
      (∀ w, r.2.mem ((spec0 w).arr.view.loc (c : Thread nD τ)) = (dats m 0 c).arrAt w cfg0.N)
      ∧ ∀ b ∈ Pipeline.restRefs sig spec0, r.2.mem ((c : Thread nD τ).loc b) = tailV m c (Proc.devRef .tc b)) ∧ r.2.sem = fun _ => 0) :=
  Pipeline.θ_run_frame_dmaR_aroundV (Q' := _) cfgs (dats m) (0 : Fin 1) launch0 osem defs₀ Variants.none ownSemFacts Hs Rs Hs_sub Rs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := endR m)
    (hmain := hmainD m) (hA := A_eq m)
    (hin := fun _ => .rfl) (hout := fun _ => .rfl) (hQ' := fun _ h => h)

end Cert.KernelIdeal.Pf
-- ==== Proof.Ideal.Frame.lean ====
/- What the whole program leaves: its arguments as they were, every semaphore at zero, and its six results. -/
module

public import proofs.«01_k».proof.Proof.Ideal.Launch
public import Idealize.ShloMosaic.Lib.Pipeline.Value

@[expose] public section

set_option synthInstance.maxSize 4096
set_option maxRecDepth 16384

noncomputable section

namespace Cert.KernelIdeal.Pf

open Cert.KernelIdeal Cert.KernelIdeal.Gen
open Idealize.ShloMosaic Idealize.ShloMosaic.TcCoe Idealize.ShloMosaic.Tactic Idealize.SL Idealize.SL.RA Idealize.SL.Sem Idealize.SL.ProofMode Cert.Hold
open Idealize.SL.BI (sProp bigSep Storable)
open scoped Idealize.SL.BI
open Idealize.SL.BI.BIBase Idealize.SL.BI.Laws
open Idealize.ShloMosaic.Pipeline (Dat Cfg Window)

variable {F : FTy → Type} [FloatOps F]
variable (m : (ℓ : Loc nD τ sig) → Buf (Elt F) ℓ) (ρ : Dev nD → PrngReg) (c : Dev nD)

/-- The buffers the host lines after the kernel write. -/
def tailWrites : List (Ref sig .tc) := [main_v10, main_v11, main_v12, main_v13, main_v14, main_v15]

theorem tail_writes : ∀ op ∈ (List.flatten [hostOps1] : List (HloOp τ sig (Elt F))), ∀ b, b ∉ tailWrites → Proc.devRef .tc b ∉ op.writes := by
  have h : (hostOps1 : List (HloOp τ sig (Elt F))).Forall fun op => ∀ b, b ∉ tailWrites → Proc.devRef .tc b ∉ op.writes := by
    simp only [hostOps1, List.Forall, StableHlo.unary_writes, StableHlo.reshape_writes, Finset.mem_singleton]
    refine ⟨?_, ?_, ?_, ?_, ?_, ?_⟩ <;>
      exact fun b hb => StableHlo.devRef_ne_of_ne fun e => hb (by rw [e]; decide)
  simpa using List.forall_iff_forall_mem.mp h

/-- A buffer that nothing after the host lines before the kernel writes. -/
theorem tailV_of (b : Ref sig .tc) (h : b ∉ tailWrites) (ha : ∀ w, Pipeline.arrRef spec0 w ≠ b) (hR : b ∉ Rs) :
    tailV m c (Proc.devRef .tc b) = V m c b := by
  unfold tailV
  rw [StableHlo.after_of_forall_not_mem (b := Proc.devRef .tc b) _ _ (fun op hop => tail_writes op hop b h),
    Pipeline.withArrays_of_ne _ c _ _ b ha, Pipeline.withR_of_not_mem _ _ c _ b hR]

/-- THE FRAME, at any `F`. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9))
      ∧ r.2.sem = fun _ => 0) :=
  (θ_run defs _ _).mono (fun _ h => ⟨fun c =>
     ⟨((h.1 c).2 main_arg0 (Pipeline.mem_restRefs_of main_arg0 (by decide) (by decide))).trans ((tailV_of m c main_arg0 (by decide) (by decide) (by decide)).trans (V_main_arg0 m c)),
      ((h.1 c).1 0).trans (((dats m 0 c).arrAt_in 0 rfl _).trans ((A_eq m c 0).trans (V_main_arg1 m c))),
      ((h.1 c).2 main_arg2 (Pipeline.mem_restRefs_of main_arg2 (by decide) (by decide))).trans ((tailV_of m c main_arg2 (by decide) (by decide) (by decide)).trans (V_main_arg2 m c)),
      ((h.1 c).2 main_arg3 (Pipeline.mem_restRefs_of main_arg3 (by decide) (by decide))).trans ((tailV_of m c main_arg3 (by decide) (by decide) (by decide)).trans (V_main_arg3 m c)),
      ((h.1 c).2 main_arg4 (Pipeline.mem_restRefs_of main_arg4 (by decide) (by decide))).trans ((tailV_of m c main_arg4 (by decide) (by decide) (by decide)).trans (V_main_arg4 m c)),
      ((h.1 c).1 3).trans (((dats m 0 c).arrAt_in 3 rfl _).trans ((A_eq m c 3).trans (V_main_arg5 m c))),
      ((h.1 c).2 main_arg6 (Pipeline.mem_restRefs_of main_arg6 (by decide) (by decide))).trans ((tailV_of m c main_arg6 (by decide) (by decide) (by decide)).trans (V_main_arg6 m c)),
      ((h.1 c).1 4).trans (((dats m 0 c).arrAt_in 4 rfl _).trans ((A_eq m c 4).trans (V_main_arg7 m c))),
      ((h.1 c).2 main_arg8 (Pipeline.mem_restRefs_of main_arg8 (by decide) (by decide))).trans ((tailV_of m c main_arg8 (by decide) (by decide) (by decide)).trans (V_main_arg8 m c)),
      ((h.1 c).1 5).trans (((dats m 0 c).arrAt_in 5 rfl _).trans ((A_eq m c 5).trans (V_main_arg9 m c)))⟩, h.2⟩) (run_main m ρ)

end Cert.KernelIdeal.Pf
-- ==== Proof.Float.lean ====
/- The kernel's frame on machine floats: its text is the idealised kernel's, whose frame is proved at any float type. -/
module

public import proofs.«01_k».proof.Defs
public import proofs.«01_k».proof.Proof.Gen.Kernel
public import proofs.«01_k».proof.Proof.Ideal.Frame

@[expose] public section

set_option maxRecDepth 65536

namespace Cert.Kernel.Pf

open Idealize.ShloMosaic Idealize.SL.Sem

/-- The bodies are the same. -/
theorem bodies_eq : Cert.Kernel.defs₀ (F := Bits) = Cert.KernelIdeal.defs₀ (F := Bits) := by
  unfold Cert.Kernel.defs₀ Cert.KernelIdeal.defs₀
  refine congrArg Defs.onTc ?_
  funext l
  match l with
  | 0 => funext ⟨t, s⟩; rfl

/-- So are the body tables, -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

set_option maxHeartbeats 4000000 in
/-- and the programs. -/
theorem main_eq : Cert.Kernel.main (F := Bits) = Cert.KernelIdeal.main (F := Bits) := by
  funext d
  unfold Cert.Kernel.main Cert.KernelIdeal.main
  rfl

/-- THE FRAME, on machine floats. -/
theorem frame : Cert.quiescent_Kernel := fun m g _ => by
  rw [defs_eq, main_eq]
  exact Cert.KernelIdeal.Pf.frame m g

end Cert.Kernel.Pf
-- ==== Proof.Value.Exponent.lean ====
/- The exponent of the scale: the bisection of the exponent field and the count of powers of two not above
   the value are the same number, for any extended real below infinity. -/
module

public import proofs.«01_k».proof.Proof.Gen.KernelIdeal
public import Idealize.ShloMosaic.PureOps.Ideal

@[expose] public section

noncomputable section

namespace Cert.Value

open Idealize.ShloMosaic

/-- The float whose exponent field is `t` and whose other bits are clear. -/
def fieldE (t : BitVec 32) : EReal := Ideal.ofBits .f32 (t <<< 23)

/-- Whether the float of field `t` is at most `m`. -/
def reach (m : EReal) (t : BitVec 32) : BitVec 1 := Ideal.cmp .oge m (fieldE t)

/-- One step of the bisection. -/
def stepE (m : EReal) (k t : BitVec 32) : BitVec 32 := if reach m (t + k) = 1#1 then t + k else t

/-- The bisection of the field. -/
def fieldOf (m : EReal) : BitVec 32 :=
  stepE m 1#32 (stepE m 2#32 (stepE m 4#32 (stepE m 8#32 (stepE m 16#32 (stepE m 32#32 (stepE m 64#32 (stepE m 128#32 0#32)))))))

/-- The count of the powers of two, from 2^-126 to 2^127, that are at most `m`. -/
def countOf (m : EReal) : ℕ := (Finset.univ.filter fun k : Fin 254 => fieldE (BitVec.ofNat 32 (k.val + 1)) ≤ m).card

theorem field_bits : ∀ k : Fin 254, ((BitVec.ofNat 32 (k.val + 1) <<< 23).extractLsb' 31 1 == 1#1) = false
    ∧ ((BitVec.ofNat 32 (k.val + 1) <<< 23).extractLsb' 23 8).toNat = k.val + 1
    ∧ ((BitVec.ofNat 32 (k.val + 1) <<< 23).extractLsb' 0 23).toNat = 0 := by decide +kernel

/-- A positive normal pattern with a clear fraction. -/
theorem ieee_pow (x : BitVec 32) (e : ℕ) (h1 : (x.extractLsb' 31 1 == 1#1) = false) (h2 : (x.extractLsb' 23 8).toNat = e)
    (h3 : (x.extractLsb' 0 23).toNat = 0) (h0 : e ≠ 0) (h255 : e ≠ 255) : Ideal.ieee 8 23 x = (((2 : ℝ) ^ ((e : ℤ) - 127) : ℝ) : EReal) := by
  have h1' : (x.extractLsb' (8 + 23) 1 == 1#1) = false := h1
  simp only [Ideal.ieee, h1', h2, h3]
  rw [if_neg (by omega), if_neg h0]
  refine congrArg Real.toEReal ?_
  rw [show ((e : ℤ) - 127) = ((e : ℤ) - (2 ^ (8 - 1) - 1) - (23 : ℕ)) + 23 by norm_num, zpow_add₀ (by norm_num) _ 23]
  push_cast
  norm_num
  ring

/-- The float of field `k + 1` is a power of two. -/
theorem fieldE_eq (k : Fin 254) : fieldE (BitVec.ofNat 32 (k.val + 1)) = (((2 : ℝ) ^ ((k.val : ℤ) - 126) : ℝ) : EReal) := by
  obtain ⟨h1, h2, h3⟩ := field_bits k
  refine (ieee_pow _ (k.val + 1) h1 h2 h3 (by omega) (by have := k.isLt; omega)).trans ?_
  rw [show ((k.val + 1 : ℕ) : ℤ) - 127 = (k.val : ℤ) - 126 by push_cast; ring]

theorem fieldE_top : fieldE 255#32 = ⊤ := by
  show Ideal.ieee 8 23 (255#32 <<< 23) = ⊤
  simp only [Ideal.ieee]
  rw [if_pos (by decide), if_pos (by decide), if_neg (by decide)]

theorem fieldE_mono {j k : Fin 254} (h : j ≤ k) : fieldE (BitVec.ofNat 32 (j.val + 1)) ≤ fieldE (BitVec.ofNat 32 (k.val + 1)) := by
  rw [fieldE_eq, fieldE_eq, EReal.coe_le_coe_iff]
  exact zpow_le_zpow_right₀ (by norm_num) (by have : j.val ≤ k.val := h; omega)

theorem countOf_le (m : EReal) : countOf m ≤ 254 := le_trans (Finset.card_le_univ _) (by simp)

/-- The powers at most `m` are the first ones. -/
theorem le_iff_countOf (m : EReal) (k : Fin 254) : fieldE (BitVec.ofNat 32 (k.val + 1)) ≤ m ↔ k.val < countOf m := by
  constructor
  · intro h
    have hs : (Finset.univ.filter fun j : Fin 254 => j ≤ k) ⊆ Finset.univ.filter fun k : Fin 254 => fieldE (BitVec.ofNat 32 (k.val + 1)) ≤ m := by
      intro j hj
      simp only [Finset.mem_filter, Finset.mem_univ, true_and] at hj ⊢
      exact le_trans (fieldE_mono hj) h
    have := Finset.card_le_card hs
    rw [show (Finset.univ.filter fun j : Fin 254 => j ≤ k) = Finset.Iic k by ext; simp, Fin.card_Iic] at this
    exact this
  · intro h
    by_contra hn
    have hs : (Finset.univ.filter fun k : Fin 254 => fieldE (BitVec.ofNat 32 (k.val + 1)) ≤ m) ⊆ Finset.Iio k := by
      intro j hj
      simp only [Finset.mem_filter, Finset.mem_univ, true_and, Finset.mem_Iio] at hj ⊢
      by_contra hjk
      exact hn (le_trans (fieldE_mono (not_lt.mp hjk)) hj)
    have := Finset.card_le_card hs
    rw [Fin.card_Iio] at this
    exact absurd h (not_lt.mpr this)

theorem reach_iff {m : EReal} (hm : m ≠ ⊤) {j : ℕ} (h1 : 1 ≤ j) (h2 : j ≤ 255) : reach m (BitVec.ofNat 32 j) = 1#1 ↔ j ≤ countOf m := by
  have e : reach m (BitVec.ofNat 32 j) = 1#1 ↔ fieldE (BitVec.ofNat 32 j) ≤ m := by
    unfold reach Ideal.cmp
    by_cases h : fieldE (BitVec.ofNat 32 j) ≤ m <;> simp [h]
  rw [e]
  rcases Nat.lt_or_ge j 255 with h | h
  · have := le_iff_countOf m ⟨j - 1, by omega⟩
    simp only at this
    rw [show j - 1 + 1 = j by omega] at this
    rw [this]; omega
  · obtain rfl : j = 255 := by omega
    rw [show BitVec.ofNat 32 255 = 255#32 from rfl, fieldE_top, top_le_iff]
    have := countOf_le m
    constructor
    · intro h; exact absurd h hm
    · intro h; omega

theorem stepE_eq {m : EReal} (hm : m ≠ ⊤) {k a b : ℕ} (hk : 1 ≤ k) (hk' : a + k ≤ 255) (hb : b = if a + k ≤ countOf m then a + k else a) :
    stepE m (BitVec.ofNat 32 k) (BitVec.ofNat 32 a) = BitVec.ofNat 32 b := by
  unfold stepE
  rw [← BitVec.ofNat_add, hb]
  by_cases h : a + k ≤ countOf m
  · rw [if_pos ((reach_iff hm (by omega) hk').mpr h), if_pos h]
  · rw [if_neg (fun h' => h ((reach_iff hm (by omega) hk').mp h')), if_neg h]

/-- The bisection finds the count. -/
theorem fieldOf_eq {m : EReal} (hm : m ≠ ⊤) : fieldOf m = BitVec.ofNat 32 (countOf m) := by
  have hN := countOf_le m
  unfold fieldOf
  generalize hc : countOf m = N at hN
  rw [show stepE m 128#32 0#32 = BitVec.ofNat 32 (N / 128 * 128) from stepE_eq (k := 128) (a := 0) hm (by omega) (by omega) (by split <;> omega),
    show stepE m 64#32 (BitVec.ofNat 32 (N / 128 * 128)) = BitVec.ofNat 32 (N / 64 * 64) from stepE_eq (k := 64) hm (by omega) (by omega) (by split <;> omega),
    show stepE m 32#32 (BitVec.ofNat 32 (N / 64 * 64)) = BitVec.ofNat 32 (N / 32 * 32) from stepE_eq (k := 32) hm (by omega) (by omega) (by split <;> omega),
    show stepE m 16#32 (BitVec.ofNat 32 (N / 32 * 32)) = BitVec.ofNat 32 (N / 16 * 16) from stepE_eq (k := 16) hm (by omega) (by omega) (by split <;> omega),
    show stepE m 8#32 (BitVec.ofNat 32 (N / 16 * 16)) = BitVec.ofNat 32 (N / 8 * 8) from stepE_eq (k := 8) hm (by omega) (by omega) (by split <;> omega),
    show stepE m 4#32 (BitVec.ofNat 32 (N / 8 * 8)) = BitVec.ofNat 32 (N / 4 * 4) from stepE_eq (k := 4) hm (by omega) (by omega) (by split <;> omega),
    show stepE m 2#32 (BitVec.ofNat 32 (N / 4 * 4)) = BitVec.ofNat 32 (N / 2 * 2) from stepE_eq (k := 2) hm (by omega) (by omega) (by split <;> omega)]
  exact stepE_eq (k := 1) hm (by omega) (by omega) (by split <;> omega)

/-! ### The quantiser of one value -/

/-- The exponent from the field or the count. -/
def expOf (f : BitVec 32) : BitVec 32 := if f = 0#32 then 0#32 else f - 126#32

/-- Two to a word, by its bits. -/
def twoTo (e : BitVec 32) : EReal := fieldE (e + 127#32)

/-- The code of a value at exponent `e`. -/
def codeOf (v : EReal) (e : BitVec 32) : EReal :=
  min (Ideal.ofBits .f32 0x43E00000#32) (max (Ideal.ofBits .f32 0xC3E00000#32) (v * twoTo (-e)))

end Cert.Value
-- ==== Proof.Value.Model.lean ====
/- What both programs compute, over the reals: the normalised rows projected, the largest magnitude of a head
   over the valid nodes, and the codes and scales from them. -/
module

public import proofs.«01_k».proof.Proof.Value.Exponent
public import Idealize.ShloMosaic.PureOps.Ideal.Laws

@[expose] public section

noncomputable section

namespace Cert.Value

open Idealize.ShloMosaic
open scoped BigOperators

/-- The arguments: rows (1536 nodes by 1024), norm weight and bias, projection weights by projection, column
    and feature, projection biases, node counts. -/
structure Arr where
  x : ℕ → ℕ → ℝ
  g : ℕ → ℝ
  lb : ℕ → ℝ
  w : ℕ → ℕ → ℕ → ℝ
  b : ℕ → ℕ → ℝ
  n : ℕ → BitVec 32

/-- The small number added to the variance. -/
def eps : ℝ := (Ideal.ofBits .f32 0x3727C5AC#32).toReal

theorem ofBits_eps : Ideal.ofBits .f32 0x3727C5AC#32 = ((eps : ℝ) : EReal) ∧ 0 < eps := by
  have h : ∃ r : ℝ, 0 < r ∧ Ideal.ofBits .f32 0x3727C5AC#32 = (r : EReal) := by
    refine ⟨10995116 * (2 : ℝ) ^ (-40 : ℤ), by positivity, ?_⟩
    show Ideal.ieee 8 23 0x3727C5AC#32 = _
    simp only [Ideal.ieee]
    rw [if_neg (by decide), if_neg (by decide), if_neg (by decide)]
    refine congrArg Real.toEReal ?_
    rw [show (BitVec.extractLsb' 23 8 0x3727C5AC#32).toNat = 110 by decide, show (BitVec.extractLsb' 0 23 0x3727C5AC#32).toNat = 2606508 by decide]
    norm_num
  obtain ⟨r, h0, hr⟩ := h
  unfold eps
  rw [hr, EReal.toReal_coe]
  exact ⟨rfl, h0⟩

/-- 1/1024 as the kernel writes it. -/
theorem ofBits_recip : Ideal.ofBits .f32 0x3A800000#32 = ((1 / 1024 : ℝ) : EReal) := by
  refine (ieee_pow 0x3A800000#32 117 (by decide) (by decide) (by decide) (by decide) (by decide)).trans (congrArg Real.toEReal ?_)
  norm_num

/-- 1024 as the reference writes it. -/
theorem ofBits_1024 : Ideal.ofBits .f32 0x44800000#32 = ((1024 : ℝ) : EReal) := by
  refine (ieee_pow 0x44800000#32 137 (by decide) (by decide) (by decide) (by decide) (by decide)).trans (congrArg Real.toEReal ?_)
  norm_num

/-- 1/448 as both programs write it. -/
theorem ofBits_448 : ∃ r : ℝ, Ideal.ofBits .f32 0x3B124925#32 = (r : EReal) := by
  refine ⟨9586981 * (2 : ℝ) ^ (-32 : ℤ), ?_⟩
  show Ideal.ieee 8 23 0x3B124925#32 = _
  simp only [Ideal.ieee]
  rw [if_neg (by decide), if_neg (by decide), if_neg (by decide)]
  refine congrArg Real.toEReal ?_
  rw [show (BitVec.extractLsb' 23 8 0x3B124925#32).toNat = 118 by decide, show (BitVec.extractLsb' 0 23 0x3B124925#32).toNat = 1198373 by decide]
  norm_num

theorem ofBits_zero : Ideal.ofBits .f32 0x00000000#32 = 0 := Ideal.ofBits_zero_f32

theorem ofBits_bot : Ideal.ofBits .f32 0xFF800000#32 = ⊥ := by
  show Ideal.ieee 8 23 0xFF800000#32 = ⊥
  simp only [Ideal.ieee]
  rw [if_pos (by decide), if_pos (by decide), if_pos (by decide)]

theorem ofBits_inf : Ideal.ofBits .f32 0x7F800000#32 = ⊤ := by
  show Ideal.ieee 8 23 0x7F800000#32 = ⊤
  simp only [Ideal.ieee]
  rw [if_pos (by decide), if_pos (by decide), if_neg (by decide)]

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable (R : Arr)

def mean (r : ℕ) : ℝ := (∑ d : Fin 1024, R.x r d) * (1 / 1024)
def var (r : ℕ) : ℝ := (∑ d : Fin 1024, (R.x r d - mean R r) * (R.x r d - mean R r)) * (1 / 1024)
def rstd (r : ℕ) : ℝ := (Real.sqrt (var R r + eps))⁻¹

theorem var_eps_pos (r : ℕ) : 0 < var R r + eps := by
  have : 0 ≤ var R r := mul_nonneg (Finset.sum_nonneg fun d _ => mul_self_nonneg _) (by norm_num)
  linarith [ofBits_eps.2]

theorem rsqrt_var (r : ℕ) : Ideal.rsqrt ((var R r + eps : ℝ) : EReal) = ((rstd R r : ℝ) : EReal) := by
  have h := var_eps_pos R r
  rw [Ideal.rsqrt_coe, if_neg (by linarith), if_neg (by linarith)]
  rfl

/-- The projected value of row `r`, column `c` of projection `t`. -/
def val (t r c : ℕ) : ℝ := (∑ d : Fin 1024, ((R.x r d - mean R r) * rstd R r * R.g d + R.lb d) * R.w t c d) + R.b t c

/-- The same from the product with the scaled weights, the column sum and the bias sum. -/
theorem val_eq (t r c : ℕ) :
    (∑ d : Fin 1024, R.w t c d * R.g d * R.x r d) * rstd R r - mean R r * rstd R r * (∑ d : Fin 1024, R.w t c d * R.g d)
      + ((∑ d : Fin 1024, R.w t c d * R.lb d) + R.b t c) = val R t r c := by
  unfold val
  rw [← add_assoc]
  congr 1
  rw [Finset.sum_mul, Finset.mul_sum, ← Finset.sum_sub_distrib, ← Finset.sum_add_distrib]
  exact Finset.sum_congr rfl fun d _ => by ring

/-- A value's magnitude where the node is valid, zero elsewhere: of batch row `bt`, head `h`. -/
def mag (t bt h : ℕ) (q : Fin 128 × Fin 64) : EReal :=
  if (BitVec.ofNat 32 q.1.val).slt (R.n bt) then
    max ((val R t (128 * bt + q.1.val) (64 * h + q.2.val) : ℝ) : EReal) (-((val R t (128 * bt + q.1.val) (64 * h + q.2.val) : ℝ) : EReal))
  else 0

/-- The largest magnitude. -/
def amax (t bt h : ℕ) : EReal := Finset.univ.fold max ⊥ (mag R t bt h)

theorem amax_le (t bt h : ℕ) (c : EReal) : amax R t bt h ≤ c ↔ ∀ q, mag R t bt h q ≤ c := by
  unfold amax
  rw [Finset.fold_max_le]
  simp

theorem mag_coe (t bt h : ℕ) (q : Fin 128 × Fin 64) : ∃ r : ℝ, mag R t bt h q = (r : EReal) := by
  unfold mag
  split
  · rw [← EReal.coe_neg]
    exact ⟨_, (EReal.coe_strictMono.monotone.map_max).symm⟩
  · exact ⟨0, rfl⟩

/-- The scale before rounding is real. -/
theorem amax_ne_top (t bt h : ℕ) : amax R t bt h * Ideal.ofBits .f32 0x3B124925#32 ≠ ⊤ := by
  have h1 : amax R t bt h < ⊤ := by
    unfold amax
    rw [Finset.fold_max_lt]
    refine ⟨bot_lt_top, fun q _ => ?_⟩
    obtain ⟨r, hr⟩ := mag_coe R t bt h q
    rw [hr]; exact EReal.coe_lt_top r
  have h2 : amax R t bt h ≠ ⊥ := by
    intro e
    obtain ⟨r, hr⟩ := mag_coe R t bt h (0, 0)
    have := (amax_le R t bt h ⊥).mp (le_of_eq e) (0, 0)
    rw [hr] at this
    exact absurd (le_bot_iff.mp this) (EReal.coe_ne_bot r)
  obtain ⟨l, hl⟩ := ofBits_448
  rw [hl, ← EReal.coe_toReal h1.ne h2, ← EReal.coe_mul]
  exact EReal.coe_ne_top _

/-- The exponent of the scale of batch row `bt`, head `h`. -/
def expo (t bt h : ℕ) : BitVec 32 := expOf (BitVec.ofNat 32 (countOf (amax R t bt h * Ideal.ofBits .f32 0x3B124925#32)))

/-- The code of a value: batch row, node, head, column of the head. -/
def code (t bt s h e : ℕ) : EReal := codeOf ((val R t (128 * bt + s) (64 * h + e) : ℝ) : EReal) (expo R t bt h)

/-- The scale of a head. -/
def scale (t bt h : ℕ) : EReal := twoTo (expo R t bt h)

end Cert.Value
-- ==== Proof.Value.Args.lean ====
/- The programs' arguments as arrays, and as the real numbers of the model. -/
module

public import proofs.«01_k».proof.Proof.Value.Model
public import proofs.«01_k».proof.Proof.Common.Hold
public import Idealize.ShloMosaic.Lib.ValueIdx

@[expose] public section

noncomputable section

namespace Cert.Value

open Idealize.ShloMosaic Cert.Hold

/-- The argument arrays: nodes, node counts, norm weight and bias, projection weights and biases. -/
structure Args where
  x : (⟨3, ![12, 128, 1024]⟩ : Shape).Idx → EReal
  n : (⟨1, ![12]⟩ : Shape).Idx → BitVec 32
  g : (⟨1, ![1024]⟩ : Shape).Idx → EReal
  lb : (⟨1, ![1024]⟩ : Shape).Idx → EReal
  w : Fin 3 → (⟨3, ![1024, 16, 64]⟩ : Shape).Idx → EReal
  b : Fin 3 → (⟨2, ![16, 64]⟩ : Shape).Idx → EReal

/-- Every float of the arguments is a real number. -/
structure Args.Finite (P : Args) : Prop where
  x : ∀ i, P.x i = ((P.x i).toReal : EReal)
  g : ∀ i, P.g i = ((P.g i).toReal : EReal)
  lb : ∀ i, P.lb i = ((P.lb i).toReal : EReal)
  w : ∀ t i, P.w t i = ((P.w t i).toReal : EReal)
  b : ∀ t i, P.b t i = ((P.b t i).toReal : EReal)

/-- The arguments as the model reads them. -/
def Args.arr (P : Args) : Arr where
  x r d := (P.x (ix (⟨3, ![12, 128, 1024]⟩ : Shape) ![r / 128, r % 128, d])).toReal
  g d := (P.g (ix (⟨1, ![1024]⟩ : Shape) ![d])).toReal
  lb d := (P.lb (ix (⟨1, ![1024]⟩ : Shape) ![d])).toReal
  w t c d := (P.w (Fin.ofNat 3 t) (ix (⟨3, ![1024, 16, 64]⟩ : Shape) ![d, c / 64, c % 64])).toReal
  b t c := (P.b (Fin.ofNat 3 t) (ix (⟨2, ![16, 64]⟩ : Shape) ![c / 64, c % 64])).toReal
  n i := P.n (ix (⟨1, ![12]⟩ : Shape) ![i])

section
open ValueIdx
variable {P : Args} (hP : P.Finite)
include hP

theorem Args.Finite.x_apply (b : Fin 12) (s : Fin 128) (d : Fin 1024) : P.x (ix3 b s d) = ((P.arr.x (128 * b.val + s.val) d.val : ℝ) : EReal) := by
  refine (hP.x _).trans (congrArg (fun i => ((P.x i).toReal : EReal)) (ix_eq ?_).symm)
  have hs := s.isLt
  intro a; fin_cases a
  · show (128 * b.val + s.val) / 128 = b.val; omega
  · show (128 * b.val + s.val) % 128 = s.val; omega
  · rfl

theorem Args.Finite.g_apply (d : Fin 1024) : P.g (ix1 d) = ((P.arr.g d.val : ℝ) : EReal) := by
  refine (hP.g _).trans (congrArg (fun i => ((P.g i).toReal : EReal)) (ix_eq ?_).symm)
  intro a; fin_cases a; rfl

theorem Args.Finite.lb_apply (d : Fin 1024) : P.lb (ix1 d) = ((P.arr.lb d.val : ℝ) : EReal) := by
  refine (hP.lb _).trans (congrArg (fun i => ((P.lb i).toReal : EReal)) (ix_eq ?_).symm)
  intro a; fin_cases a; rfl

theorem Args.Finite.w_apply (t : Fin 3) (d : Fin 1024) (h : Fin 16) (e : Fin 64) :
    P.w t (ix3 d h e) = ((P.arr.w t.val (64 * h.val + e.val) d.val : ℝ) : EReal) := by
  have he := e.isLt
  have ht : Fin.ofNat 3 t.val = t := Fin.ext (Nat.mod_eq_of_lt t.isLt)
  show _ = ((P.w (Fin.ofNat 3 t.val) _).toReal : EReal)
  rw [ht]
  refine (hP.w t _).trans (congrArg (fun i => ((P.w t i).toReal : EReal)) (ix_eq ?_).symm)
  intro a; fin_cases a
  · rfl
  · show (64 * h.val + e.val) / 64 = h.val; omega
  · show (64 * h.val + e.val) % 64 = e.val; omega

theorem Args.Finite.b_apply (t : Fin 3) (h : Fin 16) (e : Fin 64) : P.b t (ix2 h e) = ((P.arr.b t.val (64 * h.val + e.val) : ℝ) : EReal) := by
  have he := e.isLt
  have ht : Fin.ofNat 3 t.val = t := Fin.ext (Nat.mod_eq_of_lt t.isLt)
  show _ = ((P.b (Fin.ofNat 3 t.val) _).toReal : EReal)
  rw [ht]
  refine (hP.b t _).trans (congrArg (fun i => ((P.b t i).toReal : EReal)) (ix_eq ?_).symm)
  intro a; fin_cases a
  · show (64 * h.val + e.val) / 64 = h.val; omega
  · show (64 * h.val + e.val) % 64 = e.val; omega

end

/-- The codes of projection `t`, and its scales. -/
def codesOf (R : Arr) (t : ℕ) : (⟨4, ![12, 128, 16, 64]⟩ : Shape).Idx → EReal := fun x => code R t (x 0).val (x 1).val (x 2).val (x 3).val
def scalesOf (R : Arr) (t : ℕ) : (⟨2, ![12, 16]⟩ : Shape).Idx → EReal := fun x => scale R t (x 0).val (x 1).val

end Cert.Value
-- ==== Proof.Value.Finite.lean ====
/- The precondition says that every float of the arguments is a real number. -/
module

public import proofs.«01_k».proof.Pre_finite
public import proofs.«01_k».proof.Proof.Gen.Pre_finite
public import proofs.«01_k».proof.Proof.Value.Args
public import Idealize.ShloMosaic.Lib.ReduceAll
public import Idealize.ShloMosaic.Lib.IdealHost
public import Idealize.ShloMosaic.Lib.WordCmp

@[expose] public section

noncomputable section

namespace Cert.Value

open Cert.Pre_finite Cert.Pre_finite.Gen
open Idealize.ShloMosaic Idealize.ShloMosaic.ValueIdx

/-- A number whose magnitude is below infinity is real. -/
theorem real_of (a : EReal) (h : Ideal.cmp .olt (max a (-a)) (Ideal.ofBits .f32 0x7F800000#32) = 1#1) : a = ((a.toReal : ℝ) : EReal) := by
  have h' : max a (-a) < Ideal.ofBits .f32 0x7F800000#32 := (WordCmp.ofBool_decide_eq_one_iff _).mp h
  rw [ofBits_inf] at h'
  have h1 : a ≠ ⊤ := fun e => by rw [e] at h'; simp at h'
  have h2 : a ≠ ⊥ := fun e => by rw [e] at h'; simp at h'
  exact (EReal.coe_toReal h1 h2).symm

instance : Subsingleton S_.Idx := ⟨fun a b => funext fun i => i.elim0⟩

/-- An array that passes the check has real elements. -/
theorem all_real {s : Shape} {axes : List (Fin s.rank)} (x : FVec Ideal s .f32) (hb : S_.BroadcastsInDim s ![]) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    (x i : EReal) = (((x i : EReal).toReal : ℝ) : EReal) :=
  real_of (x i) (Host.reduce_andi_all _ _ hr hu j e i)

/-- The nine checks, from their conjunction. -/
theorem nine (a0 a1 a2 a3 a4 a5 a6 a7 a8 : IVec S_ 1) (hc) (j : S_.Idx)
    (e : Host.reduce IntOp.andi (concatenate S9 0 [⟨S1, broadcastInDim S1 ![] bcast_S_S1 a0⟩, ⟨S1, broadcastInDim S1 ![] bcast_S_S1 a1⟩, ⟨S1, broadcastInDim S1 ![] bcast_S_S1 a2⟩, ⟨S1, broadcastInDim S1 ![] bcast_S_S1 a3⟩, ⟨S1, broadcastInDim S1 ![] bcast_S_S1 a4⟩, ⟨S1, broadcastInDim S1 ![] bcast_S_S1 a5⟩, ⟨S1, broadcastInDim S1 ![] bcast_S_S1 a6⟩, ⟨S1, broadcastInDim S1 ![] bcast_S_S1 a7⟩, ⟨S1, broadcastInDim S1 ![] bcast_S_S1 a8⟩] hc) (constantI S_ 1 1#1) reducesTo_S9_S_d0 h_S_ j = 1#1) :
    a0 ix0 = 1#1 ∧ a1 ix0 = 1#1 ∧ a2 ix0 = 1#1 ∧ a3 ix0 = 1#1 ∧ a4 ix0 = 1#1 ∧ a5 ix0 = 1#1 ∧ a6 ix0 = 1#1 ∧ a7 ix0 = 1#1 ∧ a8 ix0 = 1#1 := by
  have k := fun i : Fin 9 => Host.reduce_andi_all _ _ reducesTo_S9_S_d0 h_S_ _ e (ix1 i)
  exact ⟨(congrArg a0 (Subsingleton.elim _ _)).trans (k 0), (congrArg a1 (Subsingleton.elim _ _)).trans (k 1), (congrArg a2 (Subsingleton.elim _ _)).trans (k 2), (congrArg a3 (Subsingleton.elim _ _)).trans (k 3), (congrArg a4 (Subsingleton.elim _ _)).trans (k 4), (congrArg a5 (Subsingleton.elim _ _)).trans (k 5), (congrArg a6 (Subsingleton.elim _ _)).trans (k 6), (congrArg a7 (Subsingleton.elim _ _)).trans (k 7), (congrArg a8 (Subsingleton.elim _ _)).trans (k 8)⟩

theorem finite_of (x : FVec Ideal S12x128x1024 .bf16) (n : IVec S12 32) (g lb : FVec Ideal S1024 .f32) (w0 w1 w2 : FVec Ideal S1024x16x64 .f32) (b0 b1 b2 : FVec Ideal S16x64 .f32)
    (h : Cert.Pre_finite.fn (F := Ideal) x n g lb w0 b0 w1 b1 w2 b2 = fun _ => 1#1) :
    Args.Finite ⟨x, n, g, lb, ![w0, w1, w2], ![b0, b1, b2]⟩ := by
  have e := congrFun h ix0
  unfold Cert.Pre_finite.fn Cert.Pre_finite.fn_part1 Cert.Pre_finite.fn_part2 at e
  obtain ⟨k0, k1, k2, k3, k4, k5, k6, k7, k8⟩ := nine _ _ _ _ _ _ _ _ _ _ _ e
  clear e h
  refine ⟨fun i => ?_, fun i => ?_, fun i => ?_, fun t i => ?_, fun t i => ?_⟩
  · exact all_real x bcast_S_S12x128x1024 reducesTo_S12x128x1024_S_d0_1_2 h_S_ _ k0 i
  · exact all_real g bcast_S_S1024 reducesTo_S1024_S_d0 h_S_ _ k1 i
  · exact all_real lb bcast_S_S1024 reducesTo_S1024_S_d0 h_S_ _ k2 i
  · fin_cases t
    · exact all_real w0 bcast_S_S1024x16x64 reducesTo_S1024x16x64_S_d0_1_2 h_S_ _ k3 i
    · exact all_real w1 bcast_S_S1024x16x64 reducesTo_S1024x16x64_S_d0_1_2 h_S_ _ k5 i
    · exact all_real w2 bcast_S_S1024x16x64 reducesTo_S1024x16x64_S_d0_1_2 h_S_ _ k7 i
  · fin_cases t
    · exact all_real b0 bcast_S_S16x64 reducesTo_S16x64_S_d0_1 h_S_ _ k4 i
    · exact all_real b1 bcast_S_S16x64 reducesTo_S16x64_S_d0_1 h_S_ _ k6 i
    · exact all_real b2 bcast_S_S16x64 reducesTo_S16x64_S_d0_1 h_S_ _ k8 i

end Cert.Value
-- ==== Proof.Value.Scaled.lean ====
/- The prepared weights and sums, and the statistics, as real numbers. -/
module

public import proofs.«01_k».proof.Proof.Value.Model
public import proofs.«01_k».proof.Proof.Ideal.Spec
public import Idealize.ShloMosaic.Lib.Pipeline.Value
public import Idealize.ShloMosaic.Lib.ValueIdxCore
public import Idealize.ShloMosaic.Lib.MatmulPlain
public import Idealize.ShloMosaic.PureOps.Ideal.Laws

@[expose] public section

set_option synthInstance.maxSize 4096

noncomputable section

namespace Cert.Value

open Cert.KernelIdeal Cert.KernelIdeal.Gen Cert.KernelIdeal.Pf Cert.Hold
open Idealize.ShloMosaic Idealize.ShloMosaic.ValueIdx
open scoped BigOperators

theorem pay2_apply (w : Vec Ideal S1x16x1024 .f32) (g : Vec Ideal S1x1024 .f32) (r : Fin 16) (d : Fin 1024) :
    k0_pay2 (F := Ideal) w g (ix2 r d) = (w (ix3 0 r d) * g (ix2 0 d) : EReal) := by
  show (shapeCast S16x1024 w shapeCasts_S1x16x1024_S16x1024 (ix2 r d) * broadcastTo S16x1024 (shapeCast S1x1024 g shapeCasts_S1x1024_S1x1024) broadcasts_S1x1024_S16x1024 (ix2 r d) : EReal) = _
  rw [shapeCast_apply w shapeCasts_S1x16x1024_S16x1024 (ix2 r d) (ix3 0 r d) (by rw [Shape.rowMajor_val_three, Shape.rowMajor_val_two]; simp),
    broadcastTo_apply (shapeCast S1x1024 g shapeCasts_S1x1024_S1x1024) broadcasts_S1x1024_S16x1024 (ix2 r d) (ix2 0 d) (by intro a; fin_cases a <;> rfl),
    shapeCast_apply g shapeCasts_S1x1024_S1x1024 (ix2 0 d) (ix2 0 d) rfl]

/-- The kernel's buffers read these real arguments. -/
structure Agrees (I : Inp Ideal) (R : Arr) : Prop where
  x : ∀ (r : Fin 1536) (d : Fin 1024), I.x (ix2 r d) = ((R.x r d : ℝ) : EReal)
  g : ∀ d : Fin 1024, I.g (ix2 0 d) = ((R.g d : ℝ) : EReal)
  lb : ∀ d : Fin 1024, I.lb (ix2 0 d) = ((R.lb d : ℝ) : EReal)
  w : ∀ (t : Fin 3) (c d : Fin 1024), I.w t (ix2 c d) = ((R.w t c d : ℝ) : EReal)
  b : ∀ (t : Fin 3) (h : Fin 16) (e : Fin 64), I.b t (ix2 h e) = ((R.b t (64 * h.val + e.val) : ℝ) : EReal)
  n : ∀ i : Fin 12, I.n (ix1 i) = R.n i

variable {I : Inp Ideal} {R : Arr} (A : Agrees I R)
include A

/-- A row of a chunk of the weights. -/
theorem wChunk_apply (t : Fin 3) (g : Fin 4) (k r : Fin 16) (d : Fin 1024) :
    wChunk I t g k (ix3 0 r d) = ((R.w t (256 * g.val + 16 * k.val + r.val) d : ℝ) : EReal) := by
  have := g.isLt; have := k.isLt; have := r.isLt
  exact (congrArg (I.w t) (ix_eq (y := ix2 ⟨256 * g.val + 16 * k.val + r.val, by omega⟩ d) (by intro a; fin_cases a <;> rfl))).trans (A.w t _ d)

theorem pay2_chunk (t : Fin 3) (g : Fin 4) (k r : Fin 16) (d : Fin 1024) :
    k0_pay2 (F := Ideal) (wChunk I t g k) I.g (ix2 r d) = ((R.w t (256 * g.val + 16 * k.val + r.val) d * R.g d : ℝ) : EReal) := by
  rw [pay2_apply, wChunk_apply A, A.g, ← EReal.coe_mul]

theorem pay4_chunk (t : Fin 3) (g : Fin 4) (k r : Fin 16) (d : Fin 1024) : k0_pay4 (F := Ideal) (wChunk I t g k) I.g (ix2 r d) = (0 : EReal) := by
  show (k0_pay2 (F := Ideal) (wChunk I t g k) I.g (ix2 r d) - k0_pay2 (F := Ideal) (wChunk I t g k) I.g (ix2 r d) : EReal) = 0
  rw [pay2_chunk A, ← EReal.coe_sub, sub_self, EReal.coe_zero]

/-- The prepared weights: the first part is the scaled weight, the others are zero. -/
theorem wAll_apply (s : Fin 3) (g : Fin 4) (t : Fin 3) (c : Fin 256) (d : Fin 1024) :
    wAll I s g (ix4 0 0 ⟨256 * t.val + c.val, by omega⟩ d) = if s = 0 then ((R.w t (256 * g.val + c.val) d * R.g d : ℝ) : EReal) else 0 := by
  have hc := c.isLt
  have e1 : (256 * t.val + c.val) / 256 = t.val := by omega
  have e2 : (256 * t.val + c.val) % 256 = c.val := by omega
  have e3 : 256 * g.val + 16 * (c.val / 16) + c.val % 16 = 256 * g.val + c.val := by omega
  have hcast : ∀ (x : FVec Ideal S16x1024 .bf16), shapeCast S1x1x16x1024 x shapeCasts_S16x1024_S1x1x16x1024
      (ix S1x1x16x1024 ![0, 0, (256 * t.val + c.val) % 16, d.val]) = x (ix2 ⟨c.val % 16, by omega⟩ d) := fun x =>
    shapeCast_apply x _ _ _ (by
      rw [Shape.rowMajor_val_two, Shape.rowMajor_val_four]
      simp only [ix_val]
      show c.val % 16 * 1024 + d.val = ((0 * 1 + 0) * 16 + (256 * t.val + c.val) % 16 % 16) * 1024 + d.val % 1024
      have := d.isLt; omega)
  have hw : wAll I s g (ix4 0 0 ⟨256 * t.val + c.val, by omega⟩ d) = wpS I (ix4 s g ⟨256 * t.val + c.val, by omega⟩ d) :=
    congrArg (wpS I) (ix_eq (by intro a; fin_cases a <;> rfl))
  have h2 := fun h1 h2 => pay2_chunk A t g ⟨c.val / 16, h1⟩ ⟨c.val % 16, h2⟩ d
  have h4 := fun h1 h2 => pay4_chunk A t g ⟨c.val / 16, h1⟩ ⟨c.val % 16, h2⟩ d
  simp only [e3] at h2
  rw [hw]
  unfold wpS
  fin_cases s
  · show k0_pay6 (F := Ideal) (wChunk I ((256 * t.val + c.val) / 256) g.val ((256 * t.val + c.val) % 256 / 16)) I.g (ix S1x1x16x1024 ![0, 0, (256 * t.val + c.val) % 16, d.val]) = _
    rw [e1, e2]
    exact (hcast _).trans (h2 (by omega) (by omega))
  · show k0_pay7 (F := Ideal) (wChunk I ((256 * t.val + c.val) / 256) g.val ((256 * t.val + c.val) % 256 / 16)) I.g (ix S1x1x16x1024 ![0, 0, (256 * t.val + c.val) % 16, d.val]) = _
    rw [e1, e2]
    exact (hcast _).trans (h4 (by omega) (by omega))
  · show k0_pay8 (F := Ideal) (wChunk I ((256 * t.val + c.val) / 256) g.val ((256 * t.val + c.val) % 256 / 16)) I.g (ix S1x1x16x1024 ![0, 0, (256 * t.val + c.val) % 16, d.val]) = _
    rw [e1, e2]
    refine (hcast (fun i => (k0_pay4 (F := Ideal) (wChunk I t g (c.val / 16)) I.g i - k0_pay4 (F := Ideal) (wChunk I t g (c.val / 16)) I.g i : EReal))).trans ?_
    show (k0_pay4 (F := Ideal) (wChunk I t g (c.val / 16)) I.g (ix2 ⟨c.val % 16, by omega⟩ d) - k0_pay4 (F := Ideal) (wChunk I t g (c.val / 16)) I.g (ix2 ⟨c.val % 16, by omega⟩ d) : EReal) = 0
    rw [h4 (by omega) (by omega), sub_zero]

/-- A group's product. -/
theorem accS_apply (p : Fin 6) (g : Fin 4) (t : Fin 3) (c n : Fin 256) :
    accS I p g (ix2 ⟨256 * t.val + c.val, by omega⟩ n)
      = ((∑ d : Fin 1024, R.w t (256 * g.val + c.val) d * R.g d * R.x (256 * p.val + n.val) d : ℝ) : EReal) := by
  have hm : ∀ s : Fin 3, (matmul (F := Ideal) (φ₁ := .bf16) (φ₂ := .bf16) dot_S768x1024_S256x1024_S768x256_1_1_0_0_n_n none (shapeCast S768x1024 (wAll I s g) shapeCasts_S1x1x768x1024_S768x1024) (xBlk I p)
      (constant S768x256 .f32 0x00000000#32)) (ix2 ⟨256 * t.val + c.val, by omega⟩ n)
      = ∑ d : Fin 1024, ((if s = 0 then ((R.w t (256 * g.val + c.val) d * R.g d : ℝ) : EReal) else 0) * ((R.x (256 * p.val + n.val) d : ℝ) : EReal)) := by
    intro s
    refine (Ideal.matmul_transposedRhs_apply (M := 768) (K := 1024) (N := 256) none _ _ _ _ n).trans ?_
    rw [show (constant (F := Ideal) S768x256 .f32 0x00000000#32) (ix2 ⟨256 * t.val + c.val, by omega⟩ n) = (0 : EReal) from ofBits_zero, zero_add]
    refine Finset.sum_congr rfl fun d _ => ?_
    rw [shapeCast_apply (wAll I s g) shapeCasts_S1x1x768x1024_S768x1024 (ix2 ⟨256 * t.val + c.val, by omega⟩ d) (ix4 0 0 ⟨256 * t.val + c.val, by omega⟩ d)
      (by rw [Shape.rowMajor_val_two, Shape.rowMajor_val_four]; simp), wAll_apply A s g t c d]
    refine congrArg (HMul.hMul (α := EReal) (β := EReal) (γ := EReal) _) ?_
    have := p.isLt; have := n.isLt
    exact (congrArg I.x (ix_eq (y := ix2 ⟨256 * p.val + n.val, by omega⟩ d) (by intro a; fin_cases a <;> rfl))).trans (A.x _ d)
  have h0 := hm 0
  have h1 := hm 1
  have h2 := hm 2
  show (_ + _ + _ : EReal) = _
  refine (congrArg₂ (· + ·) (congrArg₂ (· + ·) h0 h1) h2).trans ?_
  simp only [if_true, if_neg (show ¬ ((1 : Fin 3) = 0) by decide), if_neg (show ¬ ((2 : Fin 3) = 0) by decide), zero_mul, Finset.sum_const_zero, add_zero]
  rw [← coe_sum]
  exact Finset.sum_congr rfl fun d _ => by rw [← EReal.coe_mul]

end Cert.Value
-- ==== Proof.Value.Sums.lean ====
/- The sums prepared per column, and the statistics of the rows, as real numbers. -/
module

public import proofs.«01_k».proof.Proof.Value.Scaled
public import Idealize.ShloMosaic.Lib.WordCmp

@[expose] public section

set_option synthInstance.maxSize 4096

noncomputable section

namespace Cert.Value

open Cert.KernelIdeal Cert.KernelIdeal.Gen Cert.KernelIdeal.Pf Cert.Hold
open Idealize.ShloMosaic Idealize.ShloMosaic.ValueIdx
open scoped BigOperators

/-- A column of sixteen laid over lanes. -/
theorem lanes_apply (v : FVec Ideal S16x1 .f32) (r : Fin 16) (l : Fin 128) :
    shapeCast S1x16x128 (broadcastTo S16x128 (shapeCast S16x1 v shapeCasts_S16x1_S16x1) broadcasts_S16x1_S16x128) shapeCasts_S16x128_S1x16x128 (ix S1x16x128 ![0, r.val, l.val])
      = v (ix2 r 0) := by
  have := r.isLt; have := l.isLt
  rw [shapeCast_apply _ shapeCasts_S16x128_S1x16x128 _ (ix2 r l) (by
      rw [Shape.rowMajor_val_two, Shape.rowMajor_val_three]
      simp only [ix_val]
      show r.val * 128 + l.val = (0 * 16 + r.val % 16) * 128 + l.val % 128
      omega),
    broadcastTo_apply _ broadcasts_S16x1_S16x128 (ix2 r l) (ix2 r 0) (by intro a; fin_cases a <;> rfl),
    shapeCast_apply v shapeCasts_S16x1_S16x1 (ix2 r 0) (ix2 r 0) rfl]

theorem column_apply (v : FVec Ideal S16 .f32) (r : Fin 16) : shapeCast S16x1 v shapeCasts_S16_S16x1 (ix2 r 0) = v (ix1 r) :=
  shapeCast_apply v shapeCasts_S16_S16x1 (ix2 r 0) (ix1 r) (by rw [Shape.rowMajor_val_one, Shape.rowMajor_val_two]; simp)

theorem rowSum16_apply (v : FVec Ideal S16x1024 .f32) (r : Fin 16) :
    shapeCast S16x1 (multiReduction .add [1] S16 v 0x00000000#32 reduces_S16x1024_S16 (.inl rfl) rfl) shapeCasts_S16_S16x1 (ix2 r 0)
      = ∑ d : Fin 1024, v (ix2 r d) := by
  refine (column_apply _ r).trans ?_
  refine (Ideal.multiReduction_add_single v _ reduces_S16x1024_S16 (.inl rfl) rfl (ix1 r)).trans ?_
  exact Finset.sum_congr rfl fun d _ => congrArg v (by funext a; fin_cases a <;> rfl)

/-- The bias picked for a row of a chunk: the chunk's place in its head, plus the row. -/
theorem pay12_apply (k r : Fin 16) (b : Vec Ideal S1x64 .f32) :
    k0_pay12 (F := Ideal) (BitVec.ofNat 32 k.val) b (ix1 r) = b (ix2 0 ⟨16 * (k.val % 4) + r.val, by omega⟩) := by
  let W : BitVec 32 → BitVec 32 := fun a =>
    let v519 : BitVec 32 := Scalar.select (Scalar.cmpi .eq 4#32 0#32) 1#32 4#32
    let v520 := Scalar.remsi a v519
    Scalar.muli (Scalar.select (Scalar.andi (Scalar.xori (Scalar.cmpi .slt v520 0#32) (Scalar.cmpi .slt v519 0#32)) (Scalar.cmpi .ne v520 0#32)) (Scalar.addi v520 v519) v520) 16#32
  have hW : ∀ k : Fin 16, W (BitVec.ofNat 32 k.val) = BitVec.ofNat 32 (16 * (k.val % 4)) := by decide
  have hr := r.isLt
  refine (Ideal.multiReduction_add_single _ _ reduces_S16x64_S16 (.inl rfl) rfl (ix1 r)).trans ?_
  have key : ∀ e : Fin 64, Scalar.select (IntOp.cmpi .eq (BitVec.ofNat 32 (0 * 16 + r.val) + W (BitVec.ofNat 32 k.val)) (BitVec.ofNat 32 (0 * 64 + e.val)))
      (broadcastTo S16x64 (shapeCast S1x64 b shapeCasts_S1x64_S1x64) broadcasts_S1x64_S16x64 (ix2 r e)) (Ideal.ofBits .f32 0x00000000#32)
      = if e = ⟨16 * (k.val % 4) + r.val, by omega⟩ then b (ix2 0 e) else 0 := by
    intro e
    have he := e.isLt
    rw [hW, ofBits_zero, broadcastTo_apply _ broadcasts_S1x64_S16x64 (ix2 r e) (ix2 0 e) (by intro a; fin_cases a <;> rfl),
      shapeCast_apply b shapeCasts_S1x64_S1x64 (ix2 0 e) (ix2 0 e) rfl, ← BitVec.ofNat_add]
    refine if_congr ((WordCmp.cmpi_eq_ofNat_eq_one_iff (w := 32) (by omega) (by omega)).trans ?_) rfl rfl
    rw [Fin.ext_iff]
    show _ ↔ e.val = 16 * (k.val % 4) + r.val
    omega
  refine (Finset.sum_congr rfl fun (e : Fin 64) _ => (show _ = _ from ?_ : _ = if e = ⟨16 * (k.val % 4) + r.val, by omega⟩ then b (ix2 0 e) else 0)).trans ?_
  · refine Eq.trans ?_ (key e)
    rfl
  · exact (Finset.sum_ite_eq' (Finset.univ : Finset (Fin 64)) _ (fun e : Fin 64 => b (ix2 0 e))).trans (if_pos (Finset.mem_univ _))

/-- A statistic laid over lanes. -/
theorem statLanes_apply (v : FVec Ideal S128x1 .f32) (a : Fin 8) (n : Fin 128) :
    shapeCast S1x1x8x128 (extractStridedSlice S8x128 ![0, 0] (transpose S128x128 [1, 0] (broadcastTo S128x128 (shapeCast S128x1 v shapeCasts_S128x1_S128x1) broadcasts_S128x1_S128x128)
      transposes_S128x128_p1_0_S128x128) slices_S128x128_o0_0_S8x128) shapeCasts_S8x128_S1x1x8x128 (ix S1x1x8x128 ![0, 0, a.val, n.val]) = v (ix2 n 0) := by
  have := a.isLt; have := n.isLt
  rw [shapeCast_apply _ shapeCasts_S8x128_S1x1x8x128 _ (ix2 a n) (by
      rw [Shape.rowMajor_val_two, Shape.rowMajor_val_four]
      simp only [ix_val]
      show a.val * 128 + n.val = ((0 * 1 + 0) * 8 + a.val % 8) * 128 + n.val % 128
      omega),
    extractStridedSlice_apply ![0, 0] _ slices_S128x128_o0_0_S8x128 (ix2 a n) (ix2 (⟨a.val, by omega⟩ : Fin 128) n) (by intro a; fin_cases a <;> simp),
    transpose_apply [1, 0] _ transposes_S128x128_p1_0_S128x128 _ (ix2 n (⟨a.val, by omega⟩ : Fin 128)) (by intro a; fin_cases a <;> rfl),
    broadcastTo_apply _ broadcasts_S128x1_S128x128 _ (ix2 n 0) (by intro a; fin_cases a <;> rfl),
    shapeCast_apply v shapeCasts_S128x1_S128x1 (ix2 n 0) (ix2 n 0) rfl]

theorem rowSum_apply (v : FVec Ideal S128x1024 .f32) (n : Fin 128) :
    shapeCast S128x1 (multiReduction .add [1] S128 v 0x00000000#32 reduces_S128x1024_S128 (.inl rfl) rfl) shapeCasts_S128_S128x1 (ix2 n 0)
      = ∑ d : Fin 1024, v (ix2 n d) := by
  refine (shapeCast_apply _ shapeCasts_S128_S128x1 (ix2 n 0) (ix1 n) (by rw [Shape.rowMajor_val_one, Shape.rowMajor_val_two]; simp)).trans ?_
  refine (Ideal.multiReduction_add_single v _ reduces_S128x1024_S128 (.inl rfl) rfl (ix1 n)).trans ?_
  exact Finset.sum_congr rfl fun d _ => congrArg v (by funext a; fin_cases a <;> rfl)

theorem csPay_sum (w : Vec Ideal S1x16x1024 .f32) (gg : Vec Ideal S1x1024 .f32) (r : Fin 16) (l : Fin 128) :
    csPay (F := Ideal) w gg (ix S1x16x128 ![0, r.val, l.val]) = ∑ d : Fin 1024, k0_pay2 (F := Ideal) w gg (ix2 r d) :=
  (lanes_apply (k0_pay9 (F := Ideal) w gg) r l).trans (rowSum16_apply (k0_pay2 (F := Ideal) w gg) r)

theorem cbPay_sum (word : BitVec 32) (w : Vec Ideal S1x16x1024 .f32) (gg : Vec Ideal S1x1024 .f32) (b : Vec Ideal S1x64 .f32) (r : Fin 16) (l : Fin 128) :
    cbPay (F := Ideal) word w gg b (ix S1x16x128 ![0, r.val, l.val])
      = ((∑ d : Fin 1024, k0_pay2 (F := Ideal) w gg (ix2 r d)) + k0_pay12 (F := Ideal) word b (ix1 r) : EReal) :=
  (lanes_apply (addf (k0_pay11 (F := Ideal) (k0_pay10 (F := Ideal) w gg)) (shapeCast S16x1 (k0_pay12 (F := Ideal) word b) shapeCasts_S16_S16x1)) r l).trans
    (congrArg₂ (HAdd.hAdd (α := EReal) (β := EReal) (γ := EReal)) (rowSum16_apply (k0_pay2 (F := Ideal) w gg) r) (column_apply (k0_pay12 (F := Ideal) word b) r))

variable {I : Inp Ideal} {R : Arr} (A : Agrees I R)
include A

/-- A row of a batch row's nodes. -/
theorem xRows_apply (p : Fin 6) (u : Fin 2) (n : Fin 128) (d : Fin 1024) :
    k0_pay396 (F := Ideal) (xRows I p u) (ix2 n d) = ((R.x (256 * p.val + 128 * u.val + n.val) d : ℝ) : EReal) := by
  have := p.isLt; have := u.isLt; have := n.isLt
  exact (congrArg I.x (ix_eq (y := ix2 ⟨256 * p.val + 128 * u.val + n.val, by omega⟩ d) (by intro a; fin_cases a <;> rfl))).trans (A.x _ d)

theorem mean_apply (p : Fin 6) (u : Fin 2) (n : Fin 128) :
    k0_pay397 (F := Ideal) (xRows I p u) (ix2 n 0) = ((mean R (256 * p.val + 128 * u.val + n.val) : ℝ) : EReal) := by
  show (_ * Ideal.ofBits .f32 0x3A800000#32 : EReal) = _
  rw [rowSum_apply, ofBits_recip, Finset.sum_congr rfl fun d _ => xRows_apply A p u n d, coe_sum, ← EReal.coe_mul]
  rfl

theorem rstd_apply (p : Fin 6) (u : Fin 2) (n : Fin 128) :
    k0_pay398 (F := Ideal) (xRows I p u) (ix2 n 0) = ((rstd R (256 * p.val + 128 * u.val + n.val) : ℝ) : EReal) := by
  rw [← rsqrt_var]
  show Ideal.rsqrt (_ * Ideal.ofBits .f32 0x3A800000#32 + Ideal.ofBits .f32 0x3727C5AC#32) = _
  rw [rowSum_apply, ofBits_recip, ofBits_eps.1]
  refine congrArg Ideal.rsqrt ?_
  have h : ∀ d : Fin 1024, mulf (subf (k0_pay396 (F := Ideal) (xRows I p u)) (broadcastTo S128x1024 (k0_pay397 (F := Ideal) (xRows I p u)) broadcasts_S128x1_S128x1024))
      (subf (k0_pay396 (F := Ideal) (xRows I p u)) (broadcastTo S128x1024 (k0_pay397 (F := Ideal) (xRows I p u)) broadcasts_S128x1_S128x1024)) (ix2 n d)
      = (((R.x (256 * p.val + 128 * u.val + n.val) d - mean R (256 * p.val + 128 * u.val + n.val)) * (R.x (256 * p.val + 128 * u.val + n.val) d - mean R (256 * p.val + 128 * u.val + n.val)) : ℝ) : EReal) := by
    intro d
    rw [EReal.coe_mul, EReal.coe_sub, ← xRows_apply A, ← mean_apply A,
      ← broadcastTo_apply (k0_pay397 (F := Ideal) (xRows I p u)) broadcasts_S128x1_S128x1024 (ix2 n d) (ix2 n 0) (by intro a; fin_cases a <;> rfl)]
    rfl
  refine (congrArg (fun z : EReal => z * ((1 / 1024 : ℝ) : EReal) + ((eps : ℝ) : EReal)) ((Finset.sum_congr rfl fun d _ => h d).trans (coe_sum _ _))).trans ?_
  show (_ * _ + _ : EReal) = _
  rw [← EReal.coe_mul, ← EReal.coe_add]
  rfl

/-- The statistics a block reads. -/
theorem stRow_apply (s : Fin 2) (p : Fin 6) (u : Fin 2) (a : Fin 8) (n : Fin 128) :
    stRow I s p u (ix4 0 0 a n) = (((if s = 0 then (1 : ℝ) else mean R (256 * p.val + 128 * u.val + n.val)) * rstd R (256 * p.val + 128 * u.val + n.val) : ℝ) : EReal) := by
  have hu : u.val % 2 = u.val := by omega
  have h0 := rstd_apply A p u n
  have h1 := mean_apply A p u n
  refine (congrArg (stS I p) (ix_eq (y := ix4 s u a n) (by intro a; fin_cases a <;> rfl))).trans ?_
  unfold stS
  fin_cases s
  · refine ((statLanes_apply _ a n).trans h0).trans ?_
    show _ = ((1 * _ : ℝ) : EReal)
    rw [one_mul]
  · refine (statLanes_apply (mulf (k0_pay397 (F := Ideal) (xRows I p u)) (k0_pay398 (F := Ideal) (xRows I p u))) a n).trans ?_
    show (_ * _ : EReal) = _
    rw [h0, h1, ← EReal.coe_mul]
    rfl

/-- A chunk's column sums. -/
theorem csPay_apply (t : Fin 3) (g : Fin 4) (k r : Fin 16) (l : Fin 128) :
    csPay (F := Ideal) (wChunk I t g k) I.g (ix S1x16x128 ![0, r.val, l.val])
      = ((∑ d : Fin 1024, R.w t (256 * g.val + 16 * k.val + r.val) d * R.g d : ℝ) : EReal) := by
  rw [csPay_sum, ← coe_sum]
  exact Finset.sum_congr rfl fun d _ => pay2_chunk A t g k r d

/-- A chunk's bias sums. -/
theorem cbPay_apply (t : Fin 3) (g : Fin 4) (k r : Fin 16) (l : Fin 128) :
    cbPay (F := Ideal) (BitVec.ofNat 32 k.val) (wChunk I t g k) I.lb (bRow I t g k) (ix S1x16x128 ![0, r.val, l.val])
      = (((∑ d : Fin 1024, R.w t (256 * g.val + 16 * k.val + r.val) d * R.lb d) + R.b t (256 * g.val + 16 * k.val + r.val) : ℝ) : EReal) := by
  have hg := g.isLt; have hk := k.isLt; have hr := r.isLt
  rw [cbPay_sum, EReal.coe_add, ← coe_sum, pay12_apply]
  refine congrArg₂ (HAdd.hAdd (α := EReal) (β := EReal) (γ := EReal)) ?_ ?_
  · exact Finset.sum_congr rfl fun d _ => by rw [pay2_apply, wChunk_apply A, A.lb, ← EReal.coe_mul]
  · refine (congrArg (I.b t) (ix_eq (y := ix2 ⟨4 * g.val + k.val / 4, by omega⟩ ⟨16 * (k.val % 4) + r.val, by omega⟩) ?_)).trans ((A.b t _ _).trans ?_)
    · intro a; fin_cases a <;> rfl
    · rw [show 64 * (4 * g.val + k.val / 4) + (16 * (k.val % 4) + r.val) = 256 * g.val + 16 * k.val + r.val by omega]

/-- The column sums a block reads. -/
theorem csRows_apply (t : Fin 3) (g hh : Fin 4) (c : Fin 64) (l : Fin 128) :
    csRows I t g hh (ix3 0 c l) = ((∑ d : Fin 1024, R.w t (256 * g.val + 64 * hh.val + c.val) d * R.g d : ℝ) : EReal) := by
  have ht := t.isLt; have hc := c.isLt; have hH := hh.isLt
  have e1 : (256 * t.val + 64 * hh.val + c.val) / 256 = t.val := by omega
  have e2 : (256 * t.val + 64 * hh.val + c.val) % 256 / 16 = (64 * hh.val + c.val) / 16 := by omega
  have e3 : (256 * t.val + 64 * hh.val + c.val) % 16 = (64 * hh.val + c.val) % 16 := by omega
  have e4 : 256 * g.val + 16 * ((64 * hh.val + c.val) / 16) + (64 * hh.val + c.val) % 16 = 256 * g.val + 64 * hh.val + c.val := by omega
  refine (congrArg (csS I) (ix_eq (y := ix3 g ⟨256 * t.val + 64 * hh.val + c.val, by omega⟩ l) (by intro a; fin_cases a <;> rfl))).trans ?_
  show csPay (F := Ideal) (wChunk I ((256 * t.val + 64 * hh.val + c.val) / 256) g.val ((256 * t.val + 64 * hh.val + c.val) % 256 / 16)) I.g (ix S1x16x128 ![0, (256 * t.val + 64 * hh.val + c.val) % 16, l.val]) = _
  rw [e1, e2, e3]
  have h := csPay_apply A t g ⟨(64 * hh.val + c.val) / 16, by omega⟩ ⟨(64 * hh.val + c.val) % 16, by omega⟩ l
  simp only [e4] at h
  exact h

/-- The bias sums a block reads. -/
theorem cbRows_apply (t : Fin 3) (g hh : Fin 4) (c : Fin 64) (l : Fin 128) :
    cbRows I t g hh (ix3 0 c l) = (((∑ d : Fin 1024, R.w t (256 * g.val + 64 * hh.val + c.val) d * R.lb d) + R.b t (256 * g.val + 64 * hh.val + c.val) : ℝ) : EReal) := by
  have ht := t.isLt; have hc := c.isLt; have hH := hh.isLt; have hg := g.isLt
  have e1 : (256 * t.val + 64 * hh.val + c.val) / 256 = t.val := by omega
  have e2 : (256 * t.val + 64 * hh.val + c.val) % 256 / 16 = (64 * hh.val + c.val) / 16 := by omega
  have e3 : (256 * t.val + 64 * hh.val + c.val) % 16 = (64 * hh.val + c.val) % 16 := by omega
  have e4 : 256 * g.val + 16 * ((64 * hh.val + c.val) / 16) + (64 * hh.val + c.val) % 16 = 256 * g.val + 64 * hh.val + c.val := by omega
  refine (congrArg (cbS I) (ix_eq (y := ix3 g ⟨256 * t.val + 64 * hh.val + c.val, by omega⟩ l) (by intro a; fin_cases a <;> rfl))).trans ?_
  show cbPay (F := Ideal) (BitVec.ofNat 32 ((256 * t.val + 64 * hh.val + c.val) % 256 / 16)) (wChunk I ((256 * t.val + 64 * hh.val + c.val) / 256) g.val ((256 * t.val + 64 * hh.val + c.val) % 256 / 16)) I.lb
    (bRow I ((256 * t.val + 64 * hh.val + c.val) / 256) g.val ((256 * t.val + 64 * hh.val + c.val) % 256 / 16)) (ix S1x16x128 ![0, (256 * t.val + 64 * hh.val + c.val) % 16, l.val]) = _
  rw [e1, e2, e3]
  have h := cbPay_apply A t g ⟨(64 * hh.val + c.val) / 16, by omega⟩ ⟨(64 * hh.val + c.val) % 16, by omega⟩ l
  simp only [e4] at h
  exact h

end Cert.Value
-- ==== Proof.Value.Block.lean ====
/- A block's values, exponent, codes and scale: those of the model. -/
module

public import proofs.«01_k».proof.Proof.Value.Sums

@[expose] public section

set_option synthInstance.maxSize 4096

noncomputable section

namespace Cert.Value

open Cert.KernelIdeal Cert.KernelIdeal.Gen Cert.KernelIdeal.Pf Cert.Hold
open Idealize.ShloMosaic Idealize.ShloMosaic.ValueIdx
open scoped BigOperators

theorem cmpi_eq_iff {w : Nat} (x y : BitVec w) : IntOp.cmpi .eq x y = 1#1 ↔ x = y := by
  rw [WordCmp.cmpi_eq_eq, WordCmp.ofBool_decide_eq_one_iff]

theorem cmpi_slt_iff {w : Nat} (x y : BitVec w) : IntOp.cmpi .slt x y = 1#1 ↔ x.slt y = true := by
  show BitVec.ofBool (x.slt y) = 1#1 ↔ _
  cases x.slt y <;> simp

/-- A maximum over an axis, as an upper bound. -/
theorem max_le_iff' {s t : Shape} {a : Fin s.rank} (src : FVec Ideal s .f32) (h : s.Reduces [a] t) (j : t.Idx) (c : EReal) :
    (multiReduction .maximumf [a] t src 0xFF800000#32 h (.inl rfl) rfl j : EReal) ≤ c ↔ ∀ k : Fin (s.size a), (src (h.lift j k) : EReal) ≤ c := by
  refine (iff_of_eq (congrArg (fun z : EReal => z ≤ c) (Ideal.multiReduction_maximumf_single src _ h (.inl rfl) rfl j))).trans ((Finset.fold_max_le _).trans ?_)
  exact ⟨fun H k => H.2 k (Finset.mem_univ _), fun H => ⟨(le_of_eq ofBits_bot).trans bot_le, fun k _ => H k⟩⟩

/-! ### The scale -/

/-- The block's scale before rounding. -/
theorem blockM_apply (R : Arr) (t bt h : ℕ) (v : FVec Ideal S8x8x128 .f32)
    (hv : ∀ (a b : Fin 8) (n : Fin 128), v (ix3 a b n) = ((val R t (128 * bt + n.val) (64 * h + (8 * a.val + b.val)) : ℝ) : EReal)) (j : S8x128.Idx) :
    blockM (F := Ideal) lane (R.n bt) v j = (amax R t bt h * Ideal.ofBits .f32 0x3B124925#32 : EReal) := by
  refine congrArg (fun z : EReal => z * Ideal.ofBits .f32 0x3B124925#32) ?_
  refine (broadcastTo_apply _ broadcasts_S1x1_S8x128 j (ix2 0 0) (by intro a; fin_cases a <;> rfl)).trans ?_
  refine (shapeCast_apply _ shapeCasts_S1x1_S1x1 (ix2 0 0) (ix2 0 0) rfl).trans ?_
  refine (shapeCast_apply _ shapeCasts_S1_S1x1 (ix2 0 0) (ix1 0) (by rw [Shape.rowMajor_val_one, Shape.rowMajor_val_two]; rfl)).trans ?_
  refine eq_of_forall_ge_iff fun c => ?_
  rw [max_le_iff', amax_le]
  obtain ⟨M, hMd⟩ : ∃ M, M = multiReduction .maximumf [0] S8x128 (absf v) 0xFF800000#32 reduces_S8x8x128_S8x128 (.inl rfl) rfl := ⟨_, rfl⟩
  obtain ⟨S, hSd⟩ : ∃ S, S = select (cmpi .slt lane (broadcast S8x128 (R.n bt))) M (broadcast S8x128 (Scalar.ofBits (F := Ideal) .f32 0x00000000#32)) := ⟨_, rfl⟩
  rw [← hMd, ← hSd]
  have hM : ∀ (b : Fin 8) (n : Fin 128), (M (ix2 b n) : EReal) ≤ c
      ↔ ∀ a : Fin 8, max ((val R t (128 * bt + n.val) (64 * h + (8 * a.val + b.val)) : ℝ) : EReal) (-((val R t (128 * bt + n.val) (64 * h + (8 * a.val + b.val)) : ℝ) : EReal)) ≤ c := by
    intro b n
    rw [hMd, max_le_iff']
    exact forall_congr' fun (a : Fin 8) => iff_of_eq (congrArg (fun z : EReal => max z (-z) ≤ c) ((congrArg v (by funext x; fin_cases x <;> rfl)).trans (hv a b n)))
  have hS : ∀ (b : Fin 8) (n : Fin 128), (S (ix2 b n) : EReal) = if (BitVec.ofNat 32 n.val).slt (R.n bt) then (M (ix2 b n) : EReal) else 0 := by
    intro b n
    rw [hSd, ← ofBits_zero]
    refine if_congr ((cmpi_slt_iff _ _).trans ?_) rfl rfl
    rw [show (lane (ix2 b n)) = BitVec.ofNat 32 n.val from congrArg (BitVec.ofNat 32) (show 0 * 128 + n.val = n.val by omega)]
    rfl
  have hrow : ∀ b : Fin 8, (shapeCast S8x1 (multiReduction .maximumf [1] S8 S 0xFF800000#32 reduces_S8x128_S8 (.inl rfl) rfl) shapeCasts_S8_S8x1 (ix2 b 0) : EReal) ≤ c
      ↔ ∀ n : Fin 128, (if (BitVec.ofNat 32 n.val).slt (R.n bt) then (M (ix2 b n) : EReal) else 0) ≤ c := by
    intro b
    rw [shapeCast_apply _ shapeCasts_S8_S8x1 (ix2 b 0) (ix1 b) (by rw [Shape.rowMajor_val_one, Shape.rowMajor_val_two]; simp), max_le_iff']
    exact forall_congr' fun (n : Fin 128) => iff_of_eq (congrArg (fun z : EReal => z ≤ c) ((congrArg S (by funext x; fin_cases x <;> rfl)).trans (hS b n)))
  have hlift : ∀ b : Fin 8, reduces_S8x1_S1.lift (ix1 0) b = ix2 b 0 := fun b => by funext x; fin_cases x <;> rfl
  constructor
  · intro H q
    have hq := q.2.isLt
    have h0 := H (⟨q.2.val % 8, by omega⟩ : Fin 8)
    rw [hlift] at h0
    have h1 := (hrow ⟨q.2.val % 8, by omega⟩).mp h0 q.1
    unfold mag
    split at h1
    · rename_i hs
      rw [if_pos hs]
      have := (hM _ _).mp h1 ⟨q.2.val / 8, by omega⟩
      simp only [show 8 * (q.2.val / 8) + q.2.val % 8 = q.2.val by omega] at this
      exact this
    · rename_i hs
      rw [if_neg hs]
      exact h1
  · intro H (b : Fin 8)
    rw [hlift]
    refine (hrow b).mpr fun n => ?_
    split
    · rename_i hs
      refine (hM b n).mpr fun a => ?_
      have := H (n, ⟨8 * a.val + b.val, by have := a.isLt; have := b.isLt; omega⟩)
      unfold mag at this
      rw [if_pos hs] at this
      exact this
    · rename_i hs
      have := H (n, 0)
      unfold mag at this
      rw [if_neg hs] at this
      exact this

theorem fieldF_apply (t : IVec S8x128 32) (j : S8x128.Idx) : fieldF (F := Ideal) t j = fieldE (t j) := rfl

theorem bisect_apply (m : FVec Ideal S8x128 .f32) (k : BitVec 32) (t : IVec S8x128 32) (j : S8x128.Idx) :
    bisect (F := Ideal) m k t j = stepE (m j) k (t j) := rfl

/-- The block's exponent. -/
theorem blockX_apply (R : Arr) (t bt h : ℕ) (v : FVec Ideal S8x8x128 .f32)
    (hv : ∀ (a b : Fin 8) (n : Fin 128), v (ix3 a b n) = ((val R t (128 * bt + n.val) (64 * h + (8 * a.val + b.val)) : ℝ) : EReal)) (j : S8x128.Idx) :
    blockX (F := Ideal) lane (R.n bt) v j = expo R t bt h := by
  have hf : blockField (F := Ideal) (blockM (F := Ideal) lane (R.n bt) v) j = BitVec.ofNat 32 (countOf (amax R t bt h * Ideal.ofBits .f32 0x3B124925#32)) := by
    rw [← fieldOf_eq (amax_ne_top R t bt h), ← blockM_apply R t bt h v hv j]
    unfold blockField fieldOf
    simp only [bisect_apply]
    rfl
  unfold expo
  rw [← hf]
  exact if_congr (cmpi_eq_iff _ _) rfl rfl

/-! ### The values, codes and scales -/

theorem blockCode_apply (v : FVec Ideal S8x8x128 .f32) (e : IVec S8x128 32) (c : Fin 64) (n : Fin 128) :
    blockCode (F := Ideal) v e (ix S1x1x64x128 ![0, 0, c.val, n.val])
      = codeOf (v (ix3 ⟨c.val / 8, by omega⟩ ⟨c.val % 8, by omega⟩ n)) (e (ix2 ⟨c.val % 8, by omega⟩ n)) := by
  have hc := c.isLt; have hn := n.isLt
  refine (shapeCast_apply _ shapeCasts_S64x128_S1x1x64x128 _ (ix2 c n) (by
      rw [Shape.rowMajor_val_two, Shape.rowMajor_val_four]
      simp only [ix_val]
      show c.val * 128 + n.val = ((0 * 1 + 0) * 64 + c.val % 64) * 128 + n.val % 128
      omega)).trans ?_
  refine (shapeCast_apply (minimumf (broadcast S8x8x128 (Scalar.ofBits (F := Ideal) .f32 0x43E00000#32))
      (maximumf (broadcast S8x8x128 (Scalar.ofBits (F := Ideal) .f32 0xC3E00000#32)) (mulf v (broadcastTo S8x8x128
        (shapeCast S1x8x128 (pow2F (F := Ideal) (subi (broadcast S8x128 0#32) e)) shapeCasts_S8x128_S1x8x128) broadcasts_S1x8x128_S8x8x128))))
      shapeCasts_S8x8x128_S64x128 (ix2 c n) (ix3 ⟨c.val / 8, by omega⟩ ⟨c.val % 8, by omega⟩ n) (by
      rw [Shape.rowMajor_val_two, Shape.rowMajor_val_three]
      show (c.val / 8 * 8 + c.val % 8) * 128 + n.val = c.val * 128 + n.val
      omega)).trans ?_
  unfold codeOf
  refine congrArg (fun z : EReal => min (Ideal.ofBits .f32 0x43E00000#32) (max (Ideal.ofBits .f32 0xC3E00000#32) (v (ix3 ⟨c.val / 8, by omega⟩ ⟨c.val % 8, by omega⟩ n) * z))) ?_
  refine (broadcastTo_apply _ broadcasts_S1x8x128_S8x8x128 _ (ix3 0 ⟨c.val % 8, by omega⟩ n) (by intro a; fin_cases a <;> rfl)).trans ?_
  refine (shapeCast_apply _ shapeCasts_S8x128_S1x8x128 _ (ix2 ⟨c.val % 8, by omega⟩ n) (by
      rw [Shape.rowMajor_val_two, Shape.rowMajor_val_three]; simp)).trans ?_
  show fieldE ((0#32 - e (ix2 ⟨c.val % 8, by omega⟩ n)) + 127#32) = _
  rw [BitVec.zero_sub]
  rfl

theorem blockScl_apply (e : IVec S8x128 32) (n : Fin 128) :
    blockScl (F := Ideal) e (ix S1x1x1x128 ![0, 0, 0, n.val]) = twoTo (e (ix2 0 n)) := by
  have hn := n.isLt
  refine (shapeCast_apply _ shapeCasts_S1x128_S1x1x1x128 _ (ix2 0 n) (by
      rw [Shape.rowMajor_val_two, Shape.rowMajor_val_four]
      simp only [ix_val]
      show 0 * 128 + n.val = ((0 * 1 + 0) * 1 + 0) * 128 + n.val % 128
      omega)).trans ?_
  exact extractStridedSlice_apply ![0, 0] _ slices_S8x128_o0_0_S1x128 (ix2 0 n) (ix2 0 n) (by intro a; fin_cases a <;> simp)

theorem statB_apply (s : Vec Ideal S1x1x8x128 .f32) (a b : Fin 8) (n : Fin 128) : statB (F := Ideal) s (ix3 a b n) = s (ix4 0 0 b n) := by
  refine (broadcastTo_apply _ broadcasts_S1x8x128_S8x8x128 _ (ix3 0 b n) (by intro a; fin_cases a <;> rfl)).trans ?_
  refine (shapeCast_apply _ shapeCasts_S8x128_S1x8x128 _ (ix2 b n) (by rw [Shape.rowMajor_val_two, Shape.rowMajor_val_three]; simp)).trans ?_
  exact shapeCast_apply s shapeCasts_S1x1x8x128_S8x128 (ix2 b n) (ix4 0 0 b n) (by rw [Shape.rowMajor_val_two, Shape.rowMajor_val_four]; simp)

theorem fold8_apply (x : FVec Ideal S64x128 .f32) (a b : Fin 8) (n : Fin 128) :
    shapeCast S8x8x128 x shapeCasts_S64x128_S8x8x128 (ix3 a b n) = x (ix2 ⟨8 * a.val + b.val, by omega⟩ n) :=
  shapeCast_apply x shapeCasts_S64x128_S8x8x128 (ix3 a b n) (ix2 ⟨8 * a.val + b.val, by omega⟩ n) (by
    rw [Shape.rowMajor_val_two, Shape.rowMajor_val_three]
    show (8 * a.val + b.val) * 128 + n.val = (a.val * 8 + b.val) * 128 + n.val
    omega)

theorem rowsB_apply (c : Vec Ideal S1x64x128 .f32) (a b : Fin 8) (n : Fin 128) :
    rowsB (F := Ideal) c (ix3 a b n) = c (ix3 0 ⟨8 * a.val + b.val, by omega⟩ n) :=
  (fold8_apply _ a b n).trans (shapeCast_apply c shapeCasts_S1x64x128_S64x128 _ (ix3 0 ⟨8 * a.val + b.val, by omega⟩ n) (by
    rw [Shape.rowMajor_val_two, Shape.rowMajor_val_three]; simp))

variable {I : Inp Ideal} {R : Arr} (A : Agrees I R)
include A

theorem bV_apply (p : Fin 6) (g : Fin 4) (t : Fin 3) (hh : Fin 4) (u : Fin 2) (a b : Fin 8) (n : Fin 128) :
    bV I p g t hh u (ix3 a b n) = ((val R t (128 * (2 * p.val + u.val) + n.val) (64 * (4 * g.val + hh.val) + (8 * a.val + b.val)) : ℝ) : EReal) := by
  have ha := a.isLt; have hb := b.isLt; have hn := n.isLt; have hu := u.isLt; have hH := hh.isLt
  have e1 : 256 * g.val + 64 * hh.val + (8 * a.val + b.val) = 64 * (4 * g.val + hh.val) + (8 * a.val + b.val) := by omega
  have e2 : 256 * p.val + 128 * u.val + n.val = 128 * (2 * p.val + u.val) + n.val := by omega
  have e3 : 256 * g.val + (64 * hh.val + (8 * a.val + b.val)) = 64 * (4 * g.val + hh.val) + (8 * a.val + b.val) := by omega
  have e4 : 256 * p.val + (128 * u.val + n.val) = 128 * (2 * p.val + u.val) + n.val := by omega
  have h1 : accAt (accS I p g) t hh u (ix2 ⟨8 * a.val + b.val, by omega⟩ n) = _ :=
    (extractStridedSlice_apply _ (accS I p g) (acc_slices u t hh) (ix2 ⟨8 * a.val + b.val, by omega⟩ n)
      (ix2 ⟨256 * t.val + (64 * hh.val + (8 * a.val + b.val)), by omega⟩ ⟨128 * u.val + n.val, by omega⟩) (by
        intro x
        fin_cases x
        · show 256 * t.val + (64 * hh.val + (8 * a.val + b.val)) = 256 * t.val + 64 * hh.val + (8 * a.val + b.val); omega
        · rfl)).trans
      (accS_apply A p g t ⟨64 * hh.val + (8 * a.val + b.val), by omega⟩ ⟨128 * u.val + n.val, by omega⟩)
  have h2 := csRows_apply A t g hh ⟨8 * a.val + b.val, by omega⟩ n
  have h3 := cbRows_apply A t g hh ⟨8 * a.val + b.val, by omega⟩ n
  have h4 := stRow_apply A 0 p u b n
  have h5 := stRow_apply A 1 p u b n
  simp only [e3, e4] at h1
  simp only [e1] at h2 h3
  rw [e2] at h4 h5
  rw [← val_eq]
  show (shapeCast S8x8x128 (accAt (accS I p g) t hh u) shapeCasts_S64x128_S8x8x128 (ix3 a b n) * statB (F := Ideal) (stRow I 0 p u) (ix3 a b n)
    - statB (F := Ideal) (stRow I 1 p u) (ix3 a b n) * rowsB (F := Ideal) (csRows I t g hh) (ix3 a b n) + rowsB (F := Ideal) (cbRows I t g hh) (ix3 a b n) : EReal) = _
  rw [fold8_apply, statB_apply, statB_apply, rowsB_apply, rowsB_apply, h1, h2, h3]
  refine (congrArg₂ (fun y z : EReal => _ * y - z * _ + _) h4 h5).trans ?_
  simp only [if_true, one_mul, if_neg (show ¬ ((1 : Fin 2) = 0) by decide)]
  rw [← EReal.coe_mul, ← EReal.coe_mul, ← EReal.coe_sub, ← EReal.coe_add]

theorem bX_apply (p : Fin 6) (g : Fin 4) (t : Fin 3) (hh : Fin 4) (u : Fin 2) (j : S8x128.Idx) :
    bX I p g t hh u j = expo R t (2 * p.val + u.val) (4 * g.val + hh.val) := by
  have hn : I.n (ix S12 ![2 * p.val + u.val]) = R.n (2 * p.val + u.val) :=
    (congrArg I.n (ix_eq (y := ix1 ⟨2 * p.val + u.val, by omega⟩) (by intro a; fin_cases a; rfl))).trans (A.n _)
  unfold bX
  rw [hn]
  exact blockX_apply R t (2 * p.val + u.val) (4 * g.val + hh.val) _ (fun a b n => bV_apply A p g t hh u a b n) j

/-- The codes. -/
theorem codeS_apply (t : Fin 3) (bt : Fin 12) (h : Fin 16) (e : Fin 64) (n : Fin 128) :
    codeS I (ix4 t bt ⟨64 * h.val + e.val, by omega⟩ n) = code R t bt n h e := by
  have hb := bt.isLt; have hh := h.isLt; have he := e.isLt; have ht := t.isLt
  have e1 : (64 * h.val + e.val) / 256 = h.val / 4 := by omega
  have e2 : (64 * h.val + e.val) % 256 / 64 = h.val % 4 := by omega
  have e3 : (64 * h.val + e.val) % 64 = e.val := by omega
  have f1 : Fin.ofNat 3 t.val = t := Fin.ext (Nat.mod_eq_of_lt ht)
  have f2 : Fin.ofNat 4 (h.val % 4) = ⟨h.val % 4, by omega⟩ := Fin.ext (Nat.mod_eq_of_lt (by omega))
  show blockCode (F := Ideal) (bV I (bt.val / 2) ((64 * h.val + e.val) / 256) (Fin.ofNat 3 t.val) (Fin.ofNat 4 ((64 * h.val + e.val) % 256 / 64)) (Fin.ofNat 2 bt.val))
    (bX I (bt.val / 2) ((64 * h.val + e.val) / 256) (Fin.ofNat 3 t.val) (Fin.ofNat 4 ((64 * h.val + e.val) % 256 / 64)) (Fin.ofNat 2 bt.val))
    (ix S1x1x64x128 ![0, 0, (64 * h.val + e.val) % 64, n.val]) = _
  rw [e1, e2, e3, f1, f2, blockCode_apply]
  have hv := bV_apply A ⟨bt.val / 2, by omega⟩ ⟨h.val / 4, by omega⟩ t ⟨h.val % 4, by omega⟩ (Fin.ofNat 2 bt.val) ⟨e.val / 8, by omega⟩ ⟨e.val % 8, by omega⟩ n
  have hx := bX_apply A ⟨bt.val / 2, by omega⟩ ⟨h.val / 4, by omega⟩ t ⟨h.val % 4, by omega⟩ (Fin.ofNat 2 bt.val) (ix2 ⟨e.val % 8, by omega⟩ n)
  simp only [show 2 * (bt.val / 2) + (Fin.ofNat 2 bt.val).val = bt.val by show 2 * (bt.val / 2) + bt.val % 2 = _; omega,
    show 4 * (h.val / 4) + h.val % 4 = h.val by omega, show 8 * (e.val / 8) + e.val % 8 = e.val by omega] at hv hx
  exact congrArg₂ codeOf hv hx

/-- The scales, on every lane. -/
theorem sclS_apply (t : Fin 3) (bt : Fin 12) (h : Fin 16) (l : Fin 128) : sclS I (ix4 t bt h l) = scale R t bt h := by
  have hb := bt.isLt; have hh := h.isLt; have ht := t.isLt
  have f1 : Fin.ofNat 3 t.val = t := Fin.ext (Nat.mod_eq_of_lt ht)
  show blockScl (F := Ideal) (bX I (bt.val / 2) (h.val / 4) (Fin.ofNat 3 t.val) (Fin.ofNat 4 h.val) (Fin.ofNat 2 bt.val)) (ix S1x1x1x128 ![0, 0, 0, l.val]) = _
  rw [f1, blockScl_apply]
  have hx := bX_apply A ⟨bt.val / 2, by omega⟩ ⟨h.val / 4, by omega⟩ t (Fin.ofNat 4 h.val) (Fin.ofNat 2 bt.val) (ix2 0 l)
  simp only [show 2 * (bt.val / 2) + (Fin.ofNat 2 bt.val).val = bt.val by show 2 * (bt.val / 2) + bt.val % 2 = _; omega,
    show 4 * (h.val / 4) + (Fin.ofNat 4 h.val).val = h.val by show 4 * (h.val / 4) + h.val % 4 = _; omega] at hx
  exact congrArg twoTo hx

end Cert.Value
-- ==== Proof.Value.KernelRun.lean ====
/- The kernel's results at the end of a run, as functions of its arguments. -/
module

public import proofs.«01_k».proof.Proof.Value.Block
public import proofs.«01_k».proof.Proof.Value.Args
public import proofs.«01_k».proof.Proof.Ideal.Frame
public import Idealize.ShloMosaic.Lib.StableHlo.RunRead

@[expose] public section

set_option synthInstance.maxSize 4096
set_option maxRecDepth 16384

noncomputable section

namespace Cert.Value

open Cert.KernelIdeal Cert.KernelIdeal.Gen Cert.KernelIdeal.Pf Cert.Hold
open Idealize.ShloMosaic Idealize.ShloMosaic.ValueIdx Idealize.ShloMosaic.TcCoe Idealize.SL.Sem
open Idealize.ShloMosaic.Pipeline (Dat Cfg Window)
open scoped BigOperators

variable (m : (ℓ : Loc nD τ sig) → Buf (Elt Ideal) ℓ) (ρ : Dev nD → PrngReg) (c : Dev nD)

/-! ### What the kernel reads -/

/-- The kernel's arguments. -/
def kArgs : Args where
  x := m ((c : Thread nD τ).loc main_arg0)
  n := m ((c : Thread nD τ).loc main_arg1)
  g := m ((c : Thread nD τ).loc main_arg2)
  lb := m ((c : Thread nD τ).loc main_arg3)
  w := ![m ((c : Thread nD τ).loc main_arg4), m ((c : Thread nD τ).loc main_arg6), m ((c : Thread nD τ).loc main_arg8)]
  b := ![m ((c : Thread nD τ).loc main_arg5), m ((c : Thread nD τ).loc main_arg7), m ((c : Thread nD τ).loc main_arg9)]

theorem V_v0 : V m c main_v0 = shapeCast S1536x1024 (m ((c : Thread nD τ).loc main_arg0)) shapeCasts_S12x128x1024_S1536x1024 := by
  unfold V V0; after_reads_simp; rfl
theorem V_v1 : V m c main_v1 = shapeCast S1x1024 (m ((c : Thread nD τ).loc main_arg2)) shapeCasts_S1024_S1x1024 := by
  unfold V V0; after_reads_simp; rfl
theorem V_v2 : V m c main_v2 = shapeCast S1x1024 (m ((c : Thread nD τ).loc main_arg3)) shapeCasts_S1024_S1x1024 := by
  unfold V V0; after_reads_simp; rfl

/-- The weights as the kernel stages them: by column, then feature. -/
abbrev stageW (w : S1024x16x64.Idx → EReal) : S1024x1024.Idx → EReal :=
  shapeCast S1024x1024 (transpose S16x64x1024 [1, 2, 0] w transposes_S1024x16x64_S16x64x1024_1_2_0) shapeCasts_S16x64x1024_S1024x1024

theorem V_v4 : V m c main_v4 = stageW (m ((c : Thread nD τ).loc main_arg4)) := by
  unfold V V0; after_reads_simp; rfl
theorem V_v6 : V m c main_v6 = stageW (m ((c : Thread nD τ).loc main_arg6)) := by
  unfold V V0; after_reads_simp; rfl
theorem V_v8 : V m c main_v8 = stageW (m ((c : Thread nD τ).loc main_arg8)) := by
  unfold V V0; after_reads_simp; rfl

theorem stageW_apply (w : S1024x16x64.Idx → EReal) (k d : Fin 1024) :
    stageW w (ix2 k d) = w (ix3 d ⟨k.val / 64, by omega⟩ ⟨k.val % 64, by omega⟩) := by
  have hk := k.isLt
  refine (shapeCast_apply _ shapeCasts_S16x64x1024_S1024x1024 (ix2 k d) (ix3 ⟨k.val / 64, by omega⟩ ⟨k.val % 64, by omega⟩ d) (by
    rw [Shape.rowMajor_val_two, Shape.rowMajor_val_three]
    show (k.val / 64 * 64 + k.val % 64) * 1024 + d.val = k.val * 1024 + d.val
    omega)).trans ?_
  exact transpose_apply [1, 2, 0] w transposes_S1024x16x64_S16x64x1024_1_2_0 _ _ (by intro a; fin_cases a <;> rfl)

theorem whole1 {s : S1024.Idx → EReal} (d : Fin 1024) : shapeCast S1x1024 s shapeCasts_S1024_S1x1024 (ix2 0 d) = s (ix1 d) :=
  shapeCast_apply s shapeCasts_S1024_S1x1024 (ix2 0 d) (ix1 d) (by rw [Shape.rowMajor_val_one, Shape.rowMajor_val_two]; simp)

theorem blk_b (w : Fin 3) (h : Fin 16) (e : Fin 64) : (inp m c).b w (ix2 h e) = (kArgs m c).b w (ix2 h e) := by
  fin_cases w
  · show V m c main_arg5 _ = _
    rw [V_main_arg5]
    exact congrArg _ (by funext a; fin_cases a <;> (apply Fin.ext; show 0 * _ + 1 * _ = _; rw [Nat.zero_mul, Nat.zero_add, Nat.one_mul]))
  · show V m c main_arg7 _ = _
    rw [V_main_arg7]
    exact congrArg _ (by funext a; fin_cases a <;> (apply Fin.ext; show 0 * _ + 1 * _ = _; rw [Nat.zero_mul, Nat.zero_add, Nat.one_mul]))
  · show V m c main_arg9 _ = _
    rw [V_main_arg9]
    exact congrArg _ (by funext a; fin_cases a <;> (apply Fin.ext; show 0 * _ + 1 * _ = _; rw [Nat.zero_mul, Nat.zero_add, Nat.one_mul]))

/-- What the kernel reads, as real numbers. -/
theorem agrees (hP : (kArgs m c).Finite) : Agrees (inp m c) (kArgs m c).arr where
  x r d := by
    have hr := r.isLt
    show V m c main_v0 _ = _
    rw [V_v0]
    refine (shapeCast_apply _ shapeCasts_S12x128x1024_S1536x1024 (ix2 r d) (ix3 ⟨r.val / 128, by omega⟩ ⟨r.val % 128, by omega⟩ d) (by
      rw [Shape.rowMajor_val_two, Shape.rowMajor_val_three]
      show (r.val / 128 * 128 + r.val % 128) * 1024 + d.val = r.val * 1024 + d.val
      omega)).trans ?_
    refine (hP.x _).trans (congrArg (fun i => (((kArgs m c).x i).toReal : EReal)) (ix_eq ?_).symm)
    intro a; fin_cases a <;> rfl
  g d := by
    show V m c main_v1 _ = _
    rw [V_v1]
    refine (congrArg _ (show _ = ix2 0 d by funext a; fin_cases a <;> (apply Fin.ext; show 0 * _ + 1 * _ = _; rw [Nat.zero_mul, Nat.zero_add, Nat.one_mul]))).trans ?_
    refine (whole1 d).trans ((hP.g _).trans (congrArg (fun i => (((kArgs m c).g i).toReal : EReal)) (ix_eq ?_).symm))
    intro a; fin_cases a; rfl
  lb d := by
    show V m c main_v2 _ = _
    rw [V_v2]
    refine (congrArg _ (show _ = ix2 0 d by funext a; fin_cases a <;> (apply Fin.ext; show 0 * _ + 1 * _ = _; rw [Nat.zero_mul, Nat.zero_add, Nat.one_mul]))).trans ?_
    refine (whole1 d).trans ((hP.lb _).trans (congrArg (fun i => (((kArgs m c).lb i).toReal : EReal)) (ix_eq ?_).symm))
    intro a; fin_cases a; rfl
  w t k d := by
    have hk := k.isLt
    have h : (inp m c).w t (ix2 k d) = (kArgs m c).w t (ix3 d ⟨k.val / 64, by omega⟩ ⟨k.val % 64, by omega⟩) := by
      fin_cases t
      · exact (congrFun (V_v4 m c) _).trans (stageW_apply _ k d)
      · exact (congrFun (V_v6 m c) _).trans (stageW_apply _ k d)
      · exact (congrFun (V_v8 m c) _).trans (stageW_apply _ k d)
    have ht : Fin.ofNat 3 t.val = t := Fin.ext (Nat.mod_eq_of_lt t.isLt)
    rw [h]
    show _ = (((kArgs m c).w (Fin.ofNat 3 t.val) _).toReal : EReal)
    rw [ht]
    refine (hP.w t _).trans (congrArg (fun i => (((kArgs m c).w t i).toReal : EReal)) (ix_eq ?_).symm)
    intro a; fin_cases a <;> rfl
  b t h e := by
    have hh := h.isLt; have he := e.isLt
    have ht : Fin.ofNat 3 t.val = t := Fin.ext (Nat.mod_eq_of_lt t.isLt)
    rw [blk_b]
    show _ = (((kArgs m c).b (Fin.ofNat 3 t.val) _).toReal : EReal)
    rw [ht]
    refine (hP.b t _).trans (congrArg (fun i => (((kArgs m c).b t i).toReal : EReal)) (ix_eq ?_).symm)
    intro a; fin_cases a
    · show (64 * h.val + e.val) / 64 = h.val; omega
    · show (64 * h.val + e.val) % 64 = e.val; omega
  n i := by
    show V m c main_arg1 _ = _
    rw [V_main_arg1]
    refine congrArg (m ((c : Thread nD τ).loc main_arg1)) ?_
    funext a; fin_cases a; apply Fin.ext
    show 0 * _ + 1 * i.val = i.val % 12
    rw [Nat.mod_eq_of_lt i.isLt]; omega

/-! ### What it leaves -/

/-- The codes as laid out at the end. -/
abbrev layC (v : S12x1024x128.Idx → EReal) : S12x128x16x64.Idx → EReal :=
  transpose S12x128x16x64 [0, 3, 1, 2] (shapeCast S12x16x64x128 v shapeCasts_S12x1024x128_S12x16x64x128) transposes_S12x16x64x128_S12x128x16x64_0_3_1_2

variable {m c} {R : Arr} (A : Agrees (inp m c) R)
include A

theorem layC_codeOut (t : Fin 3) : layC (codeOut (inp m c) t.val) = codesOf R t.val := by
  funext x
  have h0 : (x 0).val < 12 := (x 0).isLt
  have h1 : (x 1).val < 128 := (x 1).isLt
  have h2 : (x 2).val < 16 := (x 2).isLt
  have h3 : (x 3).val < 64 := (x 3).isLt
  have ht := t.isLt
  refine (transpose_apply [0, 3, 1, 2] _ transposes_S12x16x64x128_S12x128x16x64_0_3_1_2 x (ix4 (x 0) (x 2) (x 3) (x 1)) (by intro a; fin_cases a <;> rfl)).trans ?_
  refine (shapeCast_apply _ shapeCasts_S12x1024x128_S12x16x64x128 _ (ix3 (x 0) ⟨64 * (x 2).val + (x 3).val, by omega⟩ (x 1)) (by
    rw [Shape.rowMajor_val_three, Shape.rowMajor_val_four]
    show ((x 0).val * 1024 + (64 * (x 2).val + (x 3).val)) * 128 + (x 1).val = (((x 0).val * 16 + (x 2).val) * 64 + (x 3).val) * 128 + (x 1).val
    omega)).trans ?_
  refine (congrArg (codeS (inp m c)) (ix_eq ?_)).trans (codeS_apply A t (x 0) (x 2) (x 3) (x 1))
  intro a; fin_cases a <;> rfl

theorem sclOut_eq (t : Fin 3) : sclOut (inp m c) t.val = scalesOf R t.val := by
  funext x
  obtain ⟨p, q, rfl⟩ : ∃ (p : Fin 12) (q : Fin 16), x = ix2 p q := ⟨x 0, x 1, by funext a; fin_cases a <;> rfl⟩
  have h1 := q.isLt
  have hrow : ∀ (k : Fin 16) (l : Fin 128), sclRow (inp m c) t.val p.val (ix4 0 0 k l) = scale R t.val p.val k.val := fun k l =>
    (congrArg (sclS (inp m c)) (ix_eq (y := ix4 t p k l) (by intro a; fin_cases a <;> rfl))).trans (sclS_apply A t p k l)
  show k0_pay427 (F := Ideal) (sclRow (inp m c) t.val p.val) (ix S1x16 ![0, q.val]) = _
  unfold k0_pay427
  refine (extractStridedSlice_apply ![0, 0] _ slices_S1x128_o0_0_S1x16 (ix S1x16 ![0, q.val]) (ix2 0 ⟨q.val, by omega⟩) (by
    intro a
    fin_cases a
    · rfl
    · show q.val = 0 + q.val % 16; omega)).trans ?_
  refine (shapeCast_apply _ shapeCasts_S128_S1x128 _ (ix1 ⟨q.val, by omega⟩) (by rw [Shape.rowMajor_val_one, Shape.rowMajor_val_two]; simp)).trans ?_
  refine (Ideal.multiReduction_add_single _ _ reduces_S16x128_S128 (.inl rfl) rfl _).trans ?_
  refine (Finset.sum_congr rfl fun (k : Fin 16) _ => (show _ = if q = k then scale R t.val p.val k.val else 0 from ?_)).trans ?_
  · refine Eq.trans (b := Scalar.select (IntOp.cmpi .eq (BitVec.ofNat 32 (0 * 16 + k.val)) (BitVec.ofNat 32 (0 * 128 + q.val)))
      (shapeCast S16x128 (sclRow (inp m c) t.val p.val) shapeCasts_S1x1x16x128_S16x128 (ix2 k ⟨q.val, by omega⟩)) (Ideal.ofBits .f32 0x00000000#32)) ?_ ?_
    · exact congrArg (select k0_pay426 (shapeCast S16x128 (sclRow (inp m c) t.val p.val) shapeCasts_S1x1x16x128_S16x128)
        (broadcast S16x128 (Scalar.ofBits (F := Ideal) .f32 0x00000000#32))) (show _ = ix2 k ⟨q.val, by omega⟩ by funext a; fin_cases a <;> rfl)
    · rw [ofBits_zero, shapeCast_apply _ shapeCasts_S1x1x16x128_S16x128 _ (ix4 0 0 k ⟨q.val, by omega⟩) (by rw [Shape.rowMajor_val_two, Shape.rowMajor_val_four]; simp), hrow]
      refine if_congr ((WordCmp.cmpi_eq_ofNat_eq_one_iff (w := 32) (a := 0 * 16 + k.val) (b := 0 * 128 + q.val) (by omega) (by omega)).trans ?_) rfl rfl
      constructor
      · intro h; apply Fin.ext; show q.val = k.val; omega
      · intro h; have : q.val = k.val := congrArg Fin.val h; omega
  · exact (Finset.sum_ite_eq (Finset.univ : Finset (Fin 16)) q (fun k : Fin 16 => scale R t.val p.val k.val)).trans (if_pos (Finset.mem_univ _))

omit A

theorem hz2 : (![0, 0] : Fin 2 → Nat) = fun _ => 0 := funext fun a => by fin_cases a <;> rfl

variable (m c)

theorem cut_6 (G : S12x16.Idx → EReal) : (cfg0.win 6).cut (α := EReal) (grid0.coords t0_0) G = (win0_6.blk t0_0).view.read (Elt Ideal) G := by
  funext j
  show G _ = G _
  refine congrArg G ?_
  funext a; fin_cases a <;> (apply Fin.ext; show _ = 0 * _ + 1 * _; rw [Nat.zero_mul, Nat.zero_add, Nat.one_mul])

theorem after_6 : (dats m 0 c).after 6 t0_0 = sclOut (inp m c) 0 := by
  dsimp only [dats]

theorem flushed_6 (t : Fin cfg0.N) : (dats m 0 c).flushed 6 t = (win0_6.blk t).view.read (Elt Ideal) (sclOut (inp m c) 0) := by
  rcases fin_N0 t with rfl
  show (cfg0.win 6).cut (grid0.coords t0_0) ((dats m 0 c).after 6 t0_0) = _
  rw [after_6]
  exact cut_6 _

theorem cover_6 (i : S12x16.Idx) : ∃ t : Fin cfg0.N, (cfg0.win 6).flush t = true ∧ i ∈ ((cfg0.win 6).blk t).view.set := by
  refine ⟨t0_0, flush0_6 _, ?_⟩
  show i ∈ ((View.whole main_v9_1).slice (win0_6.rect t0_0)).set
  rw [View.set_slice_whole, Rect.mem_set_unit]
  have e : ∀ a : Fin 2, win0_6.index t0_0 a * win0_6.size a = 0 ∧ win0_6.xsize (grid0.coords t0_0) a = S12x16.size a := by decide +kernel
  intro a
  show win0_6.index t0_0 a * win0_6.size a ≤ (i a : Nat) ∧ (i a : Nat) < win0_6.index t0_0 a * win0_6.size a + win0_6.xsize (grid0.coords t0_0) a
  rw [(e a).1, (e a).2]
  exact ⟨Nat.zero_le _, by rw [Nat.zero_add]; exact (i a).isLt⟩

theorem arr_6 : (dats m 0 c).arrAt 6 cfg0.N = sclOut (inp m c) 0 :=
  (dats m 0 c).arrAt_eq_of_cover 6 (sclOut (inp m c) 0) (fun t _ => flushed_6 m c t) cover_6

theorem cut_7 (G : S12x16.Idx → EReal) : (cfg0.win 7).cut (α := EReal) (grid0.coords t0_0) G = (win0_7.blk t0_0).view.read (Elt Ideal) G := by
  funext j
  show G _ = G _
  refine congrArg G ?_
  funext a; fin_cases a <;> (apply Fin.ext; show _ = 0 * _ + 1 * _; rw [Nat.zero_mul, Nat.zero_add, Nat.one_mul])

theorem after_7 : (dats m 0 c).after 7 t0_0 = sclOut (inp m c) 1 := by
  dsimp only [dats]

theorem flushed_7 (t : Fin cfg0.N) : (dats m 0 c).flushed 7 t = (win0_7.blk t).view.read (Elt Ideal) (sclOut (inp m c) 1) := by
  rcases fin_N0 t with rfl
  show (cfg0.win 7).cut (grid0.coords t0_0) ((dats m 0 c).after 7 t0_0) = _
  rw [after_7]
  exact cut_7 _

theorem cover_7 (i : S12x16.Idx) : ∃ t : Fin cfg0.N, (cfg0.win 7).flush t = true ∧ i ∈ ((cfg0.win 7).blk t).view.set := by
  refine ⟨t0_0, flush0_7 _, ?_⟩
  show i ∈ ((View.whole main_v9_3).slice (win0_7.rect t0_0)).set
  rw [View.set_slice_whole, Rect.mem_set_unit]
  have e : ∀ a : Fin 2, win0_7.index t0_0 a * win0_7.size a = 0 ∧ win0_7.xsize (grid0.coords t0_0) a = S12x16.size a := by decide +kernel
  intro a
  show win0_7.index t0_0 a * win0_7.size a ≤ (i a : Nat) ∧ (i a : Nat) < win0_7.index t0_0 a * win0_7.size a + win0_7.xsize (grid0.coords t0_0) a
  rw [(e a).1, (e a).2]
  exact ⟨Nat.zero_le _, by rw [Nat.zero_add]; exact (i a).isLt⟩

theorem arr_7 : (dats m 0 c).arrAt 7 cfg0.N = sclOut (inp m c) 1 :=
  (dats m 0 c).arrAt_eq_of_cover 7 (sclOut (inp m c) 1) (fun t _ => flushed_7 m c t) cover_7

theorem cut_8 (G : S12x16.Idx → EReal) : (cfg0.win 8).cut (α := EReal) (grid0.coords t0_0) G = (win0_8.blk t0_0).view.read (Elt Ideal) G := by
  funext j
  show G _ = G _
  refine congrArg G ?_
  funext a; fin_cases a <;> (apply Fin.ext; show _ = 0 * _ + 1 * _; rw [Nat.zero_mul, Nat.zero_add, Nat.one_mul])

theorem after_8 : (dats m 0 c).after 8 t0_0 = sclOut (inp m c) 2 := by
  dsimp only [dats]

theorem flushed_8 (t : Fin cfg0.N) : (dats m 0 c).flushed 8 t = (win0_8.blk t).view.read (Elt Ideal) (sclOut (inp m c) 2) := by
  rcases fin_N0 t with rfl
  show (cfg0.win 8).cut (grid0.coords t0_0) ((dats m 0 c).after 8 t0_0) = _
  rw [after_8]
  exact cut_8 _

theorem cover_8 (i : S12x16.Idx) : ∃ t : Fin cfg0.N, (cfg0.win 8).flush t = true ∧ i ∈ ((cfg0.win 8).blk t).view.set := by
  refine ⟨t0_0, flush0_8 _, ?_⟩
  show i ∈ ((View.whole main_v9_5).slice (win0_8.rect t0_0)).set
  rw [View.set_slice_whole, Rect.mem_set_unit]
  have e : ∀ a : Fin 2, win0_8.index t0_0 a * win0_8.size a = 0 ∧ win0_8.xsize (grid0.coords t0_0) a = S12x16.size a := by decide +kernel
  intro a
  show win0_8.index t0_0 a * win0_8.size a ≤ (i a : Nat) ∧ (i a : Nat) < win0_8.index t0_0 a * win0_8.size a + win0_8.xsize (grid0.coords t0_0) a
  rw [(e a).1, (e a).2]
  exact ⟨Nat.zero_le _, by rw [Nat.zero_add]; exact (i a).isLt⟩

theorem arr_8 : (dats m 0 c).arrAt 8 cfg0.N = sclOut (inp m c) 2 :=
  (dats m 0 c).arrAt_eq_of_cover 8 (sclOut (inp m c) 2) (fun t _ => flushed_8 m c t) cover_8

theorem tail_v11 : tailV m c (Proc.devRef .tc main_v11) = layC (codeOut (inp m c) 0) := by
  unfold tailV
  after_reads_simp
  rw [Pipeline.withArrays_of_ne _ c _ _ main_v9_0 (by decide), Pipeline.withR_of_mem _ _ c _ main_v9_0 (by decide), endR_0]
  rfl

theorem tail_v13 : tailV m c (Proc.devRef .tc main_v13) = layC (codeOut (inp m c) 1) := by
  unfold tailV
  after_reads_simp
  rw [Pipeline.withArrays_of_ne _ c _ _ main_v9_2 (by decide), Pipeline.withR_of_mem _ _ c _ main_v9_2 (by decide), endR_2]
  rfl

theorem tail_v15 : tailV m c (Proc.devRef .tc main_v15) = layC (codeOut (inp m c) 2) := by
  unfold tailV
  after_reads_simp
  rw [Pipeline.withArrays_of_ne _ c _ _ main_v9_4 (by decide), Pipeline.withR_of_mem _ _ c _ main_v9_4 (by decide), endR_4]
  rfl

/-- The whole run: each projection's codes and scales, and the arguments unchanged. -/
theorem run_kernel (hP : ∀ c, (kArgs m c).Finite) : θ_run defs (onTc (τ := τ) (main (F := Ideal))) ⟨m, fun _ => 0, ρ⟩ fun r => ∀ c : Dev nD,
      r.2.mem ((c : Thread nD τ).loc main_v11) = codesOf (kArgs m c).arr 0
      ∧ r.2.mem ((c : Thread nD τ).loc main_v9_1) = scalesOf (kArgs m c).arr 0
      ∧ r.2.mem ((c : Thread nD τ).loc main_v13) = codesOf (kArgs m c).arr 1
      ∧ r.2.mem ((c : Thread nD τ).loc main_v9_3) = scalesOf (kArgs m c).arr 1
      ∧ r.2.mem ((c : Thread nD τ).loc main_v15) = codesOf (kArgs m c).arr 2
      ∧ r.2.mem ((c : Thread nD τ).loc main_v9_5) = scalesOf (kArgs m c).arr 2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (run_main m ρ)
  have A := agrees m c (hP c)
  exact ⟨
    ((h.1 c).2 main_v11 (Pipeline.mem_restRefs_of main_v11 (by decide) (by decide))).trans ((tail_v11 m c).trans (layC_codeOut A 0)),
    ((h.1 c).1 6).trans ((arr_6 m c).trans (sclOut_eq A 0)),
    ((h.1 c).2 main_v13 (Pipeline.mem_restRefs_of main_v13 (by decide) (by decide))).trans ((tail_v13 m c).trans (layC_codeOut A 1)),
    ((h.1 c).1 7).trans ((arr_7 m c).trans (sclOut_eq A 1)),
    ((h.1 c).2 main_v15 (Pipeline.mem_restRefs_of main_v15 (by decide) (by decide))).trans ((tail_v15 m c).trans (layC_codeOut A 2)),
    ((h.1 c).1 8).trans ((arr_8 m c).trans (sclOut_eq A 2)),
    ((h.1 c).2 main_arg0 (Pipeline.mem_restRefs_of main_arg0 (by decide) (by decide))).trans ((tailV_of m c main_arg0 (by decide) (by decide) (by decide)).trans (V_main_arg0 m c)),
    ((h.1 c).1 0).trans (((dats m 0 c).arrAt_in 0 rfl _).trans ((A_eq m c 0).trans (V_main_arg1 m c))),
    ((h.1 c).2 main_arg2 (Pipeline.mem_restRefs_of main_arg2 (by decide) (by decide))).trans ((tailV_of m c main_arg2 (by decide) (by decide) (by decide)).trans (V_main_arg2 m c)),
    ((h.1 c).2 main_arg3 (Pipeline.mem_restRefs_of main_arg3 (by decide) (by decide))).trans ((tailV_of m c main_arg3 (by decide) (by decide) (by decide)).trans (V_main_arg3 m c)),
    ((h.1 c).2 main_arg4 (Pipeline.mem_restRefs_of main_arg4 (by decide) (by decide))).trans ((tailV_of m c main_arg4 (by decide) (by decide) (by decide)).trans (V_main_arg4 m c)),
    ((h.1 c).1 3).trans (((dats m 0 c).arrAt_in 3 rfl _).trans ((A_eq m c 3).trans (V_main_arg5 m c))),
    ((h.1 c).2 main_arg6 (Pipeline.mem_restRefs_of main_arg6 (by decide) (by decide))).trans ((tailV_of m c main_arg6 (by decide) (by decide) (by decide)).trans (V_main_arg6 m c)),
    ((h.1 c).1 4).trans (((dats m 0 c).arrAt_in 4 rfl _).trans ((A_eq m c 4).trans (V_main_arg7 m c))),
    ((h.1 c).2 main_arg8 (Pipeline.mem_restRefs_of main_arg8 (by decide) (by decide))).trans ((tailV_of m c main_arg8 (by decide) (by decide) (by decide)).trans (V_main_arg8 m c)),
    ((h.1 c).1 5).trans (((dats m 0 c).arrAt_in 5 rfl _).trans ((A_eq m c 5).trans (V_main_arg9 m c)))⟩

end Cert.Value
-- ==== Proof.Value.Reference.lean ====
/- The reference's results, as functions of its arguments. -/
module

public import proofs.«01_k».proof.Proof.Value.Args
public import proofs.«01_k».proof.Proof.Gen.ReferenceIdeal.Run
public import Idealize.ShloMosaic.Lib.IdealHost
public import Idealize.ShloMosaic.Lib.IndicatorCount
public import Idealize.ShloMosaic.Lib.WordCmp
public import Idealize.ShloMosaic.Lib.Pipeline.Value

@[expose] public section

set_option synthInstance.maxSize 4096
set_option maxRecDepth 16384

noncomputable section

namespace Cert.Value

open Cert.ReferenceIdeal Cert.ReferenceIdeal.Gen Cert.ReferenceIdeal.Value Cert.Hold
open Idealize.ShloMosaic Idealize.ShloMosaic.ValueIdx Idealize.ShloMosaic.TcCoe Idealize.SL.Sem
open scoped BigOperators

/-! ### The normalised rows -/

section
variable (x : FVec Ideal S12x128x1024 .f32) (g lb : FVec Ideal S1024 .f32)

/-- A row's number, along the row. -/
theorem spread_apply (u : S12x128x1.Idx → EReal) (b : Fin 12) (s : Fin 128) (d : Fin 1024) :
    broadcastInDim S12x128x1024 ![0, 1, 2] bcast_S12x128x1_S12x128x1024_0_1_2 u (ix3 b s d) = u (ix3 b s 0) :=
  broadcastInDim_apply _ bcast_S12x128x1_S12x128x1024_0_1_2 u _ _ (by intro a; fin_cases a <;> rfl)

theorem keep_apply (u : S12x128.Idx → EReal) (b : Fin 12) (s : Fin 128) :
    broadcastInDim S12x128x1 ![0, 1] bcast_S12x128_S12x128x1_0_1 u (ix3 b s 0) = u (ix2 b s) :=
  broadcastInDim_apply _ bcast_S12x128_S12x128x1_0_1 u _ _ (by intro a; fin_cases a <;> rfl)

theorem feat_apply (u : S1024.Idx → EReal) (b : Fin 12) (s : Fin 128) (d : Fin 1024) :
    broadcastInDim S12x128x1024 ![0, 1, 2] bcast_S1x1x1024_S12x128x1024_0_1_2 (broadcastInDim S1x1x1024 ![2] bcast_S1024_S1x1x1024_2 u) (ix3 b s d) = u (ix1 d) :=
  (broadcastInDim_apply _ bcast_S1x1x1024_S12x128x1024_0_1_2 _ _ (ix3 0 0 d) (by intro a; fin_cases a <;> rfl)).trans
    (broadcastInDim_apply _ bcast_S1024_S1x1x1024_2 u _ _ (by intro a; fin_cases a; rfl))

/-- The mean along a row of real numbers. -/
theorem rowMean_apply (f : ℕ → ℝ) (b : Fin 12) (s : Fin 128) (hx : ∀ d : Fin 1024, x (ix3 b s d) = ((f d.val : ℝ) : EReal)) :
    Host.divf (F := Ideal) (broadcastInDim S12x128x1 ![0, 1] bcast_S12x128_S12x128x1_0_1 (Host.reduceAdd x (constant S_ .f32 0x00000000#32) reducesTo_S12x128x1024_S12x128_d2 h_S_))
      (broadcastInDim S12x128x1 ![] bcast_S_S12x128x1 (constant S_ .f32 0x44800000#32)) (ix3 b s 0) = (((∑ d : Fin 1024, f d.val) * (1 / 1024) : ℝ) : EReal) := by
  have h1 : (broadcastInDim S12x128x1 ![0, 1] bcast_S12x128_S12x128x1_0_1 (Host.reduceAdd x (constant S_ .f32 0x00000000#32) reducesTo_S12x128x1024_S12x128_d2 h_S_)) (ix3 b s 0)
      = ((∑ d : Fin 1024, f d.val : ℝ) : EReal) := by
    refine (keep_apply _ b s).trans ?_
    refine (Ideal.hostReduceAdd_single reducesTo_S12x128x1024_S12x128_d2 (by decide : S12x128x1024.Reduces [2] S12x128) x (Ideal.ofBits .f32 0x00000000#32) (ix2 b s)).trans ?_
    rw [ofBits_zero, zero_add, ← coe_sum]
    refine Finset.sum_congr rfl fun (k : Fin 1024) _ => ?_
    refine Eq.trans (congrArg x ?_) (hx k)
    funext a; fin_cases a <;> rfl
  refine (hostDivf_apply _ _ _).trans ?_
  rw [h1, broadcastInDim_scalar_apply]
  show Ideal.div _ (Ideal.ofBits .f32 0x44800000#32) = _
  rw [ofBits_1024, Ideal.div_coe (by norm_num), ← EReal.coe_mul]

end

variable (V : Valuation τ sig (Elt Ideal))

/-- The reference's arguments. -/
def rArgs : Args where
  x := V (Proc.devRef .tc main_arg0)
  n := V (Proc.devRef .tc main_arg1)
  g := V (Proc.devRef .tc main_arg2)
  lb := V (Proc.devRef .tc main_arg3)
  w := ![V (Proc.devRef .tc main_arg4), V (Proc.devRef .tc main_arg6), V (Proc.devRef .tc main_arg8)]
  b := ![V (Proc.devRef .tc main_arg5), V (Proc.devRef .tc main_arg7), V (Proc.devRef .tc main_arg9)]

section
variable {V} (hP : (rArgs V).Finite)
include hP

theorem v12_apply (b : Fin 12) (s : Fin 128) (d : Fin 1024) :
    res_main_v12 V (ix3 b s d) = (((rArgs V).arr.x (128 * b.val + s.val) d.val - mean (rArgs V).arr (128 * b.val + s.val) : ℝ) : EReal) := by
  have h : ∀ d, res_main_v6 V (ix3 b s d) = (((rArgs V).arr.x (128 * b.val + s.val) d.val : ℝ) : EReal) := fun d => hP.x_apply b s d
  unfold res_main_v12
  generalize res_main_v6 V = xf at h
  refine Eq.trans (congrArg₂ (HSub.hSub (α := EReal) (β := EReal) (γ := EReal)) (h d) ((spread_apply _ b s d).trans (rowMean_apply xf _ b s h))) ?_
  rw [← EReal.coe_sub]; rfl

theorem v28_apply (b : Fin 12) (s : Fin 128) (d : Fin 1024) :
    res_main_v28 V (ix3 b s d) = ((((rArgs V).arr.x (128 * b.val + s.val) d.val - mean (rArgs V).arr (128 * b.val + s.val)) * rstd (rArgs V).arr (128 * b.val + s.val)
      * (rArgs V).arr.g d.val + (rArgs V).arr.lb d.val : ℝ) : EReal) := by
  have h := fun d => v12_apply hP b s d
  unfold res_main_v28
  generalize res_main_v12 V = xc at h
  have hsq : ∀ d : Fin 1024, (mulf xc xc : FVec Ideal S12x128x1024 .f32) (ix3 b s d)
      = ((((rArgs V).arr.x (128 * b.val + s.val) d.val - mean (rArgs V).arr (128 * b.val + s.val)) * ((rArgs V).arr.x (128 * b.val + s.val) d.val - mean (rArgs V).arr (128 * b.val + s.val)) : ℝ) : EReal) := fun d => by
    refine (congrArg₂ (HMul.hMul (α := EReal) (β := EReal) (γ := EReal)) (h d) (h d)).trans ?_
    rw [← EReal.coe_mul]
  have hv := rowMean_apply (mulf xc xc) (fun d => ((rArgs V).arr.x (128 * b.val + s.val) d - mean (rArgs V).arr (128 * b.val + s.val)) * ((rArgs V).arr.x (128 * b.val + s.val) d - mean (rArgs V).arr (128 * b.val + s.val))) b s hsq
  generalize Host.divf (F := Ideal) (broadcastInDim S12x128x1 ![0, 1] bcast_S12x128_S12x128x1_0_1 (Host.reduceAdd (mulf xc xc) (constant S_ .f32 0x00000000#32) reducesTo_S12x128x1024_S12x128_d2 h_S_))
      (broadcastInDim S12x128x1 ![] bcast_S_S12x128x1 (constant S_ .f32 0x44800000#32)) = vr at hv
  have hr : (Host.rsqrt (addf vr (broadcastInDim S12x128x1 ![] bcast_S_S12x128x1 (constant S_ .f32 0x3727C5AC#32))) : FVec Ideal S12x128x1 .f32) (ix3 b s 0)
      = ((rstd (rArgs V).arr (128 * b.val + s.val) : ℝ) : EReal) := by
    refine Eq.trans (congrArg Ideal.rsqrt (congrArg₂ (HAdd.hAdd (α := EReal) (β := EReal) (γ := EReal)) hv ((broadcastInDim_scalar_apply bcast_S_S12x128x1 _ _).trans ofBits_eps.1))) ?_
    rw [← EReal.coe_add]
    exact rsqrt_var (rArgs V).arr (128 * b.val + s.val)
  refine Eq.trans (congrArg₂ (HAdd.hAdd (α := EReal) (β := EReal) (γ := EReal))
    (congrArg₂ (HMul.hMul (α := EReal) (β := EReal) (γ := EReal))
      (congrArg₂ (HMul.hMul (α := EReal) (β := EReal) (γ := EReal)) (h d) ((spread_apply _ b s d).trans hr))
      ((feat_apply _ b s d).trans (hP.g_apply d)))
    ((feat_apply _ b s d).trans (hP.lb_apply d))) ?_
  rw [← EReal.coe_mul, ← EReal.coe_mul, ← EReal.coe_add]

/-! ### A projection -/

omit hP in
theorem dot_apply (A : FVec Ideal S12x128x1024 .f32) (B : FVec Ideal S1024x16x64 .f32) (b : Fin 12) (s : Fin 128) (h : Fin 16) (e : Fin 64) :
    Host.dotGeneral dot_S12x128x1024_S1024x16x64_S12x128x16x64_2_0_01_12_n_n (some .fp32) A B (ix4 b s h e) = (∑ d : Fin 1024, A (ix3 b s d) * B (ix3 d h e) : EReal) := by
  show FloatOps.dotGeneral _ _ _ A B (ix4 b s h e) = _
  rw [Ideal.dotGeneral_apply, ← Equiv.sum_comp (contrEquiv1 dot_S12x128x1024_S1024x16x64_S12x128x16x64_2_0_01_12_n_n 1024 rfl rfl).symm]
  refine Finset.sum_congr rfl fun c _ => ?_
  have c2 := contrEquiv1_symm_val dot_S12x128x1024_S1024x16x64_S12x128x16x64_2_0_01_12_n_n 1024 rfl rfl c
  have l2 : dot_S12x128x1024_S1024x16x64_S12x128x16x64_2_0_01_12_n_n.lhsIdx (ix4 b s h e) ((contrEquiv1 _ 1024 rfl rfl).symm c) = ix3 b s c := by
    funext ax; apply Fin.ext
    match ax with
    | ⟨0, _⟩ => rfl
    | ⟨1, _⟩ => rfl
    | ⟨2, _⟩ => exact c2
  have r2 : dot_S12x128x1024_S1024x16x64_S12x128x16x64_2_0_01_12_n_n.rhsIdx (ix4 b s h e) ((contrEquiv1 _ 1024 rfl rfl).symm c) = ix3 c h e := by
    funext ax; apply Fin.ext
    match ax with
    | ⟨0, _⟩ => exact c2
    | ⟨1, _⟩ => rfl
    | ⟨2, _⟩ => rfl
  rw [l2, r2]

omit hP in
theorem bias_apply (u : S16x64.Idx → EReal) (b : Fin 12) (s : Fin 128) (h : Fin 16) (e : Fin 64) :
    broadcastInDim S12x128x16x64 ![0, 1, 2, 3] bcast_S1x1x16x64_S12x128x16x64_0_1_2_3 (broadcastInDim S1x1x16x64 ![2, 3] bcast_S16x64_S1x1x16x64_2_3 u) (ix4 b s h e) = u (ix2 h e) :=
  (broadcastInDim_apply _ bcast_S1x1x16x64_S12x128x16x64_0_1_2_3 _ _ (ix4 0 0 h e) (by intro a; fin_cases a <;> rfl)).trans
    (broadcastInDim_apply _ bcast_S16x64_S1x1x16x64_2_3 u _ _ (by intro a; fin_cases a <;> rfl))

/-- The reference's projection by a weight and a bias. -/
def refVal (V : Valuation τ sig (Elt Ideal)) (w : FVec Ideal S1024x16x64 .f32) (u : FVec Ideal S16x64 .f32) : FVec Ideal S12x128x16x64 .f32 :=
  addf (Host.dotGeneral (φ₁ := .f32) dot_S12x128x1024_S1024x16x64_S12x128x16x64_2_0_01_12_n_n (some .fp32) (res_main_v28 V) w) (broadcastInDim S12x128x16x64 ![0, 1, 2, 3] bcast_S1x1x16x64_S12x128x16x64_0_1_2_3 (broadcastInDim S1x1x16x64 ![2, 3] bcast_S16x64_S1x1x16x64_2_3 u))

theorem refVal_apply (t : Fin 3) (b : Fin 12) (s : Fin 128) (h : Fin 16) (e : Fin 64) :
    refVal V ((rArgs V).w t) ((rArgs V).b t) (ix4 b s h e) = ((val (rArgs V).arr t.val (128 * b.val + s.val) (64 * h.val + e.val) : ℝ) : EReal) := by
  refine (congrArg₂ (HAdd.hAdd (α := EReal) (β := EReal) (γ := EReal)) (Eq.trans (dot_apply _ _ b s h e) (show _ = ((∑ d : Fin 1024, (((rArgs V).arr.x (128 * b.val + s.val) d.val - mean (rArgs V).arr (128 * b.val + s.val)) * rstd (rArgs V).arr (128 * b.val + s.val)
      * (rArgs V).arr.g d.val + (rArgs V).arr.lb d.val) * (rArgs V).arr.w t.val (64 * h.val + e.val) d.val : ℝ) : EReal) from ?_)) ((bias_apply _ b s h e).trans (hP.b_apply t h e))).trans ?_
  · rw [← coe_sum]
    refine Finset.sum_congr rfl fun d _ => ?_
    rw [v28_apply hP, hP.w_apply, ← EReal.coe_mul]
  · rw [← EReal.coe_add]; rfl

end

/-! ### The quantiser, of any values -/

section
variable (n : IVec S12 32) (v : FVec Ideal S12x128x16x64 .f32)

/-- Which nodes are valid. -/
def refMask : IVec S12x128 1 :=
  cmpi .slt (broadcastInDim S12x128 ![0, 1] bcast_S1x128_S12x128_0_1 (broadcastInDim S1x128 ![1] bcast_S128_S1x128_1 (iotaInDim S128 32 0))) (broadcastInDim S12x128 ![0, 1] bcast_S12x1_S12x128_0_1 (broadcastInDim S12x1 ![0] bcast_S12_S12x1_0 n))

theorem refMask_apply (b : Fin 12) (s : Fin 128) : refMask n (ix2 b s) = IntOp.cmpi .slt (BitVec.ofNat 32 s.val) (n (ix1 b)) := by
  refine congrArg₂ (IntOp.cmpi .slt) ?_ ?_
  · exact (broadcastInDim_apply _ bcast_S1x128_S12x128_0_1 _ _ (ix2 0 s) (by intro a; fin_cases a <;> rfl)).trans
      (broadcastInDim_apply _ bcast_S128_S1x128_1 _ _ (ix1 s) (by intro a; fin_cases a; rfl))
  · exact (broadcastInDim_apply _ bcast_S12x1_S12x128_0_1 _ _ (ix2 b 0) (by intro a; fin_cases a <;> rfl)).trans
      (broadcastInDim_apply _ bcast_S12_S12x1_0 _ _ (ix1 b) (by intro a; fin_cases a; rfl))

/-- The magnitudes, zero where a node is not valid. -/
def refMag : FVec Ideal S12x128x16x64 .f32 :=
  select (broadcastInDim S12x128x16x64 ![0, 1, 2, 3] bcast_S12x128x1x1_S12x128x16x64_0_1_2_3 (broadcastInDim S12x128x1x1 ![0, 1] bcast_S12x128_S12x128x1x1_0_1 (refMask n))) (Host.absf v) (broadcastInDim S12x128x16x64 ![] bcast_S_S12x128x16x64 (id (constant S_ .f32 0x00000000#32)))

/-- The largest of a head, over 448. -/
def refMax : FVec Ideal S12x16 .f32 :=
  mulf (Host.reduce FloatOps.maximumf (refMag n v) (constant S_ .f32 0xFF800000#32) reducesTo_S12x128x16x64_S12x16_d1_3 h_S_) (broadcastInDim S12x16 ![] bcast_S_S12x16 (constant S_ .f32 0x3B124925#32))

/-- The powers of two, smallest first. -/
def refPow : FVec Ideal S254 .f32 :=
  bitcastToFloat (F := Ideal) .f32 (Host.shli (addi (addi (broadcastInDim S254 ![] bcast_S_S254 (constantI S_ 32 4294967170#32)) (iotaInDim S254 32 0)) (broadcastInDim S254 ![] bcast_S_S254 (constantI S_ 32 127#32))) (broadcastInDim S254 ![] bcast_S_S254 (constantI S_ 32 23#32)))

/-- How many of them do not exceed `m`. -/
def refCount (m : FVec Ideal S12x16 .f32) : IVec S12x16 32 :=
  Host.reduce IntOp.addi (extui 32 (cmpf .ole (broadcastInDim S12x16x254 ![0, 1, 2] bcast_S1x1x254_S12x16x254_0_1_2 (broadcastInDim S1x1x254 ![2] bcast_S254_S1x1x254_2 refPow)) (broadcastInDim S12x16x254 ![0, 1, 2] bcast_S12x16x1_S12x16x254_0_1_2 (broadcastInDim S12x16x1 ![0, 1] bcast_S12x16_S12x16x1_0_1 m))) natLt_1_32) (constantI S_ 32 0#32) reducesTo_S12x16x254_S12x16_d2 h_S_

/-- The exponent. -/
def refExp (k : IVec S12x16 32) : IVec S12x16 32 :=
  select (cmpi .eq k (broadcastInDim S12x16 ![] bcast_S_S12x16 (constantI S_ 32 0#32))) (broadcastInDim S12x16 ![] bcast_S_S12x16 (id (constantI S_ 32 0#32))) (subi k (broadcastInDim S12x16 ![] bcast_S_S12x16 (constantI S_ 32 126#32)))

/-- Two to an exponent. -/
def refTwo (e : IVec S12x16 32) : FVec Ideal S12x16 .f32 :=
  bitcastToFloat (F := Ideal) .f32 (Host.shli (addi e (broadcastInDim S12x16 ![] bcast_S_S12x16 (constantI S_ 32 127#32))) (broadcastInDim S12x16 ![] bcast_S_S12x16 (constantI S_ 32 23#32)))

/-- The codes. -/
def refCode (e : IVec S12x16 32) : FVec Ideal S12x128x16x64 .fp8e4m3 :=
  Host.convertf .fp8e4m3 (minimumf (broadcastInDim S12x128x16x64 ![] bcast_S_S12x128x16x64 (id (constant S_ .f32 0x43E00000#32))) (maximumf (broadcastInDim S12x128x16x64 ![] bcast_S_S12x128x16x64 (id (constant S_ .f32 0xC3E00000#32))) (mulf v (broadcastInDim S12x128x16x64 ![0, 1, 2, 3] bcast_S12x1x16x1_S12x128x16x64_0_1_2_3 (broadcastInDim S12x1x16x1 ![0, 2] bcast_S12x16_S12x1x16x1_0_2 (refTwo (negi e)))))))

theorem refPow_apply (k : Fin 254) : refPow (ix1 k) = fieldE (BitVec.ofNat 32 (k.val + 1)) := by
  refine Eq.trans (b := Ideal.ofBits .f32 (IntOp.shli .host (4294967170#32 + BitVec.ofNat 32 k.val + 127#32) 23#32)) rfl ?_
  have e : (4294967170#32 + BitVec.ofNat 32 k.val + 127#32 : BitVec 32) = BitVec.ofNat 32 (k.val + 1) := by
    have hk := k.isLt
    apply BitVec.eq_of_toNat_eq
    simp only [BitVec.toNat_add, BitVec.toNat_ofNat]
    omega
  rw [e]; rfl

theorem refCount_apply (m : FVec Ideal S12x16 .f32) (b : Fin 12) (h : Fin 16) : refCount m (ix2 b h) = BitVec.ofNat 32 (countOf (m (ix2 b h))) := by
  unfold refCount
  refine (Host.reduce_eq_fold_single IntOp.addi _ _ reducesTo_S12x16x254_S12x16_d2 (by decide : S12x16x254.Reduces [2] S12x16) h_S_ (ix2 b h)).trans ?_
  refine Eq.trans (b := (Finset.univ : Finset (Fin 254)).fold IntOp.addi (0#32) (fun k => (Ideal.cmp .ole (fieldE (BitVec.ofNat 32 (k.val + 1))) (m (ix2 b h))).setWidth 32)) ?_ ?_
  · refine Finset.fold_congr fun (k : Fin 254) _ => ?_
    refine congrArg (BitVec.setWidth 32) (congrArg₂ (Ideal.cmp .ole) ?_ ?_)
    · exact ((broadcastInDim_apply _ bcast_S1x1x254_S12x16x254_0_1_2 _ _ (ix3 0 0 k) (by intro a; fin_cases a <;> rfl)).trans
        (broadcastInDim_apply _ bcast_S254_S1x1x254_2 _ _ (ix1 k) (by intro a; fin_cases a; rfl))).trans (refPow_apply k)
    · exact (broadcastInDim_apply _ bcast_S12x16x1_S12x16x254_0_1_2 _ _ (ix3 b h 0) (by intro a; fin_cases a <;> rfl)).trans
        (broadcastInDim_apply _ bcast_S12x16_S12x16x1_0_1 _ _ (ix2 b h) (by intro a; fin_cases a <;> rfl))
  · rw [IndicatorCount.fold_addi_setWidth_eq_card]
    refine congrArg (BitVec.ofNat 32) (congrArg Finset.card (Finset.filter_congr fun k _ => ?_))
    exact WordCmp.ofBool_decide_eq_one_iff _

theorem refExp_apply (k : IVec S12x16 32) (j : S12x16.Idx) : refExp k j = expOf (k j) := by
  refine Eq.trans (b := if IntOp.cmpi .eq (k j) 0#32 = 1#1 then 0#32 else k j - 126#32) rfl ?_
  unfold expOf
  refine if_congr ?_ rfl rfl
  rw [WordCmp.cmpi_eq_eq, WordCmp.ofBool_decide_eq_one_iff]

theorem refTwo_apply (e : IVec S12x16 32) (j : S12x16.Idx) : refTwo e j = twoTo (e j) := rfl

theorem refCode_apply (e : IVec S12x16 32) (b : Fin 12) (s : Fin 128) (h : Fin 16) (d : Fin 64) :
    refCode v e (ix4 b s h d) = codeOf (v (ix4 b s h d)) (e (ix2 b h)) := by
  refine Eq.trans (b := (min (Ideal.ofBits .f32 0x43E00000#32) (max (Ideal.ofBits .f32 0xC3E00000#32) (v (ix4 b s h d) *
    broadcastInDim S12x128x16x64 ![0, 1, 2, 3] bcast_S12x1x16x1_S12x128x16x64_0_1_2_3 (broadcastInDim S12x1x16x1 ![0, 2] bcast_S12x16_S12x1x16x1_0_2 (refTwo (negi e))) (ix4 b s h d))) : EReal)) rfl ?_
  rw [(broadcastInDim_apply _ bcast_S12x1x16x1_S12x128x16x64_0_1_2_3 _ (ix4 b s h d) (ix4 b 0 h 0) (by intro a; fin_cases a <;> rfl)).trans
    (broadcastInDim_apply _ bcast_S12x16_S12x1x16x1_0_2 (refTwo (negi e)) _ (ix2 b h) (by intro a; fin_cases a <;> rfl)), refTwo_apply]
  rfl

variable {n v} (R : Arr) (t : ℕ) (hn : ∀ b : Fin 12, n (ix1 b) = R.n b.val)
  (hv : ∀ (b : Fin 12) (s : Fin 128) (h : Fin 16) (e : Fin 64), v (ix4 b s h e) = ((val R t (128 * b.val + s.val) (64 * h.val + e.val) : ℝ) : EReal))
include hn hv

theorem refMag_apply (b : Fin 12) (s : Fin 128) (h : Fin 16) (e : Fin 64) : refMag n v (ix4 b s h e) = mag R t b.val h.val (s, e) := by
  have hc : (broadcastInDim S12x128x16x64 ![0, 1, 2, 3] bcast_S12x128x1x1_S12x128x16x64_0_1_2_3 (broadcastInDim S12x128x1x1 ![0, 1] bcast_S12x128_S12x128x1x1_0_1 (refMask n))) (ix4 b s h e)
      = IntOp.cmpi .slt (BitVec.ofNat 32 s.val) (R.n b.val) := by
    refine ((broadcastInDim_apply _ bcast_S12x128x1x1_S12x128x16x64_0_1_2_3 _ _ (ix4 b s 0 0) (by intro a; fin_cases a <;> rfl)).trans
      (broadcastInDim_apply _ bcast_S12x128_S12x128x1x1_0_1 _ _ (ix2 b s) (by intro a; fin_cases a <;> rfl))).trans ?_
    rw [refMask_apply, hn]
  have ha : (Host.absf v : FVec Ideal S12x128x16x64 .f32) (ix4 b s h e) = (max ((val R t (128 * b.val + s.val) (64 * h.val + e.val) : ℝ) : EReal) (-((val R t (128 * b.val + s.val) (64 * h.val + e.val) : ℝ) : EReal)) : EReal) := by
    rw [← hv]; rfl
  unfold refMag mag
  refine Eq.trans (b := Scalar.select (IntOp.cmpi .slt (BitVec.ofNat 32 s.val) (R.n b.val)) ((Host.absf v : FVec Ideal S12x128x16x64 .f32) (ix4 b s h e)) (Ideal.ofBits .f32 0x00000000#32)) (by rw [← hc]; rfl) ?_
  rw [ha, ofBits_zero]
  refine if_congr ?_ rfl rfl
  show BitVec.ofBool _ = 1#1 ↔ _
  cases (BitVec.ofNat 32 s.val).slt (R.n b.val) <;> simp

theorem refMax_apply (b : Fin 12) (h : Fin 16) : refMax n v (ix2 b h) = (amax R t b.val h.val * Ideal.ofBits .f32 0x3B124925#32 : EReal) := by
  refine congrArg (fun z : EReal => z * Ideal.ofBits .f32 0x3B124925#32) ?_
  have hm := refMag_apply R t hn hv
  generalize refMag n v = M at hm
  refine (Host.reduce_eq_fold (FloatOps.maximumf (F := Ideal) (φ := .f32)) M _ reducesTo_S12x128x16x64_S12x16_d1_3 h_S_ (ix2 b h)).trans ?_
  refine eq_of_forall_ge_iff fun c => ?_
  rw [amax_le]
  refine (Finset.fold_max_le (β := EReal) _).trans ?_
  constructor
  · intro H q
    rw [← hm b q.1 h q.2]
    refine H.2 _ (Finset.mem_filter.mpr ⟨Finset.mem_univ _, ?_⟩)
    funext a; fin_cases a <;> rfl
  · intro H
    refine ⟨(le_of_eq ofBits_bot).trans bot_le, fun i hi => ?_⟩
    have hd := (Finset.mem_filter.mp hi).2
    have e0 : i 0 = b := congrFun hd 0
    have e2 : i 2 = h := congrFun hd 1
    obtain ⟨p, q, r, s, rfl⟩ : ∃ (p : Fin 12) (q : Fin 128) (r : Fin 16) (s : Fin 64), i = ix4 p q r s := ⟨i 0, i 1, i 2, i 3, by funext a; fin_cases a <;> rfl⟩
    obtain rfl : p = b := e0
    obtain rfl : r = h := e2
    exact (le_of_eq (hm p q r s)).trans (H (q, s))

/-- The reference's exponent of a head. -/
theorem refX_apply (b : Fin 12) (h : Fin 16) : refExp (refCount (refMax n v)) (ix2 b h) = expo R t b.val h.val := by
  rw [refExp_apply, refCount_apply, refMax_apply R t hn hv]; rfl

theorem refScale_eq : refTwo (refExp (refCount (refMax n v))) = scalesOf R t := by
  funext x
  obtain ⟨b, h, rfl⟩ : ∃ (b : Fin 12) (h : Fin 16), x = ix2 b h := ⟨x 0, x 1, by funext a; fin_cases a <;> rfl⟩
  rw [refTwo_apply, refX_apply R t hn hv]; rfl

theorem refCode_eq : refCode v (refExp (refCount (refMax n v))) = codesOf R t := by
  funext x
  obtain ⟨b, s, h, e, rfl⟩ : ∃ (b : Fin 12) (s : Fin 128) (h : Fin 16) (e : Fin 64), x = ix4 b s h e := ⟨x 0, x 1, x 2, x 3, by funext a; fin_cases a <;> rfl⟩
  rw [refCode_apply, refX_apply R t hn hv, hv]; rfl

end

/-! ### The run -/

variable (m : (ℓ : Loc nD τ sig) → Buf (Elt Ideal) ℓ) (ρ : Dev nD → PrngReg)

/-- The reference's arguments on a device. -/
abbrev rArgsOf (c : Dev nD) : Args := rArgs (StableHlo.launchContents m c)

theorem rArgs_n (V : Valuation τ sig (Elt Ideal)) (b : Fin 12) : V (Proc.devRef .tc main_arg1) (ix1 b) = (rArgs V).arr.n b.val :=
  congrArg (V (Proc.devRef .tc main_arg1)) (ix_eq (by intro a; fin_cases a; rfl)).symm

/-- The whole run: each projection's codes and scales, and the arguments unchanged. -/
theorem run_reference (hP : ∀ c, (rArgsOf m c).Finite) : θ_run defs (onTc (τ := τ) (main (F := Ideal))) ⟨m, fun _ => 0, ρ⟩ fun r => ∀ c : Dev nD,
      r.2.mem ((c : Thread nD τ).loc main_v82) = codesOf (rArgsOf m c).arr 0
      ∧ r.2.mem ((c : Thread nD τ).loc main_v71) = scalesOf (rArgsOf m c).arr 0
      ∧ r.2.mem ((c : Thread nD τ).loc main_v124) = codesOf (rArgsOf m c).arr 1
      ∧ r.2.mem ((c : Thread nD τ).loc main_v113) = scalesOf (rArgsOf m c).arr 1
      ∧ r.2.mem ((c : Thread nD τ).loc main_v166) = codesOf (rArgsOf m c).arr 2
      ∧ r.2.mem ((c : Thread nD τ).loc main_v155) = scalesOf (rArgsOf m c).arr 2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (Cert.ReferenceIdeal.Value.run m ρ)
  have hn := rArgs_n (StableHlo.launchContents m c)
  have v0 := refVal_apply (hP c) 0
  have v1 := refVal_apply (hP c) 1
  have v2 := refVal_apply (hP c) 2
  obtain ⟨h0, h1, h2, h3, h4, h5, h6⟩ := h c
  exact ⟨h0.trans (refCode_eq _ 0 hn v0), h1.trans (refScale_eq _ 0 hn v0), h2.trans (refCode_eq _ 1 hn v1), h3.trans (refScale_eq _ 1 hn v1),
    h4.trans (refCode_eq _ 2 hn v2), h5.trans (refScale_eq _ 2 hn v2), h6⟩

end Cert.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Ideal.Frame
public import proofs.«01_k».proof.Proof.Float
public import proofs.«01_k».proof.Proof.Value.Finite
public import proofs.«01_k».proof.Proof.Value.KernelRun
public import proofs.«01_k».proof.Proof.Value.Reference

@[expose] public section

namespace Cert.Proof

open Idealize.ShloMosaic Idealize.SL.Sem

/-- The reference is host code alone: its run leaves the arguments as they were, and it declares no semaphore. -/
theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run m ρ)

/-- On finite arguments the kernel and the reference end with the same codes and scales: both are the model's, of the
    same arrays of real numbers. -/
theorem algebraic : Cert.algebraic_KernelIdeal_ReferenceIdeal_pre_finite := by
  intro m g m' g' hpre hargs
  have hK : ∀ c, (Cert.Value.kArgs m c).Finite := fun c => Cert.Value.finite_of _ _ _ _ _ _ _ _ _ _ (hpre c)
  have hE : ∀ c, Cert.Value.rArgsOf m' c = Cert.Value.kArgs m c := fun c => by
    obtain ⟨h0, h1, h2, h3, h4, h5, h6, h7, h8, h9⟩ := hargs c
    unfold Cert.Value.kArgs
    rw [← h0, ← h1, ← h2, ← h3, ← h4, ← h5, ← h6, ← h7, ← h8, ← h9]
    rfl
  have hR : ∀ c, (Cert.Value.rArgsOf m' c).Finite := fun c => by rw [hE c]; exact hK c
  refine ⟨fun c => Cert.Value.codesOf (Cert.Value.kArgs m c).arr 0, fun c => Cert.Value.scalesOf (Cert.Value.kArgs m c).arr 0,
    fun c => Cert.Value.codesOf (Cert.Value.kArgs m c).arr 1, fun c => Cert.Value.scalesOf (Cert.Value.kArgs m c).arr 1,
    fun c => Cert.Value.codesOf (Cert.Value.kArgs m c).arr 2, fun c => Cert.Value.scalesOf (Cert.Value.kArgs m c).arr 2,
    Cert.Value.run_kernel m g hK, ?_⟩
  have h := Cert.Value.run_reference m' g' hR
  simp only [hE] at h
  exact h

/-- The claims: the frames of the kernel and of the reference, that no operation was rewritten, and that the two agree. -/
theorem claim : Cert.Claim := ⟨Cert.Kernel.Gen.facts, Cert.KernelIdeal.Gen.facts, Cert.ReferenceIdeal.Gen.facts, Cert.Pre_finite.Gen.facts,
  Cert.Kernel.Pf.frame,
  fun m g _ => Cert.KernelIdeal.Pf.frame m g,
  fun m g _ => Cert.KernelIdeal.Pf.frame m g,
  frame_reference,
  fun m g _ => frame_reference m g trivial,
  trivial,
  algebraic⟩

end Cert.Proof

end
